-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 [hPre_tables3 : Cert.Pre_tables3.Facts] (m : (ℓ : Loc Cert.Kernel3.nD Cert.Kernel3.τ Cert.Kernel3.sig) → Buf (Elt Bits) ℓ) : Prop :=
  ∀ c : Dev Cert.Kernel3.nD,
    (Cert.Pre_tables3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_tables3 : Cert.Pre_tables3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables3 [hPre_tables3 : Cert.Pre_tables3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_tables6 : Cert.Pre_tables6.Facts] (m : (ℓ : Loc Cert.Kernel6.nD Cert.Kernel6.τ Cert.Kernel6.sig) → Buf (Elt Bits) ℓ) : Prop :=
  ∀ c : Dev Cert.Kernel6.nD,
    (Cert.Pre_tables6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4))) = (fun _ => 1#1)

def Pre_Kernel6Ideal [hPre_tables6 : Cert.Pre_tables6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_tables6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_tables6 [hPre_tables6 : Cert.Pre_tables6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_tables6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 [hPre_tables7 : Cert.Pre_tables7.Facts] (m : (ℓ : Loc Cert.Kernel7.nD Cert.Kernel7.τ Cert.Kernel7.sig) → Buf (Elt Bits) ℓ) : Prop :=
  ∀ c : Dev Cert.Kernel7.nD,
    (Cert.Pre_tables7.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3))) = (fun _ => 1#1)

def Pre_Kernel7Ideal [hPre_tables7 : Cert.Pre_tables7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_tables7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_tables7 [hPre_tables7 : Cert.Pre_tables7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_tables7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_tables [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_tables3 : Cert.Pre_tables3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_tables3 : Cert.Pre_tables3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_tables3 [hReference3Ideal : Cert.Reference3Ideal.Facts] [hPre_tables3 : Cert.Pre_tables3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] [hPre_tables6 : Cert.Pre_tables6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] [hPre_tables6 : Cert.Pre_tables6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_tables6 [hReference6Ideal : Cert.Reference6Ideal.Facts] [hPre_tables6 : Cert.Pre_tables6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_tables6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] [hPre_tables7 : Cert.Pre_tables7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] [hPre_tables7 : Cert.Pre_tables7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_tables7 [hReference7Ideal : Cert.Reference7Ideal.Facts] [hPre_tables7 : Cert.Pre_tables7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_tables7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_tables3 : Cert.Pre_tables3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] [hPre_tables6 : Cert.Pre_tables6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] [hPre_tables7 : Cert.Pre_tables7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_tables : Cert.Pre_tables.Facts) (hPre_tables3 : Cert.Pre_tables3.Facts) (hPre_tables6 : Cert.Pre_tables6.Facts) (hPre_tables7 : Cert.Pre_tables7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal)
    ∧ quiescent_Reference2Ideal_pre_tables (hReference2Ideal := hReference2Ideal) (hPre_tables := hPre_tables)
    ∧ quiescent_Kernel3 (hKernel3 := hKernel3) (hPre_tables3 := hPre_tables3)
    ∧ quiescent_Kernel3Ideal (hKernel3Ideal := hKernel3Ideal) (hPre_tables3 := hPre_tables3)
    ∧ quiescent_Reference3Ideal (hReference3Ideal := hReference3Ideal)
    ∧ quiescent_Reference3Ideal_pre_tables3 (hReference3Ideal := hReference3Ideal) (hPre_tables3 := hPre_tables3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_tables6 := hPre_tables6)
    ∧ quiescent_Kernel6Ideal (hKernel6Ideal := hKernel6Ideal) (hPre_tables6 := hPre_tables6)
    ∧ quiescent_Reference6Ideal (hReference6Ideal := hReference6Ideal)
    ∧ quiescent_Reference6Ideal_pre_tables6 (hReference6Ideal := hReference6Ideal) (hPre_tables6 := hPre_tables6)
    ∧ quiescent_Kernel7 (hKernel7 := hKernel7) (hPre_tables7 := hPre_tables7)
    ∧ quiescent_Kernel7Ideal (hKernel7Ideal := hKernel7Ideal) (hPre_tables7 := hPre_tables7)
    ∧ quiescent_Reference7Ideal (hReference7Ideal := hReference7Ideal)
    ∧ quiescent_Reference7Ideal_pre_tables7 (hReference7Ideal := hReference7Ideal) (hPre_tables7 := hPre_tables7)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_tables := hPre_tables)
    ∧ preserves_Kernel3_Kernel3Ideal
    ∧ algebraic_Kernel3Ideal_Reference3Ideal (hKernel3Ideal := hKernel3Ideal) (hReference3Ideal := hReference3Ideal) (hPre_tables3 := hPre_tables3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_tables6 := hPre_tables6)
    ∧ preserves_Kernel7_Kernel7Ideal
    ∧ algebraic_Kernel7Ideal_Reference7Ideal (hKernel7Ideal := hKernel7Ideal) (hReference7Ideal := hReference7Ideal) (hPre_tables7 := hPre_tables7)
-- ==== Pre_finite.lean ====
abbrev S16384x2048 : Shape := ⟨2, ![16384, 2048]⟩
abbrev S16384x512 : Shape := ⟨2, ![16384, 512]⟩
abbrev S4x4x512x4x128 : Shape := ⟨5, ![4, 4, 512, 4, 128]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S4x4x512x4x128 : S_.BroadcastsInDim S4x4x512x4x128 (![] : Fin 0 → Fin S4x4x512x4x128.rank)
  reducesTo_S4x4x512x4x128_S_d0_1_2_3_4 : S4x4x512x4x128.ReducesTo [0, 1, 2, 3, 4] S_

variable [Facts]

def fn {F : FTy → Type} [FloatOps F] (main_arg0 : FVec F S16384x2048 .bf16) (main_arg1 : FVec F S16384x512 .bf16) (main_arg2 : FVec F S16384x512 .bf16) (main_arg3 : FVec F S4x4x512x4x128 .f32) (main_arg4 : FVec F S4x4x512x4x128 .f32) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S4x4x512x4x128 .f32 := Host.absf main_arg3
  let main_cst_2 : FVec F S_ .f32 := constant S_ .f32 0x7F800000#32
  let main_v12 : FVec F S4x4x512x4x128 .f32 := broadcastInDim S4x4x512x4x128 ![] bcast_S_S4x4x512x4x128 main_cst_2
  let main_v13 : IVec S4x4x512x4x128 1 := cmpf .olt main_v11 main_v12
  let main_c_3 : IVec S_ 1 := constantI S_ 1 1#1
  let main_v14 : IVec S_ 1 := (fun x v => Host.reduce IntOp.andi x v reducesTo_S4x4x512x4x128_S_d0_1_2_3_4 h_S_) main_v13 main_c_3
  let main_v15 : IVec S_ 1 := andi main_v10 main_v14
  main_v15
-- ==== Pre_tables.lean ====
abbrev S72 : Shape := ⟨1, ![72]⟩
abbrev S1 : Shape := ⟨1, ![1]⟩
abbrev S36864x2048 : Shape := ⟨2, ![36864, 2048]⟩
abbrev S2x8x2048x5632 : Shape := ⟨4, ![2, 8, 2048, 5632]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  shapeCasts_S1_S_ : S1.ShapeCasts S_

variable [Facts]

def fn {F : FTy → Type} [FloatOps F] (main_arg0 : IVec S72 32) (main_arg1 : IVec S1 32) (main_arg2 : FVec F S36864x2048 .bf16) (main_arg3 : FVec F S2x8x2048x5632 .f32) (main_arg4 : FVec F S2x8x2048x5632 .f32) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 72#32
  let main_v10 : IVec S_ 1 := cmpi .sle main_v9 main_c_3
  let main_v11 : IVec S_ 1 := andi main_v8 main_v10
  main_v11
-- ==== Pre_tables3.lean ====
abbrev S72 : Shape := ⟨1, ![72]⟩
abbrev S1 : Shape := ⟨1, ![1]⟩
abbrev S36864x5632 : Shape := ⟨2, ![36864, 5632]⟩
abbrev S2x8x5632x2048 : Shape := ⟨4, ![2, 8, 5632, 2048]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  shapeCasts_S1_S_ : S1.ShapeCasts S_

variable [Facts]

def fn {F : FTy → Type} [FloatOps F] (main_arg0 : IVec S72 32) (main_arg1 : IVec S1 32) (main_arg2 : FVec F S36864x5632 .bf16) (main_arg3 : FVec F S2x8x5632x2048 .bf16) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 72#32
  let main_v10 : IVec S_ 1 := cmpi .sle main_v9 main_c_3
  let main_v11 : IVec S_ 1 := andi main_v8 main_v10
  main_v11
-- ==== Pre_tables6.lean ====
abbrev S16 : Shape := ⟨1, ![16]⟩
abbrev S1 : Shape := ⟨1, ![1]⟩
abbrev S16384x2048 : Shape := ⟨2, ![16384, 2048]⟩
abbrev S2x1x2048x5632 : Shape := ⟨4, ![2, 1, 2048, 5632]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  shapeCasts_S1_S_ : S1.ShapeCasts S_

variable [Facts]

def fn {F : FTy → Type} [FloatOps F] (main_arg0 : IVec S16 32) (main_arg1 : IVec S1 32) (main_arg2 : FVec F S16384x2048 .bf16) (main_arg3 : FVec F S2x1x2048x5632 .f32) (main_arg4 : FVec F S2x1x2048x5632 .f32) : IVec S_ 1 :=
  let main_c : IVec S_ 32 := constantI S_ 32 0#32
  let main_v0 : IVec S16 32 := broadcastInDim S16 ![] bcast_S_S16 main_c
  let main_v1 : IVec S16 1 := cmpi .eq main_arg0 main_v0
  let main_c_0 : IVec S_ 1 := constantI S_ 1 1#1
  let main_v2 : IVec S_ 1 := (fun x v => Host.reduce IntOp.andi x v reducesTo_S16_S_d0 h_S_) main_v1 main_c_0
  let main_v3 : IVec S_ 32 := shapeCast S_ main_arg1 shapeCasts_S1_S_
  let main_c_1 : IVec S_ 32 := constantI S_ 32 1#32
  let main_v4 : IVec S_ 1 := cmpi .sge main_v3 main_c_1
  let main_v5 : IVec S_ 1 := andi main_v2 main_v4
  let main_v6 : IVec S_ 32 := shapeCast S_ main_arg1 shapeCasts_S1_S_
  let main_c_2 : IVec S_ 32 := constantI S_ 32 16#32
  let main_v7 : IVec S_ 1 := cmpi .sle main_v6 main_c_2
  let main_v8 : IVec S_ 1 := andi main_v5 main_v7
  main_v8
-- ==== Pre_tables7.lean ====
abbrev S16 : Shape := ⟨1, ![16]⟩
abbrev S1 : Shape := ⟨1, ![1]⟩
abbrev S16384x5632 : Shape := ⟨2, ![16384, 5632]⟩
abbrev S2x1x5632x2048 : Shape := ⟨4, ![2, 1, 5632, 2048]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : IVec S16 32) (main_arg1 : IVec S1 32) (main_arg2 : FVec F S16384x5632 .bf16) (main_arg3 : FVec F S2x1x5632x2048 .f32) : IVec S_ 1 :=
  let main_c : IVec S_ 32 := constantI S_ 32 0#32
  let main_v0 : IVec S16 32 := broadcastInDim S16 ![] bcast_S_S16 main_c
  let main_v1 : IVec S16 1 := cmpi .eq main_arg0 main_v0
  let main_c_0 : IVec S_ 1 := constantI S_ 1 1#1
  let main_v2 : IVec S_ 1 := (fun x v => Host.reduce IntOp.andi x v reducesTo_S16_S_d0 h_S_) main_v1 main_c_0
  main_v2
-- ==== Kernel.lean ====
abbrev S16384x2048 : Shape := ⟨2, ![16384, 2048]⟩
abbrev S16384x512 : Shape := ⟨2, ![16384, 512]⟩
abbrev S4x4x512x4x128 : Shape := ⟨5, ![4, 4, 512, 4, 128]⟩
abbrev S4x4x512x512 : Shape := ⟨4, ![4, 4, 512, 512]⟩
abbrev S8192x2048 : Shape := ⟨2, ![8192, 2048]⟩
abbrev S512x512 : Shape := ⟨2, ![512, 512]⟩
abbrev S2048x128 : Shape := ⟨2, ![2048, 128]⟩
abbrev S1x1x512x128 : Shape := ⟨4, ![1, 1, 512, 128]⟩
abbrev S512x128 : Shape := ⟨2, ![512, 128]⟩
abbrev S2048x512 : Shape := ⟨2, ![2048, 512]⟩
abbrev S512 : Shape := ⟨1, ![512]⟩
abbrev S1x512 : Shape := ⟨2, ![1, 512]⟩
abbrev S128x512 : Shape := ⟨2, ![128, 512]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S16384x512, .bf16⟩
  | .hbm, ⟨3, _⟩ => ⟨S4x4x512x4x128, .f32⟩
  | .hbm, ⟨4, _⟩ => ⟨S4x4x512x4x128, .f32⟩
  | .hbm, ⟨5, _⟩ => ⟨S4x4x512x512, .f32⟩
  | .hbm, ⟨6, _⟩ => ⟨S4x4x512x512, .f32⟩
  | .hbm, ⟨7, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x1x512x128, .f32⟩
  | .local _ .vmem, ⟨7, _⟩ => ⟨S1x1x512x128, .f32⟩
  | .local _ .vmem, ⟨8, _⟩ => ⟨S1x1x512x128, .f32⟩
  | .local _ .vmem, ⟨9, _⟩ => ⟨S1x1x512x128, .f32⟩
  | .local _ .vmem, ⟨10, _⟩ => ⟨S512x512, .bf16⟩
  | .local _ .vmem, ⟨11, _⟩ => ⟨S512x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg0 c2048_i32
  let c8192_i32 : BitVec 32 := 8192#32
  let v1 : BitVec 32 := Scalar.addi c8192_i32 v0
  let c512_i32 : BitVec 32 := 512#32
  let v2 : BitVec 32 := Scalar.divsi v1 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg2
  let c0_i32_4 : BitVec 32 := 0#32
  ![v19.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![v0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x2048 : Shape := ⟨2, ![16384, 2048]⟩
abbrev S16384x512 : Shape := ⟨2, ![16384, 512]⟩
abbrev S4x4x512x4x128 : Shape := ⟨5, ![4, 4, 512, 4, 128]⟩
abbrev S_ : Shape := ⟨0, ![]⟩
abbrev S8192x2048 : Shape := ⟨2, ![8192, 2048]⟩
abbrev S4x2048x4x4x128 : Shape := ⟨5, ![4, 2048, 4, 4, 128]⟩
abbrev S8192x512 : Shape := ⟨2, ![8192, 512]⟩
abbrev S4x2048x4x128 : Shape := ⟨4, ![4, 2048, 4, 128]⟩
abbrev S4x1x512x4x128 : Shape := ⟨5, ![4, 1, 512, 4, 128]⟩
abbrev S4x512x4x128 : Shape := ⟨4, ![4, 512, 4, 128]⟩
abbrev S4x2560x4x128 : Shape := ⟨4, ![4, 2560, 4, 128]⟩
abbrev S4x4x2560x2048x4 : Shape := ⟨5, ![4, 4, 2560, 2048, 4]⟩
abbrev S4x4x4x2048x2560 : Shape := ⟨5, ![4, 4, 4, 2048, 2560]⟩
abbrev S4x4x4x2048 : Shape := ⟨4, ![4, 4, 4, 2048]⟩
abbrev S4x4x4x2048x1 : Shape := ⟨5, ![4, 4, 4, 2048, 1]⟩
abbrev S4x4x128x4x2048 : Shape := ⟨5, ![4, 4, 128, 4, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S16384x512, .bf16⟩
  | .hbm, ⟨3, _⟩ => ⟨S4x4x512x4x128, .f32⟩
  | .hbm, ⟨4, _⟩ => ⟨S4x4x512x4x128, .f32⟩
  | .hbm, ⟨5, _⟩ => ⟨S16384x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S8192x2048, .f32⟩
  | .hbm, ⟨14, _⟩ => ⟨S4x2048x4x4x128, .f32⟩
  | .hbm, ⟨15, _⟩ => ⟨S8192x512, .bf16⟩
  | .hbm, ⟨16, _⟩ => ⟨S8192x512, .f32⟩
  | .hbm, ⟨17, _⟩ => ⟨S4x2048x4x128, .f32⟩
  | .hbm, ⟨18, _⟩ => ⟨S8192x512, .bf16⟩
  | .hbm, ⟨19, _⟩ => ⟨S8192x512, .f32⟩
  | .hbm, ⟨20, _⟩ => ⟨S4x2048x4x128, .f32⟩
  | .hbm, ⟨21, _⟩ => ⟨S4x1x512x4x128, .f32⟩
  | .hbm, ⟨22, _⟩ => ⟨S4x512x4x128, .f32⟩
  | .hbm, ⟨23, _⟩ => ⟨S4x2560x4x128, .f32⟩
  | .hbm, ⟨24, _⟩ => ⟨S4x1x512x4x128, .f32⟩
  | .hbm, ⟨25, _⟩ => ⟨S4x512x4x128, .f32⟩
  | .hbm, ⟨26, _⟩ => ⟨S4x2560x4x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x4x2560x2048x4, .f32⟩
  | .hbm, ⟨32, _⟩ => ⟨S4x4x4x2048x2560, .f32⟩
  | .hbm, ⟨33, _⟩ => ⟨S4x4x4x2048x2560, .f32⟩
  | .hbm, ⟨34, _⟩ => ⟨S4x4x4x2048x2560, .f32⟩
  | .hbm, ⟨35, _⟩ => ⟨S_, .f32⟩
  | .hbm, ⟨36, _⟩ => ⟨S4x4x4x2048, .f32⟩
  | .hbm, ⟨37, _⟩ => ⟨S_, .f32⟩
  | .hbm, ⟨38, _⟩ => ⟨S4x4x4x2048, .f32⟩
  | .hbm, ⟨39, _⟩ => ⟨S4x4x4x2048, .f32⟩
  | .hbm, ⟨40, _⟩ => ⟨S4x4x4x2048x1, .f32⟩
  | .hbm, ⟨41, _⟩ => ⟨S4x4x4x2048x2560, .f32⟩
  | .hbm, ⟨42, _⟩ => ⟨S4x4x4x2048x2560, .f32⟩
  | .hbm, ⟨43, _⟩ => ⟨S4x4x4x2048x2560, .f32⟩
  | .hbm, ⟨44, _⟩ => ⟨S_, .f32⟩
  | .hbm, ⟨45, _⟩ => ⟨S4x4x4x2048, .f32⟩
  | .hbm, ⟨46, _⟩ => ⟨S4x4x4x2048x1, .f32⟩
  | .hbm, ⟨47, _⟩ => ⟨S4x4x4x2048x2560, .f32⟩
  | .hbm, ⟨48, _⟩ => ⟨S4x4x4x2048x2560, .f32⟩
  | .hbm, ⟨49, _⟩ => ⟨S4x4x128x4x2048, .f32⟩
  | .hbm, ⟨50, _⟩ => ⟨S4x2048x4x4x128, .f32⟩
  | .hbm, ⟨51, _⟩ => ⟨S8192x2048, .f32⟩
  | .hbm, ⟨52, _⟩ => ⟨S8192x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel2.lean ====
abbrev S72 : Shape := ⟨1, ![72]⟩
abbrev S1 : Shape := ⟨1, ![1]⟩
abbrev S36864x2048 : Shape := ⟨2, ![36864, 2048]⟩
abbrev S2x8x2048x5632 : Shape := ⟨4, ![2, 8, 2048, 5632]⟩
abbrev S36864x5632 : Shape := ⟨2, ![36864, 5632]⟩
abbrev S512x2048 : Shape := ⟨2, ![512, 2048]⟩
abbrev S1x1x2048x512 : Shape := ⟨4, ![1, 1, 2048, 512]⟩
abbrev S512x512 : Shape := ⟨2, ![512, 512]⟩
abbrev S2048x512 : Shape := ⟨2, ![2048, 512]⟩

abbrev nBuf : Space → Nat
  | .hbm => 4
  | .vmem => 10
  | .smem => 2
  | _ => 0

abbrev bufTy : (tb : Table) → Fin (tcTables nBuf tb) → BufTy
  | .hbm, ⟨0, _⟩ => ⟨S36864x2048, .bf16⟩
  | .hbm, ⟨1, _⟩ => ⟨S2x8x2048x5632, .f32⟩
  | .hbm, ⟨2, _⟩ => ⟨S2x8x2048x5632, .f32⟩
  | .hbm, ⟨3, _⟩ => ⟨S36864x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .smem, ⟨0, _⟩ => ⟨S72, .i32⟩
  | .local _ .smem, ⟨1, _⟩ => ⟨S1, .i32⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 72], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S72 : Shape := ⟨1, ![72]⟩
abbrev S1 : Shape := ⟨1, ![1]⟩
abbrev S36864x2048 : Shape := ⟨2, ![36864, 2048]⟩
abbrev S2x8x2048x5632 : Shape := ⟨4, ![2, 8, 2048, 5632]⟩
abbrev S36864 : Shape := ⟨1, ![36864]⟩
abbrev S72x1 : Shape := ⟨2, ![72, 1]⟩
abbrev S72x512 : Shape := ⟨2, ![72, 512]⟩
abbrev S36864x1 : Shape := ⟨2, ![36864, 1]⟩
abbrev S8 : Shape := ⟨1, ![8]⟩
abbrev S1x8 : Shape := ⟨2, ![1, 8]⟩
abbrev S36864x8 : Shape := ⟨2, ![36864, 8]⟩
abbrev S_ : Shape := ⟨0, ![]⟩
abbrev S1x8x2048x5632 : Shape := ⟨4, ![1, 8, 2048, 5632]⟩
abbrev S8x2048x5632 : Shape := ⟨3, ![8, 2048, 5632]⟩
abbrev S36864x8x5632 : Shape := ⟨3, ![36864, 8, 5632]⟩
abbrev S36864x8x1 : Shape := ⟨3, ![36864, 8, 1]⟩
abbrev S36864x5632 : Shape := ⟨2, ![36864, 5632]⟩

abbrev nBuf : Space → Nat
  | .hbm => 49
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S36864x2048, .bf16⟩
  | .hbm, ⟨3, _⟩ => ⟨S2x8x2048x5632, .f32⟩
  | .hbm, ⟨4, _⟩ => ⟨S2x8x2048x5632, .f32⟩
  | .hbm, ⟨5, _⟩ => ⟨S36864, .i32⟩
  | .hbm, ⟨6, _⟩ => ⟨S72x1, .i32⟩
  | .hbm, ⟨7, _⟩ => ⟨S72x512, .i32⟩
  | .hbm, ⟨8, _⟩ => ⟨S36864, .i32⟩
  | .hbm, ⟨9, _⟩ => ⟨S36864x1, .i32⟩
  | .hbm, ⟨10, _⟩ => ⟨S8, .i32⟩
  | .hbm, ⟨11, _⟩ => ⟨S1x8, .i32⟩
  | .hbm, ⟨12, _⟩ => ⟨S36864x8, .i32⟩
  | .hbm, ⟨13, _⟩ => ⟨S36864x8, .i32⟩
  | .hbm, ⟨14, _⟩ => ⟨S36864x8, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S36864, .i32⟩
  | .hbm, ⟨19, _⟩ => ⟨S36864, .i1⟩
  | .hbm, ⟨20, _⟩ => ⟨S36864x1, .i1⟩
  | .hbm, ⟨21, _⟩ => ⟨S36864x8, .i1⟩
  | .hbm, ⟨22, _⟩ => ⟨S36864x8, .i1⟩
  | .hbm, ⟨23, _⟩ => ⟨S36864x2048, .f32⟩
  | .hbm, ⟨24, _⟩ => ⟨S1x8x2048x5632, .f32⟩
  | .hbm, ⟨25, _⟩ => ⟨S8x2048x5632, .f32⟩
  | .hbm, ⟨26, _⟩ => ⟨S36864x8x5632, .f32⟩
  | .hbm, ⟨27, _⟩ => ⟨S1x8x2048x5632, .f32⟩
  | .hbm, ⟨28, _⟩ => ⟨S8x2048x5632, .f32⟩
  | .hbm, ⟨29, _⟩ => ⟨S36864x8x5632, .f32⟩
  | .hbm, ⟨30, _⟩ => ⟨S36864x8x1, .i1⟩
  | .hbm, ⟨31, _⟩ => ⟨S36864x8x5632, .f32⟩
  | .hbm, ⟨32, _⟩ => ⟨S36864x8x5632, .f32⟩
  | .hbm, ⟨33, _⟩ => ⟨S_, .f32⟩
  | .hbm, ⟨34, _⟩ => ⟨S36864x8x5632, .f32⟩
  | .hbm, ⟨35, _⟩ => ⟨S36864x8x5632, .f32⟩
  | .hbm, ⟨36, _⟩ => ⟨S_, .f32⟩
  | .hbm, ⟨37, _⟩ => ⟨S36864x8x5632, .f32⟩
  | .hbm, ⟨38, _⟩ => ⟨S36864x8x5632, .f32⟩
  | .hbm, ⟨39, _⟩ => ⟨S36864x8x5632, .f32⟩
  | .hbm, ⟨40, _⟩ => ⟨S36864x8x5632, .f32⟩
  | .hbm, ⟨41, _⟩ => ⟨S_, .f32⟩
  | .hbm, ⟨42, _⟩ => ⟨S_, .f32⟩
  | .hbm, ⟨43, _⟩ => ⟨S36864x8x5632, .i1⟩
  | .hbm, ⟨44, _⟩ => ⟨S36864x8x5632, .f32⟩
  | .hbm, ⟨45, _⟩ => ⟨S36864x8x5632, .f32⟩
  | .hbm, ⟨46, _⟩ => ⟨S_, .f32⟩
  | .hbm, ⟨47, _⟩ => ⟨S36864x5632, .f32⟩
  | .hbm, ⟨48, _⟩ => ⟨S36864x5632, .bf16⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v27 : Ref sig .tc := ⟨.hbm, 45, rfl⟩
abbrev main_cst_0 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Kernel3.lean ====
abbrev S72 : Shape := ⟨1, ![72]⟩
abbrev S1 : Shape := ⟨1, ![1]⟩
abbrev S36864x5632 : Shape := ⟨2, ![36864, 5632]⟩
abbrev S2x8x5632x2048 : Shape := ⟨4, ![2, 8, 5632, 2048]⟩
abbrev S589824x128 : Shape := ⟨2, ![589824, 128]⟩
abbrev S512x5632 : Shape := ⟨2, ![512, 5632]⟩
abbrev S1x1x5632x1024 : Shape := ⟨4, ![1, 1, 5632, 1024]⟩
abbrev S8192x128 : Shape := ⟨2, ![8192, 128]⟩
abbrev S5632x1024 : Shape := ⟨2, ![5632, 1024]⟩
abbrev S512x1024 : Shape := ⟨2, ![512, 1024]⟩
abbrev S512x128 : Shape := ⟨2, ![512, 128]⟩

abbrev nBuf : Space → Nat
  | .hbm => 3
  | .vmem => 6
  | .smem => 2
  | _ => 0

abbrev bufTy : (tb : Table) → Fin (tcTables nBuf tb) → BufTy
  | .hbm, ⟨0, _⟩ => ⟨S36864x5632, .bf16⟩
  | .hbm, ⟨1, _⟩ => ⟨S2x8x5632x2048, .bf16⟩
  | .hbm, ⟨2, _⟩ => ⟨S589824x128, .f32⟩
  | .local _ .vmem, ⟨0, _⟩ => ⟨S512x5632, .bf16⟩
  | .local _ .vmem, ⟨1, _⟩ => ⟨S512x5632, .bf16⟩
  | .local _ .vmem, ⟨2, _⟩ => ⟨S1x1x5632x1024, .bf16⟩
  | .local _ .vmem, ⟨3, _⟩ => ⟨S1x1x5632x1024, .bf16⟩
  | .local _ .vmem, ⟨4, _⟩ => ⟨S8192x128, .f32⟩
  | .local _ .vmem, ⟨5, _⟩ => ⟨S8192x128, .f32⟩
  | .local _ .smem, ⟨0, _⟩ => ⟨S72, .i32⟩
  | .local _ .smem, ⟨1, _⟩ => ⟨S1, .i32⟩
  | _, _ => ⟨S36864x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_9 : BitVec 32 := 0#32
  let v14 : BitVec 1 := Scalar.cmpi .eq arg1 c0_i32_9
  let v15 : BitVec 32 := Scalar.extui v14
  let c0_i32_10 : BitVec 32 := 0#32
  let v16 : BitVec 1 := Scalar.cmpi .ne v15 c0_i32_10
  v16

def k0_cond3 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_11 : BitVec 32 := 0#32
  let v19 : BitVec 1 := Scalar.cmpi .ne v18 c0_i32_11
  v19

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  let c0_i32_1 : BitVec 32 := 0#32
  ![c0_i32.toNat, v1.toNat, c0_i32_0.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S72 : Shape := ⟨1, ![72]⟩
abbrev S1 : Shape := ⟨1, ![1]⟩
abbrev S36864x5632 : Shape := ⟨2, ![36864, 5632]⟩
abbrev S2x8x5632x2048 : Shape := ⟨4, ![2, 8, 5632, 2048]⟩
abbrev S36864 : Shape := ⟨1, ![36864]⟩
abbrev S72x1 : Shape := ⟨2, ![72, 1]⟩
abbrev S72x512 : Shape := ⟨2, ![72, 512]⟩
abbrev S36864x1 : Shape := ⟨2, ![36864, 1]⟩
abbrev S8 : Shape := ⟨1, ![8]⟩
abbrev S1x8 : Shape := ⟨2, ![1, 8]⟩
abbrev S36864x8 : Shape := ⟨2, ![36864, 8]⟩
abbrev S_ : Shape := ⟨0, ![]⟩
abbrev S1x8x5632x2048 : Shape := ⟨4, ![1, 8, 5632, 2048]⟩
abbrev S8x5632x2048 : Shape := ⟨3, ![8, 5632, 2048]⟩
abbrev S36864x8x2048 : Shape := ⟨3, ![36864, 8, 2048]⟩
abbrev S36864x8x1 : Shape := ⟨3, ![36864, 8, 1]⟩
abbrev S36864x2048 : Shape := ⟨2, ![36864, 2048]⟩
abbrev S589824x128 : Shape := ⟨2, ![589824, 128]⟩

abbrev nBuf : Space → Nat
  | .hbm => 36
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S36864x5632, .bf16⟩
  | .hbm, ⟨3, _⟩ => ⟨S2x8x5632x2048, .bf16⟩
  | .hbm, ⟨4, _⟩ => ⟨S36864, .i32⟩
  | .hbm, ⟨5, _⟩ => ⟨S72x1, .i32⟩
  | .hbm, ⟨6, _⟩ => ⟨S72x512, .i32⟩
  | .hbm, ⟨7, _⟩ => ⟨S36864, .i32⟩
  | .hbm, ⟨8, _⟩ => ⟨S36864x1, .i32⟩
  | .hbm, ⟨9, _⟩ => ⟨S8, .i32⟩
  | .hbm, ⟨10, _⟩ => ⟨S1x8, .i32⟩
  | .hbm, ⟨11, _⟩ => ⟨S36864x8, .i32⟩
  | .hbm, ⟨12, _⟩ => ⟨S36864x8, .i32⟩
  | .hbm, ⟨13, _⟩ => ⟨S36864x8, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S36864, .i32⟩
  | .hbm, ⟨18, _⟩ => ⟨S36864, .i1⟩
  | .hbm, ⟨19, _⟩ => ⟨S36864x1, .i1⟩
  | .hbm, ⟨20, _⟩ => ⟨S36864x8, .i1⟩
  | .hbm, ⟨21, _⟩ => ⟨S36864x8, .i1⟩
  | .hbm, ⟨22, _⟩ => ⟨S36864x5632, .f32⟩
  | .hbm, ⟨23, _⟩ => ⟨S1x8x5632x2048, .bf16⟩
  | .hbm, ⟨24, _⟩ => ⟨S8x5632x2048, .bf16⟩
  | .hbm, ⟨25, _⟩ => ⟨S8x5632x2048, .f32⟩
  | .hbm, ⟨26, _⟩ => ⟨S36864x8x2048, .f32⟩
  | .hbm, ⟨27, _⟩ => ⟨S36864x8x1, .i1⟩
  | .hbm, ⟨28, _⟩ => ⟨S_, .f32⟩
  | .hbm, ⟨29, _⟩ => ⟨S_, .f32⟩
  | .hbm, ⟨30, _⟩ => ⟨S36864x8x2048, .i1⟩
  | .hbm, ⟨31, _⟩ => ⟨S36864x8x2048, .f32⟩
  | .hbm, ⟨32, _⟩ => ⟨S36864x8x2048, .f32⟩
  | .hbm, ⟨33, _⟩ => ⟨S_, .f32⟩
  | .hbm, ⟨34, _⟩ => ⟨S36864x2048, .f32⟩
  | .hbm, ⟨35, _⟩ => ⟨S589824x128, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel4.lean ====
abbrev S16384x2048 : Shape := ⟨2, ![16384, 2048]⟩
abbrev S4x2048x9216 : Shape := ⟨3, ![4, 2048, 9216]⟩
abbrev S16384x4096 : Shape := ⟨2, ![16384, 4096]⟩
abbrev S2048x2048 : Shape := ⟨2, ![2048, 2048]⟩
abbrev S1x2048x512 : Shape := ⟨3, ![1, 2048, 512]⟩
abbrev S2048x512 : Shape := ⟨2, ![2048, 512]⟩
abbrev S256x2048 : Shape := ⟨2, ![256, 2048]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S4x2048x9216, .f32⟩
  | .hbm, ⟨2, _⟩ => ⟨S16384x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x2048 : Shape := ⟨2, ![16384, 2048]⟩
abbrev S4x2048x9216 : Shape := ⟨3, ![4, 2048, 9216]⟩
abbrev S1x2048x4096 : Shape := ⟨3, ![1, 2048, 4096]⟩
abbrev S2048x4096 : Shape := ⟨2, ![2048, 4096]⟩
abbrev S16384x4096 : Shape := ⟨2, ![16384, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x9216, .f32⟩
  | .hbm, ⟨2, _⟩ => ⟨S16384x2048, .f32⟩
  | .hbm, ⟨3, _⟩ => ⟨S1x2048x4096, .f32⟩
  | .hbm, ⟨4, _⟩ => ⟨S2048x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S16384x2048 : Shape := ⟨2, ![16384, 2048]⟩
abbrev S4x2048x9216 : Shape := ⟨3, ![4, 2048, 9216]⟩
abbrev S2048x2048 : Shape := ⟨2, ![2048, 2048]⟩
abbrev S1x2048x512 : Shape := ⟨3, ![1, 2048, 512]⟩
abbrev S2048x512 : Shape := ⟨2, ![2048, 512]⟩
abbrev S256x2048 : Shape := ⟨2, ![256, 2048]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S4x2048x9216, .f32⟩
  | .hbm, ⟨2, _⟩ => ⟨S16384x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x2048 : Shape := ⟨2, ![16384, 2048]⟩
abbrev S4x2048x9216 : Shape := ⟨3, ![4, 2048, 9216]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x9216, .f32⟩
  | .hbm, ⟨2, _⟩ => ⟨S16384x2048, .f32⟩
  | .hbm, ⟨3, _⟩ => ⟨S1x2048x2048, .f32⟩
  | .hbm, ⟨4, _⟩ => ⟨S2048x2048, .f32⟩
  | .hbm, ⟨5, _⟩ => ⟨S16384x2048, .f32⟩
  | .hbm, ⟨6, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S16 : Shape := ⟨1, ![16]⟩
abbrev S1 : Shape := ⟨1, ![1]⟩
abbrev S16384x2048 : Shape := ⟨2, ![16384, 2048]⟩
abbrev S2x1x2048x5632 : Shape := ⟨4, ![2, 1, 2048, 5632]⟩
abbrev S16384x5632 : Shape := ⟨2, ![16384, 5632]⟩
abbrev S1024x2048 : Shape := ⟨2, ![1024, 2048]⟩
abbrev S1x1x2048x512 : Shape := ⟨4, ![1, 1, 2048, 512]⟩
abbrev S1024x512 : Shape := ⟨2, ![1024, 512]⟩
abbrev S2048x512 : Shape := ⟨2, ![2048, 512]⟩

abbrev nBuf : Space → Nat
  | .hbm => 4
  | .vmem => 10
  | .smem => 2
  | _ => 0

abbrev bufTy : (tb : Table) → Fin (tcTables nBuf tb) → BufTy
  | .hbm, ⟨0, _⟩ => ⟨S16384x2048, .bf16⟩
  | .hbm, ⟨1, _⟩ => ⟨S2x1x2048x5632, .f32⟩
  | .hbm, ⟨2, _⟩ => ⟨S2x1x2048x5632, .f32⟩
  | .hbm, ⟨3, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | .local _ .smem, ⟨0, _⟩ => ⟨S16, .i32⟩
  | .local _ .smem, ⟨1, _⟩ => ⟨S1, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 16], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S16.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16 : Shape := ⟨1, ![16]⟩
abbrev S1 : Shape := ⟨1, ![1]⟩
abbrev S16384x2048 : Shape := ⟨2, ![16384, 2048]⟩
abbrev S2x1x2048x5632 : Shape := ⟨4, ![2, 1, 2048, 5632]⟩
abbrev S1x1x2048x5632 : Shape := ⟨4, ![1, 1, 2048, 5632]⟩
abbrev S2048x5632 : Shape := ⟨2, ![2048, 5632]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩

abbrev nBuf : Space → Nat
  | .hbm => 35
  | .vmem => 0
  | .smem => 0
  | _ => 0

abbrev bufTy : (tb : Table) → Fin (tcTables nBuf tb) → BufTy
  | .hbm, ⟨0, _⟩ => ⟨S16, .i32⟩
  | .hbm, ⟨1, _⟩ => ⟨S1, .i32⟩
  | .hbm, ⟨2, _⟩ => ⟨S16384x2048, .bf16⟩
  | .hbm, ⟨3, _⟩ => ⟨S2x1x2048x5632, .f32⟩
  | .hbm, ⟨4, _⟩ => ⟨S2x1x2048x5632, .f32⟩
  | .hbm, ⟨5, _⟩ => ⟨S16384x2048, .f32⟩
  | .hbm, ⟨6, _⟩ => ⟨S1x1x2048x5632, .f32⟩
  | .hbm, ⟨7, _⟩ => ⟨S2048x5632, .f32⟩
  | .hbm, ⟨8, _⟩ => ⟨S16384x5632, .f32⟩
  | .hbm, ⟨9, _⟩ => ⟨S16384x5632, .f32⟩
  | .hbm, ⟨10, _⟩ => ⟨S16384x5632, .f32⟩
  | .hbm, ⟨11, _⟩ => ⟨S_, .f32⟩
  | .hbm, ⟨12, _⟩ => ⟨S16384x5632, .f32⟩
  | .hbm, ⟨13, _⟩ => ⟨S16384x5632, .f32⟩
  | .hbm, ⟨14, _⟩ => ⟨S_, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S1x1x2048x5632, .f32⟩
  | .hbm, ⟨19, _⟩ => ⟨S2048x5632, .f32⟩
  | .hbm, ⟨20, _⟩ => ⟨S16384x5632, .f32⟩
  | .hbm, ⟨21, _⟩ => ⟨S16384x5632, .f32⟩
  | .hbm, ⟨22, _⟩ => ⟨S16384, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S16384x1, .i1⟩
  | .hbm, ⟨29, _⟩ => ⟨S_, .f32⟩
  | .hbm, ⟨30, _⟩ => ⟨S_, .f32⟩
  | .hbm, ⟨31, _⟩ => ⟨S16384x5632, .i1⟩
  | .hbm, ⟨32, _⟩ => ⟨S16384x5632, .f32⟩
  | .hbm, ⟨33, _⟩ => ⟨S16384x5632, .f32⟩
  | .hbm, ⟨34, _⟩ => ⟨S16384x5632, .bf16⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]
-- ==== Kernel7.lean ====
abbrev S16 : Shape := ⟨1, ![16]⟩
abbrev S1 : Shape := ⟨1, ![1]⟩
abbrev S16384x5632 : Shape := ⟨2, ![16384, 5632]⟩
abbrev S2x1x5632x2048 : Shape := ⟨4, ![2, 1, 5632, 2048]⟩
abbrev S16384x2048 : Shape := ⟨2, ![16384, 2048]⟩
abbrev S1024x5632 : Shape := ⟨2, ![1024, 5632]⟩
abbrev S1x1x5632x512 : Shape := ⟨4, ![1, 1, 5632, 512]⟩
abbrev S1024x512 : Shape := ⟨2, ![1024, 512]⟩
abbrev S5632x512 : Shape := ⟨2, ![5632, 512]⟩

abbrev nBuf : Space → Nat
  | .hbm => 3
  | .vmem => 7
  | .smem => 2
  | _ => 0

abbrev bufTy : (tb : Table) → Fin (tcTables nBuf tb) → BufTy
  | .hbm, ⟨0, _⟩ => ⟨S16384x5632, .bf16⟩
  | .hbm, ⟨1, _⟩ => ⟨S2x1x5632x2048, .f32⟩
  | .hbm, ⟨2, _⟩ => ⟨S16384x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x1x5632x512, .f32⟩
  | .local _ .vmem, ⟨3, _⟩ => ⟨S1x1x5632x512, .f32⟩
  | .local _ .vmem, ⟨4, _⟩ => ⟨S1024x512, .f32⟩
  | .local _ .vmem, ⟨5, _⟩ => ⟨S1024x512, .f32⟩
  | .local _ .vmem, ⟨6, _⟩ => ⟨S5632x512, .bf16⟩
  | .local _ .smem, ⟨0, _⟩ => ⟨S16, .i32⟩
  | .local _ .smem, ⟨1, _⟩ => ⟨S1, .i32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S16 : Shape := ⟨1, ![16]⟩
abbrev S1 : Shape := ⟨1, ![1]⟩
abbrev S16384x5632 : Shape := ⟨2, ![16384, 5632]⟩
abbrev S2x1x5632x2048 : Shape := ⟨4, ![2, 1, 5632, 2048]⟩
abbrev S1x1x5632x2048 : Shape := ⟨4, ![1, 1, 5632, 2048]⟩
abbrev S5632x2048 : Shape := ⟨2, ![5632, 2048]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16, .i32⟩
  | .hbm, ⟨1, _⟩ => ⟨S1, .i32⟩
  | .hbm, ⟨2, _⟩ => ⟨S16384x5632, .bf16⟩
  | .hbm, ⟨3, _⟩ => ⟨S2x1x5632x2048, .f32⟩
  | .hbm, ⟨4, _⟩ => ⟨S16384x5632, .f32⟩
  | .hbm, ⟨5, _⟩ => ⟨S1x1x5632x2048, .f32⟩
  | .hbm, ⟨6, _⟩ => ⟨S5632x2048, .f32⟩
  | .hbm, ⟨7, _⟩ => ⟨S16384x2048, .f32⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Softmax.lean ====
/-
  The mathematics of one attention head on the extended reals, free of any program.

  `headK` is one entry of a head as the kernel takes it: scores of the sequence's keys and of the cache's keys in two
  sums, powers of TWO, one division at the end.  `head_eq` says that it is the plain softmax attention of the
  concatenated keys: exponentials of scores times `1/√128`, each divided by their sum, for queries that carry the
  factor `log 2 · √128` in addition, whatever finite number is subtracted from the scores before the exponential.
-/
module

public import Idealize.ShloMosaic.PureOps.Ideal
public import Idealize.ShloMosaic.PureOps.Ideal.Laws
public import Idealize.ShloMosaic.PureOps.Reduce
public import Idealize.ShloMosaic.Lib.IdealHost
public import Mathlib.Analysis.SpecialFunctions.Pow.Real

@[expose] public section

noncomputable section

namespace Cert.Attn

open Idealize.ShloMosaic

/-! ## The constants -/

theorem word_bot : Ideal.ofBits .f32 0xFF800000#32 = ⊥ := by simp [Ideal.ofBits, Ideal.ieee]
theorem word_top : Ideal.ofBits .f32 0x7F800000#32 = ⊤ := by simp [Ideal.ofBits, Ideal.ieee]
theorem word_two : Ideal.ofBits .f32 0x40000000#32 = ((2 : ℝ) : EReal) := by
  simp [Ideal.ofBits, Ideal.ieee]
  rw [← EReal.coe_mul]; norm_num
theorem word_128 : Ideal.ofBits .f32 0x43000000#32 = ((128 : ℝ) : EReal) := by
  simp [Ideal.ofBits, Ideal.ieee]
  rw [← EReal.coe_mul]; norm_num

/-! ## Real values among the extended reals -/

/-- `x` is a real number. -/
def IsReal (x : EReal) : Prop := ∃ r : ℝ, x = (r : EReal)

theorem isReal_of_abs_lt {x : EReal} (h : max x (-x) < ⊤) : IsReal x := by
  induction x with
  | bot => simp at h
  | top => simp at h
  | coe r => exact ⟨r, rfl⟩

theorem isReal_mul {x y : EReal} : IsReal x → IsReal y → IsReal (x * y) := by
  rintro ⟨a, rfl⟩ ⟨b, rfl⟩; exact ⟨a * b, (EReal.coe_mul a b).symm⟩

theorem isReal_max {x y : EReal} : IsReal x → IsReal y → IsReal (max x y) := by
  rintro ⟨a, rfl⟩ ⟨b, rfl⟩
  rcases le_total (a : EReal) b with h | h
  · rw [max_eq_right h]; exact ⟨b, rfl⟩
  · rw [max_eq_left h]; exact ⟨a, rfl⟩

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem isReal_sum {ι : Type*} (s : Finset ι) {f : ι → EReal} (h : ∀ i, IsReal (f i)) : IsReal (∑ i ∈ s, f i) := by
  choose g hg using h
  exact ⟨∑ i ∈ s, g i, by rw [← coe_sum]; exact Finset.sum_congr rfl fun i _ => hg i⟩

/-- The maximum, from −∞, of real values over a nonempty finite set is real. -/
theorem isReal_fold_max {ι : Type*} (s : Finset ι) (hs : s.Nonempty) {f : ι → EReal} (h : ∀ i, IsReal (f i)) :
    IsReal (s.fold max ⊥ f) := by
  classical
  induction hs using Finset.Nonempty.cons_induction with
  | singleton a => simpa using h a
  | cons a s ha hs ih => rw [Finset.fold_cons]; exact isReal_max (h a) ih

/-- A nonnegative real factor distributes over a finite sum. -/
theorem sum_mul_coe {ι : Type*} (s : Finset ι) (f : ι → EReal) {a : ℝ} (ha : 0 ≤ a) :
    (∑ i ∈ s, f i) * (a : EReal) = ∑ i ∈ s, f i * (a : EReal) := by
  classical
  induction s using Finset.induction_on with
  | empty => simp
  | insert b s hb ih =>
    rw [Finset.sum_insert hb, Finset.sum_insert hb,
      EReal.right_distrib_of_nonneg_of_ne_top (by exact_mod_cast ha) (EReal.coe_ne_top a), ih]

theorem div_coe (x : EReal) {a : ℝ} (ha : a ≠ 0) : Ideal.div x (a : EReal) = x * ((a⁻¹ : ℝ) : EReal) := by
  unfold Ideal.div
  rw [if_neg (by exact_mod_cast ha), EReal.coe_inv]

/-- A softmax of powers of two is the softmax of exponentials of the scores times `log 2`, whatever is subtracted in
    either: weights `2^(s−m) / ∑ 2^(s−m)` and `e^(s·log 2 − M) / ∑ e^(s·log 2 − M)` are the same, and the division may
    be done after the sum with the values `V`, which may be infinite. -/
theorem softmax_exp2 {κ : Type*} [Fintype κ] [Nonempty κ] (s : κ → ℝ) (m M : ℝ) (V : κ → EReal) :
    Ideal.div (∑ j, V j * Ideal.exp2 ((s j : EReal) - (m : EReal))) (∑ j, Ideal.exp2 ((s j : EReal) - (m : EReal)))
      = ∑ j, V j * Ideal.div (Ideal.exp (((s j * Real.log 2 : ℝ) : EReal) - (M : EReal)))
          (∑ j, Ideal.exp (((s j * Real.log 2 : ℝ) : EReal) - (M : EReal))) := by
  have ha : ∀ j, Ideal.exp2 ((s j : EReal) - (m : EReal)) = (((2 : ℝ) ^ (s j - m) : ℝ) : EReal) := fun j => by
    rw [← EReal.coe_sub, Ideal.exp2_coe]; rfl
  have hb : ∀ j, Ideal.exp (((s j * Real.log 2 : ℝ) : EReal) - (M : EReal))
      = (((2 : ℝ) ^ (s j - m) * Real.exp (m * Real.log 2 - M) : ℝ) : EReal) := fun j => by
    rw [← EReal.coe_sub, Ideal.exp_coe, Real.rpow_def_of_pos (by norm_num), ← Real.exp_add]
    congr 2; ring
  simp only [ha, hb]
  have hA : 0 < ∑ j, (2 : ℝ) ^ (s j - m) :=
    Finset.sum_pos (fun j _ => Real.rpow_pos_of_pos (by norm_num) _) Finset.univ_nonempty
  have hE : 0 < Real.exp (m * Real.log 2 - M) := Real.exp_pos _
  rw [coe_sum, coe_sum, ← Finset.sum_mul, div_coe _ hA.ne', sum_mul_coe _ _ (inv_pos.mpr hA).le]
  refine Finset.sum_congr rfl fun j _ => ?_
  rw [div_coe _ (mul_pos hA hE).ne', mul_assoc, ← EReal.coe_mul, ← EReal.coe_mul]
  congr 2
  field_simp

/-! ## One entry of a head -/

/-- The scores of the queries `q` against the keys `k`. -/
def score {n : ℕ} (k : Fin n → Fin 128 → EReal) (q : Fin 128 → EReal) (x : Fin n) : EReal := ∑ e, k x e * q e

/-- The largest score, of the sequence's `2048` keys `k1` and the cache's `512` keys `k2`. -/
def top (k1 : Fin 2048 → Fin 128 → EReal) (k2 : Fin 512 → Fin 128 → EReal) (q : Fin 128 → EReal) : EReal :=
  max (Finset.fold max (Ideal.ofBits FTy.f32 0xFF800000#32) (fun x => score k1 q x) Finset.univ)
    (Finset.fold max (Ideal.ofBits FTy.f32 0xFF800000#32) (fun x => score k2 q x) Finset.univ)

/-- One entry of a head as the kernel takes it: keys and values in two parts, powers of two, one division. -/
def headK (k1 : Fin 2048 → Fin 128 → EReal) (k2 : Fin 512 → Fin 128 → EReal) (q : Fin 128 → EReal)
    (v1 : Fin 2048 → EReal) (v2 : Fin 512 → EReal) : EReal :=
  Ideal.div
    ((∑ x, v1 x * Ideal.exp2 (score k1 q x - top k1 k2 q)) + ∑ x, v2 x * Ideal.exp2 (score k2 q x - top k1 k2 q))
    ((∑ x, Ideal.exp2 (score k1 q x - top k1 k2 q)) + ∑ x, Ideal.exp2 (score k2 q x - top k1 k2 q))

/-- A score as the reference takes it: the queries times `log 2 · √128`, the sum times `1/√128`. -/
def scoreR (K : Fin 128 → EReal) (q : Fin 128 → EReal) : EReal :=
  (∑ e, K e * (q e * (Ideal.log (Ideal.ofBits FTy.f32 0x40000000#32) * Ideal.sqrt (Ideal.ofBits FTy.f32 0x43000000#32))))
    * Ideal.div 1 (Ideal.sqrt (Ideal.ofBits FTy.f32 0x43000000#32))

/-- The two factors undo each other but for `log 2`. -/
theorem scoreR_eq {K q : Fin 128 → ℝ} :
    scoreR (fun e => (K e : EReal)) (fun e => (q e : EReal)) = (((∑ e, K e * q e) * Real.log 2 : ℝ) : EReal) := by
  have h128 : Ideal.sqrt (Ideal.ofBits FTy.f32 0x43000000#32) = ((Real.sqrt 128 : ℝ) : EReal) := by
    rw [word_128, Ideal.sqrt_coe, if_neg (by norm_num)]
  have h2 : Ideal.log (Ideal.ofBits FTy.f32 0x40000000#32) = ((Real.log 2 : ℝ) : EReal) := by
    rw [word_two, Ideal.log_coe, if_neg (by norm_num)]
  have hs : 0 < Real.sqrt 128 := Real.sqrt_pos.mpr (by norm_num)
  unfold scoreR
  rw [h128, h2, div_coe _ hs.ne', one_mul, ← EReal.coe_mul]
  simp only [← EReal.coe_mul]
  rw [coe_sum, ← EReal.coe_mul]
  congr 1
  rw [Finset.sum_mul, Finset.sum_mul]
  refine Finset.sum_congr rfl fun e _ => ?_
  field_simp

/-- One entry of a head as the reference takes it is the kernel's, the keys and the queries being finite: `K`, `V` hold
    the sequence's and the cache's keys and values one behind the other, and any real number `M` is subtracted. -/
theorem head_eq (K : Fin 2560 → Fin 128 → EReal) (V : Fin 2560 → EReal) (q : Fin 128 → EReal) (M : EReal)
    (hK : ∀ x e, IsReal (K x e)) (hq : ∀ e, IsReal (q e)) (hM : IsReal M) :
    (∑ x, V x * Ideal.div (Ideal.exp (scoreR (K x) q - M)) (∑ x, Ideal.exp (scoreR (K x) q - M)))
      = headK (fun x => K ⟨x.val, by omega⟩) (fun x => K ⟨2048 + x.val, by omega⟩) q
          (fun x => V ⟨x.val, by omega⟩) (fun x => V ⟨2048 + x.val, by omega⟩) := by
  obtain ⟨M, rfl⟩ := hM
  choose K' hK' using hK
  choose q' hq' using hq
  obtain rfl : q = fun e => (q' e : EReal) := funext hq'
  obtain rfl : K = fun x e => (K' x e : EReal) := funext fun x => funext fun e => hK' x e
  have hsc : ∀ {n : ℕ} (f : Fin n → Fin 2560) (x : Fin n), score (fun x e => (K' (f x) e : EReal)) (fun e => (q' e : EReal)) x
      = ((∑ e, K' (f x) e * q' e : ℝ) : EReal) := fun f x => by
    unfold score; simp only [← EReal.coe_mul]; rw [coe_sum]
  obtain ⟨m, hm⟩ : IsReal (top (fun x e => (K' ⟨x.val, by omega⟩ e : EReal)) (fun x e => (K' ⟨2048 + x.val, by omega⟩ e : EReal))
      (fun e => (q' e : EReal))) := by
    unfold top
    rw [word_bot]
    exact isReal_max
      (isReal_fold_max _ ⟨0, Finset.mem_univ _⟩ fun x => ⟨_, hsc (fun x : Fin 2048 => ⟨x.val, by omega⟩) x⟩)
      (isReal_fold_max _ ⟨0, Finset.mem_univ _⟩ fun x => ⟨_, hsc (fun x : Fin 512 => ⟨2048 + x.val, by omega⟩) x⟩)
  unfold headK
  rw [hm]
  have h1 := hsc (fun x : Fin 2048 => (⟨x.val, by omega⟩ : Fin 2560))
  have h2 := hsc (fun x : Fin 512 => (⟨2048 + x.val, by omega⟩ : Fin 2560))
  simp only [h1, h2, scoreR_eq]
  rw [← softmax_exp2 (fun x => ∑ e, K' x e * q' e) m M V]
  rw [Fin.sum_univ_add (a := 2048) (b := 512) (fun x : Fin (2048 + 512) => V x * Ideal.exp2 (((∑ e, K' x e * q' e : ℝ) : EReal) - (m : EReal))),
    Fin.sum_univ_add (a := 2048) (b := 512) (fun x : Fin (2048 + 512) => Ideal.exp2 (((∑ e, K' x e * q' e : ℝ) : EReal) - (m : EReal)))]
  rfl

end Cert.Attn

end
-- ==== Proof.HeadBlock.lean ====
/-
  What one head of a grid point of the attention kernel computes: `headK` of the point's blocks of queries, keys, values
  and cache.
-/
module

public import proofs.«01_k».proof.Proof.Gen.KernelIdeal.Frame
public import proofs.«01_k».proof.Proof.Softmax
public import Idealize.ShloMosaic.Lib.Pipeline.ValueKit

@[expose] public section

set_option maxRecDepth 16384

noncomputable section

open Idealize.ShloMosaic Idealize.ShloMosaic.TcCoe Idealize.SL.Sem

namespace Cert.KernelIdeal.AttnValue

open Cert.KernelIdeal Cert.KernelIdeal.Gen Cert.Attn

/-- The block of one head, from the blocks of keys, values, cache and this head's queries: the printed payload of the
    first head. -/
abbrev headBlock (k v : Vec Ideal S2048x128 .bf16) (ck cv : Vec Ideal S1x1x512x128 .f32) (q : Vec Ideal S512x128 .bf16) :
    FVec Ideal S512x128 .bf16 :=
  k0_pay14 v (k0_pay3 cv) (k0_pay9 k ck q) (k0_pay10 k ck q) (k0_pay11 k ck q)

/-- One entry of it is `headK`. -/
theorem headBlock_apply (k v : Vec Ideal S2048x128 .bf16) (ck cv : Vec Ideal S1x1x512x128 .f32) (q : Vec Ideal S512x128 .bf16)
    (i : Fin 512) (d : Fin 128) :
    headBlock k v ck cv q (ix2 i d)
      = headK (fun x e => k (ix2 x e)) (fun x e => ck (ix4 0 0 x e)) (fun e => q (ix2 i e))
          (fun x => v (ix2 x d)) (fun x => cv (ix4 0 0 x d)) := by
  pointwise [headBlock, k0_pay14, k0_pay3, k0_pay9, k0_pay10, k0_pay11, k0_pay8, k0_pay4, k0_pay5, k0_pay2]
  rfl

/-- The second head's store is the same function of its queries. -/
theorem head1_eq (k v : Vec Ideal S2048x128 .bf16) (ck cv : Vec Ideal S1x1x512x128 .f32) (q : Vec Ideal S512x128 .bf16) :
    k0_pay17 v (k0_pay3 cv) (k0_pay6 k q) (k0_pay7 ck q) = headBlock k v ck cv q := rfl

/-- The third head's store is the same function of its queries. -/
theorem head2_eq (k v : Vec Ideal S2048x128 .bf16) (ck cv : Vec Ideal S1x1x512x128 .f32) (q : Vec Ideal S512x128 .bf16) :
    k0_pay18 v (k0_pay3 cv) (k0_pay12 k q) (k0_pay13 (k0_pay2 ck) q) = headBlock k v ck cv q := rfl

/-- The fourth head's store is the same function of its queries. -/
theorem head3_eq (k v : Vec Ideal S2048x128 .bf16) (ck cv : Vec Ideal S1x1x512x128 .f32) (q : Vec Ideal S512x128 .bf16) :
    k0_pay1 (k0_pay3 cv) (k0_pay22 (k0_pay15 k q) (k0_pay16 (k0_pay2 ck) q))
        (k0_pay23 v (k0_pay15 k q) (k0_pay16 (k0_pay2 ck) q)) (k0_pay24 (k0_pay15 k q) (k0_pay16 (k0_pay2 ck) q))
      = headBlock k v ck cv q := rfl

end Cert.KernelIdeal.AttnValue

end
-- ==== Proof.OutBlock.lean ====
/-
  The output block of one grid point of the attention kernel, at an entry: head `l / 128` of the block, entry `l % 128`
  of that head.
-/
module

public import proofs.«01_k».proof.Proof.HeadBlock

@[expose] public section

set_option maxRecDepth 16384

noncomputable section

open Idealize.ShloMosaic Idealize.ShloMosaic.TcCoe Idealize.SL.Sem

namespace Cert.KernelIdeal.AttnValue

open Cert.KernelIdeal Cert.KernelIdeal.Gen Cert.Attn

/-- One head's store at an entry of the block. -/
theorem piece (x0 : Vec Ideal S512x512 .bf16) (x1 x2 : Vec Ideal S2048x128 .bf16) (x3 x4 : Vec Ideal S1x1x512x128 .f32)
    (g : ℕ) (hg : g < 4) (q : Vec Ideal S512x128 .bf16)
    (hq : ∀ (i : Fin 512) (e : Fin 128), q (ix2 i e) = x0 (ix2 i ⟨g * 128 + e.val, by omega⟩))
    (i0 : Fin 512) (d : Fin 128) (i l : Fin 512) (h0 : i.val = i0.val) (h1 : l.val = g * 128 + d.val) :
    headBlock x1 x2 x3 x4 q (ix2 i0 d)
      = headK (fun x e => x1 (ix2 x e)) (fun x e => x3 (ix4 0 0 x e))
          (fun e => x0 (ix2 i ⟨l.val / 128 * 128 + e.val, by omega⟩))
          (fun x => x2 (ix2 x ⟨l.val % 128, by omega⟩)) (fun x => x4 (ix4 0 0 x ⟨l.val % 128, by omega⟩)) := by
  obtain rfl : i = i0 := Fin.ext h0
  have hd : (⟨l.val % 128, by omega⟩ : Fin 128) = d := Fin.ext (by show l.val % 128 = d.val; omega)
  have hl : ∀ e : Fin 128, (⟨l.val / 128 * 128 + e.val, by omega⟩ : Fin 512) = ⟨g * 128 + e.val, by omega⟩ :=
    fun e => Fin.ext (by show l.val / 128 * 128 + e.val = g * 128 + e.val; omega)
  rw [headBlock_apply, hd]
  simp only [hl, hq]

/-- A load of 128 columns of the block of queries. -/
theorem ld_cols (x0 : Vec Ideal S512x512 .bf16) (o : ℕ) (ho : o + 128 ≤ 512) (inb)
    (i : Fin 512) (e : Fin 128) :
    (View.ld x0 (Rect.unit (s := S512x512) ![0, o] S512x128.size inb) : Vec Ideal S512x128 .bf16) (ix2 i e)
      = x0 (ix2 i ⟨o + e.val, by omega⟩) :=
  View.ld_unit_apply_of _ _ _ _ _ _ fun a => by
    match a with
    | ⟨0, _⟩ => show i.val = 0 + i.val; omega
    | ⟨1, _⟩ => rfl

/-- The whole output block at an entry: head `l / 128`, entry `l % 128` of it. -/
theorem out_apply (x0 : Vec Ideal S512x512 .bf16) (x1 x2 : Vec Ideal S2048x128 .bf16) (x3 x4 : Vec Ideal S1x1x512x128 .f32)
    (i l : Fin 512) :
    out0_5 x0 x1 x2 x3 x4 (ix2 i l)
      = headK (fun x e => x1 (ix2 x e)) (fun x e => x3 (ix4 0 0 x e))
          (fun e => x0 (ix2 i ⟨l.val / 128 * 128 + e.val, by omega⟩))
          (fun x => x2 (ix2 x ⟨l.val % 128, by omega⟩)) (fun x => x4 (ix4 0 0 x ⟨l.val % 128, by omega⟩)) := by
  have hz2 : (![0, 0] : Fin 2 → ℕ) = fun _ => 0 := by funext a; fin_cases a <;> rfl
  have hz4 : (![0, 0, 0, 0] : Fin 4 → ℕ) = fun _ => 0 := by funext a; fin_cases a <;> rfl
  unfold_out out0_5
  have e1 : View.ld x1 r0_0 = x1 := View.ld_unit_zero hz2 _ _
  have e2 : View.ld x2 r0_0 = x2 := View.ld_unit_zero hz2 _ _
  have e3 : View.ld x3 r0_1 = x3 := View.ld_unit_zero hz4 _ _
  have e4 : View.ld x4 r0_1 = x4 := View.ld_unit_zero hz4 _ _
  rw [e1, e2, e3, e4, head1_eq, head2_eq, head3_eq]
  canon_tiles x h
  · rw [eq_ix2 (n0 := 512) (n1 := 128) x]
    exact piece x0 x1 x2 x3 x4 3 (by omega) _ (fun i e => ld_cols x0 384 (by omega) _ i e) _ _ i l h0 h1
  · rw [eq_ix2 (n0 := 512) (n1 := 128) x]
    exact piece x0 x1 x2 x3 x4 2 (by omega) _ (fun i e => ld_cols x0 256 (by omega) _ i e) _ _ i l h0 h1
  · rw [eq_ix2 (n0 := 512) (n1 := 128) x]
    exact piece x0 x1 x2 x3 x4 1 (by omega) _ (fun i e => ld_cols x0 128 (by omega) _ i e) _ _ i l h0 h1
  · rw [eq_ix2 (n0 := 512) (n1 := 128) x]
    exact piece x0 x1 x2 x3 x4 0 (by omega) _ (fun i e => by rw [ld_cols x0 0 (by omega) _ i e]) _ _ i l h0
      (by have h2 : l.val = (x 1).val := h1; omega)

end Cert.KernelIdeal.AttnValue

end
-- ==== Proof.AttnValue.lean ====
/-
  The attention kernel's result array after the run: at row `r`, column `l`, the softmax attention `headK` of the query
  row `8192 + r`, head `l / 128`, over the keys and values of sequence `r / 2048` and that sequence's cache.
-/
module

public import proofs.«01_k».proof.Proof.OutBlock
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.AttnValue

open Cert.KernelIdeal Cert.KernelIdeal.Gen Cert.Attn

variable (m : (ℓ : Loc nD τ sig) → Buf (Elt Ideal) ℓ)

/-- The attention as one function of the five arrays, at row `r` and column `l`. -/
def attnAt (q : FVec Ideal S16384x2048 .bf16) (k v : FVec Ideal S16384x512 .bf16) (ck cv : FVec Ideal S4x4x512x4x128 .f32)
    (r : Fin 8192) (l : Fin 2048) : EReal :=
  headK (fun x e => k (ix2 ⟨8192 + (r.val / 2048 * 2048 + x.val), by omega⟩ ⟨l.val / 512 * 128 + e.val, by omega⟩))
    (fun x e => ck (ix5 ⟨r.val / 2048, by omega⟩ 0 x ⟨l.val / 512, by omega⟩ e))
    (fun e => q (ix2 ⟨8192 + r.val, by omega⟩ ⟨l.val / 128 * 128 + e.val, by omega⟩))
    (fun x => v (ix2 ⟨8192 + (r.val / 2048 * 2048 + x.val), by omega⟩ ⟨l.val / 512 * 128 + l.val % 128, by omega⟩))
    (fun x => cv (ix5 ⟨r.val / 2048, by omega⟩ 0 x ⟨l.val / 512, by omega⟩ ⟨l.val % 128, by omega⟩))

/-- The result array as one function of the five argument arrays. -/
def attn (q : FVec Ideal S16384x2048 .bf16) (k v : FVec Ideal S16384x512 .bf16) (ck cv : FVec Ideal S4x4x512x4x128 .f32) :
    FVec Ideal S8192x2048 .bf16 :=
  fun j => attnAt q k v ck cv (j 0) (j 1)

/-- The windows' block indices at grid point `t`: sequence `t / 16`, key head `t / 4 % 4`, query block `t % 4`. -/
theorem idx : ∀ t : Fin cfg0.N,
    win0_0.index t = ![16 + 4 * (t.val / 16) + t.val % 4, t.val / 4 % 4]
    ∧ win0_1.index t = ![4 + t.val / 16, t.val / 4 % 4] ∧ win0_2.index t = ![4 + t.val / 16, t.val / 4 % 4]
    ∧ win0_3.index t = ![t.val / 16, 0, 0, t.val / 4 % 4] ∧ win0_4.index t = ![t.val / 16, 0, 0, t.val / 4 % 4]
    ∧ win0_5.index t = ![4 * (t.val / 16) + t.val % 4, t.val / 4 % 4] ∧ t.val < 64 :=
  (by decide +kernel : ∀ t : Fin grid0.N, _)

/-- What grid point `t` leaves in its block is the attention at the array entry the block's entry sits at. -/
theorem point (c : Dev nD) (t : Fin cfg0.N) (i l : Fin 512) (r : Fin 8192) (s : Fin 2048)
    (hr : r.val = (4 * (t.val / 16) + t.val % 4) * 512 + i.val) (hs : s.val = t.val / 4 % 4 * 512 + l.val) :
    out0_5 (iblk m c 0 t) (iblk m c 1 t) (iblk m c 2 t) (iblk m c 3 t) (iblk m c 4 t) (ix2 i l)
      = attnAt (m ((c : Thread nD τ).loc main_arg0)) (m ((c : Thread nD τ).loc main_arg1))
          (m ((c : Thread nD τ).loc main_arg2)) (m ((c : Thread nD τ).loc main_arg3))
          (m ((c : Thread nD τ).loc main_arg4)) r s := by
  have hN : t.val < 64 := (idx t).2.2.2.2.2.2
  refine (out_apply (iblk m c 0 t) (iblk m c 1 t) (iblk m c 2 t) (iblk m c 3 t) (iblk m c 4 t) i l).trans ?_
  have hk : (fun (x : Fin 2048) (e : Fin 128) => iblk m c 1 t (ix2 x e)) = fun x e =>
      m ((c : Thread nD τ).loc main_arg1) (ix2 ⟨8192 + (r.val / 2048 * 2048 + x.val), by omega⟩ ⟨s.val / 512 * 128 + e.val, by omega⟩) := by
    funext x e
    blk_ext [iblk, V, idx t]
  have hv : (fun (x : Fin 2048) => iblk m c 2 t (ix2 x ⟨l.val % 128, by omega⟩)) = fun x =>
      m ((c : Thread nD τ).loc main_arg2) (ix2 ⟨8192 + (r.val / 2048 * 2048 + x.val), by omega⟩ ⟨s.val / 512 * 128 + s.val % 128, by omega⟩) := by
    funext x
    blk_ext [iblk, V, idx t]
  have hq : (fun (e : Fin 128) => iblk m c 0 t (ix2 i ⟨l.val / 128 * 128 + e.val, by omega⟩)) = fun e =>
      m ((c : Thread nD τ).loc main_arg0) (ix2 ⟨8192 + r.val, by omega⟩ ⟨s.val / 128 * 128 + e.val, by omega⟩) := by
    funext e
    blk_ext [iblk, V, idx t]
  have hck : (fun (x : Fin 512) (e : Fin 128) => iblk m c 3 t (ix4 0 0 x e)) = fun x e =>
      m ((c : Thread nD τ).loc main_arg3) (ix5 ⟨r.val / 2048, by omega⟩ 0 x ⟨s.val / 512, by omega⟩ e) := by
    funext x e
    blk_simp [iblk]
    entry_read
    pointwise
    blk_ext [idx t]
  have hcv : (fun (x : Fin 512) => iblk m c 4 t (ix4 0 0 x ⟨l.val % 128, by omega⟩)) = fun x =>
      m ((c : Thread nD τ).loc main_arg4) (ix5 ⟨r.val / 2048, by omega⟩ 0 x ⟨s.val / 512, by omega⟩ ⟨s.val % 128, by omega⟩) := by
    funext x
    blk_simp [iblk]
    entry_read
    pointwise
    blk_ext [idx t]
  unfold attnAt
  rw [hk, hck, hq, hv, hcv]

/-- The result array after the run. -/
theorem final (c : Dev nD) : (dats m 0 c).arrAt 5 cfg0.N
    = attn (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t _ y => ?_
  blk_simp
  rw [after0_5]
  obtain ⟨i, l, rfl⟩ : ∃ (i l : Fin 512), y = ix2 i l := ⟨y 0, y 1, eq_ix2 (n0 := 512) (n1 := 512) y⟩
  refine point m c t i l _ _ ?_ ?_
  · blk_simp [idx t]
  · blk_simp [idx t]

end Cert.KernelIdeal.AttnValue

end
-- ==== Proof.AttnRef.lean ====
/-
  The reference's result at an entry: row `r`, column `l` is the softmax attention of the query row `8192 + r`, head
  `l / 128`, over the keys and values of sequence `r / 2048` followed by that sequence's cache.
-/
module

public import proofs.«01_k».proof.Proof.Gen.ReferenceIdeal.Run
public import proofs.«01_k».proof.Proof.Softmax
public import Idealize.ShloMosaic.Lib.Pipeline.ValueKit

@[expose] public section

set_option maxRecDepth 16384

noncomputable section

open Idealize.ShloMosaic Idealize.ShloMosaic.TcCoe Idealize.SL.Sem

namespace Cert.ReferenceIdeal.AttnRef

open Cert.ReferenceIdeal Cert.ReferenceIdeal.Gen Cert.Attn

variable (m : (ℓ : Loc nD τ sig) → Buf (Elt Ideal) ℓ)

/-! ## The reference's term in stages -/

/-- Keys (or values): the sequences' own and, behind them, the cache's. -/
def catKV (k : FVec Ideal S16384x512 .bf16) (ck : FVec Ideal S4x4x512x4x128 .f32) : FVec Ideal S4x2560x4x128 .f32 :=
  concatenate S4x2560x4x128 1
    [⟨S4x2048x4x128, shapeCast S4x2048x4x128 (extf .f32 (extractStridedSlice S8192x512 ![8192, 0] k
        slices_S16384x512_S8192x512_8192_0) bitsLt_bf16_f32) shapeCasts_S8192x512_S4x2048x4x128⟩,
      ⟨S4x512x4x128, shapeCast S4x512x4x128 (extractStridedSlice S4x1x512x4x128 ![0, 0, 0, 0, 0] ck
        slices_S4x4x512x4x128_S4x1x512x4x128_0_0_0_0_0) shapeCasts_S4x1x512x4x128_S4x512x4x128⟩]
    concatenates_S4x2048x4x128_S4x512x4x128_S4x2560x4x128_d1

/-- The queries of the latent tokens, by sequence, key head, group and entry. -/
def queries (q : FVec Ideal S16384x2048 .bf16) : FVec Ideal S4x2048x4x4x128 .f32 :=
  shapeCast S4x2048x4x4x128 (extractStridedSlice S8192x2048 ![8192, 0]
      (mulf (extf FTy.f32 q bitsLt_bf16_f32) (broadcastInDim S16384x2048 ![] bcast_S_S16384x2048
        (mulf (Host.log (constant S_ FTy.f32 0x40000000#32)) (Host.sqrt (constant S_ FTy.f32 0x43000000#32)))))
      slices_S16384x2048_S8192x2048_8192_0)
    shapeCasts_S8192x2048_S4x2048x4x4x128

/-- The scaled scores. -/
def scores (k : FVec Ideal S4x2560x4x128 .f32) (q : FVec Ideal S4x2048x4x4x128 .f32) : FVec Ideal S4x4x4x2048x2560 .f32 :=
  mulf (transpose S4x4x4x2048x2560 [0, 1, 4, 3, 2]
      (Host.dotGeneral dot_S4x2560x4x128_S4x2048x4x4x128_S4x4x2560x2048x4_3_4_1_13_02_02 none k q)
      transposes_S4x4x2560x2048x4_S4x4x4x2048x2560_0_1_4_3_2)
    (broadcastInDim S4x4x4x2048x2560 ![] bcast_S_S4x4x4x2048x2560
      (Host.divf (constant S_ FTy.f32 0x3F800000#32) (Host.sqrt (constant S_ FTy.f32 0x43000000#32))))

/-- Each query's largest score. -/
def largest (s : FVec Ideal S4x4x4x2048x2560 .f32) : FVec Ideal S4x4x4x2048 .f32 :=
  Host.reduce FloatOps.maximumf s (constant S_ FTy.f32 0xFF800000#32) reducesTo_S4x4x4x2048x2560_S4x4x4x2048_d4 h_S_

/-- The exponentials of the scores less a number per query. -/
def weights (s : FVec Ideal S4x4x4x2048x2560 .f32) (mx : FVec Ideal S4x4x4x2048 .f32) : FVec Ideal S4x4x4x2048x2560 .f32 :=
  Host.exp (subf s (broadcastInDim S4x4x4x2048x2560 ![0, 1, 2, 3, 4] bcast_S4x4x4x2048x1_S4x4x4x2048x2560_0_1_2_3_4
    (broadcastInDim S4x4x4x2048x1 ![0, 1, 2, 3] bcast_S4x4x4x2048_S4x4x4x2048x1_0_1_2_3
      (maximumf (broadcastInDim S4x4x4x2048 ![] bcast_S_S4x4x4x2048 (constant S_ FTy.f32 0xFF800000#32)) mx))))

/-- The values weighed: each weight divided by its query's sum. -/
def weighed (v : FVec Ideal S4x2560x4x128 .f32) (e : FVec Ideal S4x4x4x2048x2560 .f32) : FVec Ideal S8192x2048 .bf16 :=
  truncf .bf16 (shapeCast S8192x2048 (transpose S4x2048x4x4x128 [0, 4, 1, 3, 2]
      (Host.dotGeneral dot_S4x2560x4x128_S4x4x4x2048x2560_S4x4x128x4x2048_1_4_3_23_02_01 none v
        (Host.divf e (broadcastInDim S4x4x4x2048x2560 ![0, 1, 2, 3, 4] bcast_S4x4x4x2048x1_S4x4x4x2048x2560_0_1_2_3_4
          (broadcastInDim S4x4x4x2048x1 ![0, 1, 2, 3] bcast_S4x4x4x2048_S4x4x4x2048x1_0_1_2_3
            (Host.reduceAdd e (constant S_ FTy.f32 0x00000000#32) reducesTo_S4x4x4x2048x2560_S4x4x4x2048_d4 h_S_)))))
      transposes_S4x4x128x4x2048_S4x2048x4x4x128_0_4_1_3_2) shapeCasts_S4x2048x4x4x128_S8192x2048) bitsLt_bf16_f32

/-- The printed result is these stages. -/
theorem res_eq (c : Dev nD) : Value.res_out0 m c =
    (let s := scores (catKV (m ((c.tc : Thread nD τ).loc main_arg1)) (m ((c.tc : Thread nD τ).loc main_arg3)))
        (queries (m ((c.tc : Thread nD τ).loc main_arg0)));
      weighed (catKV (m ((c.tc : Thread nD τ).loc main_arg2)) (m ((c.tc : Thread nD τ).loc main_arg4)))
        (weights s (largest s))) := rfl

/-! ## The stages at an entry -/

/-- A key of the sequence. -/
theorem catKV_own (k : FVec Ideal S16384x512 .bf16) (ck : FVec Ideal S4x4x512x4x128 .f32) (b : Fin 4) (s : Fin 2560)
    (h : Fin 4) (d : Fin 128) (hs : s.val < 2048) :
    catKV k ck (ix4 b s h d) = k (ix2 ⟨8192 + (b.val * 2048 + s.val), by omega⟩ ⟨h.val * 128 + d.val, by omega⟩) := by
  pointwise [catKV]
  rw [dif_pos hs]

/-- A key of the cache. -/
theorem catKV_cache (k : FVec Ideal S16384x512 .bf16) (ck : FVec Ideal S4x4x512x4x128 .f32) (b : Fin 4) (s : Fin 2560)
    (h : Fin 4) (d : Fin 128) (hs : 2048 ≤ s.val) :
    catKV k ck (ix4 b s h d) = ck (ix5 b 0 ⟨s.val - 2048, by omega⟩ h d) := by
  pointwise [catKV]
  rw [dif_neg (by omega)]

/-- The keys are real where their parts are. -/
theorem isReal_catKV (k : FVec Ideal S16384x512 .bf16) (ck : FVec Ideal S4x4x512x4x128 .f32) (hk : ∀ i, IsReal (k i))
    (hck : ∀ i, IsReal (ck i)) (b : Fin 4) (s : Fin 2560) (h : Fin 4) (d : Fin 128) : IsReal (catKV k ck (ix4 b s h d)) := by
  by_cases hs : s.val < 2048
  · rw [catKV_own k ck b s h d hs]; exact hk _
  · rw [catKV_cache k ck b s h d (by omega)]; exact hck _

theorem scores_apply (k : FVec Ideal S4x2560x4x128 .f32) (q : FVec Ideal S16384x2048 .bf16) (b h g : Fin 4) (i : Fin 2048)
    (s : Fin 2560) :
    scores k (queries q) (ix5 b h g i s) = scoreR (fun e => k (ix4 b s h e))
      (fun e => q (ix2 ⟨8192 + (b.val * 2048 + i.val), by omega⟩ ⟨h.val * 512 + g.val * 128 + e.val, by omega⟩)) := by
  pointwise [scores, queries]
  rfl

theorem weights_apply (s : FVec Ideal S4x4x4x2048x2560 .f32) (mx : FVec Ideal S4x4x4x2048 .f32) (b h g : Fin 4)
    (i : Fin 2048) (x : Fin 2560) :
    weights s mx (ix5 b h g i x) = Ideal.exp (s (ix5 b h g i x) - max ⊥ (mx (ix4 b h g i))) := by
  pointwise [weights]
  rw [word_bot]

theorem weighed_apply (v : FVec Ideal S4x2560x4x128 .f32) (e : FVec Ideal S4x4x4x2048x2560 .f32) (r : Fin 8192) (l : Fin 2048) :
    weighed v e (ix2 r l) = ∑ x, v (ix4 ⟨r.val / 2048, by omega⟩ x ⟨l.val / 512, by omega⟩ ⟨l.val % 128, by omega⟩)
      * Ideal.div (e (ix5 ⟨r.val / 2048, by omega⟩ ⟨l.val / 512, by omega⟩ ⟨l.val / 128 % 4, by omega⟩ ⟨r.val % 2048, by omega⟩ x))
        (∑ x, e (ix5 ⟨r.val / 2048, by omega⟩ ⟨l.val / 512, by omega⟩ ⟨l.val / 128 % 4, by omega⟩ ⟨r.val % 2048, by omega⟩ x)) := by
  pointwise [weighed]

/-- A maximum over an axis of real values is real. -/
theorem isReal_hostMax {s t u : Shape} {axes : List (Fin s.rank)} (x : FVec Ideal s .f32) (init : FVec Ideal u .f32)
    (h : s.ReducesTo axes t) (hu : 0 < u.numel) (j : t.Idx) (hx : ∀ i, IsReal (x i)) (i : s.Idx) (hi : h.drop i = j)
    (hinit : init (Shape.Idx.first hu) = ⊥) : IsReal (Host.reduce (FloatOps.maximumf (F := Ideal) (φ := .f32)) x init h hu j) := by
  rw [Host.reduce_eq_fold, hinit]
  exact isReal_fold_max _ ⟨i, by simp [hi]⟩ hx

theorem isReal_largest (s : FVec Ideal S4x4x4x2048x2560 .f32) (hs : ∀ i, IsReal (s i)) (b h g : Fin 4) (i : Fin 2048) :
    IsReal (largest s (ix4 b h g i)) := by
  refine isReal_hostMax s _ reducesTo_S4x4x4x2048x2560_S4x4x4x2048_d4 h_S_ _ hs (ix5 b h g i 0) ?_ word_bot
  exact (Shape.ReducesTo.fiber_r5_a4 _ _ _).mpr ⟨0, rfl⟩

/-! ## The result at an entry -/

/-- The reference at row `r`, column `l`, as the kernel's formula of the arguments, where queries and keys are real. -/
theorem res_apply (q : FVec Ideal S16384x2048 .bf16) (k v : FVec Ideal S16384x512 .bf16) (ck cv : FVec Ideal S4x4x512x4x128 .f32)
    (hq : ∀ i, IsReal (q i)) (hk : ∀ i, IsReal (k i)) (hck : ∀ i, IsReal (ck i)) (r : Fin 8192) (l : Fin 2048) :
    weighed (catKV v cv) (weights (scores (catKV k ck) (queries q)) (largest (scores (catKV k ck) (queries q)))) (ix2 r l)
      = headK (fun x e => k (ix2 ⟨8192 + (r.val / 2048 * 2048 + x.val), by omega⟩ ⟨l.val / 512 * 128 + e.val, by omega⟩))
          (fun x e => ck (ix5 ⟨r.val / 2048, by omega⟩ 0 x ⟨l.val / 512, by omega⟩ e))
          (fun e => q (ix2 ⟨8192 + r.val, by omega⟩ ⟨l.val / 128 * 128 + e.val, by omega⟩))
          (fun x => v (ix2 ⟨8192 + (r.val / 2048 * 2048 + x.val), by omega⟩ ⟨l.val / 512 * 128 + l.val % 128, by omega⟩))
          (fun x => cv (ix5 ⟨r.val / 2048, by omega⟩ 0 x ⟨l.val / 512, by omega⟩ ⟨l.val % 128, by omega⟩)) := by
  have hS : ∀ i, IsReal (scores (catKV k ck) (queries q) i) := fun i => by
    idx_vars i
    rw [scores_apply]
    choose a ha using fun e => isReal_catKV k ck hk hck i0 i4 i1 e
    choose a' ha' using hq
    simp only [ha, ha']
    exact ⟨_, scoreR_eq⟩
  rw [weighed_apply]
  simp only [weights_apply, scores_apply]
  have hM := isReal_largest _ hS ⟨r.val / 2048, by omega⟩ ⟨l.val / 512, by omega⟩ ⟨l.val / 128 % 4, by omega⟩ ⟨r.val % 2048, by omega⟩
  generalize largest (scores (catKV k ck) (queries q)) = L at hM ⊢
  rw [max_eq_right bot_le]
  rw [head_eq (fun x e => catKV k ck (ix4 ⟨r.val / 2048, by omega⟩ x ⟨l.val / 512, by omega⟩ e))
    (fun x => catKV v cv (ix4 ⟨r.val / 2048, by omega⟩ x ⟨l.val / 512, by omega⟩ ⟨l.val % 128, by omega⟩)) _ _
    (fun x e => isReal_catKV k ck hk hck _ _ _ _) (fun e => hq _) hM]
  congr 1
  · funext x e
    exact catKV_own k ck _ _ _ _ x.isLt
  · funext x e
    rw [catKV_cache k ck _ _ _ _ (by simp)]
    congr 2
    exact Fin.ext (by simp)
  · funext e
    congr 2 <;> exact Fin.ext (by simp; omega)
  · funext x
    exact catKV_own v cv _ _ _ _ x.isLt
  · funext x
    rw [catKV_cache v cv _ _ _ _ (by simp)]
    congr 2
    exact Fin.ext (by simp)

end Cert.ReferenceIdeal.AttnRef

end
-- ==== Proof.FinitePre.lean ====
/-
  What the precondition says: every query, key and cached key is a real number.
-/
module

public import proofs.«01_k».proof.Proof.Gen.Pre_finite
public import proofs.«01_k».proof.Proof.Softmax
public import Idealize.ShloMosaic.Lib.ReduceAll
public import Idealize.ShloMosaic.Lib.Affine

@[expose] public section

noncomputable section

open Idealize.ShloMosaic

namespace Cert.Pre_finite

open Cert.Attn

/-- An entry compared below +∞ in absolute value is real. -/
theorem isReal_of_cmp {s : Shape} {x y : FVec Ideal s .f32} {i : s.Idx} (hy : y i = Ideal.ofBits .f32 0x7F800000#32)
    (h : cmpf .olt (Host.absf x) y i = 1#1) : IsReal (x i) := by
  refine isReal_of_abs_lt ?_
  have h' : Ideal.cmp .olt (max (x i) (-(x i))) (y i) = 1#1 := h
  rw [hy, word_top] at h'
  by_contra hn
  have : Ideal.cmp .olt (max (x i) (-(x i))) ⊤ = 0#1 := by
    unfold Ideal.cmp; simp [hn]
  rw [this] at h'
  exact absurd h' (by decide)

/-- The precondition, read: the queries, the keys and the cached keys are real. -/
theorem real_of_fn (q : FVec Ideal S16384x2048 .bf16) (k v : FVec Ideal S16384x512 .bf16)
    (ck cv : FVec Ideal S4x4x512x4x128 .f32) (j : S_.Idx) (h : Cert.Pre_finite.fn (F := Ideal) q k v ck cv j = 1#1) :
    (∀ i, IsReal (q i)) ∧ (∀ i, IsReal (k i)) ∧ (∀ i, IsReal (ck i)) := by
  dsimp only [Cert.Pre_finite.fn] at h
  have : Subsingleton S_.Idx := ⟨fun a b => funext fun x => x.elim0⟩
  obtain ⟨h1, h3⟩ := IntOp.andi_eq_one.mp h
  obtain ⟨h1, h2⟩ := IntOp.andi_eq_one.mp h1
  have g1 := Host.reduce_andi_all _ _ _ _ j h1
  have g2 := Host.reduce_andi_all _ _ _ _ j h2
  have g3 := Host.reduce_andi_all _ _ _ _ j h3
  exact ⟨fun i => isReal_of_cmp (i := i) rfl (g1 i), fun i => isReal_of_cmp (i := i) rfl (g2 i),
    fun i => isReal_of_cmp (i := i) rfl (g3 i)⟩

end Cert.Pre_finite

end
-- ==== Proof.AttnClaim.lean ====
/-
  The attention call: from the same arguments, the keys, queries and cached keys finite, the kernel and the reference end
  with the same result.
-/
module

public import proofs.«01_k».proof.Defs
public import proofs.«01_k».proof.Proof.AttnValue
public import proofs.«01_k».proof.Proof.AttnRef
public import proofs.«01_k».proof.Proof.FinitePre
public import Idealize.ShloMosaic.Lib.Quiescent

@[expose] public section

set_option maxRecDepth 16384

noncomputable section

open Idealize.ShloMosaic Idealize.ShloMosaic.TcCoe Idealize.SL.Sem

namespace Cert.Attn

/-- The reference's result is the attention of the arguments. -/
theorem ref_eq (m' : (ℓ : Loc Cert.ReferenceIdeal.nD Cert.ReferenceIdeal.τ Cert.ReferenceIdeal.sig) → Buf (Elt Ideal) ℓ)
    (c : Dev Cert.ReferenceIdeal.nD)
    (h : Cert.Pre_finite.fn (F := Ideal) (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg3))
      (m' (c.tc.loc Cert.ReferenceIdeal.main_arg4)) = fun _ => 1#1) :
    Cert.ReferenceIdeal.Value.res_out0 m' c
      = Cert.KernelIdeal.AttnValue.attn (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg3))
      (m' (c.tc.loc Cert.ReferenceIdeal.main_arg4)) := by
  obtain ⟨hq, hk, hck⟩ := Cert.Pre_finite.real_of_fn _ _ _ _ _ ix0 (congrFun h _)
  refine (Cert.ReferenceIdeal.AttnRef.res_eq m' c).trans (funext fun j => ?_)
  obtain ⟨r, l, rfl⟩ : ∃ (r : Fin 8192) (l : Fin 2048), j = ix2 r l := ⟨j 0, j 1, eq_ix2 (n0 := 8192) (n1 := 2048) j⟩
  exact Cert.ReferenceIdeal.AttnRef.res_apply _ _ _ _ _ hq hk hck r l

/-- Kernel and reference agree on the attention. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨_, Cert.KernelIdeal.Value.run_blocks m g,
    (θ_run _ _ _).mono (fun r h c => ?_) (Cert.ReferenceIdeal.Value.run m' g')⟩
  obtain ⟨h0, h1, h2, h3, h4⟩ := hargs c
  have hp := hpre c
  rw [← h0, ← h1, ← h2, ← h3, ← h4] at hp
  have e := Cert.KernelIdeal.AttnValue.final m c
  rw [← h0, ← h1, ← h2, ← h3, ← h4] at e
  exact ⟨(h c).1.trans ((ref_eq m' c hp).trans e.symm), (h c).2⟩

/-- The reference runs, leaves its arguments as they were, and leaves every semaphore at zero: it declares none. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2)
      ∧ r.2.mem (c.tc.loc Cert.ReferenceIdeal.main_arg3) = m (c.tc.loc Cert.ReferenceIdeal.main_arg3)
      ∧ r.2.mem (c.tc.loc Cert.ReferenceIdeal.main_arg4) = m (c.tc.loc Cert.ReferenceIdeal.main_arg4))
      ∧ r.2.sem = fun _ => 0) :=
  (θ_run _ _ _).mono (fun r h => ⟨fun c => (h c).2, sem_eq_zero_of_no_sems (by decide) r.2⟩)
    (Cert.ReferenceIdeal.Value.run m ρ)

end Cert.Attn

end
-- ==== Proof.UpTables.lean ====
/-
  The pipeline of the gated up-projection at arbitrary tables: which expert each tile of rows belongs to, and how many
  tiles are in use. The tables are those with every expert below 8 and between 1 and 72 tiles in use.
-/
module

public import proofs.«01_k».proof.Proof.Gen.Kernel2Ideal.Flash.Runs
public import Idealize.ShloMosaic.Lib.Pipeline.Quiescent
public import Idealize.ShloMosaic.Lib.Claim

@[expose] public section

set_option maxRecDepth 16384
set_option Elab.async false

noncomputable section

namespace Cert.Kernel2Ideal.Up

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- Tables the launch may hold: every tile's expert is one of the eight, at least one and at most 72 tiles are in use. -/
structure Tabs where
  te : S72.Idx → BitVec 32
  nu : S1.Idx → BitVec 32
  te_lt : ∀ x, (te x).toNat < 8
  nu_pos : ∀ x, 1 ≤ (nu x).toNat
  nu_le : ∀ x, (nu x).toNat ≤ 72

variable (T : Tabs)

set_option backward.proofsInPublic true in
/-- The two tables as the launch's contents. -/
def tabs : pre0.Contents (Elt Ideal) := fun | ⟨0, _⟩ => T.te | ⟨1, _⟩ => T.nu | ⟨_ + 2, h⟩ => absurd h (by simp)

/-- The launch memory holds these tables. -/
def Holds (m : (ℓ : Loc nD τ sig) → Buf (Elt Ideal) ℓ) : Prop :=
  (∀ c : Dev nD, m ((c : Thread nD τ).loc main_arg0) = T.te)
  ∧ (∀ c : Dev nD, m ((c : Thread nD τ).loc main_arg1) = T.nu)

/-- Clamping a tile's number to the used ones keeps it below 72. -/
theorem clamp_lt : ∀ (i : Fin 72) (n : Fin 73), 1 ≤ n.val →
    (Scalar.minsi (BitVec.ofNat 32 i.val) (Scalar.subi (BitVec.ofNat 32 n.val) 1#32)).toNat < 72 := by decide +kernel

/-- A word below 73 is the word of its number. -/
theorem word_eq (w : BitVec 32) : w = BitVec.ofNat 32 w.toNat := by simp

/-- The block of rows fetched is inside the array of rows. -/
theorem inb_0 (i : grid0.Coords) (a : Fin 2) :
    (cc0_transform_0 inb_S1_S1_0 numel1_S1 (tabs T) i a + 1) * S512x2048.size a ≤ S36864x2048.size a := by
  obtain ⟨n, hn⟩ : ∃ n : S1.Idx, (tabs T).at 1 (Rect.unit (s := S1) ![0] S1.size inb_S1_S1_0) numel1_S1 = T.nu n := ⟨_, rfl⟩
  have h := clamp_lt (i 1) ⟨(T.nu n).toNat, Nat.lt_succ_of_le (T.nu_le n)⟩ (T.nu_pos n)
  rw [← word_eq] at h
  unfold cc0_transform_0
  rw [hn]
  fin_cases a
  · show ((Scalar.minsi (BitVec.ofNat 32 (i 1).val) (Scalar.subi (T.nu n) 1#32)).toNat + 1) * 512 ≤ 36864
    omega
  · show (0 + 1) * 2048 ≤ 2048
    omega

/-- The block of gate weights fetched is inside the array. -/
theorem inb_1 (i : grid0.Coords) (a : Fin 4) :
    (cc0_transform_1 k0_off1_inb numel1_S1 (tabs T) i a + 1) * S1x1x2048x512.size a ≤ S2x8x2048x5632.size a := by
  obtain ⟨n, hn⟩ : ∃ n : S72.Idx, (tabs T).at 0 (Rect.unit (s := S72) (k0_off1 i) S1.size (k0_off1_inb i)) numel1_S1 = T.te n := ⟨_, rfl⟩
  have h := T.te_lt n
  have h0 : (i 0).val < 11 := (i 0).isLt
  have h1 : (BitVec.ofNat 32 (i 0).val).toNat = (i 0).val := by
    rw [BitVec.toNat_ofNat]; exact Nat.mod_eq_of_lt (by omega)
  have e : cc0_transform_1 k0_off1_inb numel1_S1 (tabs T) i = ![0, (T.te n).toNat, 0, (i 0).val] := by
    rw [← hn, ← h1]; rfl
  rw [e]
  fin_cases a
  · show (0 + 1) * 1 ≤ 2
    omega
  · show ((T.te n).toNat + 1) * 1 ≤ 8
    omega
  · show (0 + 1) * 2048 ≤ 2048
    omega
  · show ((i 0).val + 1) * 512 ≤ 5632
    omega

/-- The two weight windows have one index map. -/
theorem map_2 (i : grid0.Coords) : cc0_transform_2 k0_off1_inb numel1_S1 (tabs T) i = cc0_transform_1 k0_off1_inb numel1_S1 (tabs T) i := rfl

/-- The launch's side condition holds of all such tables. -/
theorem ok : ok0 (F := Ideal) (tabs T) :=
  ⟨fun i => ⟨inb_0 T i, .inr (Affine.block_words_dvd (s := S36864x2048) (p := EltTy.packing .bf16) (by decide) (by decide))⟩,
    fun i => ⟨inb_1 T i, .inl rfl⟩, fun i => ⟨fun a => by rw [map_2]; exact inb_1 T i a, .inl rfl⟩⟩

/-- The admissible contents and the pipeline at them. -/
def adm : (pcfg0 (F := Ideal)).Adm := ⟨tabs T, ok T⟩
abbrev cfgA : Pipeline.Cfg sig Λ₀ := cfg0 (F := Ideal) (adm T)
abbrev pcs : Fin 1 → Pipeline.Cfg sig Λ₀ := Pipeline.pin (pcfgs (F := Ideal)) fun _ => adm T

variable (m : (ℓ : Loc nD τ sig) → Buf (Elt Ideal) ℓ) (ρ : Dev nD → PrngReg)

/-! ## A point's coordinates, words and staging memrefs -/

/-- Point `t`'s coordinates. -/
abbrev crd (t : Fin (cfgA T).N) : (cfgA T).grid.Coords := (cfgA T).grid.coords t

/-- Each window's current staging memref at point `t`, spelled as the pipeline passes it, and its wholeness. -/
abbrev ms0_0 (t : Fin (cfgA T).N) : Memref sig .tc .vmem S512x2048 .bf16 := spec0_0.stage ((cfgA T).slots t (0 : Fin 4))
abbrev hs0_0 (t : Fin (cfgA T).N) : (ms0_0 T t).IsWhole := hstage0_0 (((cfgA T).slots t (0 : Fin 4)).cast nbuf0_0)
abbrev ms0_1 (t : Fin (cfgA T).N) : Memref sig .tc .vmem S1x1x2048x512 .f32 := spec0_1.stage ((cfgA T).slots t (1 : Fin 4))
abbrev hs0_1 (t : Fin (cfgA T).N) : (ms0_1 T t).IsWhole := hstage0_1 (((cfgA T).slots t (1 : Fin 4)).cast nbuf0_1)
abbrev ms0_2 (t : Fin (cfgA T).N) : Memref sig .tc .vmem S1x1x2048x512 .f32 := spec0_2.stage ((cfgA T).slots t (2 : Fin 4))
abbrev hs0_2 (t : Fin (cfgA T).N) : (ms0_2 T t).IsWhole := hstage0_2 (((cfgA T).slots t (2 : Fin 4)).cast nbuf0_2)
abbrev ms0_3 (t : Fin (cfgA T).N) : Memref sig .tc .vmem S512x512 .bf16 := spec0_3.stage ((cfgA T).slots t (3 : Fin 4))
abbrev hs0_3 (t : Fin (cfgA T).N) : (ms0_3 T t).IsWhole := hstage0_3 (((cfgA T).slots t (3 : Fin 4)).cast nbuf0_3)

/-! ## The windows' blocks -/

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-! ## The control's decisions at a point, at the words of the tables (what tells the paths apart) -/

abbrev P0_0 (t : Fin (cfgA T).N) : Prop := (Scalar.cmpi .ne (Scalar.extui (Scalar.ori (Scalar.cmpi .eq (BitVec.ofNat 32 ((crd T t) 1).val) 0#32) (Scalar.cmpi .ne (View.readAt (Elt Ideal) (tbM0_0).view (Rect.unit (s := S72) (k0_off1 (crd T t)) S1.size (k0_off1_inb (crd T t))).toLoadRect T.te (Shape.Idx.first (numel1_S1.symm ▸ Nat.one_pos))) (View.readAt (Elt Ideal) (tbM0_0).view (Rect.unit (s := S72) (k0_off2 (crd T t)) S1.size (k0_off2_inb (crd T t))).toLoadRect T.te (Shape.Idx.first (numel1_S1.symm ▸ Nat.one_pos)))))) 0#32) = 1#1
abbrev P0_1 (t : Fin (cfgA T).N) : Prop := k0_cond2 (crd T t) (View.readAt (Elt Ideal) (tbM0_1).view (Rect.unit (s := S1) ![0] S1.size inb_S1_S1_0).toLoadRect T.nu (Shape.Idx.first (numel1_S1.symm ▸ Nat.one_pos))) = 1#1

/-! ## What a point decides -/

/-- Two conditions on the tile's number: exactly one of them holds. -/
theorem used_or : ∀ (i : Fin 72) (n : Fin 73),
    ((Scalar.cmpi .ne (Scalar.extui (Scalar.cmpi .sge (BitVec.ofNat 32 i.val) (BitVec.ofNat 32 n.val))) 0#32 : BitVec 1) = 1#1
      ↔ ¬ (Scalar.cmpi .ne (Scalar.extui (Scalar.cmpi .slt (BitVec.ofNat 32 i.val) (BitVec.ofNat 32 n.val))) 0#32 : BitVec 1) = 1#1) := by
  decide +kernel

/-- The kernel stores zeros exactly where it doesn't store a product. -/
theorem cond3_iff (i : grid0.Coords) (x : S1.Idx) : k0_cond3 i (T.nu x) = 1#1 ↔ ¬ k0_cond2 i (T.nu x) = 1#1 := by
  have h := used_or (i 1) ⟨(T.nu x).toNat, Nat.lt_succ_of_le (T.nu_le x)⟩
  rw [← word_eq] at h
  exact h

/-- At the first tile the weights are read anew. -/
theorem first_changed : ∀ b : BitVec 1, (Scalar.cmpi .ne (Scalar.extui (Scalar.ori (Scalar.cmpi .eq (BitVec.ofNat 32 0) 0#32) b)) 0#32 : BitVec 1) = 1#1 := by
  decide +kernel

/-- A point's coordinates: the column block, then the tile. -/
theorem coords_val : ∀ t : Fin grid0.N, (grid0.coords t 0).val = t.val / 72 ∧ (grid0.coords t 1).val = t.val % 72 := by
  decide +kernel

/-- At point 0 the weights are read anew. -/
theorem changed_zero (t : Fin (cfgA T).N) (h : t.val = 0) : P0_0 T t := by
  have e : ((crd T t) 1).val = 0 := (coords_val t).2.trans (by rw [h])
  unfold P0_0
  rw [e]
  exact first_changed _

/-- The output's index map differs from each point to the next. -/
theorem out_flush : ∀ t : Fin grid0.N, Pipeline.Window.flushOf grid0 true cc0_transform_3 t = true := by decide +kernel

/-- The output block is written back at every point. -/
theorem flush_3 (t : Fin (cfgA T).N) : ((cfgA T).win (3 : Fin 4)).flush t = true := out_flush t

/-- One of the two conditions on the tile's number holds. -/
theorem stored (i : grid0.Coords) (x : S1.Idx) : (!(k0_cond2 i (T.nu x) == 1#1) && !(k0_cond3 i (T.nu x) == 1#1)) = false := by
  have h := cond3_iff T i x
  by_cases h2 : k0_cond2 i (T.nu x) = 1#1
  · rw [h2]; rfl
  · rw [h.mpr h2]; simp

/-- The output is stored at every point. -/
theorem idle_3 (t : Fin (cfgA T).N) : (cfgA T).idle (3 : Fin 4) ((cfgA T).grid.coords t) = false := stored T (crd T t) _

/-- Before each point the output's buffer holds nothing stored. -/
theorem fresh_3 (t : Fin (cfgA T).N) : (cfgA T).fresh (3 : Fin 4) t.val = true :=
  Pipeline.Cfg.fresh_tab (cfgA T) (3 : Fin 4) (fun _ => true) rfl (fun t => by rw [flush_3]; rfl) t.val (Nat.le_of_lt t.isLt)

/-- The weights' scratch holds nothing determined before the first point. -/
def sfresh0_0 (T : Tabs) (n : ℕ) : Bool := decide (n = 0)
def sfresh0_1 (T : Tabs) (n : ℕ) : Bool := decide (n = 0)

/-- Path A: its conditions hold of the words read. -/
theorem hyps0_A (t : Fin (cfgA T).N) (q0 : P0_0 T t) (q1 : P0_1 T t) :
    ((Scalar.cmpi .ne (Scalar.extui (Scalar.ori (Scalar.cmpi .eq (BitVec.ofNat 32 ((crd T t) 1).val) 0#32) (Scalar.cmpi .ne (View.readAt (Elt Ideal) (tbM0_0).view (Rect.unit (s := S72) (k0_off1 (crd T t)) S1.size (k0_off1_inb (crd T t))).toLoadRect T.te (Shape.Idx.first (numel1_S1.symm ▸ Nat.one_pos))) (View.readAt (Elt Ideal) (tbM0_0).view (Rect.unit (s := S72) (k0_off2 (crd T t)) S1.size (k0_off2_inb (crd T t))).toLoadRect T.te (Shape.Idx.first (numel1_S1.symm ▸ Nat.one_pos)))))) 0#32) = 1#1) ∧ ((k0_cond2 (crd T t) (View.readAt (Elt Ideal) (tbM0_1).view (Rect.unit (s := S1) ![0] S1.size inb_S1_S1_0).toLoadRect T.nu (Shape.Idx.first (numel1_S1.symm ▸ Nat.one_pos))) = 1#1) ∧ ((¬(k0_cond3 (crd T t) (View.readAt (Elt Ideal) (tbM0_1).view (Rect.unit (s := S1) ![0] S1.size inb_S1_S1_0).toLoadRect T.nu (Shape.Idx.first (numel1_S1.symm ▸ Nat.one_pos))) = 1#1)) ∧ (True))) :=
  ⟨q0, q1, fun h => ((cond3_iff T _ _).mp h) q1, trivial⟩

/-- Path B: its conditions hold of the words read. -/
theorem hyps0_B (t : Fin (cfgA T).N) (q0 : ¬P0_0 T t) (q1 : P0_1 T t) :
    (¬((Scalar.cmpi .ne (Scalar.extui (Scalar.ori (Scalar.cmpi .eq (BitVec.ofNat 32 ((crd T t) 1).val) 0#32) (Scalar.cmpi .ne (View.readAt (Elt Ideal) (tbM0_0).view (Rect.unit (s := S72) (k0_off1 (crd T t)) S1.size (k0_off1_inb (crd T t))).toLoadRect T.te (Shape.Idx.first (numel1_S1.symm ▸ Nat.one_pos))) (View.readAt (Elt Ideal) (tbM0_0).view (Rect.unit (s := S72) (k0_off2 (crd T t)) S1.size (k0_off2_inb (crd T t))).toLoadRect T.te (Shape.Idx.first (numel1_S1.symm ▸ Nat.one_pos)))))) 0#32) = 1#1)) ∧ ((k0_cond2 (crd T t) (View.readAt (Elt Ideal) (tbM0_1).view (Rect.unit (s := S1) ![0] S1.size inb_S1_S1_0).toLoadRect T.nu (Shape.Idx.first (numel1_S1.symm ▸ Nat.one_pos))) = 1#1) ∧ ((¬(k0_cond3 (crd T t) (View.readAt (Elt Ideal) (tbM0_1).view (Rect.unit (s := S1) ![0] S1.size inb_S1_S1_0).toLoadRect T.nu (Shape.Idx.first (numel1_S1.symm ▸ Nat.one_pos))) = 1#1)) ∧ (True))) :=
  ⟨q0, q1, fun h => ((cond3_iff T _ _).mp h) q1, trivial⟩

/-- Path C: its conditions hold of the words read. -/
theorem hyps0_C (t : Fin (cfgA T).N) (q0 : ¬P0_0 T t) (q1 : ¬P0_1 T t) :
    (¬((Scalar.cmpi .ne (Scalar.extui (Scalar.ori (Scalar.cmpi .eq (BitVec.ofNat 32 ((crd T t) 1).val) 0#32) (Scalar.cmpi .ne (View.readAt (Elt Ideal) (tbM0_0).view (Rect.unit (s := S72) (k0_off1 (crd T t)) S1.size (k0_off1_inb (crd T t))).toLoadRect T.te (Shape.Idx.first (numel1_S1.symm ▸ Nat.one_pos))) (View.readAt (Elt Ideal) (tbM0_0).view (Rect.unit (s := S72) (k0_off2 (crd T t)) S1.size (k0_off2_inb (crd T t))).toLoadRect T.te (Shape.Idx.first (numel1_S1.symm ▸ Nat.one_pos)))))) 0#32) = 1#1)) ∧ ((¬(k0_cond2 (crd T t) (View.readAt (Elt Ideal) (tbM0_1).view (Rect.unit (s := S1) ![0] S1.size inb_S1_S1_0).toLoadRect T.nu (Shape.Idx.first (numel1_S1.symm ▸ Nat.one_pos))) = 1#1)) ∧ ((k0_cond3 (crd T t) (View.readAt (Elt Ideal) (tbM0_1).view (Rect.unit (s := S1) ![0] S1.size inb_S1_S1_0).toLoadRect T.nu (Shape.Idx.first (numel1_S1.symm ▸ Nat.one_pos))) = 1#1) ∧ (True))) :=
  ⟨q0, q1, (cond3_iff T _ _).mpr q1, trivial⟩

/-- Path D: its conditions hold of the words read. -/
theorem hyps0_D (t : Fin (cfgA T).N) (q0 : P0_0 T t) (q1 : ¬P0_1 T t) :
    ((Scalar.cmpi .ne (Scalar.extui (Scalar.ori (Scalar.cmpi .eq (BitVec.ofNat 32 ((crd T t) 1).val) 0#32) (Scalar.cmpi .ne (View.readAt (Elt Ideal) (tbM0_0).view (Rect.unit (s := S72) (k0_off1 (crd T t)) S1.size (k0_off1_inb (crd T t))).toLoadRect T.te (Shape.Idx.first (numel1_S1.symm ▸ Nat.one_pos))) (View.readAt (Elt Ideal) (tbM0_0).view (Rect.unit (s := S72) (k0_off2 (crd T t)) S1.size (k0_off2_inb (crd T t))).toLoadRect T.te (Shape.Idx.first (numel1_S1.symm ▸ Nat.one_pos)))))) 0#32) = 1#1) ∧ ((¬(k0_cond2 (crd T t) (View.readAt (Elt Ideal) (tbM0_1).view (Rect.unit (s := S1) ![0] S1.size inb_S1_S1_0).toLoadRect T.nu (Shape.Idx.first (numel1_S1.symm ▸ Nat.one_pos))) = 1#1)) ∧ ((k0_cond3 (crd T t) (View.readAt (Elt Ideal) (tbM0_1).view (Rect.unit (s := S1) ![0] S1.size inb_S1_S1_0).toLoadRect T.nu (Shape.Idx.first (numel1_S1.symm ▸ Nat.one_pos))) = 1#1) ∧ (True))) :=
  ⟨q0, q1, (cond3_iff T _ _).mpr q1, trivial⟩

/-- Path A: the schedule at such a point. -/
theorem sched0_A (t : Fin (cfgA T).N) (q0 : P0_0 T t) (q1 : P0_1 T t) :
    (cfgA T).idle (3 : Fin 4) ((cfgA T).grid.coords t) = false ∧ ((cfgA T).win (3 : Fin 4)).flush t = true ∧ (cfgA T).fresh (3 : Fin 4) t.val = true ∧ sfresh0_0 T (t.val + 1) = false ∧ sfresh0_1 T (t.val + 1) = false :=
  ⟨idle_3 T t, flush_3 T t, fresh_3 T t, decide_eq_false (Nat.succ_ne_zero _), decide_eq_false (Nat.succ_ne_zero _)⟩

/-- Path B: the schedule at such a point. -/
theorem sched0_B (t : Fin (cfgA T).N) (q0 : ¬P0_0 T t) (q1 : P0_1 T t) :
    (cfgA T).idle (3 : Fin 4) ((cfgA T).grid.coords t) = false ∧ ((cfgA T).win (3 : Fin 4)).flush t = true ∧ (cfgA T).fresh (3 : Fin 4) t.val = true ∧ sfresh0_0 T t.val = false ∧ sfresh0_0 T (t.val + 1) = false ∧ sfresh0_1 T t.val = false ∧ sfresh0_1 T (t.val + 1) = false :=
  ⟨idle_3 T t, flush_3 T t, fresh_3 T t, decide_eq_false fun h => q0 (changed_zero T t h), decide_eq_false (Nat.succ_ne_zero _), decide_eq_false fun h => q0 (changed_zero T t h), decide_eq_false (Nat.succ_ne_zero _)⟩

/-- Path C: the schedule at such a point. -/
theorem sched0_C (t : Fin (cfgA T).N) (q0 : ¬P0_0 T t) (q1 : ¬P0_1 T t) :
    (cfgA T).idle (3 : Fin 4) ((cfgA T).grid.coords t) = false ∧ ((cfgA T).win (3 : Fin 4)).flush t = true ∧ (cfgA T).fresh (3 : Fin 4) t.val = true ∧ sfresh0_0 T t.val = false ∧ sfresh0_0 T (t.val + 1) = false ∧ sfresh0_1 T t.val = false ∧ sfresh0_1 T (t.val + 1) = false :=
  ⟨idle_3 T t, flush_3 T t, fresh_3 T t, decide_eq_false fun h => q0 (changed_zero T t h), decide_eq_false (Nat.succ_ne_zero _), decide_eq_false fun h => q0 (changed_zero T t h), decide_eq_false (Nat.succ_ne_zero _)⟩

/-- Path D: the schedule at such a point is path A's. -/
theorem sched0_D (t : Fin (cfgA T).N) (q0 : P0_0 T t) (q1 : ¬P0_1 T t) :
    (cfgA T).idle (3 : Fin 4) ((cfgA T).grid.coords t) = false ∧ ((cfgA T).win (3 : Fin 4)).flush t = true ∧ (cfgA T).fresh (3 : Fin 4) t.val = true ∧ sfresh0_0 T (t.val + 1) = false ∧ sfresh0_1 T (t.val + 1) = false :=
  ⟨idle_3 T t, flush_3 T t, fresh_3 T t, decide_eq_false (Nat.succ_ne_zero _), decide_eq_false (Nat.succ_ne_zero _)⟩

end Cert.Kernel2Ideal.Up

end
-- ==== Proof.UpFrame.lean ====
/-
  The frame of the gated up-projection at arbitrary tables: every execution ends, nothing faults, the arguments are
  unchanged, and each array ends at contents named here.
-/
module

public import proofs.«01_k».proof.Proof.UpTables

@[expose] public section

set_option maxRecDepth 16384
set_option Elab.async false

noncomputable section

namespace Cert.Kernel2Ideal.Up

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (T : Tabs)
variable (m : (ℓ : Loc nD τ sig) → Buf (Elt Ideal) ℓ) (ρ : Dev nD → PrngReg)

/-! ## What the outputs and scratches hold after each point -/

/-- ONE STEP of the trajectory: what the outputs' current buffers and the scratches hold after the body at point `t`
    (output 3, scratch 0, scratch 1), from what they held before (`prev`): the path the decisions select at `t`, its
    run's contents; an output the path leaves idle keeps what it held (junk — `default`, named by nothing — where fresh). -/
def step0 (c : Dev nD) (t : Fin (cfgA T).N) (prev : (S512x512.Idx → Elt Ideal .bf16) × Buf (Elt Ideal) ((c : Thread nD τ).loc cc0_scratch0) × Buf (Elt Ideal) ((c : Thread nD τ).loc cc0_scratch1)) : (S512x512.Idx → Elt Ideal .bf16) × Buf (Elt Ideal) ((c : Thread nD τ).loc cc0_scratch0) × Buf (Elt Ideal) ((c : Thread nD τ).loc cc0_scratch1) :=
  if q0 : P0_0 T t then
    if q1 : P0_1 T t then
      (out0_A_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.2.1)
    else
      (out0_D_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_D T t q0 q1).1 (hyps0_D T t q0 q1).2.1 (hyps0_D T t q0 q1).2.2.1, (kernelRun0_D c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_D T t q0 q1).1 (hyps0_D T t q0 q1).2.1 (hyps0_D T t q0 q1).2.2.1).2.1, (kernelRun0_D c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_D T t q0 q1).1 (hyps0_D T t q0 q1).2.1 (hyps0_D T t q0 q1).2.2.1).2.2.1)
  else
    if q1 : P0_1 T t then
      (out0_B_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.2.1)
    else
      (out0_C_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.2.1)

/-- THE TRAJECTORY: after position `n`. -/
def traj0 (c : Dev nD) : (n : ℕ) → n < (cfgA T).N → (S512x512.Idx → Elt Ideal .bf16) × Buf (Elt Ideal) ((c : Thread nD τ).loc cc0_scratch0) × Buf (Elt Ideal) ((c : Thread nD τ).loc cc0_scratch1)
  | 0, h => step0 T m ρ c ⟨0, h⟩ (default, default, default)
  | n + 1, h => step0 T m ρ c ⟨n + 1, h⟩ (traj0 c n (Nat.lt_of_succ_lt h))

/-- What they held BEFORE point `t` (junk before the first). -/
def prev0 (c : Dev nD) (t : Fin (cfgA T).N) : (S512x512.Idx → Elt Ideal .bf16) × Buf (Elt Ideal) ((c : Thread nD τ).loc cc0_scratch0) × Buf (Elt Ideal) ((c : Thread nD τ).loc cc0_scratch1) :=
  if h : t.val = 0 then (default, default, default) else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA T).N) (prev : (S512x512.Idx → Elt Ideal .bf16) × Buf (Elt Ideal) ((c : Thread nD τ).loc cc0_scratch0) × Buf (Elt Ideal) ((c : Thread nD τ).loc cc0_scratch1)) (q0 : P0_0 T t) (q1 : P0_1 T t) :
    step0 T m ρ c t prev = (out0_A_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.2.1) := by
  unfold step0; simp only [dif_pos q0, dif_pos q1]

/-- `step0` at a point of path B. -/
theorem step0_B (c : Dev nD) (t : Fin (cfgA T).N) (prev : (S512x512.Idx → Elt Ideal .bf16) × Buf (Elt Ideal) ((c : Thread nD τ).loc cc0_scratch0) × Buf (Elt Ideal) ((c : Thread nD τ).loc cc0_scratch1)) (q0 : ¬P0_0 T t) (q1 : P0_1 T t) :
    step0 T m ρ c t prev = (out0_B_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.2.1) := by
  unfold step0; simp only [dif_neg q0, dif_pos q1]

/-- `step0` at a point of path C. -/
theorem step0_C (c : Dev nD) (t : Fin (cfgA T).N) (prev : (S512x512.Idx → Elt Ideal .bf16) × Buf (Elt Ideal) ((c : Thread nD τ).loc cc0_scratch0) × Buf (Elt Ideal) ((c : Thread nD τ).loc cc0_scratch1)) (q0 : ¬P0_0 T t) (q1 : ¬P0_1 T t) :
    step0 T m ρ c t prev = (out0_C_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.2.1) := by
  unfold step0; simp only [dif_neg q0, dif_neg q1]

/-- `step0` at a point of path D. -/
theorem step0_D (c : Dev nD) (t : Fin (cfgA T).N) (prev : (S512x512.Idx → Elt Ideal .bf16) × Buf (Elt Ideal) ((c : Thread nD τ).loc cc0_scratch0) × Buf (Elt Ideal) ((c : Thread nD τ).loc cc0_scratch1)) (q0 : P0_0 T t) (q1 : ¬P0_1 T t) :
    step0 T m ρ c t prev = (out0_D_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_D T t q0 q1).1 (hyps0_D T t q0 q1).2.1 (hyps0_D T t q0 q1).2.2.1, (kernelRun0_D c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_D T t q0 q1).1 (hyps0_D T t q0 q1).2.1 (hyps0_D T t q0 q1).2.2.1).2.1, (kernelRun0_D c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_D T t q0 q1).1 (hyps0_D T t q0 q1).2.1 (hyps0_D T t q0 q1).2.2.1).2.2.1) := by
  unfold step0; simp only [dif_pos q0, dif_neg q1]

/-! ## The pipeline's proof data -/

/-- What the tracked buffers held before position `t` of `Fin (N+1)` (the invariant's index). -/
def prev0T (c : Dev nD) (t : Fin ((cfgA T).N + 1)) : (S512x512.Idx → Elt Ideal .bf16) × Buf (Elt Ideal) ((c : Thread nD τ).loc cc0_scratch0) × Buf (Elt Ideal) ((c : Thread nD τ).loc cc0_scratch1) :=
  if h : t.val = 0 then (default, default, default) else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA T).N + 1)) : sProp 𝕄 :=
  iprop((∃ a, ⌜sfresh0_0 T t.val = false → a = (prev0T T m ρ c t).2.1⌝ ∗ (scM0_0.view.loc (c : Thread nD τ) ↦{fullShare} a)) ∗ (∃ a, ⌜sfresh0_1 T t.val = false → a = (prev0T T m ρ c t).2.2⌝ ∗ (scM0_1.view.loc (c : Thread nD τ) ↦{fullShare} a)) ∗ (tbM0_0.view.loc (c : Thread nD τ) ↦{fullShare.right} T.te) ∗ (tbM0_1.view.loc (c : Thread nD τ) ↦{fullShare.right} T.nu))

/-- The proof data of the one pipeline on core `c`. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 4) t
    | ⟨1, _⟩ => iblk T m ρ c (1 : Fin 4) t
    | ⟨2, _⟩ => iblk T m ρ c (2 : Fin 4) t
    | ⟨3, _⟩ => (traj0 T m ρ c t.val t.isLt).1
  Φ t := Phi T m ρ c t
  q _ := fullShare
  owed _ := 0

theorem after0_0 (c : Dev nD) (t : Fin (cfgA T).N) : (dats T m ρ 0 c).after (0 : Fin 4) t = iblk T m ρ c (0 : Fin 4) t := rfl
theorem after0_1 (c : Dev nD) (t : Fin (cfgA T).N) : (dats T m ρ 0 c).after (1 : Fin 4) t = iblk T m ρ c (1 : Fin 4) t := rfl
theorem after0_2 (c : Dev nD) (t : Fin (cfgA T).N) : (dats T m ρ 0 c).after (2 : Fin 4) t = iblk T m ρ c (2 : Fin 4) t := rfl
theorem after0_3 (c : Dev nD) (t : Fin (cfgA T).N) : (dats T m ρ 0 c).after (3 : Fin 4) t = (traj0 T m ρ c t.val t.isLt).1 := rfl

/-! ## What each window's staging buffer holds when the body runs -/

/-- Input window 0 holds its block, fetched there or not. -/
theorem before0_0 (c : Dev nD) (t : Fin (cfgA T).N) (d) : (dats T m ρ 0 c).before (0 : Fin 4) t d = iblk T m ρ c (0 : Fin 4) t :=
  ((dats T m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA T).N) (d) : (dats T m ρ 0 c).before (1 : Fin 4) t d = iblk T m ρ c (1 : Fin 4) t :=
  ((dats T m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA T).N) (d) : (dats T m ρ 0 c).before (2 : Fin 4) t d = iblk T m ρ c (2 : Fin 4) t :=
  ((dats T m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin (cfgA T).N) (ht : t.val ≠ 0), (cfgA T).idle (3 : Fin 4) ((cfgA T).grid.coords t) = true → (cfgA T).fresh (3 : Fin 4) t.val = false →
    (dats T m ρ 0 c).after (3 : Fin 4) t = (dats T m ρ 0 c).after (3 : Fin 4) ⟨t.val - 1, by omega⟩ := by
  intro t ht hi hf
  rw [after0_3, after0_3, traj0_eq]
  by_cases q0 : P0_0 T t
  · by_cases q1 : P0_1 T t
    · obtain ⟨i3, -, -, -, -⟩ := sched0_A T t q0 q1
      rw [i3] at hi; exact absurd hi (by decide)
    · obtain ⟨i3, -, -, -, -⟩ := sched0_D T t q0 q1
      rw [i3] at hi; exact absurd hi (by decide)
  · by_cases q1 : P0_1 T t
    · obtain ⟨i3, -, -, -, -, -, -⟩ := sched0_B T t q0 q1
      rw [i3] at hi; exact absurd hi (by decide)
    · obtain ⟨i3, -, -, -, -, -, -⟩ := sched0_C T t q0 q1
      rw [i3] at hi; exact absurd hi (by decide)

/-- Output window 3 holds, when the body runs at `t`: junk if nothing was stored since its last write-back (`Cfg.fresh`),
    else what the point before left (TableIdle.lean `Dat.before_out_traj`). -/
theorem before0_3 (c : Dev nD) (t : Fin (cfgA T).N) (d) :
    (dats T m ρ 0 c).before (3 : Fin 4) t d = if (cfgA T).fresh (3 : Fin 4) t.val then d else (prev0 T m ρ c t).1 := by
  rw [(dats T m ρ 0 c).before_out_traj (3 : Fin 4) rfl (fun _ _ => rfl) (hcarry0_3 T m ρ c) t.val t rfl d]
  by_cases hf : (cfgA T).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by path -/

/-- The body at point `t` on its staging memrefs, as the pipeline calls it. -/
abbrev bodyAt0 (t : Fin (cfgA T).N) : Prog (TpuEff nD τ sig (Elt Ideal) Λ₀ .tc) PUnit :=
  cc0_swiglu_up (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (Memref.whole cc0_scratch0) (Memref.isWhole_whole _) (Memref.whole cc0_scratch1) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Holds T m) (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 4) t d))
        ∗ (∃ d, owns (c : Thread nD τ) (ms0_1 T t) fullShare ((dats T m ρ 0 c).before (1 : Fin 4) t d))
        ∗ (∃ d, owns (c : Thread nD τ) (ms0_2 T t) fullShare ((dats T m ρ 0 c).before (2 : Fin 4) t d))
        ∗ (∃ d, owns (c : Thread nD τ) (ms0_3 T t) fullShare ((dats T m ρ 0 c).before (3 : Fin 4) t d)))
      ⊢ wp frame (wpE (defs₀ (F := Ideal)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : P0_0 T t
  · by_cases q1 : P0_1 T t
    · obtain ⟨i3, f3, fr3, sfn0, sfn1⟩ := sched0_A T t q0 q1
      have F0 := hyps0_A T t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_A T m ρ c t _ q0 q1]
      unfold Phi; simp only [prev0T_castSucc, prev0T_succ, traj0_eq, step0_A T m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _)
    · obtain ⟨i3, f3, fr3, sfn0, sfn1⟩ := sched0_D T t q0 q1
      have F0 := hyps0_D T t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_D T m ρ c t _ q0 q1]
      unfold Phi; simp only [prev0T_castSucc, prev0T_succ, traj0_eq, step0_D T m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_D c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_D_3 c _ _ _ _ _ _ _ _ _ _ _ _ _ _ _ _ _)
  · by_cases q1 : P0_1 T t
    · obtain ⟨i3, f3, fr3, sf0, sfn0, sf1, sfn1⟩ := sched0_B T t q0 q1
      have F0 := hyps0_B T t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_B T m ρ c t _ q0 q1]
      unfold Phi; simp only [prev0T_castSucc, prev0T_succ, traj0_eq, step0_B T m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) _ _ hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_B_3 c _ _ _ _ _ _ _ _ _ _ _ _ _ _ _ _ _ _ _)
    · obtain ⟨i3, f3, fr3, sf0, sfn0, sf1, sfn1⟩ := sched0_C T t q0 q1
      have F0 := hyps0_C T t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_C T m ρ c t _ q0 q1]
      unfold Phi; simp only [prev0T_castSucc, prev0T_succ, traj0_eq, step0_C T m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) _ _ hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _)

/-- The library's body obligation, at every point. -/
theorem body_obligation (hp : Holds T m) (c : Dev nD) : BodyObligation (dats T m ρ 0 c) (defs₀ (F := Ideal)) Variants.none () Set.univ := fun t => by
  rw [bigSep_W0]
  exact sound_body T m ρ hp c t

/-! ## The launch -/

/-- The rounds library's launch element. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 T 0 = true from rfl)) Bool.false_ne_true
  isplitl [HS1]
  · iexists a1; isplitr; swap
    · iexact HS1
    · ipureintro; intro h; exact absurd (h.symm.trans (show sfresh0_1 T 0 = true from rfl)) Bool.false_ne_true
  isplitl [HT0]
  · iexact HT0
  iexact HT1

/-- at the last point it gives the scratch buffers back (`hout`), the tables let go. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- At the compiled mesh, from any memory with zero counters whose tables and steering words are the given: every weakly
    fair execution of @main on the TensorCores terminates, and every final state has each array at the computed contents,
    and every semaphore counter of the machine at zero. -/
theorem run_main_quiescent (hp : Holds T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ hp c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Holds T m) : θ_run (defs (F := Ideal)) (onTc (τ := τ) (main (F := Ideal))) (s₀ m ρ) (QC T m ρ) :=
  (θ_run defs _ _).mono (fun _ h => h.1) (run_main_quiescent T m ρ hp)

/-- `frame` without the counters: the argument arrays end unchanged. -/
theorem unchanged (hp : Holds T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 0).trans (hp.1 c).symm, ((h c).2 1).trans (hp.2 c).symm, ((h c).1 (0 : Fin 4)).trans ((dats T m ρ 0 c).arrAt_in (0 : Fin 4) rfl _), ((h c).1 (1 : Fin 4)).trans ((dats T m ρ 0 c).arrAt_in (1 : Fin 4) rfl _), ((h c).1 (2 : Fin 4)).trans ((dats T m ρ 0 c).arrAt_in (2 : Fin 4) rfl _)⟩) (run_main T m ρ hp)

/-- From a launch memory that holds the tables, every execution ends, nothing faults, every argument array is unchanged,
    and every semaphore counter reads zero. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged T m ρ hp) ((θ_run defs _ _).mono (fun _ h => h.2) (run_main_quiescent T m ρ hp))

end Cert.Kernel2Ideal.Up

end
-- ==== Proof.UpBlock.lean ====
/-
  What a grid point of the gated up-projection leaves behind, as plain functions of its blocks: the two weights narrowed
  in the scratches, and in the output block the gated product of the rows with them, or zeros for an unused tile.
-/
module

public import proofs.«01_k».proof.Proof.UpFrame
public import Idealize.ShloMosaic.Lib.VecWindow

@[expose] public section

set_option maxRecDepth 16384

noncomputable section

namespace Cert.Kernel2Ideal.Up

open Cert.Kernel2Ideal Cert.Kernel2Ideal.Gen
open Idealize.ShloMosaic
open Idealize.ShloMosaic.TcCoe Idealize.ShloMosaic.Tactic

/-! ## The runs' contents -/

/-- A store of a whole buffer leaves the payload. -/
theorem writes_whole_full (b : Ref sig .tc) (f : b.ty.Contents (Elt Ideal)) {off : Fin b.ty.shape.rank → ℕ}
    (inb : ∀ a, off a + b.ty.shape.size a ≤ b.ty.shape.size a)
    (w : (Rect.unit off b.ty.shape.size inb).shape.Idx → Elt Ideal b.ty.elt) (L : List (View.Piece (Elt Ideal) b.ty.shape b.ty.elt)) :
    (View.whole b).writes (Elt Ideal) f (⟨Rect.unit off b.ty.shape.size inb, w⟩ :: L) = w :=
  (View.read_whole b _).symm.trans (View.read_writes_full (View.whole b) f inb w L)

/-- The gate scratch after a point that narrows the weights anew. -/
theorem gate_new (a5) (x1 : S1x1x2048x512.Idx → Elt Ideal .f32) :
    (View.whole cc0_scratch0).writes (Elt Ideal) (View.whole cc0_scratch0).junk (kernelRun0_A.sl.HS0_1 a5 x1)
      = k0_pay1 (F := Ideal) x1 := by
  unfold kernelRun0_A.sl.HS0_1
  refine (writes_whole_full cc0_scratch0 _ _ _ _).trans ?_
  rw [View.readAt_rep_full]

/-- The up scratch after such a point. -/
theorem up_new (a6) (x2 : S1x1x2048x512.Idx → Elt Ideal .f32) :
    (View.whole cc0_scratch1).writes (Elt Ideal) (View.whole cc0_scratch1).junk (kernelRun0_A.sl.HS1_1 a6 x2)
      = k0_pay2 (F := Ideal) x2 := by
  unfold kernelRun0_A.sl.HS1_1
  refine (writes_whole_full cc0_scratch1 _ _ _ _).trans ?_
  rw [View.readAt_rep_full]

/-- The output block of such a point on a used tile. -/
theorem out_new (a4 a5 a6) (x0 : S512x2048.Idx → Elt Ideal .bf16) (x1 x2 : S1x1x2048x512.Idx → Elt Ideal .f32) :
    VO0_3.read (Elt Ideal) (VO0_3.writes (Elt Ideal) VO0_3.junk (kernelRun0_A.sl.HO3_1 a4 a5 a6 x0 x1 x2))
      = k0_pay3 (F := Ideal) x0 (k0_pay1 (F := Ideal) x1) (k0_pay2 (F := Ideal) x2) := by
  unfold kernelRun0_A.sl.HO3_1
  rw [View.read_writes_full, View.readAt_rep_full]
  unfold kernelRun0_A.sl.v20 kernelRun0_A.sl.v22 kernelRun0_A.sl.HS0_1 kernelRun0_A.sl.HS1_1
  rw [View.readCov_full, View.readCov_full, View.readAt_rep_full, View.readAt_rep_full]

/-- The output block of a point that keeps the scratches, on a used tile. -/
theorem out_kept (c a4) (x0 : S512x2048.Idx → Elt Ideal .bf16) (p q) :
    VO0_3.read (Elt Ideal) (VO0_3.writes (Elt Ideal) VO0_3.junk (kernelRun0_B.sl.HO3_1 c a4 x0 p q))
      = k0_pay3 (F := Ideal) x0 p q := by
  unfold kernelRun0_B.sl.HO3_1
  rw [View.read_writes_full, View.readAt_rep_full]
  exact congrArg₂ (k0_pay3 (F := Ideal) x0) (View.readAt_full (View.whole cc0_scratch0) p _) (View.readAt_full (View.whole cc0_scratch1) q _)

/-- The output block of a point on an unused tile, the scratches kept. -/
theorem out_unused_kept : VO0_3.read (Elt Ideal) (VO0_3.writes (Elt Ideal) VO0_3.junk kernelRun0_C.sl.HO3_1)
    = k0_pay4 (F := Ideal) := by
  unfold kernelRun0_C.sl.HO3_1
  rw [View.read_writes_full]

/-- The output block of a point on an unused tile, the weights narrowed anew. -/
theorem out_unused_new : VO0_3.read (Elt Ideal) (VO0_3.writes (Elt Ideal) VO0_3.junk kernelRun0_D.sl.HO3_1)
    = k0_pay4 (F := Ideal) := by
  unfold kernelRun0_D.sl.HO3_1
  rw [View.read_writes_full]

/-- The gate scratch after such a point. -/
theorem gate_unused (a5) (x1 : S1x1x2048x512.Idx → Elt Ideal .f32) :
    (View.whole cc0_scratch0).writes (Elt Ideal) (View.whole cc0_scratch0).junk (kernelRun0_D.sl.HS0_1 a5 x1)
      = k0_pay1 (F := Ideal) x1 := by
  unfold kernelRun0_D.sl.HS0_1
  refine (writes_whole_full cc0_scratch0 _ _ _ _).trans ?_
  rw [View.readAt_rep_full]

/-- The up scratch after such a point. -/
theorem up_unused (a6) (x2 : S1x1x2048x512.Idx → Elt Ideal .f32) :
    (View.whole cc0_scratch1).writes (Elt Ideal) (View.whole cc0_scratch1).junk (kernelRun0_D.sl.HS1_1 a6 x2)
      = k0_pay2 (F := Ideal) x2 := by
  unfold kernelRun0_D.sl.HS1_1
  refine (writes_whole_full cc0_scratch1 _ _ _ _).trans ?_
  rw [View.readAt_rep_full]

/-! ## A step -/

variable (T : Tabs)
variable (m : (ℓ : Loc nD τ sig) → Buf (Elt Ideal) ℓ) (ρ : Dev nD → PrngReg)

variable (c : Dev nD) (t : Fin (cfgA T).N)
  (prev : (S512x512.Idx → Elt Ideal .bf16) × Buf (Elt Ideal) ((c : Thread nD τ).loc cc0_scratch0)
    × Buf (Elt Ideal) ((c : Thread nD τ).loc cc0_scratch1))

/-- A used tile whose weights are narrowed anew. -/
theorem step_A (q0 : P0_0 T t) (q1 : P0_1 T t) : step0 T m ρ c t prev
    = (k0_pay3 (F := Ideal) (iblk T m ρ c (0 : Fin 4) t) (k0_pay1 (F := Ideal) (iblk T m ρ c (1 : Fin 4) t)) (k0_pay2 (F := Ideal) (iblk T m ρ c (2 : Fin 4) t)),
        k0_pay1 (F := Ideal) (iblk T m ρ c (1 : Fin 4) t), k0_pay2 (F := Ideal) (iblk T m ρ c (2 : Fin 4) t)) := by
  rw [step0_A T m ρ c t prev q0 q1]
  unfold out0_A_3 kernelRun0_A
  dsimp only
  rw [out_new, gate_new, up_new]

/-- A used tile with the scratches kept. -/
theorem step_B (q0 : ¬P0_0 T t) (q1 : P0_1 T t) : step0 T m ρ c t prev
    = (k0_pay3 (F := Ideal) (iblk T m ρ c (0 : Fin 4) t) prev.2.1 prev.2.2, prev.2) := by
  rw [step0_B T m ρ c t prev q0 q1]
  unfold out0_B_3 kernelRun0_B
  dsimp only
  rw [out_kept]

/-- An unused tile with the scratches kept. -/
theorem step_C (q0 : ¬P0_0 T t) (q1 : ¬P0_1 T t) : step0 T m ρ c t prev = (k0_pay4 (F := Ideal), prev.2) := by
  rw [step0_C T m ρ c t prev q0 q1]
  unfold out0_C_3 kernelRun0_C
  dsimp only
  rw [out_unused_kept]

/-- An unused tile whose weights are narrowed anew. -/
theorem step_D (q0 : P0_0 T t) (q1 : ¬P0_1 T t) : step0 T m ρ c t prev
    = (k0_pay4 (F := Ideal), k0_pay1 (F := Ideal) (iblk T m ρ c (1 : Fin 4) t), k0_pay2 (F := Ideal) (iblk T m ρ c (2 : Fin 4) t)) := by
  rw [step0_D T m ρ c t prev q0 q1]
  unfold out0_D_3 kernelRun0_D
  dsimp only
  rw [out_unused_new, gate_unused, up_unused]

end Cert.Kernel2Ideal.Up

end
-- ==== Proof.UpTile.lean ====
/-
  The gated up-projection's control in plain numbers: grid point `t` works on tile `t % 72` and column block `t / 72`; it
  keeps the scratches only where the tile before has the same expert; the tile is used when its number is below the
  number of used tiles; and the windows' block indices.
-/
module

public import proofs.«01_k».proof.Proof.UpTables
public import Idealize.ShloMosaic.Lib.Pipeline.ValueKit

@[expose] public section

set_option maxRecDepth 16384

noncomputable section

namespace Cert.Kernel2Ideal.Up

open Cert.Kernel2Ideal Cert.Kernel2Ideal.Gen
open Idealize.ShloMosaic
open Idealize.ShloMosaic.TcCoe Idealize.ShloMosaic.Tactic

variable (T : Tabs)

/-- A tile's expert. -/
def expert (i : Fin 72) : Fin 8 := ⟨(T.te (ix1 i)).toNat, T.te_lt _⟩

/-- The number of used tiles. -/
def used : ℕ := (T.nu (ix1 0)).toNat

/-- The grid has 792 points. -/
theorem lt_N (t : Fin (cfgA T).N) : t.val < 792 := t.isLt

/-- The tile and the column block of a grid point. -/
def tile (t : Fin (cfgA T).N) : Fin 72 := ⟨t.val % 72, Nat.mod_lt _ (by decide)⟩
def col (t : Fin (cfgA T).N) : Fin 11 := ⟨t.val / 72, by have := lt_N T t; omega⟩

/-! ## The words read -/

theorem off1_val : ∀ i : Fin 72, (Scalar.indexCast (BitVec.ofNat 32 i.val) : BitVec 32).toNat = i.val := by decide +kernel

theorem off2_val : ∀ i : Fin 72, (Scalar.indexCast (Scalar.maxsi (Scalar.subi (BitVec.ofNat 32 i.val) 1#32) 0#32) : BitVec 32).toNat = i.val - 1 := by
  decide +kernel

/-- The only position of a one-entry table. -/
theorem idx1_eq (x : S1.Idx) : x = ix1 0 := funext fun a => by fin_cases a; exact Subsingleton.elim (α := Fin 1) (x 0) 0

/-- The word a point reads of its own tile. -/
theorem word_own (i : grid0.Coords) : (tabs T).at 0 (Rect.unit (s := S72) (k0_off1 i) S1.size (k0_off1_inb i)) numel1_S1
    = T.te (ix1 (i 1)) :=
  congrArg T.te (funext fun a => Fin.ext (by
    fin_cases a
    show (Scalar.indexCast (BitVec.ofNat 32 (i 1).val) : BitVec 32).toNat + 1 * 0 = (i 1).val
    exact off1_val (i 1)))

/-- The word a point reads of the tile before. -/
theorem word_before (i : grid0.Coords) (h : (i 1).val - 1 < 72) :
    View.readAt (Elt Ideal) (tbM0_0).view (Rect.unit (s := S72) (k0_off2 i) S1.size (k0_off2_inb i)).toLoadRect T.te (Shape.Idx.first (numel1_S1.symm ▸ Nat.one_pos))
    = T.te (ix1 ⟨(i 1).val - 1, h⟩) :=
  congrArg T.te (funext fun a => Fin.ext (by
    fin_cases a
    show (Scalar.indexCast (Scalar.maxsi (Scalar.subi (BitVec.ofNat 32 (i 1).val) 1#32) 0#32) : BitVec 32).toNat + 1 * 0 = (i 1).val - 1
    exact off2_val (i 1)))

/-- Both words differ or the tile is the first, unless the scratches are kept. -/
theorem kept_words : ∀ a b : BitVec 1, ¬ (Scalar.cmpi .ne (Scalar.extui (Scalar.ori a b)) 0#32 : BitVec 1) = 1#1 → a = 0#1 ∧ b = 0#1 := by
  decide +kernel

theorem not_first : ∀ i : Fin 72, (Scalar.cmpi .eq (BitVec.ofNat 32 i.val) 0#32 : BitVec 1) = 0#1 → i.val ≠ 0 := by decide +kernel

theorem same_word (a b : BitVec 32) (h : (Scalar.cmpi .ne a b : BitVec 1) = 0#1) : a = b := by
  by_contra hne
  revert h
  simp [Scalar.cmpi, IntOp.cmpi, hne]

/-- Where the scratches are kept, the tile isn't the first and the tile before has its expert. -/
theorem kept (t : Fin (cfgA T).N) (q : ¬ P0_0 T t) :
    ∃ h : t.val ≠ 0, (tile T ⟨t.val - 1, by omega⟩).val + 1 = (tile T t).val ∧ col T ⟨t.val - 1, by omega⟩ = col T t
      ∧ expert T (tile T ⟨t.val - 1, by omega⟩) = expert T (tile T t) := by
  obtain ⟨ha, hb⟩ := kept_words _ _ q
  have h1 : ((crd T t) 1).val = t.val % 72 := (coords_val t).2
  have hne : ((crd T t) 1).val ≠ 0 := not_first ((crd T t) 1) ha
  have hN := lt_N T t
  have hw := same_word _ _ hb
  rw [word_before T (crd T t) (by omega)] at hw
  have hw' : T.te (ix1 ((crd T t) 1)) = T.te (ix1 ⟨((crd T t) 1).val - 1, by omega⟩) := (word_own T (crd T t)).symm.trans hw
  have e1 : ((crd T t) 1 : Fin 72) = tile T t := Fin.ext h1
  have e2 : (⟨((crd T t) 1).val - 1, by omega⟩ : Fin 72) = tile T ⟨t.val - 1, by omega⟩ := Fin.ext (by
    show ((crd T t) 1).val - 1 = (t.val - 1) % 72
    omega)
  refine ⟨by omega, ?_, Fin.ext ?_, ?_⟩
  · show (t.val - 1) % 72 + 1 = t.val % 72
    omega
  · show (t.val - 1) / 72 = t.val / 72
    omega
  · rw [e2] at hw'
    rw [e1] at hw'
    refine Fin.ext ?_
    show (T.te (ix1 (tile T ⟨t.val - 1, by omega⟩))).toNat = (T.te (ix1 (tile T t))).toNat
    rw [hw']

/-- The comparison with the number of used tiles. -/
theorem used_word : ∀ (i : Fin 72) (n : Fin 73),
    ((Scalar.cmpi .ne (Scalar.extui (Scalar.cmpi .slt (BitVec.ofNat 32 i.val) (BitVec.ofNat 32 n.val))) 0#32 : BitVec 1) = 1#1
      ↔ i.val < n.val) := by
  decide +kernel

/-- A point stores a product exactly where its tile is used. -/
theorem used_iff (t : Fin (cfgA T).N) : P0_1 T t ↔ (tile T t).val < used T := by
  have h := used_word ((crd T t) 1) ⟨(T.nu (ix1 0)).toNat, Nat.lt_succ_of_le (T.nu_le _)⟩
  rw [← word_eq] at h
  have h1 : ((crd T t) 1).val = t.val % 72 := (coords_val t).2
  rw [h1] at h
  have e : View.readAt (Elt Ideal) (tbM0_1).view (Rect.unit (s := S1) ![0] S1.size inb_S1_S1_0).toLoadRect T.nu (Shape.Idx.first (numel1_S1.symm ▸ Nat.one_pos))
      = T.nu (ix1 0) := congrArg T.nu (idx1_eq _)
  unfold P0_1
  rw [e]
  unfold k0_cond2
  rw [h1]
  exact h

/-! ## The windows' block indices -/

theorem clamp_used : ∀ (i : Fin 72) (n : Fin 73), i.val < n.val →
    (Scalar.minsi (BitVec.ofNat 32 i.val) (Scalar.subi (BitVec.ofNat 32 n.val) 1#32)).toNat = i.val := by decide +kernel

/-- The rows' block of a used tile. -/
theorem index_0 (t : Fin (cfgA T).N) (h : (tile T t).val < used T) :
    cc0_transform_0 inb_S1_S1_0 numel1_S1 (tabs T) (crd T t) = ![(tile T t).val, 0] := by
  have hc := clamp_used ((crd T t) 1) ⟨(T.nu (ix1 0)).toNat, Nat.lt_succ_of_le (T.nu_le _)⟩
    (by rw [show ((crd T t) 1).val = t.val % 72 from (coords_val t).2]; exact h)
  rw [← word_eq] at hc
  have e : (tabs T).at 1 (Rect.unit (s := S1) ![0] S1.size inb_S1_S1_0) numel1_S1 = T.nu (ix1 0) := congrArg T.nu (idx1_eq _)
  unfold cc0_transform_0
  rw [e]
  show ![(Scalar.minsi (BitVec.ofNat 32 ((crd T t) 1).val) (Scalar.subi (T.nu (ix1 0)) 1#32)).toNat, 0] = _
  rw [hc]
  exact congrArg (fun x => ![x, 0]) (coords_val t).2

/-- The weights' block. -/
theorem index_1 (t : Fin (cfgA T).N) :
    cc0_transform_1 k0_off1_inb numel1_S1 (tabs T) (crd T t) = ![0, (expert T (tile T t)).val, 0, (col T t).val] := by
  have h0 : ((crd T t) 0).val = t.val / 72 := (coords_val t).1
  have h1 : (BitVec.ofNat 32 ((crd T t) 0).val).toNat = t.val / 72 := by
    rw [h0, BitVec.toNat_ofNat]; exact Nat.mod_eq_of_lt (by have := lt_N T t; omega)
  have e : cc0_transform_1 k0_off1_inb numel1_S1 (tabs T) (crd T t)
      = ![0, ((tabs T).at 0 (Rect.unit (s := S72) (k0_off1 (crd T t)) S1.size (k0_off1_inb (crd T t))) numel1_S1).toNat, 0,
          (BitVec.ofNat 32 ((crd T t) 0).val).toNat] := rfl
  rw [e, h1, word_own, show ((crd T t) 1 : Fin 72) = tile T t from Fin.ext (coords_val t).2]
  rfl

theorem index_2 (t : Fin (cfgA T).N) :
    cc0_transform_2 k0_off1_inb numel1_S1 (tabs T) (crd T t) = ![0, (expert T (tile T t)).val, 0, (col T t).val] :=
  index_1 T t

/-- The result's block. -/
theorem index_3 : ∀ t : Fin grid0.N, cc0_transform_3 (grid0.coords t) = ![t.val % 72, t.val / 72] := by decide +kernel

end Cert.Kernel2Ideal.Up

end
-- ==== Proof.UpValue.lean ====
/-
  The gated up-projection's result array after the run: at row `r`, column `f`, the gated product of row `r` with the
  weights of the expert of tile `r / 512`, or zero where that tile isn't used.
-/
module

public import proofs.«01_k».proof.Proof.UpBlock
public import proofs.«01_k».proof.Proof.UpTile

@[expose] public section

set_option maxRecDepth 16384

noncomputable section

namespace Cert.Kernel2Ideal.Up

open Cert.Kernel2Ideal Cert.Kernel2Ideal.Gen
open Idealize.ShloMosaic
open Idealize.ShloMosaic.TcCoe Idealize.ShloMosaic.Tactic
open Idealize.ShloMosaic.Pipeline (Dat)

/-! ## The function of the arrays -/

/-- A row gated: its product with the gate weights `g`, through the logistic gate, times its product with the weights `u`. -/
def gated (x g u : Fin 2048 → EReal) : EReal :=
  (∑ k, x k * g k) * Ideal.div 1 (1 + Ideal.exp (-(∑ k, x k * g k))) * (∑ k, x k * u k)

variable (T : Tabs)

/-- The result array of the rows and the two weights. -/
def upOut (x : FVec Ideal S36864x2048 .bf16) (wg wu : FVec Ideal S2x8x2048x5632 .f32) : FVec Ideal S36864x5632 .bf16 :=
  fun j => if (j 0).val / 512 < used T then
    gated (fun k => x (ix2 (n0 := 36864) (n1 := 2048) (j 0) k))
      (fun k => wg (ix4 (n0 := 2) (n3 := 5632) 0 (expert T ⟨(j 0).val / 512, by have := (j 0).isLt; exact (Nat.div_lt_iff_lt_mul (by decide)).mpr this⟩) k (j 1)))
      (fun k => wu (ix4 (n0 := 2) (n3 := 5632) 0 (expert T ⟨(j 0).val / 512, by have := (j 0).isLt; exact (Nat.div_lt_iff_lt_mul (by decide)).mpr this⟩) k (j 1)))
    else 0

/-! ## The payloads at an entry -/

theorem pay1_apply (w : S1x1x2048x512.Idx → EReal) (k : Fin 2048) (l : Fin 512) :
    k0_pay1 (F := Ideal) w (ix2 k l) = w (ix4 0 0 k l) := by
  pointwise [k0_pay1]

theorem pay2_apply (w : S1x1x2048x512.Idx → EReal) (k : Fin 2048) (l : Fin 512) :
    k0_pay2 (F := Ideal) w (ix2 k l) = w (ix4 0 0 k l) := by
  pointwise [k0_pay2]

theorem pay3_apply (x : S512x2048.Idx → EReal) (g u : S2048x512.Idx → EReal) (r l : Fin 512) :
    k0_pay3 (F := Ideal) x g u (ix2 r l)
      = gated (fun k => x (ix2 r k)) (fun k => g (ix2 k l)) (fun k => u (ix2 k l)) := by
  pointwise [k0_pay3]
  rw [zero_sub]
  rfl

theorem pay4_apply (r l : Fin 512) : k0_pay4 (F := Ideal) (ix2 r l) = 0 := by
  pointwise [k0_pay4]

variable (m : (ℓ : Loc nD τ sig) → Buf (Elt Ideal) ℓ) (ρ : Dev nD → PrngReg) (c : Dev nD)

/-! ## The blocks at an entry -/

theorem rows_blk (t : Fin (cfgA T).N) (h : (tile T t).val < used T) (r : Fin 512) (k : Fin 2048) :
    iblk T m ρ c (0 : Fin 4) t (ix2 r k)
      = m ((c : Thread nD τ).loc main_arg2) (ix2 (n0 := 36864) ⟨(tile T t).val * 512 + r.val, by omega⟩ k) := by
  refine congrArg (m ((c : Thread nD τ).loc main_arg2)) (funext fun a => Fin.ext ?_)
  show cc0_transform_0 inb_S1_S1_0 numel1_S1 (tabs T) (crd T t) a * S512x2048.size a + 1 * (ix2 r k a).val = _
  rw [index_0 T t h]
  fin_cases a
  · show (tile T t).val * 512 + 1 * r.val = (tile T t).val * 512 + r.val
    omega
  · show 0 * 2048 + 1 * k.val = k.val
    omega

/-- A block of an expert's weights: 512 columns. -/
def wblk (w : FVec Ideal S2x8x2048x5632 .f32) (e : Fin 8) (j : Fin 11) : S1x1x2048x512.Idx → EReal :=
  fun y => w (ix4 (n0 := 2) 0 e (y 2) (⟨j.val * 512 + (y 3).val, by
    have h : (y 3).val < 512 := (y 3).isLt
    omega⟩ : Fin 5632))

theorem gate_blk (t : Fin (cfgA T).N) :
    iblk T m ρ c (1 : Fin 4) t = wblk (m ((c : Thread nD τ).loc main_arg3)) (expert T (tile T t)) (col T t) := by
  funext y
  refine congrArg (m ((c : Thread nD τ).loc main_arg3)) (funext fun a => Fin.ext ?_)
  show cc0_transform_1 k0_off1_inb numel1_S1 (tabs T) (crd T t) a * S1x1x2048x512.size a + 1 * (y a).val = _
  rw [index_1 T t]
  have h0 : (y 0).val < 1 := (y 0).isLt
  have h1 : (y 1).val < 1 := (y 1).isLt
  fin_cases a
  · show 0 * 1 + 1 * (y 0).val = 0
    omega
  · show (expert T (tile T t)).val * 1 + 1 * (y 1).val = (expert T (tile T t)).val
    omega
  · show 0 * 2048 + 1 * (y 2).val = (y 2).val
    omega
  · show (col T t).val * 512 + 1 * (y 3).val = (col T t).val * 512 + (y 3).val
    omega

theorem up_blk (t : Fin (cfgA T).N) :
    iblk T m ρ c (2 : Fin 4) t = wblk (m ((c : Thread nD τ).loc main_arg4)) (expert T (tile T t)) (col T t) := by
  funext y
  refine congrArg (m ((c : Thread nD τ).loc main_arg4)) (funext fun a => Fin.ext ?_)
  show cc0_transform_2 k0_off1_inb numel1_S1 (tabs T) (crd T t) a * S1x1x2048x512.size a + 1 * (y a).val = _
  rw [index_2 T t]
  have h0 : (y 0).val < 1 := (y 0).isLt
  have h1 : (y 1).val < 1 := (y 1).isLt
  fin_cases a
  · show 0 * 1 + 1 * (y 0).val = 0
    omega
  · show (expert T (tile T t)).val * 1 + 1 * (y 1).val = (expert T (tile T t)).val
    omega
  · show 0 * 2048 + 1 * (y 2).val = (y 2).val
    omega
  · show (col T t).val * 512 + 1 * (y 3).val = (col T t).val * 512 + (y 3).val
    omega

/-! ## What a point leaves -/

/-- The scratches after a point hold the narrowed weights of its tile's expert, anew or from the points before. -/
theorem scratches : ∀ (n : ℕ) (h : n < (cfgA T).N), (traj0 T m ρ c n h).2
    = (k0_pay1 (F := Ideal) (wblk (m ((c : Thread nD τ).loc main_arg3)) (expert T (tile T ⟨n, h⟩)) (col T ⟨n, h⟩)),
      k0_pay2 (F := Ideal) (wblk (m ((c : Thread nD τ).loc main_arg4)) (expert T (tile T ⟨n, h⟩)) (col T ⟨n, h⟩))) := by
  intro n
  induction n with
  | zero =>
    intro h
    have q0 := changed_zero T ⟨0, h⟩ rfl
    rw [traj0_eq T m ρ c ⟨0, h⟩]
    by_cases q1 : P0_1 T ⟨0, h⟩
    · rw [step_A T m ρ c _ _ q0 q1, gate_blk, up_blk]
    · rw [step_D T m ρ c _ _ q0 q1, gate_blk, up_blk]
  | succ n ih =>
    intro h
    have hp : prev0 T m ρ c ⟨n + 1, h⟩ = traj0 T m ρ c n (Nat.lt_of_succ_lt h) := rfl
    rw [traj0_eq T m ρ c ⟨n + 1, h⟩]
    by_cases q0 : P0_0 T ⟨n + 1, h⟩
    · by_cases q1 : P0_1 T ⟨n + 1, h⟩
      · rw [step_A T m ρ c _ _ q0 q1, gate_blk, up_blk]
      · rw [step_D T m ρ c _ _ q0 q1, gate_blk, up_blk]
    · obtain ⟨-, -, hc, he⟩ := kept T ⟨n + 1, h⟩ q0
      have hc' : col T ⟨n, Nat.lt_of_succ_lt h⟩ = col T ⟨n + 1, h⟩ := hc
      have he' : expert T (tile T ⟨n, Nat.lt_of_succ_lt h⟩) = expert T (tile T ⟨n + 1, h⟩) := he
      have hi := ih (Nat.lt_of_succ_lt h)
      rw [hc', he'] at hi
      by_cases q1 : P0_1 T ⟨n + 1, h⟩
      · rw [step_B T m ρ c _ _ q0 q1, hp]; exact hi
      · rw [step_C T m ρ c _ _ q0 q1, hp]; exact hi

/-- The output block a point leaves. -/
theorem block (t : Fin (cfgA T).N) : (traj0 T m ρ c t.val t.isLt).1
    = if (tile T t).val < used T then
        k0_pay3 (F := Ideal) (iblk T m ρ c (0 : Fin 4) t)
          (k0_pay1 (F := Ideal) (wblk (m ((c : Thread nD τ).loc main_arg3)) (expert T (tile T t)) (col T t)))
          (k0_pay2 (F := Ideal) (wblk (m ((c : Thread nD τ).loc main_arg4)) (expert T (tile T t)) (col T t)))
      else k0_pay4 (F := Ideal) := by
  have hs := scratches T m ρ c t.val t.isLt
  rw [traj0_eq] at hs ⊢
  by_cases q1 : P0_1 T t
  · rw [if_pos ((used_iff T t).mp q1)]
    by_cases q0 : P0_0 T t
    · rw [step_A T m ρ c _ _ q0 q1, gate_blk, up_blk]
    · rw [step_B T m ρ c _ _ q0 q1] at hs ⊢
      dsimp only at hs ⊢
      rw [hs]
  · rw [if_neg fun h => q1 ((used_iff T t).mpr h)]
    by_cases q0 : P0_0 T t
    · rw [step_D T m ρ c _ _ q0 q1]
    · rw [step_C T m ρ c _ _ q0 q1]

/-- The block's entry is the result's at the place the block sits at. -/
theorem block_apply (t : Fin (cfgA T).N) (i l : Fin 512) (r : Fin 36864) (f : Fin 5632)
    (hr : r.val = (tile T t).val * 512 + i.val) (hf : f.val = (col T t).val * 512 + l.val) :
    (traj0 T m ρ c t.val t.isLt).1 (ix2 i l)
      = upOut T (m ((c : Thread nD τ).loc main_arg2)) (m ((c : Thread nD τ).loc main_arg3)) (m ((c : Thread nD τ).loc main_arg4)) (ix2 r f) := by
  have hd : r.val / 512 = (tile T t).val := by omega
  have ht : (⟨r.val / 512, by omega⟩ : Fin 72) = tile T t := Fin.ext hd
  have hr' : r = ⟨(tile T t).val * 512 + i.val, by omega⟩ := Fin.ext hr
  have hf' : f = ⟨(col T t).val * 512 + l.val, by omega⟩ := Fin.ext hf
  rw [block]
  show _ = (if r.val / 512 < used T then
    gated (fun k => m ((c : Thread nD τ).loc main_arg2) (ix2 (n0 := 36864) (n1 := 2048) r k))
      (fun k => m ((c : Thread nD τ).loc main_arg3) (ix4 (n0 := 2) (n3 := 5632) 0 (expert T ⟨r.val / 512, by omega⟩) k f))
      (fun k => m ((c : Thread nD τ).loc main_arg4) (ix4 (n0 := 2) (n3 := 5632) 0 (expert T ⟨r.val / 512, by omega⟩) k f))
    else 0)
  rw [ht, hd]
  by_cases h : (tile T t).val < used T
  · rw [if_pos h, if_pos h]
    refine (pay3_apply _ _ _ i l).trans ?_
    have e0 : (fun k : Fin 2048 => iblk T m ρ c (0 : Fin 4) t (ix2 i k))
        = fun k => m ((c : Thread nD τ).loc main_arg2) (ix2 (n0 := 36864) (n1 := 2048) r k) := by
      funext k
      rw [hr']
      exact rows_blk T m ρ c t h i k
    have e1 : ∀ w : FVec Ideal S2x8x2048x5632 .f32, ∀ k : Fin 2048, wblk w (expert T (tile T t)) (col T t) (ix4 0 0 k l)
        = w (ix4 (n0 := 2) (n3 := 5632) 0 (expert T (tile T t)) k f) := by
      intro w k
      rw [hf']
      rfl
    simp only [pay1_apply, pay2_apply, e1]
    exact congrArg (fun x => gated x _ _) e0
  · rw [if_neg h, if_neg h]
    exact pay4_apply i l

/-- Where an entry of the block sits in the result. -/
theorem emb_3 (t : Fin (cfgA T).N) (y : S512x512.Idx) (a : Fin 2) :
    ((((cfgA T).win (3 : Fin 4)).blk t).view.emb y a).val
      = (![(tile T t).val, (col T t).val] : Fin 2 → ℕ) a * 512 + (y a).val := by
  show cc0_transform_3 (crd T t) a * S512x512.size a + 1 * (y a).val = _
  rw [index_3 t]
  fin_cases a
  · show (t.val % 72) * 512 + 1 * (y 0).val = (t.val % 72) * 512 + (y 0).val
    omega
  · show (t.val / 72) * 512 + 1 * (y 1).val = (t.val / 72) * 512 + (y 1).val
    omega

/-- Every block of the result is written back by one of the points. -/
theorem covers : ((cfgA T).win (3 : Fin 4)).Covers := by
  refine ⟨fun a => by fin_cases a <;> exact (by decide : 0 < 512), fun β => ?_⟩
  have h0 : (β (0 : Fin 2)).val < 72 := lt_of_lt_of_eq (β (0 : Fin 2)).isLt (by show (36864 + 512 - 1) / 512 = 72; decide)
  have h1 : (β (1 : Fin 2)).val < 11 := lt_of_lt_of_eq (β (1 : Fin 2)).isLt (by show (5632 + 512 - 1) / 512 = 11; decide)
  refine ⟨⟨(β (1 : Fin 2)).val * 72 + (β (0 : Fin 2)).val, (by omega : _ < 792)⟩, flush_3 T _, fun a => ⟨?_, Or.inl ?_⟩⟩
  · show cc0_transform_3 (grid0.coords _) a = _
    rw [index_3]
    fin_cases a
    · show ((β (1 : Fin 2)).val * 72 + (β (0 : Fin 2)).val) % 72 = (β (0 : Fin 2)).val
      omega
    · show ((β (1 : Fin 2)).val * 72 + (β (0 : Fin 2)).val) / 72 = (β (1 : Fin 2)).val
      omega
  · fin_cases a <;> rfl

/-- The result array after the run. -/
theorem final : (dats T m ρ 0 c).arrAt (3 : Fin 4) (cfgA T).N
    = upOut T (m ((c : Thread nD τ).loc main_arg2)) (m ((c : Thread nD τ).loc main_arg3)) (m ((c : Thread nD τ).loc main_arg4)) := by
  refine (dats T m ρ 0 c).arrAt_eq_of_covers (3 : Fin 4) _ (covers T) fun t _ y => ?_
  blk_simp
  rw [after0_3]
  obtain ⟨i, l, rfl⟩ : ∃ (i l : Fin 512), y = ix2 i l := ⟨y 0, y 1, eq_ix2 (n0 := 512) (n1 := 512) y⟩
  exact (block_apply T m ρ c t i l _ _ (emb_3 T t (ix2 i l) 0) (emb_3 T t (ix2 i l) 1)).trans
    (congrArg (upOut T _ _ _) (eq_ix2 (n0 := 36864) (n1 := 5632) _).symm)

end Cert.Kernel2Ideal.Up

end
-- ==== Proof.UpRef.lean ====
/-
  The reference's result at an entry: over the eight experts, the gated product of the row with the expert's weights
  where the row's tile has that expert and is used, zero elsewhere, summed.
-/
module

public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem

namespace Cert.Reference2Ideal.UpRef

open Cert.Reference2Ideal Cert.Reference2Ideal.Gen

/-! ## The reference's term in stages -/

/-- Each row's product with each expert's weights of the layer. -/
def products (x : FVec Ideal S36864x2048 .bf16) (w : FVec Ideal S2x8x2048x5632 .f32) : FVec Ideal S36864x8x5632 .f32 :=
  Host.dotGeneral dot_S36864x2048_S8x2048x5632_S36864x8x5632_1_1_0_02_n_n none (extf .f32 x bitsLt_bf16_f32)
    (shapeCast S8x2048x5632 (extractStridedSlice S1x8x2048x5632 ![0, 0, 0, 0] w slices_S2x8x2048x5632_S1x8x2048x5632_0_0_0_0)
      shapeCasts_S1x8x2048x5632_S8x2048x5632)

/-- The rows an expert owns: those of the used tiles that have it. -/
def mine (te : Vec Ideal S72 .i32) (nu : Vec Ideal S1 .i32) : Vec Ideal S36864x8 .i1 :=
  andi (cmpi .eq
      (broadcastInDim S36864x8 ![0, 1] bcast_S36864x1_S36864x8_0_1 (broadcastInDim S36864x1 ![0] bcast_S36864_S36864x1_0
        (shapeCast S36864 (broadcastInDim S72x512 ![0, 1] bcast_S72x1_S72x512_0_1 (broadcastInDim S72x1 ![0] bcast_S72_S72x1_0 te))
          shapeCasts_S72x512_S36864)))
      (broadcastInDim S36864x8 ![0, 1] bcast_S1x8_S36864x8_0_1 (broadcastInDim S1x8 ![1] bcast_S8_S1x8_1 (iotaInDim S8 32 0))))
    (broadcastInDim S36864x8 ![0, 1] bcast_S36864x1_S36864x8_0_1 (broadcastInDim S36864x1 ![0] bcast_S36864_S36864x1_0
      (cmpi .slt (iotaInDim S36864 32 0) (broadcastInDim S36864 ![] bcast_S_S36864
        (muli (shapeCast S_ nu shapeCasts_S1_S_) (constantI S_ 32 512#32))))))

/-- The gated products of the owned rows, summed over the experts. -/
def gatedSum (own : Vec Ideal S36864x8 .i1) (a b : FVec Ideal S36864x8x5632 .f32) : FVec Ideal S36864x5632 .bf16 :=
  truncf .bf16 (Host.reduceAdd
    (select (broadcastInDim S36864x8x5632 ![0, 1, 2] bcast_S36864x8x1_S36864x8x5632_0_1_2
        (broadcastInDim S36864x8x1 ![0, 1] bcast_S36864x8_S36864x8x1_0_1 own))
      (mulf (mulf a (Host.divf (broadcastInDim S36864x8x5632 ![] bcast_S_S36864x8x5632 (constant S_ .f32 0x3F800000#32))
        (addf (broadcastInDim S36864x8x5632 ![] bcast_S_S36864x8x5632 (constant S_ .f32 0x3F800000#32)) (Host.exp (Host.negf a))))) b)
      (broadcastInDim S36864x8x5632 ![] bcast_S_S36864x8x5632 (id (constant S_ .f32 0x00000000#32))))
    (constant S_ .f32 0x00000000#32) reducesTo_S36864x8x5632_S36864x5632_d1 h_S_) bitsLt_bf16_f32

/-! ## The stages at an entry -/

theorem products_apply (x : FVec Ideal S36864x2048 .bf16) (w : FVec Ideal S2x8x2048x5632 .f32) (r : Fin 36864) (e : Fin 8)
    (f : Fin 5632) : products x w (ix3 r e f) = ∑ k : Fin 2048, x (ix2 r k) * w (ix4 0 e k f) := by
  pointwise [products]

theorem both_bits : ∀ a b : BitVec 1, IntOp.andi a b = 1#1 ↔ a = 1#1 ∧ b = 1#1 := by decide

theorem eq_bit (x y : BitVec 32) : IntOp.cmpi .eq x y = 1#1 ↔ x = y := by
  by_cases h : x = y
  · simp [IntOp.cmpi, h]
  · have hb : (x == y) = false := by simpa using h
    simp [IntOp.cmpi, hb, h]

theorem slt_bit (x y : BitVec 32) (hx : x.toNat < 2 ^ 31) (hy : y.toNat < 2 ^ 31) :
    IntOp.cmpi .slt x y = 1#1 ↔ x.toNat < y.toNat := by
  have ex : x.toInt = x.toNat := BitVec.toInt_eq_toNat_of_lt (by omega)
  have ey : y.toInt = y.toNat := BitVec.toInt_eq_toNat_of_lt (by omega)
  have hs : x.slt y = decide (x.toNat < y.toNat) := by
    rw [BitVec.slt_eq_decide, ex, ey]
    simp
  by_cases h : x.toNat < y.toNat <;> simp [IntOp.cmpi, hs, h]

/-- An expert owns the rows of the used tiles that have it. -/
theorem mine_apply (te : Vec Ideal S72 .i32) (nu : Vec Ideal S1 .i32) (hnu : (nu (ix1 0)).toNat ≤ 72) (r : Fin 36864) (e : Fin 8) :
    mine te nu (ix2 r e) = 1#1 ↔ (te (ix1 ⟨r.val / 512, by omega⟩)).toNat = e.val ∧ r.val / 512 < (nu (ix1 0)).toNat := by
  pointwise [mine]
  have hr : (BitVec.ofNat 32 r.val).toNat = r.val := by
    rw [BitVec.toNat_ofNat]; exact Nat.mod_eq_of_lt (by omega)
  have he : (BitVec.ofNat 32 e.val).toNat = e.val := by
    rw [BitVec.toNat_ofNat]; exact Nat.mod_eq_of_lt (by omega)
  have hm : (IntOp.muli (nu (ix1 0)) 512#32).toNat = (nu (ix1 0)).toNat * 512 := by
    show ((nu (ix1 0)) * 512#32 : BitVec 32).toNat = _
    rw [BitVec.toNat_mul]
    show (nu (ix1 0)).toNat * 512 % 2 ^ 32 = _
    exact Nat.mod_eq_of_lt (by omega)
  rw [both_bits, eq_bit, slt_bit _ _ (by omega) (by omega), hr, hm, ← BitVec.toNat_inj, he]
  exact and_congr Iff.rfl (by omega)

theorem gatedSum_apply (own : Vec Ideal S36864x8 .i1) (a b : FVec Ideal S36864x8x5632 .f32) (r : Fin 36864) (f : Fin 5632) :
    gatedSum own a b (ix2 r f) = ∑ e : Fin 8, if own (ix2 r e) = 1#1 then
      a (ix3 r e f) * Ideal.div 1 (1 + Ideal.exp (-a (ix3 r e f))) * b (ix3 r e f) else 0 := by
  pointwise [gatedSum]
  refine Finset.sum_congr rfl fun e _ => ?_
  have hz : (id (constant S_ FTy.f32 0#32) : FVec Ideal S_ .f32) ix0 = (0 : EReal) := by
    show (constant S_ FTy.f32 0#32 : FVec Ideal S_ .f32) ix0 = (0 : EReal)
    pointwise
  rw [hz]
  rfl

/-- The result at an entry: the row's gated product with its tile's expert, where the tile is used. -/
theorem res_apply (te : Vec Ideal S72 .i32) (nu : Vec Ideal S1 .i32) (x : FVec Ideal S36864x2048 .bf16)
    (wg wu : FVec Ideal S2x8x2048x5632 .f32) (hte : ∀ i, (te i).toNat < 8) (hnu : (nu (ix1 0)).toNat ≤ 72) (r : Fin 36864) (f : Fin 5632) :
    gatedSum (mine te nu) (products x wg) (products x wu) (ix2 r f)
      = if r.val / 512 < (nu (ix1 0)).toNat then
          (∑ k : Fin 2048, x (ix2 r k) * wg (ix4 0 ⟨(te (ix1 ⟨r.val / 512, by omega⟩)).toNat, hte _⟩ k f))
            * Ideal.div 1 (1 + Ideal.exp (-(∑ k : Fin 2048, x (ix2 r k) * wg (ix4 0 ⟨(te (ix1 ⟨r.val / 512, by omega⟩)).toNat, hte _⟩ k f))))
            * (∑ k : Fin 2048, x (ix2 r k) * wu (ix4 0 ⟨(te (ix1 ⟨r.val / 512, by omega⟩)).toNat, hte _⟩ k f))
        else 0 := by
  rw [gatedSum_apply]
  simp only [mine_apply te nu hnu, products_apply]
  by_cases h : r.val / 512 < (nu (ix1 0)).toNat
  · simp only [h, and_true, if_true]
    rw [Finset.sum_eq_single (⟨(te (ix1 ⟨r.val / 512, by omega⟩)).toNat, hte _⟩ : Fin 8)]
    · rw [if_pos rfl]
    · intro e _ he
      exact if_neg fun hh => he (Fin.ext hh.symm)
    · intro hh
      exact absurd (Finset.mem_univ _) hh
  · simp only [h, and_false, if_false, Finset.sum_const_zero]

end Cert.Reference2Ideal.UpRef

end
-- ==== Proof.UpPre.lean ====
/-
  What the precondition says: every tile's expert is one of the eight, and between 1 and 72 tiles are in use.
-/
module

public import proofs.«01_k».proof.Proof.Gen.Pre_tables
public import Idealize.ShloMosaic.Lib.ReduceAll
public import Idealize.ShloMosaic.Lib.Affine

@[expose] public section

noncomputable section

open Idealize.ShloMosaic

namespace Cert.Pre_tables

/-- A word in a signed range from a nonnegative bound up is in that range as a number. -/
theorem range_of_words {w : BitVec 32} {a b : ℕ} (ha : a < 2147483648) (hb : b < 2147483648)
    (h1 : IntOp.cmpi .sge w (BitVec.ofNat 32 a) = 1#1) (h2 : IntOp.cmpi .sle w (BitVec.ofNat 32 b) = 1#1) :
    a ≤ w.toNat ∧ w.toNat ≤ b := by
  have g1 : (BitVec.ofNat 32 a).sle w = true := by
    by_contra h; rw [Bool.not_eq_true] at h
    simp only [IntOp.cmpi, h] at h1; exact absurd h1 (by decide)
  have g2 : w.sle (BitVec.ofNat 32 b) = true := by
    by_contra h; rw [Bool.not_eq_true] at h
    simp only [IntOp.cmpi, h] at h2; exact absurd h2 (by decide)
  rw [BitVec.sle_iff_toInt_le] at g1 g2
  have ea : (BitVec.ofNat 32 a).toNat = a := by rw [BitVec.toNat_ofNat]; exact Nat.mod_eq_of_lt (by omega)
  have eb : (BitVec.ofNat 32 b).toNat = b := by rw [BitVec.toNat_ofNat]; exact Nat.mod_eq_of_lt (by omega)
  have hw := w.isLt
  rw [BitVec.toInt_eq_toNat_cond, BitVec.toInt_eq_toNat_cond, ea] at g1
  rw [BitVec.toInt_eq_toNat_cond, BitVec.toInt_eq_toNat_cond, eb] at g2
  split at g1 <;> split at g1 <;> split at g2 <;> split at g2 <;> omega

/-- Below 8 and nonnegative, as signed words: at most 7. -/
theorem sle_of_slt {w : BitVec 32} (h : IntOp.cmpi .slt w 8#32 = 1#1) : IntOp.cmpi .sle w (BitVec.ofNat 32 7) = 1#1 := by
  have g : w.slt 8#32 = true := by
    by_contra h'; rw [Bool.not_eq_true] at h'
    simp only [IntOp.cmpi, h'] at h; exact absurd h (by decide)
  have g' : w.sle (BitVec.ofNat 32 7) = true := by
    rw [BitVec.slt_iff_toInt_lt] at g
    rw [BitVec.sle_iff_toInt_le]
    have e8 : (8#32 : BitVec 32).toInt = 8 := by decide
    have e7 : (BitVec.ofNat 32 7).toInt = 7 := by decide
    omega
  simp only [IntOp.cmpi, g']; rfl

/-- The precondition, read: the ranges of the two tables. -/
theorem range_of_fn {F : FTy → Type} [FloatOps F] (te : IVec S72 32) (nu : IVec S1 32) (x : FVec F S36864x2048 .bf16)
    (g u : FVec F S2x8x2048x5632 .f32) (j : S_.Idx) (h : Cert.Pre_tables.fn (F := F) te nu x g u j = 1#1) :
    (∀ i, (te i).toNat < 8) ∧ (∀ i, 1 ≤ (nu i).toNat) ∧ (∀ i, (nu i).toNat ≤ 72) := by
  dsimp only [Cert.Pre_tables.fn] at h
  have : Subsingleton S_.Idx := ⟨fun a b => funext fun x => x.elim0⟩
  have : Subsingleton S1.Idx := ⟨fun a b => funext fun x => Fin.ext (by
    have h1 : x = 0 := Subsingleton.elim (α := Fin 1) _ _
    subst h1
    have ha : (a 0).val < 1 := (a 0).isLt
    have hb : (b 0).val < 1 := (b 0).isLt
    omega)⟩
  obtain ⟨h1, h3⟩ := IntOp.andi_eq_one.mp h
  obtain ⟨h1, h2⟩ := IntOp.andi_eq_one.mp h1
  have g1 := Host.reduce_andi_all _ _ _ _ j h1
  have hn : ∀ i, 1 ≤ (nu i).toNat ∧ (nu i).toNat ≤ 72 := fun i => by
    obtain ⟨y, hy⟩ : ∃ y : S1.Idx, shapeCast S_ nu Gen.shapeCasts_S1_S_ j = nu y := ⟨_, rfl⟩
    rw [Subsingleton.elim i y]
    refine range_of_words (by decide) (by decide) ?_ ?_
    · rw [← hy]; exact h2
    · rw [← hy]; exact h3
  refine ⟨fun i => ?_, fun i => (hn i).1, fun i => (hn i).2⟩
  obtain ⟨a, b⟩ := IntOp.andi_eq_one.mp (g1 i)
  exact Nat.lt_of_le_of_lt (range_of_words (a := 0) (b := 7) (by decide) (by decide) a (sle_of_slt b)).2 (by decide)

end Cert.Pre_tables

end
-- ==== Proof.UpWordTables.lean ====
/-
  The pipeline of the gated up-projection, on words, at arbitrary tables: which expert each tile of rows belongs to, and how many
  tiles are in use. The tables are those with every expert below 8 and between 1 and 72 tiles in use.
-/
module

public import proofs.«01_k».proof.Proof.Gen.Kernel2.Flash.Runs
public import Idealize.ShloMosaic.Lib.Pipeline.Quiescent
public import Idealize.ShloMosaic.Lib.Claim

@[expose] public section

set_option maxRecDepth 16384
set_option Elab.async false

noncomputable section

namespace Cert.Kernel2.Up

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- Tables the launch may hold: every tile's expert is one of the eight, at least one and at most 72 tiles are in use. -/
structure Tabs where
  te : S72.Idx → BitVec 32
  nu : S1.Idx → BitVec 32
  te_lt : ∀ x, (te x).toNat < 8
  nu_pos : ∀ x, 1 ≤ (nu x).toNat
  nu_le : ∀ x, (nu x).toNat ≤ 72

variable (T : Tabs)

set_option backward.proofsInPublic true in
/-- The two tables as the launch's contents. -/
def tabs : pre0.Contents (Elt Bits) := fun | ⟨0, _⟩ => T.te | ⟨1, _⟩ => T.nu | ⟨_ + 2, h⟩ => absurd h (by simp)

/-- The launch memory holds these tables. -/
def Holds (m : (ℓ : Loc nD τ sig) → Buf (Elt Bits) ℓ) : Prop :=
  (∀ c : Dev nD, m ((c : Thread nD τ).loc main_arg0) = T.te)
  ∧ (∀ c : Dev nD, m ((c : Thread nD τ).loc main_arg1) = T.nu)

/-- Clamping a tile's number to the used ones keeps it below 72. -/
theorem clamp_lt : ∀ (i : Fin 72) (n : Fin 73), 1 ≤ n.val →
    (Scalar.minsi (BitVec.ofNat 32 i.val) (Scalar.subi (BitVec.ofNat 32 n.val) 1#32)).toNat < 72 := by decide +kernel

/-- A word below 73 is the word of its number. -/
theorem word_eq (w : BitVec 32) : w = BitVec.ofNat 32 w.toNat := by simp

/-- The block of rows fetched is inside the array of rows. -/
theorem inb_0 (i : grid0.Coords) (a : Fin 2) :
    (cc0_transform_0 inb_S1_S1_0 numel1_S1 (tabs T) i a + 1) * S512x2048.size a ≤ S36864x2048.size a := by
  obtain ⟨n, hn⟩ : ∃ n : S1.Idx, (tabs T).at 1 (Rect.unit (s := S1) ![0] S1.size inb_S1_S1_0) numel1_S1 = T.nu n := ⟨_, rfl⟩
  have h := clamp_lt (i 1) ⟨(T.nu n).toNat, Nat.lt_succ_of_le (T.nu_le n)⟩ (T.nu_pos n)
  rw [← word_eq] at h
  unfold cc0_transform_0
  rw [hn]
  fin_cases a
  · show ((Scalar.minsi (BitVec.ofNat 32 (i 1).val) (Scalar.subi (T.nu n) 1#32)).toNat + 1) * 512 ≤ 36864
    omega
  · show (0 + 1) * 2048 ≤ 2048
    omega

/-- The block of gate weights fetched is inside the array. -/
theorem inb_1 (i : grid0.Coords) (a : Fin 4) :
    (cc0_transform_1 k0_off1_inb numel1_S1 (tabs T) i a + 1) * S1x1x2048x512.size a ≤ S2x8x2048x5632.size a := by
  obtain ⟨n, hn⟩ : ∃ n : S72.Idx, (tabs T).at 0 (Rect.unit (s := S72) (k0_off1 i) S1.size (k0_off1_inb i)) numel1_S1 = T.te n := ⟨_, rfl⟩
  have h := T.te_lt n
  have h0 : (i 0).val < 11 := (i 0).isLt
  have h1 : (BitVec.ofNat 32 (i 0).val).toNat = (i 0).val := by
    rw [BitVec.toNat_ofNat]; exact Nat.mod_eq_of_lt (by omega)
  have e : cc0_transform_1 k0_off1_inb numel1_S1 (tabs T) i = ![0, (T.te n).toNat, 0, (i 0).val] := by
    rw [← hn, ← h1]; rfl
  rw [e]
  fin_cases a
  · show (0 + 1) * 1 ≤ 2
    omega
  · show ((T.te n).toNat + 1) * 1 ≤ 8
    omega
  · show (0 + 1) * 2048 ≤ 2048
    omega
  · show ((i 0).val + 1) * 512 ≤ 5632
    omega

/-- The two weight windows have one index map. -/
theorem map_2 (i : grid0.Coords) : cc0_transform_2 k0_off1_inb numel1_S1 (tabs T) i = cc0_transform_1 k0_off1_inb numel1_S1 (tabs T) i := rfl

/-- The launch's side condition holds of all such tables. -/
theorem ok : ok0 (F := Bits) (tabs T) :=
  ⟨fun i => ⟨inb_0 T i, .inr (Affine.block_words_dvd (s := S36864x2048) (p := EltTy.packing .bf16) (by decide) (by decide))⟩,
    fun i => ⟨inb_1 T i, .inl rfl⟩, fun i => ⟨fun a => by rw [map_2]; exact inb_1 T i a, .inl rfl⟩⟩

/-- The admissible contents and the pipeline at them. -/
def adm : (pcfg0 (F := Bits)).Adm := ⟨tabs T, ok T⟩
abbrev cfgA : Pipeline.Cfg sig Λ₀ := cfg0 (F := Bits) (adm T)
abbrev pcs : Fin 1 → Pipeline.Cfg sig Λ₀ := Pipeline.pin (pcfgs (F := Bits)) fun _ => adm T

variable (m : (ℓ : Loc nD τ sig) → Buf (Elt Bits) ℓ) (ρ : Dev nD → PrngReg)

/-! ## A point's coordinates, words and staging memrefs -/

/-- Point `t`'s coordinates. -/
abbrev crd (t : Fin (cfgA T).N) : (cfgA T).grid.Coords := (cfgA T).grid.coords t

/-- Each window's current staging memref at point `t`, spelled as the pipeline passes it, and its wholeness. -/
abbrev ms0_0 (t : Fin (cfgA T).N) : Memref sig .tc .vmem S512x2048 .bf16 := spec0_0.stage ((cfgA T).slots t (0 : Fin 4))
abbrev hs0_0 (t : Fin (cfgA T).N) : (ms0_0 T t).IsWhole := hstage0_0 (((cfgA T).slots t (0 : Fin 4)).cast nbuf0_0)
abbrev ms0_1 (t : Fin (cfgA T).N) : Memref sig .tc .vmem S1x1x2048x512 .f32 := spec0_1.stage ((cfgA T).slots t (1 : Fin 4))
abbrev hs0_1 (t : Fin (cfgA T).N) : (ms0_1 T t).IsWhole := hstage0_1 (((cfgA T).slots t (1 : Fin 4)).cast nbuf0_1)
abbrev ms0_2 (t : Fin (cfgA T).N) : Memref sig .tc .vmem S1x1x2048x512 .f32 := spec0_2.stage ((cfgA T).slots t (2 : Fin 4))
abbrev hs0_2 (t : Fin (cfgA T).N) : (ms0_2 T t).IsWhole := hstage0_2 (((cfgA T).slots t (2 : Fin 4)).cast nbuf0_2)
abbrev ms0_3 (t : Fin (cfgA T).N) : Memref sig .tc .vmem S512x512 .bf16 := spec0_3.stage ((cfgA T).slots t (3 : Fin 4))
abbrev hs0_3 (t : Fin (cfgA T).N) : (ms0_3 T t).IsWhole := hstage0_3 (((cfgA T).slots t (3 : Fin 4)).cast nbuf0_3)

/-! ## The windows' blocks -/

/-- Window `w`'s block at point `t`, read off its array at launch. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-! ## The control's decisions at a point, at the words of the tables (what tells the paths apart) -/

abbrev P0_0 (t : Fin (cfgA T).N) : Prop := (Scalar.cmpi .ne (Scalar.extui (Scalar.ori (Scalar.cmpi .eq (BitVec.ofNat 32 ((crd T t) 1).val) 0#32) (Scalar.cmpi .ne (View.readAt (Elt Bits) (tbM0_0).view (Rect.unit (s := S72) (k0_off1 (crd T t)) S1.size (k0_off1_inb (crd T t))).toLoadRect T.te (Shape.Idx.first (numel1_S1.symm ▸ Nat.one_pos))) (View.readAt (Elt Bits) (tbM0_0).view (Rect.unit (s := S72) (k0_off2 (crd T t)) S1.size (k0_off2_inb (crd T t))).toLoadRect T.te (Shape.Idx.first (numel1_S1.symm ▸ Nat.one_pos)))))) 0#32) = 1#1
abbrev P0_1 (t : Fin (cfgA T).N) : Prop := k0_cond2 (crd T t) (View.readAt (Elt Bits) (tbM0_1).view (Rect.unit (s := S1) ![0] S1.size inb_S1_S1_0).toLoadRect T.nu (Shape.Idx.first (numel1_S1.symm ▸ Nat.one_pos))) = 1#1

/-! ## What a point decides -/

/-- Two conditions on the tile's number: exactly one of them holds. -/
theorem used_or : ∀ (i : Fin 72) (n : Fin 73),
    ((Scalar.cmpi .ne (Scalar.extui (Scalar.cmpi .sge (BitVec.ofNat 32 i.val) (BitVec.ofNat 32 n.val))) 0#32 : BitVec 1) = 1#1
      ↔ ¬ (Scalar.cmpi .ne (Scalar.extui (Scalar.cmpi .slt (BitVec.ofNat 32 i.val) (BitVec.ofNat 32 n.val))) 0#32 : BitVec 1) = 1#1) := by
  decide +kernel

/-- The kernel stores zeros exactly where it doesn't store a product. -/
theorem cond3_iff (i : grid0.Coords) (x : S1.Idx) : k0_cond3 i (T.nu x) = 1#1 ↔ ¬ k0_cond2 i (T.nu x) = 1#1 := by
  have h := used_or (i 1) ⟨(T.nu x).toNat, Nat.lt_succ_of_le (T.nu_le x)⟩
  rw [← word_eq] at h
  exact h

/-- At the first tile the weights are read anew. -/
theorem first_changed : ∀ b : BitVec 1, (Scalar.cmpi .ne (Scalar.extui (Scalar.ori (Scalar.cmpi .eq (BitVec.ofNat 32 0) 0#32) b)) 0#32 : BitVec 1) = 1#1 := by
  decide +kernel

/-- A point's coordinates: the column block, then the tile. -/
theorem coords_val : ∀ t : Fin grid0.N, (grid0.coords t 0).val = t.val / 72 ∧ (grid0.coords t 1).val = t.val % 72 := by
  decide +kernel

/-- At point 0 the weights are read anew. -/
theorem changed_zero (t : Fin (cfgA T).N) (h : t.val = 0) : P0_0 T t := by
  have e : ((crd T t) 1).val = 0 := (coords_val t).2.trans (by rw [h])
  unfold P0_0
  rw [e]
  exact first_changed _

/-- The output's index map differs from each point to the next. -/
theorem out_flush : ∀ t : Fin grid0.N, Pipeline.Window.flushOf grid0 true cc0_transform_3 t = true := by decide +kernel

/-- The output block is written back at every point. -/
theorem flush_3 (t : Fin (cfgA T).N) : ((cfgA T).win (3 : Fin 4)).flush t = true := out_flush t

/-- One of the two conditions on the tile's number holds. -/
theorem stored (i : grid0.Coords) (x : S1.Idx) : (!(k0_cond2 i (T.nu x) == 1#1) && !(k0_cond3 i (T.nu x) == 1#1)) = false := by
  have h := cond3_iff T i x
  by_cases h2 : k0_cond2 i (T.nu x) = 1#1
  · rw [h2]; rfl
  · rw [h.mpr h2]; simp

/-- The output is stored at every point. -/
theorem idle_3 (t : Fin (cfgA T).N) : (cfgA T).idle (3 : Fin 4) ((cfgA T).grid.coords t) = false := stored T (crd T t) _

/-- Before each point the output's buffer holds nothing stored. -/
theorem fresh_3 (t : Fin (cfgA T).N) : (cfgA T).fresh (3 : Fin 4) t.val = true :=
  Pipeline.Cfg.fresh_tab (cfgA T) (3 : Fin 4) (fun _ => true) rfl (fun t => by rw [flush_3]; rfl) t.val (Nat.le_of_lt t.isLt)

/-- The weights' scratch holds nothing determined before the first point. -/
def sfresh0_0 (T : Tabs) (n : ℕ) : Bool := decide (n = 0)
def sfresh0_1 (T : Tabs) (n : ℕ) : Bool := decide (n = 0)

/-- Path A: its conditions hold of the words read. -/
theorem hyps0_A (t : Fin (cfgA T).N) (q0 : P0_0 T t) (q1 : P0_1 T t) :
    ((Scalar.cmpi .ne (Scalar.extui (Scalar.ori (Scalar.cmpi .eq (BitVec.ofNat 32 ((crd T t) 1).val) 0#32) (Scalar.cmpi .ne (View.readAt (Elt Bits) (tbM0_0).view (Rect.unit (s := S72) (k0_off1 (crd T t)) S1.size (k0_off1_inb (crd T t))).toLoadRect T.te (Shape.Idx.first (numel1_S1.symm ▸ Nat.one_pos))) (View.readAt (Elt Bits) (tbM0_0).view (Rect.unit (s := S72) (k0_off2 (crd T t)) S1.size (k0_off2_inb (crd T t))).toLoadRect T.te (Shape.Idx.first (numel1_S1.symm ▸ Nat.one_pos)))))) 0#32) = 1#1) ∧ ((k0_cond2 (crd T t) (View.readAt (Elt Bits) (tbM0_1).view (Rect.unit (s := S1) ![0] S1.size inb_S1_S1_0).toLoadRect T.nu (Shape.Idx.first (numel1_S1.symm ▸ Nat.one_pos))) = 1#1) ∧ ((¬(k0_cond3 (crd T t) (View.readAt (Elt Bits) (tbM0_1).view (Rect.unit (s := S1) ![0] S1.size inb_S1_S1_0).toLoadRect T.nu (Shape.Idx.first (numel1_S1.symm ▸ Nat.one_pos))) = 1#1)) ∧ (True))) :=
  ⟨q0, q1, fun h => ((cond3_iff T _ _).mp h) q1, trivial⟩

/-- Path B: its conditions hold of the words read. -/
theorem hyps0_B (t : Fin (cfgA T).N) (q0 : ¬P0_0 T t) (q1 : P0_1 T t) :
    (¬((Scalar.cmpi .ne (Scalar.extui (Scalar.ori (Scalar.cmpi .eq (BitVec.ofNat 32 ((crd T t) 1).val) 0#32) (Scalar.cmpi .ne (View.readAt (Elt Bits) (tbM0_0).view (Rect.unit (s := S72) (k0_off1 (crd T t)) S1.size (k0_off1_inb (crd T t))).toLoadRect T.te (Shape.Idx.first (numel1_S1.symm ▸ Nat.one_pos))) (View.readAt (Elt Bits) (tbM0_0).view (Rect.unit (s := S72) (k0_off2 (crd T t)) S1.size (k0_off2_inb (crd T t))).toLoadRect T.te (Shape.Idx.first (numel1_S1.symm ▸ Nat.one_pos)))))) 0#32) = 1#1)) ∧ ((k0_cond2 (crd T t) (View.readAt (Elt Bits) (tbM0_1).view (Rect.unit (s := S1) ![0] S1.size inb_S1_S1_0).toLoadRect T.nu (Shape.Idx.first (numel1_S1.symm ▸ Nat.one_pos))) = 1#1) ∧ ((¬(k0_cond3 (crd T t) (View.readAt (Elt Bits) (tbM0_1).view (Rect.unit (s := S1) ![0] S1.size inb_S1_S1_0).toLoadRect T.nu (Shape.Idx.first (numel1_S1.symm ▸ Nat.one_pos))) = 1#1)) ∧ (True))) :=
  ⟨q0, q1, fun h => ((cond3_iff T _ _).mp h) q1, trivial⟩

/-- Path C: its conditions hold of the words read. -/
theorem hyps0_C (t : Fin (cfgA T).N) (q0 : ¬P0_0 T t) (q1 : ¬P0_1 T t) :
    (¬((Scalar.cmpi .ne (Scalar.extui (Scalar.ori (Scalar.cmpi .eq (BitVec.ofNat 32 ((crd T t) 1).val) 0#32) (Scalar.cmpi .ne (View.readAt (Elt Bits) (tbM0_0).view (Rect.unit (s := S72) (k0_off1 (crd T t)) S1.size (k0_off1_inb (crd T t))).toLoadRect T.te (Shape.Idx.first (numel1_S1.symm ▸ Nat.one_pos))) (View.readAt (Elt Bits) (tbM0_0).view (Rect.unit (s := S72) (k0_off2 (crd T t)) S1.size (k0_off2_inb (crd T t))).toLoadRect T.te (Shape.Idx.first (numel1_S1.symm ▸ Nat.one_pos)))))) 0#32) = 1#1)) ∧ ((¬(k0_cond2 (crd T t) (View.readAt (Elt Bits) (tbM0_1).view (Rect.unit (s := S1) ![0] S1.size inb_S1_S1_0).toLoadRect T.nu (Shape.Idx.first (numel1_S1.symm ▸ Nat.one_pos))) = 1#1)) ∧ ((k0_cond3 (crd T t) (View.readAt (Elt Bits) (tbM0_1).view (Rect.unit (s := S1) ![0] S1.size inb_S1_S1_0).toLoadRect T.nu (Shape.Idx.first (numel1_S1.symm ▸ Nat.one_pos))) = 1#1) ∧ (True))) :=
  ⟨q0, q1, (cond3_iff T _ _).mpr q1, trivial⟩

/-- Path D: its conditions hold of the words read. -/
theorem hyps0_D (t : Fin (cfgA T).N) (q0 : P0_0 T t) (q1 : ¬P0_1 T t) :
    ((Scalar.cmpi .ne (Scalar.extui (Scalar.ori (Scalar.cmpi .eq (BitVec.ofNat 32 ((crd T t) 1).val) 0#32) (Scalar.cmpi .ne (View.readAt (Elt Bits) (tbM0_0).view (Rect.unit (s := S72) (k0_off1 (crd T t)) S1.size (k0_off1_inb (crd T t))).toLoadRect T.te (Shape.Idx.first (numel1_S1.symm ▸ Nat.one_pos))) (View.readAt (Elt Bits) (tbM0_0).view (Rect.unit (s := S72) (k0_off2 (crd T t)) S1.size (k0_off2_inb (crd T t))).toLoadRect T.te (Shape.Idx.first (numel1_S1.symm ▸ Nat.one_pos)))))) 0#32) = 1#1) ∧ ((¬(k0_cond2 (crd T t) (View.readAt (Elt Bits) (tbM0_1).view (Rect.unit (s := S1) ![0] S1.size inb_S1_S1_0).toLoadRect T.nu (Shape.Idx.first (numel1_S1.symm ▸ Nat.one_pos))) = 1#1)) ∧ ((k0_cond3 (crd T t) (View.readAt (Elt Bits) (tbM0_1).view (Rect.unit (s := S1) ![0] S1.size inb_S1_S1_0).toLoadRect T.nu (Shape.Idx.first (numel1_S1.symm ▸ Nat.one_pos))) = 1#1) ∧ (True))) :=
  ⟨q0, q1, (cond3_iff T _ _).mpr q1, trivial⟩

/-- Path A: the schedule at such a point. -/
theorem sched0_A (t : Fin (cfgA T).N) (q0 : P0_0 T t) (q1 : P0_1 T t) :
    (cfgA T).idle (3 : Fin 4) ((cfgA T).grid.coords t) = false ∧ ((cfgA T).win (3 : Fin 4)).flush t = true ∧ (cfgA T).fresh (3 : Fin 4) t.val = true ∧ sfresh0_0 T (t.val + 1) = false ∧ sfresh0_1 T (t.val + 1) = false :=
  ⟨idle_3 T t, flush_3 T t, fresh_3 T t, decide_eq_false (Nat.succ_ne_zero _), decide_eq_false (Nat.succ_ne_zero _)⟩

/-- Path B: the schedule at such a point. -/
theorem sched0_B (t : Fin (cfgA T).N) (q0 : ¬P0_0 T t) (q1 : P0_1 T t) :
    (cfgA T).idle (3 : Fin 4) ((cfgA T).grid.coords t) = false ∧ ((cfgA T).win (3 : Fin 4)).flush t = true ∧ (cfgA T).fresh (3 : Fin 4) t.val = true ∧ sfresh0_0 T t.val = false ∧ sfresh0_0 T (t.val + 1) = false ∧ sfresh0_1 T t.val = false ∧ sfresh0_1 T (t.val + 1) = false :=
  ⟨idle_3 T t, flush_3 T t, fresh_3 T t, decide_eq_false fun h => q0 (changed_zero T t h), decide_eq_false (Nat.succ_ne_zero _), decide_eq_false fun h => q0 (changed_zero T t h), decide_eq_false (Nat.succ_ne_zero _)⟩

/-- Path C: the schedule at such a point. -/
theorem sched0_C (t : Fin (cfgA T).N) (q0 : ¬P0_0 T t) (q1 : ¬P0_1 T t) :
    (cfgA T).idle (3 : Fin 4) ((cfgA T).grid.coords t) = false ∧ ((cfgA T).win (3 : Fin 4)).flush t = true ∧ (cfgA T).fresh (3 : Fin 4) t.val = true ∧ sfresh0_0 T t.val = false ∧ sfresh0_0 T (t.val + 1) = false ∧ sfresh0_1 T t.val = false ∧ sfresh0_1 T (t.val + 1) = false :=
  ⟨idle_3 T t, flush_3 T t, fresh_3 T t, decide_eq_false fun h => q0 (changed_zero T t h), decide_eq_false (Nat.succ_ne_zero _), decide_eq_false fun h => q0 (changed_zero T t h), decide_eq_false (Nat.succ_ne_zero _)⟩

/-- Path D: the schedule at such a point is path A's. -/
theorem sched0_D (t : Fin (cfgA T).N) (q0 : P0_0 T t) (q1 : ¬P0_1 T t) :
    (cfgA T).idle (3 : Fin 4) ((cfgA T).grid.coords t) = false ∧ ((cfgA T).win (3 : Fin 4)).flush t = true ∧ (cfgA T).fresh (3 : Fin 4) t.val = true ∧ sfresh0_0 T (t.val + 1) = false ∧ sfresh0_1 T (t.val + 1) = false :=
  ⟨idle_3 T t, flush_3 T t, fresh_3 T t, decide_eq_false (Nat.succ_ne_zero _), decide_eq_false (Nat.succ_ne_zero _)⟩

end Cert.Kernel2.Up

end
-- ==== Proof.UpWordFrame.lean ====
/-
  The frame of the gated up-projection, on words, at arbitrary tables: every execution ends, nothing faults, the arguments are
  unchanged, and each array ends at contents named here.
-/
module

public import proofs.«01_k».proof.Proof.UpWordTables

@[expose] public section

set_option maxRecDepth 16384
set_option Elab.async false

noncomputable section

namespace Cert.Kernel2.Up

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra: the rounds library's, for the pipeline's staging cells, embedded whole. -/
abbrev EP : Emb (UR sig nD τ) 𝕄 := emb₁

variable (T : Tabs)
variable (m : (ℓ : Loc nD τ sig) → Buf (Elt Bits) ℓ) (ρ : Dev nD → PrngReg)

/-! ## What the outputs and scratches hold after each point -/

/-- ONE STEP of the trajectory: what the outputs' current buffers and the scratches hold after the body at point `t`
    (output 3, scratch 0, scratch 1), from what they held before (`prev`): the path the decisions select at `t`, its
    run's contents; an output the path leaves idle keeps what it held (junk — `default`, named by nothing — where fresh). -/
def step0 (c : Dev nD) (t : Fin (cfgA T).N) (prev : (S512x512.Idx → Elt Bits .bf16) × Buf (Elt Bits) ((c : Thread nD τ).loc cc0_scratch0) × Buf (Elt Bits) ((c : Thread nD τ).loc cc0_scratch1)) : (S512x512.Idx → Elt Bits .bf16) × Buf (Elt Bits) ((c : Thread nD τ).loc cc0_scratch0) × Buf (Elt Bits) ((c : Thread nD τ).loc cc0_scratch1) :=
  if q0 : P0_0 T t then
    if q1 : P0_1 T t then
      (out0_A_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.2.1)
    else
      (out0_D_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_D T t q0 q1).1 (hyps0_D T t q0 q1).2.1 (hyps0_D T t q0 q1).2.2.1, (kernelRun0_D c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_D T t q0 q1).1 (hyps0_D T t q0 q1).2.1 (hyps0_D T t q0 q1).2.2.1).2.1, (kernelRun0_D c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_D T t q0 q1).1 (hyps0_D T t q0 q1).2.1 (hyps0_D T t q0 q1).2.2.1).2.2.1)
  else
    if q1 : P0_1 T t then
      (out0_B_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.2.1)
    else
      (out0_C_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.2.1)

/-- THE TRAJECTORY: after position `n`. -/
def traj0 (c : Dev nD) : (n : ℕ) → n < (cfgA T).N → (S512x512.Idx → Elt Bits .bf16) × Buf (Elt Bits) ((c : Thread nD τ).loc cc0_scratch0) × Buf (Elt Bits) ((c : Thread nD τ).loc cc0_scratch1)
  | 0, h => step0 T m ρ c ⟨0, h⟩ (default, default, default)
  | n + 1, h => step0 T m ρ c ⟨n + 1, h⟩ (traj0 c n (Nat.lt_of_succ_lt h))

/-- What they held BEFORE point `t` (junk before the first). -/
def prev0 (c : Dev nD) (t : Fin (cfgA T).N) : (S512x512.Idx → Elt Bits .bf16) × Buf (Elt Bits) ((c : Thread nD τ).loc cc0_scratch0) × Buf (Elt Bits) ((c : Thread nD τ).loc cc0_scratch1) :=
  if h : t.val = 0 then (default, default, default) else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA T).N) (prev : (S512x512.Idx → Elt Bits .bf16) × Buf (Elt Bits) ((c : Thread nD τ).loc cc0_scratch0) × Buf (Elt Bits) ((c : Thread nD τ).loc cc0_scratch1)) (q0 : P0_0 T t) (q1 : P0_1 T t) :
    step0 T m ρ c t prev = (out0_A_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.2.1) := by
  unfold step0; simp only [dif_pos q0, dif_pos q1]

/-- `step0` at a point of path B. -/
theorem step0_B (c : Dev nD) (t : Fin (cfgA T).N) (prev : (S512x512.Idx → Elt Bits .bf16) × Buf (Elt Bits) ((c : Thread nD τ).loc cc0_scratch0) × Buf (Elt Bits) ((c : Thread nD τ).loc cc0_scratch1)) (q0 : ¬P0_0 T t) (q1 : P0_1 T t) :
    step0 T m ρ c t prev = (out0_B_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.2.1) := by
  unfold step0; simp only [dif_neg q0, dif_pos q1]

/-- `step0` at a point of path C. -/
theorem step0_C (c : Dev nD) (t : Fin (cfgA T).N) (prev : (S512x512.Idx → Elt Bits .bf16) × Buf (Elt Bits) ((c : Thread nD τ).loc cc0_scratch0) × Buf (Elt Bits) ((c : Thread nD τ).loc cc0_scratch1)) (q0 : ¬P0_0 T t) (q1 : ¬P0_1 T t) :
    step0 T m ρ c t prev = (out0_C_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.2.1) := by
  unfold step0; simp only [dif_neg q0, dif_neg q1]

/-- `step0` at a point of path D. -/
theorem step0_D (c : Dev nD) (t : Fin (cfgA T).N) (prev : (S512x512.Idx → Elt Bits .bf16) × Buf (Elt Bits) ((c : Thread nD τ).loc cc0_scratch0) × Buf (Elt Bits) ((c : Thread nD τ).loc cc0_scratch1)) (q0 : P0_0 T t) (q1 : ¬P0_1 T t) :
    step0 T m ρ c t prev = (out0_D_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_D T t q0 q1).1 (hyps0_D T t q0 q1).2.1 (hyps0_D T t q0 q1).2.2.1, (kernelRun0_D c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_D T t q0 q1).1 (hyps0_D T t q0 q1).2.1 (hyps0_D T t q0 q1).2.2.1).2.1, (kernelRun0_D c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_D T t q0 q1).1 (hyps0_D T t q0 q1).2.1 (hyps0_D T t q0 q1).2.2.1).2.2.1) := by
  unfold step0; simp only [dif_pos q0, dif_neg q1]

/-! ## The pipeline's proof data -/

/-- What the tracked buffers held before position `t` of `Fin (N+1)` (the invariant's index). -/
def prev0T (c : Dev nD) (t : Fin ((cfgA T).N + 1)) : (S512x512.Idx → Elt Bits .bf16) × Buf (Elt Bits) ((c : Thread nD τ).loc cc0_scratch0) × Buf (Elt Bits) ((c : Thread nD τ).loc cc0_scratch1) :=
  if h : t.val = 0 then (default, default, default) else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA T).N + 1)) : sProp 𝕄 :=
  iprop((∃ a, ⌜sfresh0_0 T t.val = false → a = (prev0T T m ρ c t).2.1⌝ ∗ (scM0_0.view.loc (c : Thread nD τ) ↦{fullShare} a)) ∗ (∃ a, ⌜sfresh0_1 T t.val = false → a = (prev0T T m ρ c t).2.2⌝ ∗ (scM0_1.view.loc (c : Thread nD τ) ↦{fullShare} a)) ∗ (tbM0_0.view.loc (c : Thread nD τ) ↦{fullShare.right} T.te) ∗ (tbM0_1.view.loc (c : Thread nD τ) ↦{fullShare.right} T.nu))

/-- The proof data of the one pipeline on core `c`. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 4) t
    | ⟨1, _⟩ => iblk T m ρ c (1 : Fin 4) t
    | ⟨2, _⟩ => iblk T m ρ c (2 : Fin 4) t
    | ⟨3, _⟩ => (traj0 T m ρ c t.val t.isLt).1
  Φ t := Phi T m ρ c t
  q _ := fullShare
  owed _ := 0

theorem after0_0 (c : Dev nD) (t : Fin (cfgA T).N) : (dats T m ρ 0 c).after (0 : Fin 4) t = iblk T m ρ c (0 : Fin 4) t := rfl
theorem after0_1 (c : Dev nD) (t : Fin (cfgA T).N) : (dats T m ρ 0 c).after (1 : Fin 4) t = iblk T m ρ c (1 : Fin 4) t := rfl
theorem after0_2 (c : Dev nD) (t : Fin (cfgA T).N) : (dats T m ρ 0 c).after (2 : Fin 4) t = iblk T m ρ c (2 : Fin 4) t := rfl
theorem after0_3 (c : Dev nD) (t : Fin (cfgA T).N) : (dats T m ρ 0 c).after (3 : Fin 4) t = (traj0 T m ρ c t.val t.isLt).1 := rfl

/-! ## What each window's staging buffer holds when the body runs -/

/-- Input window 0 holds its block, fetched there or not. -/
theorem before0_0 (c : Dev nD) (t : Fin (cfgA T).N) (d) : (dats T m ρ 0 c).before (0 : Fin 4) t d = iblk T m ρ c (0 : Fin 4) t :=
  ((dats T m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA T).N) (d) : (dats T m ρ 0 c).before (1 : Fin 4) t d = iblk T m ρ c (1 : Fin 4) t :=
  ((dats T m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA T).N) (d) : (dats T m ρ 0 c).before (2 : Fin 4) t d = iblk T m ρ c (2 : Fin 4) t :=
  ((dats T m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin (cfgA T).N) (ht : t.val ≠ 0), (cfgA T).idle (3 : Fin 4) ((cfgA T).grid.coords t) = true → (cfgA T).fresh (3 : Fin 4) t.val = false →
    (dats T m ρ 0 c).after (3 : Fin 4) t = (dats T m ρ 0 c).after (3 : Fin 4) ⟨t.val - 1, by omega⟩ := by
  intro t ht hi hf
  rw [after0_3, after0_3, traj0_eq]
  by_cases q0 : P0_0 T t
  · by_cases q1 : P0_1 T t
    · obtain ⟨i3, -, -, -, -⟩ := sched0_A T t q0 q1
      rw [i3] at hi; exact absurd hi (by decide)
    · obtain ⟨i3, -, -, -, -⟩ := sched0_D T t q0 q1
      rw [i3] at hi; exact absurd hi (by decide)
  · by_cases q1 : P0_1 T t
    · obtain ⟨i3, -, -, -, -, -, -⟩ := sched0_B T t q0 q1
      rw [i3] at hi; exact absurd hi (by decide)
    · obtain ⟨i3, -, -, -, -, -, -⟩ := sched0_C T t q0 q1
      rw [i3] at hi; exact absurd hi (by decide)

/-- Output window 3 holds, when the body runs at `t`: junk if nothing was stored since its last write-back (`Cfg.fresh`),
    else what the point before left (TableIdle.lean `Dat.before_out_traj`). -/
theorem before0_3 (c : Dev nD) (t : Fin (cfgA T).N) (d) :
    (dats T m ρ 0 c).before (3 : Fin 4) t d = if (cfgA T).fresh (3 : Fin 4) t.val then d else (prev0 T m ρ c t).1 := by
  rw [(dats T m ρ 0 c).before_out_traj (3 : Fin 4) rfl (fun _ _ => rfl) (hcarry0_3 T m ρ c) t.val t rfl d]
  by_cases hf : (cfgA T).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by path -/

/-- The body at point `t` on its staging memrefs, as the pipeline calls it. -/
abbrev bodyAt0 (t : Fin (cfgA T).N) : Prog (TpuEff nD τ sig (Elt Bits) Λ₀ .tc) PUnit :=
  cc0_swiglu_up (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (Memref.whole cc0_scratch0) (Memref.isWhole_whole _) (Memref.whole cc0_scratch1) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Holds T m) (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 4) t d))
        ∗ (∃ d, owns (c : Thread nD τ) (ms0_1 T t) fullShare ((dats T m ρ 0 c).before (1 : Fin 4) t d))
        ∗ (∃ d, owns (c : Thread nD τ) (ms0_2 T t) fullShare ((dats T m ρ 0 c).before (2 : Fin 4) t d))
        ∗ (∃ d, owns (c : Thread nD τ) (ms0_3 T t) fullShare ((dats T m ρ 0 c).before (3 : Fin 4) t d)))
      ⊢ wp frame (wpE (defs₀ (F := Bits)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : P0_0 T t
  · by_cases q1 : P0_1 T t
    · obtain ⟨i3, f3, fr3, sfn0, sfn1⟩ := sched0_A T t q0 q1
      have F0 := hyps0_A T t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_A T m ρ c t _ q0 q1]
      unfold Phi; simp only [prev0T_castSucc, prev0T_succ, traj0_eq, step0_A T m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _)
    · obtain ⟨i3, f3, fr3, sfn0, sfn1⟩ := sched0_D T t q0 q1
      have F0 := hyps0_D T t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_D T m ρ c t _ q0 q1]
      unfold Phi; simp only [prev0T_castSucc, prev0T_succ, traj0_eq, step0_D T m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_D c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_D_3 c _ _ _ _ _ _ _ _ _ _ _ _ _ _ _ _ _)
  · by_cases q1 : P0_1 T t
    · obtain ⟨i3, f3, fr3, sf0, sfn0, sf1, sfn1⟩ := sched0_B T t q0 q1
      have F0 := hyps0_B T t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_B T m ρ c t _ q0 q1]
      unfold Phi; simp only [prev0T_castSucc, prev0T_succ, traj0_eq, step0_B T m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) _ _ hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_B_3 c _ _ _ _ _ _ _ _ _ _ _ _ _ _ _ _ _ _ _)
    · obtain ⟨i3, f3, fr3, sf0, sfn0, sf1, sfn1⟩ := sched0_C T t q0 q1
      have F0 := hyps0_C T t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_C T m ρ c t _ q0 q1]
      unfold Phi; simp only [prev0T_castSucc, prev0T_succ, traj0_eq, step0_C T m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) _ _ hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _)

/-- The library's body obligation, at every point. -/
theorem body_obligation (hp : Holds T m) (c : Dev nD) : BodyObligation (dats T m ρ 0 c) (defs₀ (F := Bits)) Variants.none () Set.univ := fun t => by
  rw [bigSep_W0]
  exact sound_body T m ρ hp c t

/-! ## The launch -/

/-- The rounds library's launch element. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 T 0 = true from rfl)) Bool.false_ne_true
  isplitl [HS1]
  · iexists a1; isplitr; swap
    · iexact HS1
    · ipureintro; intro h; exact absurd (h.symm.trans (show sfresh0_1 T 0 = true from rfl)) Bool.false_ne_true
  isplitl [HT0]
  · iexact HT0
  iexact HT1

/-- at the last point it gives the scratch buffers back (`hout`), the tables let go. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- At the compiled mesh, from any memory with zero counters whose tables and steering words are the given: every weakly
    fair execution of @main on the TensorCores terminates, and every final state has each array at the computed contents,
    and every semaphore counter of the machine at zero. -/
theorem run_main_quiescent (hp : Holds T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ hp c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Holds T m) : θ_run (defs (F := Bits)) (onTc (τ := τ) (main (F := Bits))) (s₀ m ρ) (QC T m ρ) :=
  (θ_run defs _ _).mono (fun _ h => h.1) (run_main_quiescent T m ρ hp)

/-- `frame` without the counters: the argument arrays end unchanged. -/
theorem unchanged (hp : Holds T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 0).trans (hp.1 c).symm, ((h c).2 1).trans (hp.2 c).symm, ((h c).1 (0 : Fin 4)).trans ((dats T m ρ 0 c).arrAt_in (0 : Fin 4) rfl _), ((h c).1 (1 : Fin 4)).trans ((dats T m ρ 0 c).arrAt_in (1 : Fin 4) rfl _), ((h c).1 (2 : Fin 4)).trans ((dats T m ρ 0 c).arrAt_in (2 : Fin 4) rfl _)⟩) (run_main T m ρ hp)

/-- From a launch memory that holds the tables, every execution ends, nothing faults, every argument array is unchanged,
    and every semaphore counter reads zero. -/
theorem frame (hp : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged T m ρ hp) ((θ_run defs _ _).mono (fun _ h => h.2) (run_main_quiescent T m ρ hp))

end Cert.Kernel2.Up

end
-- ==== Proof.UpClaim.lean ====
/-
  The gated up-projection call: from the same arguments, the tables in range, the kernel and the reference end with the
  same result; and the frames of the kernel, of its idealization and of the reference.
-/
module

public import proofs.«01_k».proof.Defs
public import proofs.«01_k».proof.Proof.UpValue
public import proofs.«01_k».proof.Proof.UpRef
public import proofs.«01_k».proof.Proof.UpPre
public import proofs.«01_k».proof.Proof.UpWordFrame
public import Idealize.ShloMosaic.Lib.Quiescent

@[expose] public section

set_option maxRecDepth 16384

noncomputable section

open Idealize.ShloMosaic Idealize.ShloMosaic.TcCoe Idealize.SL.Sem

namespace Cert.UpClaim

/-- The precondition gives tables in range that the memory holds. -/
theorem tables_ideal (m : (ℓ : Loc Cert.Kernel2Ideal.nD Cert.Kernel2Ideal.τ Cert.Kernel2Ideal.sig) → Buf (Elt Ideal) ℓ)
    (h : Cert.Pre_Kernel2Ideal (hPre_tables := Cert.Pre_tables.Gen.facts) m) :
    ∃ T : Cert.Kernel2Ideal.Up.Tabs, Cert.Kernel2Ideal.Up.Holds T m := by
  obtain ⟨h1, h2, h3⟩ := Cert.Pre_tables.range_of_fn _ _ _ _ _ ix0 (congrFun (h 0) _)
  exact ⟨⟨_, _, h1, h2, h3⟩, fun c => by rw [Subsingleton.elim c 0], fun c => by rw [Subsingleton.elim c 0]⟩

/-- The same of the kernel over bits. -/
theorem tables_bits (m : (ℓ : Loc Cert.Kernel2.nD Cert.Kernel2.τ Cert.Kernel2.sig) → Buf (Elt Bits) ℓ)
    (h : Cert.Pre_Kernel2 (hPre_tables := Cert.Pre_tables.Gen.facts) m) :
    ∃ T : Cert.Kernel2.Up.Tabs, Cert.Kernel2.Up.Holds T m := by
  obtain ⟨h1, h2, h3⟩ := Cert.Pre_tables.range_of_fn _ _ _ _ _ ix0 (congrFun (h 0) _)
  exact ⟨⟨_, _, h1, h2, h3⟩, fun c => by rw [Subsingleton.elim c 0], fun c => by rw [Subsingleton.elim c 0]⟩

/-- The kernel over bits runs, leaves its arguments and its semaphores as they were. -/
theorem frame_bits : Cert.quiescent_Kernel2 (hKernel2 := Cert.Kernel2.Gen.facts) (hPre_tables := Cert.Pre_tables.Gen.facts) :=
  fun m g h => (tables_bits m h).elim fun T hT => Cert.Kernel2.Up.frame T m g hT

/-- So does its idealization. -/
theorem frame_ideal : Cert.quiescent_Kernel2Ideal (hKernel2Ideal := Cert.Kernel2Ideal.Gen.facts) (hPre_tables := Cert.Pre_tables.Gen.facts) :=
  fun m g h => (tables_ideal m h).elim fun T hT => Cert.Kernel2Ideal.Up.frame T m g hT

/-- So does the reference, which declares no semaphore. -/
theorem frame_ref : Cert.quiescent_Reference2Ideal (hReference2Ideal := Cert.Reference2Ideal.Gen.facts) :=
  fun m g _ => (θ_run _ _ _).mono (fun r h => ⟨fun c => (h c).2, sem_eq_zero_of_no_sems (by decide) r.2⟩)
    (Cert.Reference2Ideal.Value.run m g)

/-- The reference's result is the gated products of the arguments. -/
theorem ref_eq (T : Cert.Kernel2Ideal.Up.Tabs) (x : FVec Ideal Cert.Kernel2Ideal.S36864x2048 .bf16)
    (wg wu : FVec Ideal Cert.Kernel2Ideal.S2x8x2048x5632 .f32) :
    Cert.Reference2Ideal.UpRef.gatedSum (Cert.Reference2Ideal.UpRef.mine T.te T.nu) (Cert.Reference2Ideal.UpRef.products x wg)
      (Cert.Reference2Ideal.UpRef.products x wu) = Cert.Kernel2Ideal.Up.upOut T x wg wu := by
  funext j
  obtain ⟨r, f, rfl⟩ : ∃ (r : Fin 36864) (f : Fin 5632), j = ix2 r f := ⟨j 0, j 1, eq_ix2 (n0 := 36864) (n1 := 5632) j⟩
  exact Cert.Reference2Ideal.UpRef.res_apply T.te T.nu x wg wu T.te_lt (T.nu_le _) r f

/-- Kernel and reference agree on the gated up-projection. -/
theorem algebraic : Cert.algebraic_Kernel2Ideal_Reference2Ideal (hKernel2Ideal := Cert.Kernel2Ideal.Gen.facts)
    (hReference2Ideal := Cert.Reference2Ideal.Gen.facts) (hPre_tables := Cert.Pre_tables.Gen.facts) := by
  intro m g m' g' hpre hargs
  obtain ⟨T, hT⟩ := tables_ideal m hpre
  refine ⟨fun c => (Cert.Kernel2Ideal.Up.dats T m g 0 c).arrAt (3 : Fin 4) (Cert.Kernel2Ideal.Up.cfgA T).N,
    (θ_run _ _ _).mono (fun r h c => ⟨(h.1 c).1 (3 : Fin 4), h.2 c⟩)
      (θ_run_and (Cert.Kernel2Ideal.Up.run_main T m g hT) (Cert.Kernel2Ideal.Up.unchanged T m g hT)),
    (θ_run _ _ _).mono (fun r h c => ?_) (Cert.Reference2Ideal.Value.run m' g')⟩
  obtain ⟨h0, h1, h2, h3, h4⟩ := hargs c
  have e : Cert.Reference2Ideal.UpRef.gatedSum
      (Cert.Reference2Ideal.UpRef.mine (m' ((c.tc : Thread _ _).loc Cert.Reference2Ideal.main_arg0)) (m' ((c.tc : Thread _ _).loc Cert.Reference2Ideal.main_arg1)))
      (Cert.Reference2Ideal.UpRef.products (m' ((c.tc : Thread _ _).loc Cert.Reference2Ideal.main_arg2)) (m' ((c.tc : Thread _ _).loc Cert.Reference2Ideal.main_arg3)))
      (Cert.Reference2Ideal.UpRef.products (m' ((c.tc : Thread _ _).loc Cert.Reference2Ideal.main_arg2)) (m' ((c.tc : Thread _ _).loc Cert.Reference2Ideal.main_arg4)))
      = (Cert.Kernel2Ideal.Up.dats T m g 0 c).arrAt (3 : Fin 4) (Cert.Kernel2Ideal.Up.cfgA T).N := by
    rw [h0, h1, h2, h3, h4, hT.1 c, hT.2 c]
    exact (ref_eq T _ _ _).trans (Cert.Kernel2Ideal.Up.final T m g c).symm
  exact ⟨(h c).1.trans e, (h c).2⟩

end Cert.UpClaim

end
-- ==== Proof.DownRun.lean ====
/-
  One run of the down product's body along each of its paths: what it stores in the output's staging buffer.
-/
module

public import proofs.«01_k».proof.Defs
public import proofs.«01_k».proof.Proof.Gen.Kernel3Ideal.Skeleton
public import proofs.«01_k».proof.Proof.Gen.Kernel3Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel3Ideal.Down

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The two tables, whole. -/
abbrev tbM0_0 : Memref sig .tc .smem S72 .i32 := Memref.whole main_arg0
abbrev tbM0_1 : Memref sig .tc .smem S1 .i32 := Memref.whole main_arg1

/-- The number of used tiles, as the body reads it off its table. -/
abbrev used (T1 : S1.Idx → Elt Ideal .i32) : BitVec 32 :=
  View.readAt (Elt Ideal) (tbM0_1).view (Rect.unit (s := S1) ![0] S1.size inb_S1_S1_0).toLoadRect T1 (Shape.Idx.first (numel1_S1.symm ▸ Nat.one_pos))

set_option backward.proofsInPublic true in
set_option maxHeartbeats 8000000 in
/-- At the first half of a used tile: the pieces the body stores, with the proof that it stores them. -/
def run_A (c : Dev nD) (i : grid0.Coords) (arg4 : Memref sig .tc .vmem S512x5632 .bf16) (harg4 : arg4.IsWhole)
    (arg5 : Memref sig .tc .vmem S1x1x5632x1024 .bf16) (harg5 : arg5.IsWhole) (arg6 : Memref sig .tc .vmem S8192x128 .f32) (harg6 : arg6.IsWhole)
    (T0 : S72.Idx → Elt Ideal .i32) (T1 : S1.Idx → Elt Ideal .i32) (x0 : S512x5632.Idx → Elt Ideal .bf16) (x1 : S1x1x5632x1024.Idx → Elt Ideal .bf16)
    (k0_h1 : k0_cond1 i (used T1) = 1#1) (k0_h2 : k0_cond2 i = 1#1) (k0_h3 : ¬ k0_cond3 i = 1#1) (k0_h4 : ¬ k0_cond4 i (used T1) = 1#1) :
    { out : List (View.Piece (Elt Ideal) S8192x128 .f32) //
      ∀ (f : Buf (Elt Ideal) (arg6.view.loc (c : Thread nD τ))) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM0_0.view.loc (c : Thread nD τ) ↦{fullShare.right} T0)
          ∗ (tbM0_1.view.loc (c : Thread nD τ) ↦{fullShare.right} T1)
          ∗ (arg6.view.loc (c : Thread nD τ) ↦[arg6.view.set]{fullShare} f)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM0_0.view.loc (c : Thread nD τ) ↦{fullShare.right} T0)
              ∗ (tbM0_1.view.loc (c : Thread nD τ) ↦{fullShare.right} T1)
              ∗ (arg6.view.loc (c : Thread nD τ) ↦[arg6.view.set]{fullShare} arg6.view.writes (Elt Ideal) f out)) -∗ K ⟨⟩))
          ⊢ wp frame (wpE (defs₀ (F := Ideal)) Variants.none c none) Set.univ (cc0_swiglu_down_tok i tbM0_0 (Memref.isWhole_whole _) tbM0_1 (Memref.isWhole_whole _) arg4 harg4 arg5 harg5 arg6 harg6) K } :=
  ⟨_, fun f K => by
    rw [cc0_swiglu_down_tok_eq_skeleton]; unfold cc0_swiglu_down_tok_skel
    iintro ⟨H0, H1, HT0, HT1, HO, Hk⟩
    have hT0 : tbM0_0.IsWhole := Memref.isWhole_whole _
    have hT1 : tbM0_1.IsWhole := Memref.isWhole_whole _
    sl_exec! (disch := first | (guard_target = k0_cond1 _ _ = _; exact k0_h1) | (guard_target = k0_cond2 _ = _; exact k0_h2) | (guard_target = ¬(k0_cond3 _ = _); exact k0_h3) | (guard_target = ¬(k0_cond4 _ _ = _); exact k0_h4))
    sl_step
    iapply Hk
    isplitl [H0]; · iexact H0
    isplitl [H1]; · iexact H1
    isplitl [HT0]; · iexact HT0
    isplitl [HT1]; · iexact HT1
    iexact HO⟩

set_option backward.proofsInPublic true in
set_option maxHeartbeats 8000000 in
/-- At the second half of a used tile: the pieces the body stores, with the proof that it stores them. -/
def run_B (c : Dev nD) (i : grid0.Coords) (arg4 : Memref sig .tc .vmem S512x5632 .bf16) (harg4 : arg4.IsWhole)
    (arg5 : Memref sig .tc .vmem S1x1x5632x1024 .bf16) (harg5 : arg5.IsWhole) (arg6 : Memref sig .tc .vmem S8192x128 .f32) (harg6 : arg6.IsWhole)
    (T0 : S72.Idx → Elt Ideal .i32) (T1 : S1.Idx → Elt Ideal .i32) (x0 : S512x5632.Idx → Elt Ideal .bf16) (x1 : S1x1x5632x1024.Idx → Elt Ideal .bf16)
    (k0_h1 : k0_cond1 i (used T1) = 1#1) (k0_h2 : ¬ k0_cond2 i = 1#1) (k0_h3 : k0_cond3 i = 1#1) (k0_h4 : ¬ k0_cond4 i (used T1) = 1#1) :
    { out : List (View.Piece (Elt Ideal) S8192x128 .f32) //
      ∀ (f : Buf (Elt Ideal) (arg6.view.loc (c : Thread nD τ))) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM0_0.view.loc (c : Thread nD τ) ↦{fullShare.right} T0)
          ∗ (tbM0_1.view.loc (c : Thread nD τ) ↦{fullShare.right} T1)
          ∗ (arg6.view.loc (c : Thread nD τ) ↦[arg6.view.set]{fullShare} f)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM0_0.view.loc (c : Thread nD τ) ↦{fullShare.right} T0)
              ∗ (tbM0_1.view.loc (c : Thread nD τ) ↦{fullShare.right} T1)
              ∗ (arg6.view.loc (c : Thread nD τ) ↦[arg6.view.set]{fullShare} arg6.view.writes (Elt Ideal) f out)) -∗ K ⟨⟩))
          ⊢ wp frame (wpE (defs₀ (F := Ideal)) Variants.none c none) Set.univ (cc0_swiglu_down_tok i tbM0_0 (Memref.isWhole_whole _) tbM0_1 (Memref.isWhole_whole _) arg4 harg4 arg5 harg5 arg6 harg6) K } :=
  ⟨_, fun f K => by
    rw [cc0_swiglu_down_tok_eq_skeleton]; unfold cc0_swiglu_down_tok_skel
    iintro ⟨H0, H1, HT0, HT1, HO, Hk⟩
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ = _); exact k0_h2) | (guard_target = k0_cond3 _ = _; exact k0_h3) | (guard_target = ¬(k0_cond4 _ _ = _); exact k0_h4))
    sl_step
    iapply Hk
    isplitl [H0]; · iexact H0
    isplitl [H1]; · iexact H1
    isplitl [HT0]; · iexact HT0
    isplitl [HT1]; · iexact HT1
    iexact HO⟩

set_option maxHeartbeats 8000000 in
/-- At the first half of an unused tile: the body stores zeros over the whole block. -/
theorem run_C (c : Dev nD) (i : grid0.Coords) (arg4 : Memref sig .tc .vmem S512x5632 .bf16) (harg4 : arg4.IsWhole)
    (arg5 : Memref sig .tc .vmem S1x1x5632x1024 .bf16) (harg5 : arg5.IsWhole) (arg6 : Memref sig .tc .vmem S8192x128 .f32) (harg6 : arg6.IsWhole)
    (T0 : S72.Idx → Elt Ideal .i32) (T1 : S1.Idx → Elt Ideal .i32) (x0 : S512x5632.Idx → Elt Ideal .bf16) (x1 : S1x1x5632x1024.Idx → Elt Ideal .bf16)
    (k0_h1 : ¬ k0_cond1 i (used T1) = 1#1) (k0_h2 : k0_cond2 i = 1#1) (k0_h3 : ¬ k0_cond3 i = 1#1) (k0_h4 : k0_cond4 i (used T1) = 1#1) :
      ∀ (f : Buf (Elt Ideal) (arg6.view.loc (c : Thread nD τ))) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM0_0.view.loc (c : Thread nD τ) ↦{fullShare.right} T0)
          ∗ (tbM0_1.view.loc (c : Thread nD τ) ↦{fullShare.right} T1)
          ∗ (arg6.view.loc (c : Thread nD τ) ↦[arg6.view.set]{fullShare} f)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM0_0.view.loc (c : Thread nD τ) ↦{fullShare.right} T0)
              ∗ (tbM0_1.view.loc (c : Thread nD τ) ↦{fullShare.right} T1)
              ∗ (∃ g, ⌜∀ y, arg6.view.read (Elt Ideal) g y = k0_pay18 (F := Ideal) y⌝ ∗ arg6.view.loc (c : Thread nD τ) ↦[arg6.view.set]{fullShare} g)) -∗ K ⟨⟩))
          ⊢ wp frame (wpE (defs₀ (F := Ideal)) Variants.none c none) Set.univ (cc0_swiglu_down_tok i tbM0_0 (Memref.isWhole_whole _) tbM0_1 (Memref.isWhole_whole _) arg4 harg4 arg5 harg5 arg6 harg6) K := by
    intro f K
    rw [cc0_swiglu_down_tok_eq_skeleton]; unfold cc0_swiglu_down_tok_skel
    iintro ⟨H0, H1, HT0, HT1, HO, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond2 _ = _; exact k0_h2) | (guard_target = ¬(k0_cond3 _ = _); exact k0_h3) | (guard_target = k0_cond4 _ _ = _; exact k0_h4))
    sl_step
    iapply Hk
    isplitl [H0]; · iexact H0
    isplitl [H1]; · iexact H1
    isplitl [HT0]; · iexact HT0
    isplitl [HT1]; · iexact HT1
    iexists _; isplitr; swap; · iexact HO
    ipureintro; intro y
    unfold run_C.sl.HO_1
    rw [View.read_writes_full]

set_option maxHeartbeats 8000000 in
/-- At the second half of an unused tile the body stores nothing. -/
theorem run_D (c : Dev nD) (i : grid0.Coords) (arg4 : Memref sig .tc .vmem S512x5632 .bf16) (harg4 : arg4.IsWhole)
    (arg5 : Memref sig .tc .vmem S1x1x5632x1024 .bf16) (harg5 : arg5.IsWhole) (arg6 : Memref sig .tc .vmem S8192x128 .f32) (harg6 : arg6.IsWhole)
    (T0 : S72.Idx → Elt Ideal .i32) (T1 : S1.Idx → Elt Ideal .i32) (x0 : S512x5632.Idx → Elt Ideal .bf16) (x1 : S1x1x5632x1024.Idx → Elt Ideal .bf16)
    (k0_h1 : ¬ k0_cond1 i (used T1) = 1#1) (k0_h2 : ¬ k0_cond2 i = 1#1) (k0_h3 : k0_cond3 i = 1#1) (k0_h4 : ¬ k0_cond4 i (used T1) = 1#1) :
      ∀ (f : Buf (Elt Ideal) (arg6.view.loc (c : Thread nD τ))) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM0_0.view.loc (c : Thread nD τ) ↦{fullShare.right} T0)
          ∗ (tbM0_1.view.loc (c : Thread nD τ) ↦{fullShare.right} T1)
          ∗ (arg6.view.loc (c : Thread nD τ) ↦[arg6.view.set]{fullShare} f)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM0_0.view.loc (c : Thread nD τ) ↦{fullShare.right} T0)
              ∗ (tbM0_1.view.loc (c : Thread nD τ) ↦{fullShare.right} T1)
              ∗ (arg6.view.loc (c : Thread nD τ) ↦[arg6.view.set]{fullShare} f)) -∗ K ⟨⟩))
          ⊢ wp frame (wpE (defs₀ (F := Ideal)) Variants.none c none) Set.univ (cc0_swiglu_down_tok i tbM0_0 (Memref.isWhole_whole _) tbM0_1 (Memref.isWhole_whole _) arg4 harg4 arg5 harg5 arg6 harg6) K := fun f K => by
    rw [cc0_swiglu_down_tok_eq_skeleton]; unfold cc0_swiglu_down_tok_skel
    iintro ⟨H0, H1, HT0, HT1, HO, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = ¬(k0_cond2 _ = _); exact k0_h2) | (guard_target = k0_cond3 _ = _; exact k0_h3) | (guard_target = ¬(k0_cond4 _ _ = _); exact k0_h4))
    sl_step
    iapply Hk
    isplitl [H0]; · iexact H0
    isplitl [H1]; · iexact H1
    isplitl [HT0]; · iexact HT0
    isplitl [HT1]; · iexact HT1
    iexact HO

end Cert.Kernel3Ideal.Down

end
-- ==== Proof.DownTables.lean ====
/-
  The pipeline of the down product at arbitrary tables: which expert each tile of rows belongs to, and how many tiles are
  in use. The tables are those with every expert below 8 and between 1 and 72 tiles in use.
-/
module

public import proofs.«01_k».proof.Proof.DownRun
public import Idealize.ShloMosaic.Lib.Pipeline.DatRel
public import Idealize.ShloMosaic.Lib.Pipeline.Quiescent
public import Idealize.ShloMosaic.Lib.Claim
public import Idealize.ShloMosaic.Lib.Pointwise.Index

@[expose] public section

set_option maxRecDepth 16384
set_option Elab.async false

noncomputable section

namespace Cert.Kernel3Ideal.Down

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- Tables the launch may hold: every tile's expert is one of the eight, at least one and at most 72 tiles are in use. -/
structure Tabs where
  te : S72.Idx → BitVec 32
  nu : S1.Idx → BitVec 32
  te_lt : ∀ x, (te x).toNat < 8
  nu_pos : ∀ x, 1 ≤ (nu x).toNat
  nu_le : ∀ x, (nu x).toNat ≤ 72

variable (T : Tabs)

set_option backward.proofsInPublic true in
/-- The two tables as the launch's contents. -/
def tabs : pre0.Contents (Elt Ideal) := fun | ⟨0, _⟩ => T.te | ⟨1, _⟩ => T.nu | ⟨_ + 2, h⟩ => absurd h (by simp)

/-- The launch memory holds these tables. -/
def Holds (m : (ℓ : Loc nD τ sig) → Buf (Elt Ideal) ℓ) : Prop :=
  (∀ c : Dev nD, m ((c : Thread nD τ).loc main_arg0) = T.te)
  ∧ (∀ c : Dev nD, m ((c : Thread nD τ).loc main_arg1) = T.nu)

/-! ## Words -/

/-- A word is the word of its number. -/
theorem word_eq (w : BitVec 32) : w = BitVec.ofNat 32 w.toNat := by simp

/-- Clamping a tile's number to the used ones keeps it below 72. -/
theorem clamp_lt : ∀ (i : Fin 72) (n : Fin 73), 1 ≤ n.val →
    (Scalar.minsi (BitVec.ofNat 32 i.val) (Scalar.subi (BitVec.ofNat 32 n.val) 1#32)).toNat < 72 := by decide +kernel

/-- A used tile's number is not clamped. -/
theorem clamp_used : ∀ (i : Fin 72) (n : Fin 73), i.val < n.val →
    (Scalar.minsi (BitVec.ofNat 32 i.val) (Scalar.subi (BitVec.ofNat 32 n.val) 1#32)).toNat = i.val := by decide +kernel

/-- The half of the columns fetched is one of the two. -/
theorem half_le : ∀ (b : BitVec 1) (j : Fin 2), (Scalar.select b (BitVec.ofNat 32 j.val) 1#32 : BitVec 32).toNat < 2 := by decide +kernel

/-- At a used tile it is the point's own half. -/
theorem half_used : ∀ (i : Fin 72) (n : Fin 73) (j : Fin 2), i.val < n.val →
    (Scalar.select (Scalar.cmpi .slt (BitVec.ofNat 32 i.val) (BitVec.ofNat 32 n.val)) (BitVec.ofNat 32 j.val) 1#32 : BitVec 32).toNat = j.val := by
  decide +kernel

/-- The comparison with the number of used tiles. -/
theorem used_word : ∀ (i : Fin 72) (n : Fin 73),
    ((Scalar.cmpi .ne (Scalar.extui (Scalar.cmpi .slt (BitVec.ofNat 32 i.val) (BitVec.ofNat 32 n.val))) 0#32 : BitVec 1) = 1#1
      ↔ i.val < n.val) := by
  decide +kernel

/-- The condition on the first half. -/
theorem first_word : ∀ j : Fin 2, ((Scalar.cmpi .ne (Scalar.extui (Scalar.cmpi .eq (BitVec.ofNat 32 j.val) 0#32)) 0#32 : BitVec 1) = 1#1
      ↔ j.val = 0) := by
  decide +kernel

/-- The condition on the second half. -/
theorem second_word : ∀ j : Fin 2, ((Scalar.cmpi .ne (Scalar.extui (Scalar.cmpi .eq (BitVec.ofNat 32 j.val) 1#32)) 0#32 : BitVec 1) = 1#1
      ↔ j.val = 1) := by
  decide +kernel

/-- The condition of storing zeros. -/
theorem zeros_word : ∀ (i : Fin 72) (n : Fin 73) (j : Fin 2),
    ((Scalar.cmpi .ne (Scalar.extui (Scalar.andi (Scalar.cmpi .sge (BitVec.ofNat 32 i.val) (BitVec.ofNat 32 n.val))
        (Scalar.cmpi .eq (BitVec.ofNat 32 j.val) 0#32))) 0#32 : BitVec 1) = 1#1 ↔ ¬ i.val < n.val ∧ j.val = 0) := by
  decide +kernel

theorem off1_val : ∀ i : Fin 72, (Scalar.indexCast (BitVec.ofNat 32 i.val) : BitVec 32).toNat = i.val := by decide +kernel

/-- The only position of a one-entry table. -/
theorem idx1_eq (x : S1.Idx) : x = ix1 0 := funext fun a => by fin_cases a; exact Subsingleton.elim (α := Fin 1) (x 0) 0

/-! ## The blocks are inside their arrays -/

/-- The number of used tiles. -/
def nUsed : ℕ := (T.nu (ix1 0)).toNat

theorem nUsed_lt : nUsed T < 73 := Nat.lt_succ_of_le (T.nu_le _)

/-- A tile's expert. -/
def expert (i : Fin 72) : Fin 8 := ⟨(T.te (ix1 i)).toNat, T.te_lt _⟩

theorem nu_word : T.nu (ix1 0) = BitVec.ofNat 32 (nUsed T) := word_eq _

theorem word_nu : (tabs T).at 1 (Rect.unit (s := S1) ![0] S1.size inb_S1_S1_0) numel1_S1 = BitVec.ofNat 32 (nUsed T) :=
  (congrArg T.nu (idx1_eq _)).trans (nu_word T)

theorem used_nu : used T.nu = BitVec.ofNat 32 (nUsed T) := (congrArg T.nu (idx1_eq _)).trans (nu_word T)

/-- The word a point reads of its tile. -/
theorem word_te (i : grid0.Coords) : (tabs T).at 0 (Rect.unit (s := S72) (k0_off1 i) S1.size (k0_off1_inb i)) numel1_S1
    = T.te (ix1 (i 0)) :=
  congrArg T.te (funext fun a => Fin.ext (by
    fin_cases a
    show (Scalar.indexCast (BitVec.ofNat 32 (i 0).val) : BitVec 32).toNat + 1 * 0 = (i 0).val
    exact off1_val (i 0)))

/-- The rows' block. -/
theorem map_0 (i : grid0.Coords) : cc0_transform_0 inb_S1_S1_0 numel1_S1 (tabs T) i
    = ![(Scalar.minsi (BitVec.ofNat 32 (i 0).val) (Scalar.subi (BitVec.ofNat 32 (nUsed T)) 1#32)).toNat, 0] := by
  unfold cc0_transform_0
  rw [word_nu]
  rfl

/-- The weights' block. -/
theorem map_1 (i : grid0.Coords) : cc0_transform_1 k0_off1_inb numel1_S1 inb_S1_S1_0 (tabs T) i
    = ![0, (expert T (i 0)).val, 0,
        (Scalar.select (Scalar.cmpi .slt (BitVec.ofNat 32 (i 0).val) (BitVec.ofNat 32 (nUsed T))) (BitVec.ofNat 32 (i 1).val) 1#32 : BitVec 32).toNat] := by
  have e : cc0_transform_1 k0_off1_inb numel1_S1 inb_S1_S1_0 (tabs T) i
      = ![0, ((tabs T).at 0 (Rect.unit (s := S72) (k0_off1 i) S1.size (k0_off1_inb i)) numel1_S1).toNat, 0,
        (Scalar.select (Scalar.cmpi .slt (BitVec.ofNat 32 (i 0).val) ((tabs T).at 1 (Rect.unit (s := S1) ![0] S1.size inb_S1_S1_0) numel1_S1))
          (BitVec.ofNat 32 (i 1).val) 1#32 : BitVec 32).toNat] := rfl
  rw [e, word_te, word_nu]
  rfl

/-- The block of rows fetched is inside the array of rows. -/
theorem inb_0 (i : grid0.Coords) (a : Fin 2) :
    (cc0_transform_0 inb_S1_S1_0 numel1_S1 (tabs T) i a + 1) * S512x5632.size a ≤ S36864x5632.size a := by
  have h := clamp_lt (i 0) ⟨nUsed T, nUsed_lt T⟩ (T.nu_pos _)
  rw [map_0]
  fin_cases a
  · show ((Scalar.minsi (BitVec.ofNat 32 (i 0).val) (Scalar.subi (BitVec.ofNat 32 (nUsed T)) 1#32)).toNat + 1) * 512 ≤ 36864
    have h' : (Scalar.minsi (BitVec.ofNat 32 (i 0).val) (Scalar.subi (BitVec.ofNat 32 (nUsed T)) 1#32)).toNat < 72 := h
    omega
  · show (0 + 1) * 5632 ≤ 5632
    omega

/-- The block of weights fetched is inside the array. -/
theorem inb_1 (i : grid0.Coords) (a : Fin 4) :
    (cc0_transform_1 k0_off1_inb numel1_S1 inb_S1_S1_0 (tabs T) i a + 1) * S1x1x5632x1024.size a ≤ S2x8x5632x2048.size a := by
  have h := half_le (Scalar.cmpi .slt (BitVec.ofNat 32 (i 0).val) (BitVec.ofNat 32 (nUsed T))) (i 1)
  have he := (expert T (i 0)).isLt
  rw [map_1]
  fin_cases a
  · show (0 + 1) * 1 ≤ 2
    omega
  · show ((expert T (i 0)).val + 1) * 1 ≤ 8
    omega
  · show (0 + 1) * 5632 ≤ 5632
    omega
  · show ((Scalar.select (Scalar.cmpi .slt (BitVec.ofNat 32 (i 0).val) (BitVec.ofNat 32 (nUsed T))) (BitVec.ofNat 32 (i 1).val) 1#32 : BitVec 32).toNat + 1) * 1024 ≤ 2048
    omega

/-- The launch's side condition holds of all such tables. -/
theorem ok : ok0 (F := Ideal) (tabs T) :=
  ⟨fun i => ⟨inb_0 T i, .inr (Affine.block_words_dvd (s := S36864x5632) (p := EltTy.packing .bf16) (by decide) (by decide))⟩,
    fun i => ⟨inb_1 T i, .inr (Affine.block_words_dvd (s := S2x8x5632x2048) (p := EltTy.packing .bf16) (by decide) (by decide))⟩⟩

/-- The admissible contents and the pipeline at them. -/
def adm : (pcfg0 (F := Ideal)).Adm := ⟨tabs T, ok T⟩
abbrev cfgA : Pipeline.Cfg sig Λ₀ := cfg0 (F := Ideal) (adm T)
abbrev pcs : Fin 1 → Pipeline.Cfg sig Λ₀ := Pipeline.pin (pcfgs (F := Ideal)) fun _ => adm T

variable (m : (ℓ : Loc nD τ sig) → Buf (Elt Ideal) ℓ) (ρ : Dev nD → PrngReg)

/-! ## A point's coordinates and staging memrefs -/

/-- Point `t`'s coordinates. -/
abbrev crd (t : Fin (cfgA T).N) : (cfgA T).grid.Coords := (cfgA T).grid.coords t

/-- Each window's current staging memref at point `t`, and its wholeness. -/
abbrev ms0_0 (t : Fin (cfgA T).N) : Memref sig .tc .vmem S512x5632 .bf16 := spec0_0.stage ((cfgA T).slots t (0 : Fin 3))
abbrev hs0_0 (t : Fin (cfgA T).N) : (ms0_0 T t).IsWhole := hstage0_0 (((cfgA T).slots t (0 : Fin 3)).cast nbuf0_0)
abbrev ms0_1 (t : Fin (cfgA T).N) : Memref sig .tc .vmem S1x1x5632x1024 .bf16 := spec0_1.stage ((cfgA T).slots t (1 : Fin 3))
abbrev hs0_1 (t : Fin (cfgA T).N) : (ms0_1 T t).IsWhole := hstage0_1 (((cfgA T).slots t (1 : Fin 3)).cast nbuf0_1)
abbrev ms0_2 (t : Fin (cfgA T).N) : Memref sig .tc .vmem S8192x128 .f32 := spec0_2.stage ((cfgA T).slots t (2 : Fin 3))
abbrev hs0_2 (t : Fin (cfgA T).N) : (ms0_2 T t).IsWhole := hstage0_2 (((cfgA T).slots t (2 : Fin 3)).cast nbuf0_2)

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-! ## What a point decides -/

/-- The grid has 144 points. -/
theorem lt_N (t : Fin (cfgA T).N) : t.val < 144 := t.isLt

/-- The tile of a grid point. -/
def tile (t : Fin (cfgA T).N) : Fin 72 := ⟨t.val / 2, by have := lt_N T t; omega⟩

/-- A point's coordinates: the tile, then the half of the columns. -/
theorem coords_val : ∀ t : Fin grid0.N, (grid0.coords t 0).val = t.val / 2 ∧ (grid0.coords t 1).val = t.val % 2 := by
  decide +kernel

theorem crd_0 (t : Fin (cfgA T).N) : ((crd T t) 0 : Fin 72) = tile T t := Fin.ext (coords_val t).1
theorem crd_1 (t : Fin (cfgA T).N) : ((crd T t) 1).val = t.val % 2 := (coords_val t).2

/-- A point stores a product exactly where its tile is used. -/
theorem cond1_iff (t : Fin (cfgA T).N) : k0_cond1 (crd T t) (used T.nu) = 1#1 ↔ (tile T t).val < nUsed T := by
  have h := used_word ((crd T t) 0) ⟨nUsed T, nUsed_lt T⟩
  rw [used_nu, ← crd_0]
  exact h

/-- The first half's stores. -/
theorem cond2_iff (t : Fin (cfgA T).N) : k0_cond2 (crd T t) = 1#1 ↔ t.val % 2 = 0 := by
  have h := first_word ((crd T t) 1)
  rw [crd_1] at h
  unfold k0_cond2
  rw [crd_1]
  exact h

/-- The second half's stores. -/
theorem cond3_iff (t : Fin (cfgA T).N) : k0_cond3 (crd T t) = 1#1 ↔ t.val % 2 = 1 := by
  have h := second_word ((crd T t) 1)
  rw [crd_1] at h
  unfold k0_cond3
  rw [crd_1]
  exact h

/-- Zeros are stored at an unused tile's first point. -/
theorem cond4_iff (t : Fin (cfgA T).N) : k0_cond4 (crd T t) (used T.nu) = 1#1 ↔ ¬ (tile T t).val < nUsed T ∧ t.val % 2 = 0 := by
  have h := zeros_word ((crd T t) 0) ⟨nUsed T, nUsed_lt T⟩ ((crd T t) 1)
  rw [crd_1] at h
  have e : ((crd T t) 0).val = (tile T t).val := (coords_val t).1
  rw [e] at h
  rw [used_nu]
  unfold k0_cond4
  rw [crd_1, e]
  exact h

/-- The output block is never fetched, and written back at each tile's second point alone. -/
theorem out_flush : ∀ t : Fin grid0.N, Pipeline.Window.flushOf grid0 true cc0_transform_2 t = decide (t.val % 2 = 1) := by decide +kernel

theorem flush_2 (t : Fin (cfgA T).N) : ((cfgA T).win (2 : Fin 3)).flush t = decide (t.val % 2 = 1) := out_flush t

theorem fetch_2 (t : Fin (cfgA T).N) : ((cfgA T).win (2 : Fin 3)).fetch t = false := rfl

/-! ## The windows' block indices -/

/-- The rows' block of a used tile. -/
theorem index_0 (t : Fin (cfgA T).N) (h : (tile T t).val < nUsed T) :
    cc0_transform_0 inb_S1_S1_0 numel1_S1 (tabs T) (crd T t) = ![(tile T t).val, 0] := by
  rw [map_0, show ((crd T t) 0).val = (tile T t).val from (coords_val t).1]
  exact congrArg (fun x => ![x, 0]) (clamp_used (tile T t) ⟨nUsed T, nUsed_lt T⟩ h)

/-- The weights' block of a used tile. -/
theorem index_1 (t : Fin (cfgA T).N) (h : (tile T t).val < nUsed T) :
    cc0_transform_1 k0_off1_inb numel1_S1 inb_S1_S1_0 (tabs T) (crd T t) = ![0, (expert T (tile T t)).val, 0, t.val % 2] := by
  rw [map_1, show ((crd T t) 0).val = (tile T t).val from (coords_val t).1, crd_0, crd_1]
  exact congrArg (fun x => ![0, (expert T (tile T t)).val, 0, x])
    (half_used (tile T t) ⟨nUsed T, nUsed_lt T⟩ ⟨t.val % 2, Nat.mod_lt _ (by decide)⟩ h)

/-- The result's block. -/
theorem index_2 : ∀ t : Fin grid0.N, cc0_transform_2 (grid0.coords t) = ![t.val / 2, 0] := by decide +kernel

end Cert.Kernel3Ideal.Down

end
-- ==== Proof.DownBlock.lean ====
/-
  What one point of the down product stores: half of every row of the output block, a row of 2048 results lying in
  sixteen consecutive rows of 128; the point's product goes to eight of them, the first or the last.
-/
module

public import proofs.«01_k».proof.Proof.DownRun
public import Idealize.ShloMosaic.Lib.Pointwise.Index

@[expose] public section

set_option maxRecDepth 16384

noncomputable section

namespace Cert.Kernel3Ideal.Down

open Cert.Kernel3Ideal Cert.Kernel3Ideal.Gen
open Idealize.ShloMosaic
open Idealize.ShloMosaic.TcCoe Idealize.ShloMosaic.Tactic

/-- A product of 512 rows by 1024 columns, read off the rows of the output block that hold it. -/
def stored (P : S512x1024.Idx → Elt Ideal .f32) : S8192x128.Idx → Elt Ideal .f32 := fun y =>
  P (ix2 (⟨(y 0).val / 16, by have : (y 0).val < 8192 := (y 0).isLt; omega⟩ : Fin 512)
    (⟨128 * ((y 0).val % 8) + (y 1).val, by have : (y 1).val < 128 := (y 1).isLt; omega⟩ : Fin 1024))

/-- A strided piece holds the columns that belong to its rows. -/
theorem piece_eq (P : S512x1024.Idx → Elt Ideal .f32) (o d : ℕ) (ho : o < 16) (hd : d = 128 * (o % 8)) (h : S512x1024.Slices ![0, d] S512x128)
    (inb) (sp) (x : S512x128.Idx) :
    extractStridedSlice S512x128 ![0, d] P h x
      = stored P (({ off := ![o, 0], size := ![512, 128], stride := ![16, 1], inb := inb, stride_pos := sp } : Rect S8192x128).emb x) := by
  unfold extractStridedSlice stored
  have h1 : (x 1).val < 128 := (x 1).isLt
  refine congrArg P (funext fun a => Fin.ext ?_)
  fin_cases a
  · show 0 + (x 0).val = (o + 16 * (x 0).val) / 16
    omega
  · show d + (x 1).val = 128 * ((o + 16 * (x 0).val) % 8) + (0 + 1 * (x 1).val)
    omega

/-- The rows a strided piece covers. -/
theorem mem_piece (o : ℕ) (ho : o < 16) (inb) (sp) (y : S8192x128.Idx) (h : (y 0).val % 16 = o) :
    y ∈ ({ off := ![o, 0], size := ![512, 128], stride := ![16, 1], inb := inb, stride_pos := sp } : Rect S8192x128).set := by
  have h0 : (y 0).val < 8192 := (y 0).isLt
  have h1 : (y 1).val < 128 := (y 1).isLt
  rw [LoadRect.mem_set]
  intro a
  fin_cases a
  · refine ⟨(y 0).val / 16, ?_, ?_⟩
    · show (y 0).val / 16 < 512
      omega
    · show (y 0).val = o + 16 * ((y 0).val / 16)
      omega
  · refine ⟨(y 1).val, h1, ?_⟩
    show (y 1).val = 0 + 1 * (y 1).val
    omega

/-- The rows it does not cover. -/
theorem not_mem_piece (o : ℕ) (ho : o < 16) (inb) (sp) (y : S8192x128.Idx) (h : (y 0).val % 16 ≠ o) :
    y ∉ ({ off := ![o, 0], size := ![512, 128], stride := ![16, 1], inb := inb, stride_pos := sp } : Rect S8192x128).set := by
  rw [LoadRect.mem_set]
  intro hm
  obtain ⟨j, hj, e⟩ := hm (0 : Fin 2)
  replace e : (y 0).val = o + 16 * j := e
  omega

section Runs

variable (c : Dev nD) (i : grid0.Coords) (arg4 : Memref sig .tc .vmem S512x5632 .bf16) (harg4 : arg4.IsWhole)
    (arg5 : Memref sig .tc .vmem S1x1x5632x1024 .bf16) (harg5 : arg5.IsWhole) (arg6 : Memref sig .tc .vmem S8192x128 .f32) (harg6 : arg6.IsWhole)
    (T0 : S72.Idx → Elt Ideal .i32) (T1 : S1.Idx → Elt Ideal .i32) (x0 : S512x5632.Idx → Elt Ideal .bf16) (x1 : S1x1x5632x1024.Idx → Elt Ideal .bf16)

/-- After a first half, the first eight rows of every sixteen hold the point's product. -/
theorem read_A (k0_h1 k0_h2 k0_h3 k0_h4) (f : arg6.view.ty.Contents (Elt Ideal)) (y : S8192x128.Idx) (hy : (y 0).val % 16 < 8) :
    arg6.view.read (Elt Ideal) (arg6.view.writes (Elt Ideal) f
        (run_A c i arg4 harg4 arg5 harg5 arg6 harg6 T0 T1 x0 x1 k0_h1 k0_h2 k0_h3 k0_h4).1) y
      = stored (k0_pay1 (F := Ideal) x0 x1) y := by
  unfold run_A
  dsimp only
  rw [View.readAt_rep_full, View.readAt_rep_full]
  refine View.read_writes_apply_of_pieces _ _ (stored (k0_pay1 (F := Ideal) x0 x1)) _ ?_ y ?_
  · intro p hp
    simp only [List.mem_cons, List.not_mem_nil, or_false] at hp
    rcases hp with rfl | rfl | rfl | rfl | rfl | rfl | rfl | rfl <;> intro x <;>
      exact piece_eq (k0_pay1 (F := Ideal) x0 x1) _ _ (by decide) (by decide) (by decide) _ _ x
  · obtain ⟨o, ho⟩ : ∃ o, (y 0).val % 16 = o := ⟨_, rfl⟩
    rw [ho] at hy
    interval_cases o
    · exact ⟨_, .tail _ (.tail _ (.tail _ (.tail _ (.tail _ (.tail _ (.tail _ (.head _))))))), mem_piece 0 (by decide) _ _ y ho⟩
    · exact ⟨_, .tail _ (.tail _ (.tail _ (.tail _ (.tail _ (.tail _ (.head _)))))), mem_piece 1 (by decide) _ _ y ho⟩
    · exact ⟨_, .tail _ (.tail _ (.tail _ (.tail _ (.tail _ (.head _))))), mem_piece 2 (by decide) _ _ y ho⟩
    · exact ⟨_, .tail _ (.tail _ (.tail _ (.tail _ (.head _)))), mem_piece 3 (by decide) _ _ y ho⟩
    · exact ⟨_, .tail _ (.tail _ (.tail _ (.head _))), mem_piece 4 (by decide) _ _ y ho⟩
    · exact ⟨_, .tail _ (.tail _ (.head _)), mem_piece 5 (by decide) _ _ y ho⟩
    · exact ⟨_, .tail _ (.head _), mem_piece 6 (by decide) _ _ y ho⟩
    · exact ⟨_, .head _, mem_piece 7 (by decide) _ _ y ho⟩

/-- After a second half, the last eight rows of every sixteen hold the point's product. -/
theorem read_B (k0_h1 k0_h2 k0_h3 k0_h4) (f : arg6.view.ty.Contents (Elt Ideal)) (y : S8192x128.Idx) (hy : ¬ (y 0).val % 16 < 8) :
    arg6.view.read (Elt Ideal) (arg6.view.writes (Elt Ideal) f
        (run_B c i arg4 harg4 arg5 harg5 arg6 harg6 T0 T1 x0 x1 k0_h1 k0_h2 k0_h3 k0_h4).1) y
      = stored (k0_pay1 (F := Ideal) x0 x1) y := by
  unfold run_B
  dsimp only
  rw [View.readAt_rep_full, View.readAt_rep_full]
  refine View.read_writes_apply_of_pieces _ _ (stored (k0_pay1 (F := Ideal) x0 x1)) _ ?_ y ?_
  · intro p hp
    simp only [List.mem_cons, List.not_mem_nil, or_false] at hp
    rcases hp with rfl | rfl | rfl | rfl | rfl | rfl | rfl | rfl <;> intro x <;>
      exact piece_eq (k0_pay1 (F := Ideal) x0 x1) _ _ (by decide) (by decide) (by decide) _ _ x
  · obtain ⟨o, ho⟩ : ∃ o, (y 0).val % 16 = o := ⟨_, rfl⟩
    have hlt : o < 16 := by omega
    rw [ho] at hy
    replace hy : 8 ≤ o := by omega
    interval_cases o
    · exact ⟨_, .tail _ (.tail _ (.tail _ (.tail _ (.tail _ (.tail _ (.tail _ (.head _))))))), mem_piece 8 (by decide) _ _ y ho⟩
    · exact ⟨_, .tail _ (.tail _ (.tail _ (.tail _ (.tail _ (.tail _ (.head _)))))), mem_piece 9 (by decide) _ _ y ho⟩
    · exact ⟨_, .tail _ (.tail _ (.tail _ (.tail _ (.tail _ (.head _))))), mem_piece 10 (by decide) _ _ y ho⟩
    · exact ⟨_, .tail _ (.tail _ (.tail _ (.tail _ (.head _)))), mem_piece 11 (by decide) _ _ y ho⟩
    · exact ⟨_, .tail _ (.tail _ (.tail _ (.head _))), mem_piece 12 (by decide) _ _ y ho⟩
    · exact ⟨_, .tail _ (.tail _ (.head _)), mem_piece 13 (by decide) _ _ y ho⟩
    · exact ⟨_, .tail _ (.head _), mem_piece 14 (by decide) _ _ y ho⟩
    · exact ⟨_, .head _, mem_piece 15 (by decide) _ _ y ho⟩

/-- A second half leaves the first eight rows of every sixteen alone. -/
theorem kept_B (k0_h1 k0_h2 k0_h3 k0_h4) (f : arg6.view.ty.Contents (Elt Ideal)) (y : S8192x128.Idx) (hy : (y 0).val % 16 < 8) :
    arg6.view.read (Elt Ideal) (arg6.view.writes (Elt Ideal) f
        (run_B c i arg4 harg4 arg5 harg5 arg6 harg6 T0 T1 x0 x1 k0_h1 k0_h2 k0_h3 k0_h4).1) y
      = arg6.view.read (Elt Ideal) f y := by
  unfold run_B
  dsimp only
  refine View.read_writes_apply_of_forall_not_mem _ _ y _ ?_
  intro p hp
  simp only [List.mem_cons, List.not_mem_nil, or_false] at hp
  rcases hp with rfl | rfl | rfl | rfl | rfl | rfl | rfl | rfl <;>
    exact not_mem_piece _ (by decide) _ _ y (by omega)

end Runs

end Cert.Kernel3Ideal.Down

end
-- ==== Proof.DownFrame.lean ====
/-
  The frame of the down product at arbitrary tables: every execution ends, nothing faults, the arguments are unchanged,
  and every block of the result is written back at contents that meet what is stated here of each point.
-/
module

public import proofs.«01_k».proof.Proof.DownTables
public import proofs.«01_k».proof.Proof.DownBlock
public import Idealize.ShloMosaic.Lib.Pipeline.ArrRel

@[expose] public section

set_option maxRecDepth 16384
set_option Elab.async false

noncomputable section

namespace Cert.Kernel3Ideal.Down

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Ideal) ℕ (UR sig nD τ) ℕ

/-- The proof's resource algebra: the staging cells' alone. -/
abbrev EP : Emb (UR sig nD τ) 𝕄 := emb₁

variable (T : Tabs)
variable (m : (ℓ : Loc nD τ sig) → Buf (Elt Ideal) ℓ) (ρ : Dev nD → PrngReg)

/-! ## What a point leaves in the output block -/

/-- The first of the two points of a point's tile. -/
def first (t : Fin (cfgA T).N) : Fin (cfgA T).N := ⟨t.val - t.val % 2, by omega⟩

/-- The product of a point's blocks. -/
def prod (c : Dev nD) (t : Fin (cfgA T).N) : S512x1024.Idx → Elt Ideal .f32 :=
  k0_pay1 (F := Ideal) (iblk T m ρ c (0 : Fin 3) t) (iblk T m ρ c (1 : Fin 3) t)

/-- What the output block meets after point `t`: at a used tile the first eight of every sixteen rows hold the product of
    the tile's first point, and after its second point the others hold that one's; at an unused tile all is zero. -/
def Leaves (c : Dev nD) (t : Fin (cfgA T).N) (X : S8192x128.Idx → Elt Ideal .f32) : Prop :=
  ((tile T t).val < nUsed T → ∀ y : S8192x128.Idx,
      ((y 0).val % 16 < 8 → X y = stored (prod T m ρ c (first T t)) y)
      ∧ (¬ (y 0).val % 16 < 8 → t.val % 2 = 1 → X y = stored (prod T m ρ c t) y))
  ∧ (¬ (tile T t).val < nUsed T → ∀ y, X y = k0_pay18 (F := Ideal) y)

/-! ## The pipeline's proof data -/

/-- The exact part of the data: the inputs keep their blocks. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 3) t
    | ⟨1, _⟩ => iblk T m ρ c (1 : Fin 3) t
    | ⟨2, _⟩ => k0_pay18 (F := Ideal)
  Φ _ := iprop((tbM0_0.view.loc (c : Thread nD τ) ↦{fullShare.right} T.te) ∗ (tbM0_1.view.loc (c : Thread nD τ) ↦{fullShare.right} T.nu))
  q _ := fullShare
  owed _ := 0

/-- The output alone is held to a predicate. -/
def marked : Fin (cfgA T).W → Bool := fun w => match w with
  | ⟨0, _⟩ => false
  | ⟨1, _⟩ => false
  | ⟨2, _⟩ => true

/-- The predicate. -/
def Rl (c : Dev nD) : (w : Fin (cfgA T).W) → Fin (cfgA T).N → (((cfgA T).win w).block.Idx → Elt Ideal ((cfgA T).win w).elt) → Prop := fun w => match w with
  | ⟨0, _⟩ => fun _ _ => True
  | ⟨1, _⟩ => fun _ _ => True
  | ⟨2, _⟩ => fun t X => Leaves T m ρ c t X

/-- The data of the one pipeline on core `c`. -/
def rdats (p : Fin 1) (c : Dev nD) : RDat τ (Elt Ideal) Unit ℕ (UR sig nD τ) ℕ (pcs T p) c := match p with
  | ⟨0, _⟩ => (dats T m ρ 0 c).toRRel (marked T) (Rl T m ρ c)

theorem after0_0 (c : Dev nD) (t : Fin (cfgA T).N) : (dats T m ρ 0 c).after (0 : Fin 3) t = iblk T m ρ c (0 : Fin 3) t := rfl
theorem after0_1 (c : Dev nD) (t : Fin (cfgA T).N) : (dats T m ρ 0 c).after (1 : Fin 3) t = iblk T m ρ c (1 : Fin 3) t := rfl

/-- Input window 0 holds its block, fetched there or not. -/
theorem before0_0 (c : Dev nD) (t : Fin (cfgA T).N) (d) : (dats T m ρ 0 c).before (0 : Fin 3) t d = iblk T m ρ c (0 : Fin 3) t :=
  ((dats T m ρ 0 c).before_in_eq_fetched (0 : Fin 3) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA T).N) (d) : (dats T m ρ 0 c).before (1 : Fin 3) t d = iblk T m ρ c (1 : Fin 3) t :=
  ((dats T m ρ 0 c).before_in_eq_fetched (1 : Fin 3) rfl (fun _ => rfl) (fun _ _ _ => rfl) (fun t => by rw [after0_1]; unfold Dat.blockOf iblk; rfl) t d).trans
    (by unfold Dat.fetched Dat.blockOf iblk; rfl)

/-- At a tile's second point the output block holds what its first point left. -/
theorem found (c : Dev nD) (t : Fin (cfgA T).N) (ht : t.val % 2 = 1) (Y : S8192x128.Idx → Elt Ideal .f32)
    (hY : ((dats T m ρ 0 c).toRRel (marked T) (Rl T m ρ c)).Finds (2 : Fin 3) t Y) : Leaves T m ρ c (first T t) Y := by
  have h0 : t.val ≠ 0 := by omega
  have e : (⟨t.val - 1, by omega⟩ : Fin (cfgA T).N) = first T t := Fin.ext (by show t.val - 1 = t.val - t.val % 2; omega)
  rw [RDat.finds_of_pos _ (fetch_2 T t) h0] at hY
  rcases hY with hf | hl
  · rw [flush_2] at hf
    have hf' := of_decide_eq_true hf
    replace hf' : (t.val - 1) % 2 = 1 := hf'
    omega
  · rw [e] at hl
    exact (dats T m ρ 0 c).toRRel_leaves (w := (2 : Fin 3)) rfl hl

theorem first_even (t : Fin (cfgA T).N) : (first T t).val % 2 = 0 := by
  show (t.val - t.val % 2) % 2 = 0
  omega

theorem first_first (t : Fin (cfgA T).N) : first T (first T t) = first T t :=
  Fin.ext (by show (t.val - t.val % 2) - (t.val - t.val % 2) % 2 = t.val - t.val % 2; omega)

theorem tile_first (t : Fin (cfgA T).N) : tile T (first T t) = tile T t :=
  Fin.ext (by show (t.val - t.val % 2) / 2 = t.val / 2; omega)

/-! ## The body, at a point -/

/-- A block owned at some contents is its buffer held at contents that read so, -/
theorem held_of_owns (c : Dev nD) (M : Memref sig .tc .vmem S8192x128 .f32) (Y : S8192x128.Idx → Elt Ideal .f32) :
    (owns (c : Thread nD τ) M fullShare Y : sProp 𝕄)
      ⊢ iprop(∃ f, ⌜M.view.read (Elt Ideal) f = Y⌝ ∗ (M.view.loc (c : Thread nD τ) ↦[M.view.set]{fullShare} f)) := by
  unfold owns
  exact .rfl

/-- and a buffer held is a block owned at what it reads. -/
theorem owns_of_held (c : Dev nD) (M : Memref sig .tc .vmem S8192x128 .f32) (f : Buf (Elt Ideal) (M.view.loc (c : Thread nD τ))) :
    (M.view.loc (c : Thread nD τ) ↦[M.view.set]{fullShare} f : sProp 𝕄)
      ⊢ owns (c : Thread nD τ) M fullShare (M.view.read (Elt Ideal) f) := by
  unfold owns
  iintro H
  iexists f
  isplitr
  · ipureintro; rfl
  · iexact H

/-- The body at point `t` on its staging memrefs, as the pipeline calls it. -/
abbrev bodyAt0 (t : Fin (cfgA T).N) : Prog (TpuEff nD τ sig (Elt Ideal) Λ₀ .tc) PUnit :=
  cc0_swiglu_down_tok (crd T t) (Memref.whole main_arg0) (Memref.isWhole_whole _) (Memref.whole main_arg1) (Memref.isWhole_whole _)
    (ms0_0 T t) (hs0_0 T t) (ms0_1 T t) (hs0_1 T t) (ms0_2 T t) (hs0_2 T t)

set_option maxHeartbeats 4000000 in
/-- At every point the body runs, keeps the tables and its inputs, and leaves in the output block what is stated of the point. -/
theorem sound_body (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 3) t d))
        ∗ (∃ d, owns (c : Thread nD τ) (ms0_1 T t) fullShare ((dats T m ρ 0 c).before (1 : Fin 3) t d))
        ∗ (∃ Y, ⌜((dats T m ρ 0 c).toRRel (marked T) (Rl T m ρ c)).Finds (2 : Fin 3) t Y⌝ ∗ owns (c : Thread nD τ) (ms0_2 T t) fullShare Y))
      ⊢ wp frame (wpE (defs₀ (F := Ideal)) Variants.none c none) Set.univ (bodyAt0 T t) fun _ =>
          iprop((dats T m ρ 0 c).Φ t.succ ∗ (dats T m ρ 0 c).owesAt () t.succ
            ∗ owns (c : Thread nD τ) (ms0_0 T t) fullShare ((dats T m ρ 0 c).after (0 : Fin 3) t)
            ∗ owns (c : Thread nD τ) (ms0_1 T t) fullShare ((dats T m ρ 0 c).after (1 : Fin 3) t)
            ∗ (∃ X, ⌜Leaves T m ρ c t X⌝ ∗ owns (c : Thread nD τ) (ms0_2 T t) fullShare X)) := by
  simp only [before0_0, before0_1, after0_0, after0_1]
  rewrite [show (dats T m ρ 0 c).Φ t.succ = iprop((tbM0_0.view.loc (c : Thread nD τ) ↦{fullShare.right} T.te) ∗ (tbM0_1.view.loc (c : Thread nD τ) ↦{fullShare.right} T.nu)) from rfl,
    show (dats T m ρ 0 c).Φ t.castSucc = iprop((tbM0_0.view.loc (c : Thread nD τ) ↦{fullShare.right} T.te) ∗ (tbM0_1.view.loc (c : Thread nD τ) ↦{fullShare.right} T.nu)) from rfl,
    show (dats T m ρ 0 c).owesAt () t.succ = (dats T m ρ 0 c).owesAt () t.castSucc from rfl]
  iintro ⟨⟨HT0, HT1⟩, Ho, ⟨%d0, H0⟩, ⟨%d1, H1⟩, ⟨%Y, %hY, H2⟩⟩
  ihave H2' := (held_of_owns c (ms0_2 T t) Y) $$ H2
  icases H2' with ⟨%f, %hf, H2⟩
  by_cases hu : (tile T t).val < nUsed T
  · by_cases hj : t.val % 2 = 1
    · iapply ((run_B c (crd T t) (ms0_0 T t) (hs0_0 T t) (ms0_1 T t) (hs0_1 T t) (ms0_2 T t) (hs0_2 T t) T.te T.nu (iblk T m ρ c (0 : Fin 3) t) (iblk T m ρ c (1 : Fin 3) t)
        ((cond1_iff T t).mpr hu) (fun h => by have := (cond2_iff T t).mp h; omega) ((cond3_iff T t).mpr hj) (fun h => ((cond4_iff T t).mp h).1 hu)).2 f _)
      isplitl [H0]; · iapply rep_of_owns; iexact H0
      isplitl [H1]; · iapply rep_of_owns; iexact H1
      isplitl [HT0]; · iexact HT0
      isplitl [HT1]; · iexact HT1
      isplitl [H2]; · iexact H2
      iintro ⟨H0, H1, HT0, HT1, H2⟩
      isplitl [HT0 HT1]
      · isplitl [HT0]; · iexact HT0
        iexact HT1
      isplitl [Ho]; · iexact Ho
      isplitl [H0]; · iapply owns_of_rep; iexact H0
      isplitl [H1]; · iapply owns_of_rep; iexact H1
      iexists _
      isplitr; swap
      · iapply owns_of_held; iexact H2
      · ipureintro
        have hl := found T m ρ c t hj Y hY
        refine ⟨fun _ y => ⟨fun hy => ?_, fun hy _ => ?_⟩, fun h => absurd hu h⟩
        · refine (kept_B c _ _ _ _ _ _ _ _ _ _ _ _ _ _ _ f y hy).trans ?_
          rw [hf, (hl.1 (by rw [tile_first]; exact hu) y).1 hy, first_first]
        · exact read_B c _ _ _ _ _ _ _ _ _ _ _ _ _ _ _ f y hy
    · have hj0 : t.val % 2 = 0 := by omega
      iapply ((run_A c (crd T t) (ms0_0 T t) (hs0_0 T t) (ms0_1 T t) (hs0_1 T t) (ms0_2 T t) (hs0_2 T t) T.te T.nu (iblk T m ρ c (0 : Fin 3) t) (iblk T m ρ c (1 : Fin 3) t)
        ((cond1_iff T t).mpr hu) ((cond2_iff T t).mpr hj0) (fun h => hj ((cond3_iff T t).mp h)) (fun h => ((cond4_iff T t).mp h).1 hu)).2 f _)
      isplitl [H0]; · iapply rep_of_owns; iexact H0
      isplitl [H1]; · iapply rep_of_owns; iexact H1
      isplitl [HT0]; · iexact HT0
      isplitl [HT1]; · iexact HT1
      isplitl [H2]; · iexact H2
      iintro ⟨H0, H1, HT0, HT1, H2⟩
      isplitl [HT0 HT1]
      · isplitl [HT0]; · iexact HT0
        iexact HT1
      isplitl [Ho]; · iexact Ho
      isplitl [H0]; · iapply owns_of_rep; iexact H0
      isplitl [H1]; · iapply owns_of_rep; iexact H1
      iexists _
      isplitr; swap
      · iapply owns_of_held; iexact H2
      · ipureintro
        refine ⟨fun _ y => ⟨fun hy => ?_, fun hy h => absurd h hj⟩, fun h => absurd hu h⟩
        have e : first T t = t := Fin.ext (by show t.val - t.val % 2 = t.val; omega)
        rw [e]
        exact read_A c _ _ _ _ _ _ _ _ _ _ _ _ _ _ _ f y hy
  · by_cases hj : t.val % 2 = 1
    · iapply (run_D c (crd T t) (ms0_0 T t) (hs0_0 T t) (ms0_1 T t) (hs0_1 T t) (ms0_2 T t) (hs0_2 T t) T.te T.nu (iblk T m ρ c (0 : Fin 3) t) (iblk T m ρ c (1 : Fin 3) t)
        (fun h => hu ((cond1_iff T t).mp h)) (fun h => by have := (cond2_iff T t).mp h; omega) ((cond3_iff T t).mpr hj)
        (fun h => by have := ((cond4_iff T t).mp h).2; omega) f _)
      isplitl [H0]; · iapply rep_of_owns; iexact H0
      isplitl [H1]; · iapply rep_of_owns; iexact H1
      isplitl [HT0]; · iexact HT0
      isplitl [HT1]; · iexact HT1
      isplitl [H2]; · iexact H2
      iintro ⟨H0, H1, HT0, HT1, H2⟩
      isplitl [HT0 HT1]
      · isplitl [HT0]; · iexact HT0
        iexact HT1
      isplitl [Ho]; · iexact Ho
      isplitl [H0]; · iapply owns_of_rep; iexact H0
      isplitl [H1]; · iapply owns_of_rep; iexact H1
      iexists _
      isplitr; swap
      · iapply owns_of_held; iexact H2
      · ipureintro
        have hl := found T m ρ c t hj Y hY
        refine ⟨fun h => absurd h hu, fun _ y => ?_⟩
        rw [hf]
        exact hl.2 (by rw [tile_first]; exact hu) y
    · have hj0 : t.val % 2 = 0 := by omega
      iapply (run_C c (crd T t) (ms0_0 T t) (hs0_0 T t) (ms0_1 T t) (hs0_1 T t) (ms0_2 T t) (hs0_2 T t) T.te T.nu (iblk T m ρ c (0 : Fin 3) t) (iblk T m ρ c (1 : Fin 3) t)
        (fun h => hu ((cond1_iff T t).mp h)) ((cond2_iff T t).mpr hj0) (fun h => hj ((cond3_iff T t).mp h)) ((cond4_iff T t).mpr ⟨hu, hj0⟩) f _)
      isplitl [H0]; · iapply rep_of_owns; iexact H0
      isplitl [H1]; · iapply rep_of_owns; iexact H1
      isplitl [HT0]; · iexact HT0
      isplitl [HT1]; · iexact HT1
      isplitl [H2]; · iexact H2
      iintro ⟨H0, H1, HT0, HT1, ⟨%g, %hg, H2⟩⟩
      isplitl [HT0 HT1]
      · isplitl [HT0]; · iexact HT0
        iexact HT1
      isplitl [Ho]; · iexact Ho
      isplitl [H0]; · iapply owns_of_rep; iexact H0
      isplitl [H1]; · iapply owns_of_rep; iexact H1
      iexists _
      isplitr; swap
      · iapply owns_of_held; iexact H2
      · ipureintro
        exact ⟨fun h => absurd h hu, fun _ y => hg y⟩

/-- The body's obligation, at every point. -/
theorem body_rel (c : Dev nD) : BodyObligationRel (dats T m ρ 0 c) (defs₀ (F := Ideal)) Variants.none () Set.univ (marked T) (Rl T m ρ c) := fun t => by
  rw [bigSep_W0, bigSep_W0]
  exact sound_body T m ρ c t

theorem body_obligation (c : Dev nD) : (rdats T m ρ 0 c).BodyObligation (defs₀ (F := Ideal)) Variants.none () Set.univ :=
  (body_rel T m ρ c).toRRel

/-! ## The launch -/

/-- The launch element of the staging cells. -/
def u₀ : UR sig nD τ :=
  initOf (Pipeline.cells (pcs T) ((launch0 (F := Ideal)).cellOf_inj fun _ => adm T))
    (Pipeline.launchToks (pcs T) ((launch0 (F := Ideal)).cellOf_inj fun _ => adm T))

/-- The launch element, and nothing beside it. -/
theorem u₀_split : (ownU (u₀ T) : sProp 𝕄)
    ⊢ |={Set.univ}=> iprop(BI.own (EP (initOf (Pipeline.cells (pcs T) ((launch0 (F := Ideal)).cellOf_inj fun _ => adm T))
        (Pipeline.launchToks (pcs T) ((launch0 (F := Ideal)).cellOf_inj fun _ => adm T)))) ∗ bigSep Finset.univ fun _ : Dev nD => iprop(emp)) := by
  have h : (ownU (u₀ T) : sProp 𝕄) ⊢ BI.own (EP (initOf (Pipeline.cells (pcs T) ((launch0 (F := Ideal)).cellOf_inj fun _ => adm T))
      (Pipeline.launchToks (pcs T) ((launch0 (F := Ideal)).cellOf_inj fun _ => adm T)))) := .rfl
  have e : (BI.emp : sProp 𝕄) ⊢ bigSep Finset.univ (fun _ : Dev nD => (BI.emp : sProp 𝕄)) := by rw [BI.bigSep_emp_const]
  iintro Hu
  ihave H := h $$ Hu
  imodintro
  isplitl [H]
  · iexact H
  · iapply e
    iempintro

theorem share_eq (c : Dev nD) (w : Fin (cfgA T).W) : (rdats T m ρ 0 c).share w = fullShare := by
  show (dats T m ρ 0 c).share w = fullShare
  unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables; -/
theorem phi0_intro (c : Dev nD) :
    iprop(BI.emp ∗ Pipeline.prefHeld pre0 c (fun _ => fullShare.right) (adm T).1 ∗ Pipeline.scopedRest spec0 c) ⊢ (rdats T m ρ 0 c).Φ 0 := by
  rw [prefHeld_eq, scopedRest0_eq, show (rdats T m ρ 0 c).Φ 0
    = iprop((tbM0_0.view.loc (c : Thread nD τ) ↦{fullShare.right} T.te) ∗ (tbM0_1.view.loc (c : Thread nD τ) ↦{fullShare.right} T.nu)) from rfl]
  iintro ⟨-, ⟨HT0, HT1⟩, -⟩
  isplitl [HT0]
  · iexact HT0
  iexact HT1

/-- at the last point the tables are let go. -/
theorem phiN_exit (c : Dev nD) : (rdats T m ρ 0 c).Φ (Fin.last (cfgA T).N)
    ⊢ iprop(BI.emp ∗ Pipeline.ownSems0 (Ix := Unit) (Name := ℕ) (U := UR sig nD τ) (Lvl := ℕ) (Val := Elt Ideal) (τ := τ) (fun k : PEmpty => k.elim) c
      ∗ Pipeline.scopedRest spec0 c) := by
  rw [scopedRest0_eq, Pipeline.ownSems0_none]
  iintro -
  isplitr; · iempintro
  isplitr; · iempintro
  iempintro

/-- What the launch ends in: every array at contents the data allow, every table as it was. -/
def QC : PUnit × MemSt nD τ sig (Elt Ideal) → Prop := fun r =>
  ∀ c : Dev nD, (∀ w : Fin (cfgA T).W, (rdats T m ρ 0 c).ArrAt w (cfgA T).N (r.2.mem (((cfgA T).win w).arr.view.loc (c : Thread nD τ))))
    ∧ ∀ j, r.2.mem ((c : Thread nD τ).loc (pre0.ref j)) = (adm T).1 j

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From a launch memory that holds the tables, every fair execution ends, with the arrays at contents the data allow and
    every semaphore counter at zero. -/
theorem run_main_quiescent (hp : Holds T m) : θ_run (defs (F := Ideal)) (onTc (τ := τ) (main (F := Ideal))) (s₀ m ρ) (fun r => QC T m ρ r ∧ r.2.sem = fun _ => 0) :=
  Pipeline.RDat.θ_run_region_pf_quiescent pcfgs (fun _ => adm T) (rdats T m ρ) () ((launch0 (F := Ideal)).cellOf_inj fun _ => adm T) (0 : Fin 1)
    (launch0 (F := Ideal)).win.to₀ (Pipeline.OwnSemFacts.none _) (launch0 (F := Ideal)).pre EP defs₀ Variants.none m ρ main
    (hbody := fun c => body_obligation T m ρ c) (hne := (launch0 (F := Ideal)).block_pos)
    (harr := (launch0 (F := Ideal)).arr_whole) (hstage := (launch0 (F := Ideal)).stage_whole) (howed := fun _ _ => rfl)
    (G := fun _ => iprop(emp)) (u₀ := u₀ T) (hu₀ := u₀_split T)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.RDat.arrays_split pcfgs (fun _ => adm T) (rdats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; imodintro; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Holds T m) : θ_run (defs (F := Ideal)) (onTc (τ := τ) (main (F := Ideal))) (s₀ m ρ) (QC T m ρ) :=
  (θ_run defs _ _).mono (fun _ h => h.1) (run_main_quiescent T m ρ hp)

/-- An input array ends as it began. -/
theorem input_kept (c : Dev nD) (w : Fin (cfgA T).W) (hw : ((cfgA T).win w).isOut = false) (n : ℕ)
    (G : (w : Fin (cfgA T).W) → Buf (Elt Ideal) (((cfgA T).win w).arr.view.loc (c : Thread nD τ)))
    (hG : ∀ w, (rdats T m ρ 0 c).ArrAt w n (G w)) : G w = (s₀ m ρ).mem (((cfgA T).win w).arr.view.loc (c : Thread nD τ)) := by
  obtain ⟨after, -, h⟩ := RDat.ArrAt.exists_exact_all hG
  exact (h w).trans (Dat.arrAt_in _ w hw _)

/-- The argument arrays end unchanged. -/
theorem unchanged (hp : Holds T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).2 0).trans (hp.1 c).symm, ((h c).2 1).trans (hp.2 c).symm,
    input_kept T m ρ c (0 : Fin 3) rfl (cfgA T).N (fun w => r.2.mem (((cfgA T).win w).arr.view.loc (c : Thread nD τ))) (h c).1,
    input_kept T m ρ c (1 : Fin 3) rfl (cfgA T).N (fun w => r.2.mem (((cfgA T).win w).arr.view.loc (c : Thread nD τ))) (h c).1⟩) (run_main T m ρ hp)

/-- From a launch memory that holds the tables, every execution ends, nothing faults, every argument array is unchanged,
    and every semaphore counter reads zero. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged T m ρ hp) ((θ_run defs _ _).mono (fun _ h => h.2) (run_main_quiescent T m ρ hp))

end Cert.Kernel3Ideal.Down

end
-- ==== Proof.DownValue.lean ====
/-
  The down product's result array after the run: a row of 2048 results lies in sixteen rows of 128, and row `r` of these
  holds the products of row `r / 16` of the activations with the weights of the expert of tile `r / 8192`, or zero where
  that tile isn't used.
-/
module

public import proofs.«01_k».proof.Proof.DownFrame
public import Idealize.ShloMosaic.Lib.Pipeline.ValueKit

@[expose] public section

set_option maxRecDepth 16384

noncomputable section

namespace Cert.Kernel3Ideal.Down

open Cert.Kernel3Ideal Cert.Kernel3Ideal.Gen
open Idealize.ShloMosaic
open Idealize.ShloMosaic.TcCoe Idealize.ShloMosaic.Tactic
open Idealize.ShloMosaic.Pipeline (Dat RDat)

variable (T : Tabs)

/-- One entry of the result: row `r` of the activations against column `f` of the weights of the row's expert. -/
def downRow (x : FVec Ideal S36864x5632 .bf16) (w : FVec Ideal S2x8x5632x2048 .bf16) (r : Fin 36864) (f : Fin 2048) : EReal :=
  if r.val / 512 < nUsed T then
    ∑ k : Fin 5632, x (ix2 r k) * w (ix4 (n0 := 2) 0 (expert T ⟨r.val / 512, by omega⟩) k f)
  else 0

/-- The result array of the activations and the weights. -/
def downOut (x : FVec Ideal S36864x5632 .bf16) (w : FVec Ideal S2x8x5632x2048 .bf16) : FVec Ideal S589824x128 .f32 := fun j =>
  downRow T x w (⟨(j 0).val / 16, by have : (j 0).val < 589824 := (j 0).isLt; omega⟩ : Fin 36864)
    (⟨128 * ((j 0).val % 16) + (j 1).val, by have : (j 1).val < 128 := (j 1).isLt; omega⟩ : Fin 2048)

/-! ## The payloads at an entry -/

theorem pay1_apply (x : S512x5632.Idx → EReal) (w : S1x1x5632x1024.Idx → EReal) (r : Fin 512) (l : Fin 1024) :
    k0_pay1 (F := Ideal) x w (ix2 r l) = ∑ k : Fin 5632, x (ix2 r k) * w (ix4 0 0 k l) := by
  pointwise [k0_pay1]

theorem pay18_apply (r : Fin 8192) (l : Fin 128) : k0_pay18 (F := Ideal) (ix2 r l) = 0 := by
  pointwise [k0_pay18]

variable (m : (ℓ : Loc nD τ sig) → Buf (Elt Ideal) ℓ) (ρ : Dev nD → PrngReg) (c : Dev nD)

/-! ## The blocks at an entry -/

theorem rows_blk (t : Fin (cfgA T).N) (h : (tile T t).val < nUsed T) (r : Fin 512) (k : Fin 5632) :
    iblk T m ρ c (0 : Fin 3) t (ix2 r k)
      = m ((c : Thread nD τ).loc main_arg2) (ix2 (n0 := 36864) ⟨(tile T t).val * 512 + r.val, by omega⟩ k) := by
  refine congrArg (m ((c : Thread nD τ).loc main_arg2)) (funext fun a => Fin.ext ?_)
  show cc0_transform_0 inb_S1_S1_0 numel1_S1 (tabs T) (crd T t) a * S512x5632.size a + 1 * (ix2 r k a).val = _
  rw [index_0 T t h]
  fin_cases a
  · show (tile T t).val * 512 + 1 * r.val = (tile T t).val * 512 + r.val
    omega
  · show 0 * 5632 + 1 * k.val = k.val
    omega

theorem weights_blk (t : Fin (cfgA T).N) (h : (tile T t).val < nUsed T) (k : Fin 5632) (l : Fin 1024) :
    iblk T m ρ c (1 : Fin 3) t (ix4 0 0 k l)
      = m ((c : Thread nD τ).loc main_arg3) (ix4 (n0 := 2) 0 (expert T (tile T t)) k (⟨t.val % 2 * 1024 + l.val, by omega⟩ : Fin 2048)) := by
  refine congrArg (m ((c : Thread nD τ).loc main_arg3)) (funext fun a => Fin.ext ?_)
  show cc0_transform_1 k0_off1_inb numel1_S1 inb_S1_S1_0 (tabs T) (crd T t) a * S1x1x5632x1024.size a + 1 * (ix4 (n0 := 1) (n1 := 1) 0 0 k l a).val = _
  rw [index_1 T t h]
  fin_cases a
  · rfl
  · show (expert T (tile T t)).val * 1 + 1 * 0 = (expert T (tile T t)).val
    omega
  · show 0 * 5632 + 1 * k.val = k.val
    omega
  · show t.val % 2 * 1024 + 1 * l.val = t.val % 2 * 1024 + l.val
    omega

/-- The product of a used tile's point. -/
theorem prod_apply (t : Fin (cfgA T).N) (h : (tile T t).val < nUsed T) (a : Fin 512) (b : Fin 1024) (r : Fin 36864) (f : Fin 2048)
    (hr : r.val = (tile T t).val * 512 + a.val) (hf : f.val = t.val % 2 * 1024 + b.val) :
    prod T m ρ c t (ix2 a b) = downRow T (m ((c : Thread nD τ).loc main_arg2)) (m ((c : Thread nD τ).loc main_arg3)) r f := by
  have hd : r.val / 512 = (tile T t).val := by omega
  have ht : (⟨r.val / 512, by omega⟩ : Fin 72) = tile T t := Fin.ext hd
  unfold downRow
  rw [ht, hd, if_pos h]
  refine (pay1_apply _ _ a b).trans (Finset.sum_congr rfl fun k _ => ?_)
  rw [rows_blk T m ρ c t h, weights_blk T m ρ c t h,
    show r = ⟨(tile T t).val * 512 + a.val, by omega⟩ from Fin.ext hr, show f = ⟨t.val % 2 * 1024 + b.val, by omega⟩ from Fin.ext hf]

/-- The block written back after a tile's second point, at an entry. -/
theorem block_apply (t : Fin (cfgA T).N) (ht : t.val % 2 = 1) (X : S8192x128.Idx → Elt Ideal .f32) (hX : Leaves T m ρ c t X)
    (i : Fin 8192) (l : Fin 128) (r : Fin 589824) (hr : r.val = (tile T t).val * 8192 + i.val) :
    X (ix2 i l) = downOut T (m ((c : Thread nD τ).loc main_arg2)) (m ((c : Thread nD τ).loc main_arg3)) (ix2 r l) := by
  show _ = downRow T _ _ (⟨r.val / 16, by omega⟩ : Fin 36864) (⟨128 * (r.val % 16) + l.val, by omega⟩ : Fin 2048)
  by_cases h : (tile T t).val < nUsed T
  · by_cases hi : i.val % 16 < 8
    · refine ((hX.1 h (ix2 i l)).1 hi).trans ?_
      refine prod_apply T m ρ c (first T t) (by rw [tile_first]; exact h) _ _ _ _ ?_ ?_
      · rw [tile_first]
        show r.val / 16 = (tile T t).val * 512 + i.val / 16
        omega
      · show 128 * (r.val % 16) + l.val = (first T t).val % 2 * 1024 + (128 * (i.val % 8) + l.val)
        rw [first_even]
        omega
    · refine ((hX.1 h (ix2 i l)).2 hi ht).trans ?_
      refine prod_apply T m ρ c t h _ _ _ _ ?_ ?_
      · show r.val / 16 = (tile T t).val * 512 + i.val / 16
        omega
      · show 128 * (r.val % 16) + l.val = t.val % 2 * 1024 + (128 * (i.val % 8) + l.val)
        omega
  · refine (hX.2 h (ix2 i l)).trans ((pay18_apply i l).trans ?_)
    unfold downRow
    rw [if_neg]
    show ¬ r.val / 16 / 512 < nUsed T
    have : r.val / 16 / 512 = (tile T t).val := by omega
    rw [this]
    exact h

/-- Where an entry of the block sits in the result. -/
theorem emb_2 (t : Fin (cfgA T).N) (y : S8192x128.Idx) (a : Fin 2) :
    ((((cfgA T).win (2 : Fin 3)).blk t).view.emb y a).val
      = (![(tile T t).val * 8192, 0] : Fin 2 → ℕ) a + (y a).val := by
  show cc0_transform_2 (crd T t) a * S8192x128.size a + 1 * (y a).val = _
  rw [index_2 t]
  fin_cases a
  · show (t.val / 2) * 8192 + 1 * (y 0).val = (t.val / 2) * 8192 + (y 0).val
    omega
  · show 0 * 128 + 1 * (y 1).val = 0 + (y 1).val
    omega

/-- Every block of the result is written back by one of the points. -/
theorem covers : ((cfgA T).win (2 : Fin 3)).Covers := by
  refine ⟨fun a => by fin_cases a; exacts [(by decide : 0 < 8192), (by decide : 0 < 128)], fun β => ?_⟩
  have h0 : (β (0 : Fin 2)).val < 72 := lt_of_lt_of_eq (β (0 : Fin 2)).isLt (by show (589824 + 8192 - 1) / 8192 = 72; decide)
  have h1 : (β (1 : Fin 2)).val < 1 := lt_of_lt_of_eq (β (1 : Fin 2)).isLt (by show (128 + 128 - 1) / 128 = 1; decide)
  refine ⟨⟨(β (0 : Fin 2)).val * 2 + 1, (by omega : _ < 144)⟩, ?_, fun a => ⟨?_, Or.inl ?_⟩⟩
  · rw [flush_2]
    exact decide_eq_true (by show ((β (0 : Fin 2)).val * 2 + 1) % 2 = 1; omega)
  · show cc0_transform_2 (grid0.coords _) a = _
    rw [index_2]
    fin_cases a
    · show ((β (0 : Fin 2)).val * 2 + 1) / 2 = (β (0 : Fin 2)).val
      omega
    · show 0 = (β (1 : Fin 2)).val
      omega
  · fin_cases a <;> rfl

/-- The result array after the run. -/
theorem final (G : (w : Fin (cfgA T).W) → Buf (Elt Ideal) (((cfgA T).win w).arr.view.loc (c : Thread nD τ)))
    (hG : ∀ w, (rdats T m ρ 0 c).ArrAt w (cfgA T).N (G w)) :
    G (2 : Fin 3) = downOut T (m ((c : Thread nD τ).loc main_arg2)) (m ((c : Thread nD τ).loc main_arg3)) := by
  obtain ⟨after, hl, h⟩ := RDat.ArrAt.exists_exact_all hG
  refine (h (2 : Fin 3)).trans ?_
  refine ((rdats T m ρ 0 c).withAfter after).arrAt_eq_of_covers (2 : Fin 3) _ (covers T) fun t hf y => ?_
  have hX : Leaves T m ρ c t (after (2 : Fin 3) t) :=
    (dats T m ρ 0 c).toRRel_leaves (fgt := marked T) (Rl := Rl T m ρ c) (w := (2 : Fin 3)) rfl (hl (2 : Fin 3) t t.isLt hf)
  have ht : t.val % 2 = 1 := by
    rw [flush_2] at hf
    exact of_decide_eq_true hf
  blk_simp
  rw [RDat.withAfter_after]
  obtain ⟨i, l, rfl⟩ : ∃ (i : Fin 8192) (l : Fin 128), y = ix2 i l := ⟨y 0, y 1, eq_ix2 (n0 := 8192) (n1 := 128) y⟩
  have e0 := emb_2 T t (ix2 i l) 0
  have e1 := emb_2 T t (ix2 i l) 1
  refine (block_apply T m ρ c t ht _ hX i l _ e0).trans (congrArg (downOut T _ _) ?_)
  refine Eq.trans ?_ (eq_ix2 (n0 := 589824) (n1 := 128) _).symm
  refine congrArg (ix2 _) (Fin.ext ?_)
  exact (e1.trans (Nat.zero_add _)).symm

end Cert.Kernel3Ideal.Down

end
-- ==== Proof.DownRef.lean ====
/-
  The down product's reference at an entry: over the eight experts, the row's product with the expert's weights where the
  row's tile has that expert and is used, zero elsewhere, summed; the sums then laid out in rows of 128.
-/
module

public import proofs.«01_k».proof.Proof.Gen.Reference3Ideal.Run
public import proofs.«01_k».proof.Proof.UpRef

@[expose] public section

set_option maxRecDepth 16384

noncomputable section

open Idealize.ShloMosaic Idealize.ShloMosaic.TcCoe Idealize.SL.Sem

namespace Cert.Reference3Ideal.DownRef

open Cert.Reference3Ideal Cert.Reference3Ideal.Gen
open Cert.Reference2Ideal.UpRef (mine mine_apply)

/-! ## The reference's term in stages -/

/-- Each row's product with each expert's weights of the layer. -/
def products (x : FVec Ideal S36864x5632 .bf16) (w : FVec Ideal S2x8x5632x2048 .bf16) : FVec Ideal S36864x8x2048 .f32 :=
  Host.dotGeneral dot_S36864x5632_S8x5632x2048_S36864x8x2048_1_1_0_02_n_n none (extf .f32 x bitsLt_bf16_f32)
    (extf .f32 (shapeCast S8x5632x2048 (extractStridedSlice S1x8x5632x2048 ![0, 0, 0, 0] w slices_S2x8x5632x2048_S1x8x5632x2048_0_0_0_0)
      shapeCasts_S1x8x5632x2048_S8x5632x2048) bitsLt_bf16_f32)

/-- The products of the owned rows, summed over the experts. -/
def ownSum (own : Vec Ideal S36864x8 .i1) (a : FVec Ideal S36864x8x2048 .f32) : FVec Ideal S36864x2048 .f32 :=
  Host.reduceAdd
    (select (broadcastInDim S36864x8x2048 ![0, 1, 2] bcast_S36864x8x1_S36864x8x2048_0_1_2
        (broadcastInDim S36864x8x1 ![0, 1] bcast_S36864x8_S36864x8x1_0_1 own))
      a (broadcastInDim S36864x8x2048 ![] bcast_S_S36864x8x2048 (id (constant S_ .f32 0x00000000#32))))
    (constant S_ .f32 0x00000000#32) reducesTo_S36864x8x2048_S36864x2048_d1 h_S_

/-- The result: the sums in rows of 128. -/
def result (te : Vec Ideal S72 .i32) (nu : Vec Ideal S1 .i32) (x : FVec Ideal S36864x5632 .bf16) (w : FVec Ideal S2x8x5632x2048 .bf16) :
    FVec Ideal S589824x128 .f32 :=
  shapeCast S589824x128 (ownSum (mine te nu) (products x w)) shapeCasts_S36864x2048_S589824x128

/-! ## The stages at an entry -/

theorem products_apply (x : FVec Ideal S36864x5632 .bf16) (w : FVec Ideal S2x8x5632x2048 .bf16) (r : Fin 36864) (e : Fin 8)
    (f : Fin 2048) : products x w (ix3 r e f) = ∑ k : Fin 5632, x (ix2 r k) * w (ix4 0 e k f) := by
  pointwise [products]

theorem ownSum_apply (own : Vec Ideal S36864x8 .i1) (a : FVec Ideal S36864x8x2048 .f32) (r : Fin 36864) (f : Fin 2048) :
    ownSum own a (ix2 r f) = ∑ e : Fin 8, if own (ix2 r e) = 1#1 then a (ix3 r e f) else 0 := by
  pointwise [ownSum]
  refine Finset.sum_congr rfl fun e _ => ?_
  have hz : (id (constant S_ FTy.f32 0#32) : FVec Ideal S_ .f32) ix0 = (0 : EReal) := by
    show (constant S_ FTy.f32 0#32 : FVec Ideal S_ .f32) ix0 = (0 : EReal)
    pointwise
  rw [hz]
  rfl

/-- The sums at an entry: the row's product with its tile's expert, where the tile is used. -/
theorem sums_apply (te : Vec Ideal S72 .i32) (nu : Vec Ideal S1 .i32) (x : FVec Ideal S36864x5632 .bf16)
    (w : FVec Ideal S2x8x5632x2048 .bf16) (hte : ∀ i, (te i).toNat < 8) (hnu : (nu (ix1 0)).toNat ≤ 72) (r : Fin 36864) (f : Fin 2048) :
    ownSum (mine te nu) (products x w) (ix2 r f)
      = if r.val / 512 < (nu (ix1 0)).toNat then
          ∑ k : Fin 5632, x (ix2 r k) * w (ix4 0 ⟨(te (ix1 ⟨r.val / 512, by omega⟩)).toNat, hte _⟩ k f)
        else 0 := by
  rw [ownSum_apply]
  simp only [mine_apply te nu hnu, products_apply]
  by_cases h : r.val / 512 < (nu (ix1 0)).toNat
  · simp only [h, and_true, if_true]
    rw [Finset.sum_eq_single (⟨(te (ix1 ⟨r.val / 512, by omega⟩)).toNat, hte _⟩ : Fin 8)]
    · rw [if_pos rfl]
    · intro e _ he
      exact if_neg fun hh => he (Fin.ext hh.symm)
    · intro hh
      exact absurd (Finset.mem_univ _) hh
  · simp only [h, and_false, if_false, Finset.sum_const_zero]

/-- Sixteen rows of 128 are one row of 2048. -/
theorem rows_apply (y : FVec Ideal S36864x2048 .f32) (r : Fin 589824) (l : Fin 128) :
    shapeCast S589824x128 y shapeCasts_S36864x2048_S589824x128 (ix2 r l)
      = y (ix2 (⟨r.val / 16, by omega⟩ : Fin 36864) (⟨128 * (r.val % 16) + l.val, by omega⟩ : Fin 2048)) := by
  pointwise
  exact congrArg y (congrArg (ix2 (n0 := 36864) (n1 := 2048) _) (Fin.ext (by show r.val % 16 * 128 + l.val = 128 * (r.val % 16) + l.val; omega)))

end Cert.Reference3Ideal.DownRef

end
-- ==== Proof.DownPre.lean ====
/-
  What the down product's precondition says: every tile's expert is one of the eight, and between 1 and 72 tiles are in use.
-/
module

public import proofs.«01_k».proof.Proof.Gen.Pre_tables3
public import proofs.«01_k».proof.Proof.UpPre

@[expose] public section

noncomputable section

open Idealize.ShloMosaic

namespace Cert.Pre_tables3

/-- The precondition, read: the ranges of the two tables. -/
theorem range_of_fn {F : FTy → Type} [FloatOps F] (te : IVec S72 32) (nu : IVec S1 32) (x : FVec F S36864x5632 .bf16)
    (w : FVec F S2x8x5632x2048 .bf16) (j : S_.Idx) (h : Cert.Pre_tables3.fn (F := F) te nu x w j = 1#1) :
    (∀ i, (te i).toNat < 8) ∧ (∀ i, 1 ≤ (nu i).toNat) ∧ (∀ i, (nu i).toNat ≤ 72) := by
  dsimp only [Cert.Pre_tables3.fn] at h
  have : Subsingleton S_.Idx := ⟨fun a b => funext fun x => x.elim0⟩
  have hs : ∀ a b : S1.Idx, a = b := fun a b => funext fun x => Fin.ext (by
    have h1 : x = 0 := Subsingleton.elim (α := Fin 1) _ _
    subst h1
    have ha : (a 0).val < 1 := (a 0).isLt
    have hb : (b 0).val < 1 := (b 0).isLt
    omega)
  obtain ⟨h1, h3⟩ := IntOp.andi_eq_one.mp h
  obtain ⟨h1, h2⟩ := IntOp.andi_eq_one.mp h1
  have g1 := Host.reduce_andi_all _ _ _ _ j h1
  have hn : ∀ i, 1 ≤ (nu i).toNat ∧ (nu i).toNat ≤ 72 := fun i => by
    obtain ⟨y, hy⟩ : ∃ y : S1.Idx, shapeCast S_ nu Gen.shapeCasts_S1_S_ j = nu y := ⟨_, rfl⟩
    rw [hs i y]
    refine Cert.Pre_tables.range_of_words (by decide) (by decide) ?_ ?_
    · rw [← hy]; exact h2
    · rw [← hy]; exact h3
  refine ⟨fun i => ?_, fun i => (hn i).1, fun i => (hn i).2⟩
  obtain ⟨a, b⟩ := IntOp.andi_eq_one.mp (g1 i)
  exact Nat.lt_of_le_of_lt (Cert.Pre_tables.range_of_words (a := 0) (b := 7) (by decide) (by decide) a (Cert.Pre_tables.sle_of_slt b)).2 (by decide)

end Cert.Pre_tables3

end
-- ==== Proof.DownWordRun.lean ====
/-
  One run of the down product's body on words along each of its paths.
-/
module

public import proofs.«01_k».proof.Defs
public import proofs.«01_k».proof.Proof.Gen.Kernel3.Skeleton
public import proofs.«01_k».proof.Proof.Gen.Kernel3.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel3.Down

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The two tables, whole. -/
abbrev tbM0_0 : Memref sig .tc .smem S72 .i32 := Memref.whole main_arg0
abbrev tbM0_1 : Memref sig .tc .smem S1 .i32 := Memref.whole main_arg1

/-- The number of used tiles, as the body reads it off its table. -/
abbrev used (T1 : S1.Idx → Elt Bits .i32) : BitVec 32 :=
  View.readAt (Elt Bits) (tbM0_1).view (Rect.unit (s := S1) ![0] S1.size inb_S1_S1_0).toLoadRect T1 (Shape.Idx.first (numel1_S1.symm ▸ Nat.one_pos))

set_option backward.proofsInPublic true in
set_option maxHeartbeats 8000000 in
/-- At the first half of a used tile: the pieces the body stores, with the proof that it stores them. -/
def run_A (c : Dev nD) (i : grid0.Coords) (arg4 : Memref sig .tc .vmem S512x5632 .bf16) (harg4 : arg4.IsWhole)
    (arg5 : Memref sig .tc .vmem S1x1x5632x1024 .bf16) (harg5 : arg5.IsWhole) (arg6 : Memref sig .tc .vmem S8192x128 .f32) (harg6 : arg6.IsWhole)
    (T0 : S72.Idx → Elt Bits .i32) (T1 : S1.Idx → Elt Bits .i32) (x0 : S512x5632.Idx → Elt Bits .bf16) (x1 : S1x1x5632x1024.Idx → Elt Bits .bf16)
    (k0_h1 : k0_cond1 i (used T1) = 1#1) (k0_h2 : k0_cond2 i = 1#1) (k0_h3 : ¬ k0_cond3 i = 1#1) (k0_h4 : ¬ k0_cond4 i (used T1) = 1#1) :
    { out : List (View.Piece (Elt Bits) S8192x128 .f32) //
      ∀ (f : Buf (Elt Bits) (arg6.view.loc (c : Thread nD τ))) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM0_0.view.loc (c : Thread nD τ) ↦{fullShare.right} T0)
          ∗ (tbM0_1.view.loc (c : Thread nD τ) ↦{fullShare.right} T1)
          ∗ (arg6.view.loc (c : Thread nD τ) ↦[arg6.view.set]{fullShare} f)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM0_0.view.loc (c : Thread nD τ) ↦{fullShare.right} T0)
              ∗ (tbM0_1.view.loc (c : Thread nD τ) ↦{fullShare.right} T1)
              ∗ (arg6.view.loc (c : Thread nD τ) ↦[arg6.view.set]{fullShare} arg6.view.writes (Elt Bits) f out)) -∗ K ⟨⟩))
          ⊢ wp frame (wpE (defs₀ (F := Bits)) Variants.none c none) Set.univ (cc0_swiglu_down_tok i tbM0_0 (Memref.isWhole_whole _) tbM0_1 (Memref.isWhole_whole _) arg4 harg4 arg5 harg5 arg6 harg6) K } :=
  ⟨_, fun f K => by
    rw [cc0_swiglu_down_tok_eq_skeleton]; unfold cc0_swiglu_down_tok_skel
    iintro ⟨H0, H1, HT0, HT1, HO, Hk⟩
    have hT0 : tbM0_0.IsWhole := Memref.isWhole_whole _
    have hT1 : tbM0_1.IsWhole := Memref.isWhole_whole _
    sl_exec! (disch := first | (guard_target = k0_cond1 _ _ = _; exact k0_h1) | (guard_target = k0_cond2 _ = _; exact k0_h2) | (guard_target = ¬(k0_cond3 _ = _); exact k0_h3) | (guard_target = ¬(k0_cond4 _ _ = _); exact k0_h4))
    sl_step
    iapply Hk
    isplitl [H0]; · iexact H0
    isplitl [H1]; · iexact H1
    isplitl [HT0]; · iexact HT0
    isplitl [HT1]; · iexact HT1
    iexact HO⟩

set_option backward.proofsInPublic true in
set_option maxHeartbeats 8000000 in
/-- At the second half of a used tile: the pieces the body stores, with the proof that it stores them. -/
def run_B (c : Dev nD) (i : grid0.Coords) (arg4 : Memref sig .tc .vmem S512x5632 .bf16) (harg4 : arg4.IsWhole)
    (arg5 : Memref sig .tc .vmem S1x1x5632x1024 .bf16) (harg5 : arg5.IsWhole) (arg6 : Memref sig .tc .vmem S8192x128 .f32) (harg6 : arg6.IsWhole)
    (T0 : S72.Idx → Elt Bits .i32) (T1 : S1.Idx → Elt Bits .i32) (x0 : S512x5632.Idx → Elt Bits .bf16) (x1 : S1x1x5632x1024.Idx → Elt Bits .bf16)
    (k0_h1 : k0_cond1 i (used T1) = 1#1) (k0_h2 : ¬ k0_cond2 i = 1#1) (k0_h3 : k0_cond3 i = 1#1) (k0_h4 : ¬ k0_cond4 i (used T1) = 1#1) :
    { out : List (View.Piece (Elt Bits) S8192x128 .f32) //
      ∀ (f : Buf (Elt Bits) (arg6.view.loc (c : Thread nD τ))) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM0_0.view.loc (c : Thread nD τ) ↦{fullShare.right} T0)
          ∗ (tbM0_1.view.loc (c : Thread nD τ) ↦{fullShare.right} T1)
          ∗ (arg6.view.loc (c : Thread nD τ) ↦[arg6.view.set]{fullShare} f)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM0_0.view.loc (c : Thread nD τ) ↦{fullShare.right} T0)
              ∗ (tbM0_1.view.loc (c : Thread nD τ) ↦{fullShare.right} T1)
              ∗ (arg6.view.loc (c : Thread nD τ) ↦[arg6.view.set]{fullShare} arg6.view.writes (Elt Bits) f out)) -∗ K ⟨⟩))
          ⊢ wp frame (wpE (defs₀ (F := Bits)) Variants.none c none) Set.univ (cc0_swiglu_down_tok i tbM0_0 (Memref.isWhole_whole _) tbM0_1 (Memref.isWhole_whole _) arg4 harg4 arg5 harg5 arg6 harg6) K } :=
  ⟨_, fun f K => by
    rw [cc0_swiglu_down_tok_eq_skeleton]; unfold cc0_swiglu_down_tok_skel
    iintro ⟨H0, H1, HT0, HT1, HO, Hk⟩
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ = _); exact k0_h2) | (guard_target = k0_cond3 _ = _; exact k0_h3) | (guard_target = ¬(k0_cond4 _ _ = _); exact k0_h4))
    sl_step
    iapply Hk
    isplitl [H0]; · iexact H0
    isplitl [H1]; · iexact H1
    isplitl [HT0]; · iexact HT0
    isplitl [HT1]; · iexact HT1
    iexact HO⟩

set_option maxHeartbeats 8000000 in
/-- At the first half of an unused tile: the body stores zeros over the whole block. -/
theorem run_C (c : Dev nD) (i : grid0.Coords) (arg4 : Memref sig .tc .vmem S512x5632 .bf16) (harg4 : arg4.IsWhole)
    (arg5 : Memref sig .tc .vmem S1x1x5632x1024 .bf16) (harg5 : arg5.IsWhole) (arg6 : Memref sig .tc .vmem S8192x128 .f32) (harg6 : arg6.IsWhole)
    (T0 : S72.Idx → Elt Bits .i32) (T1 : S1.Idx → Elt Bits .i32) (x0 : S512x5632.Idx → Elt Bits .bf16) (x1 : S1x1x5632x1024.Idx → Elt Bits .bf16)
    (k0_h1 : ¬ k0_cond1 i (used T1) = 1#1) (k0_h2 : k0_cond2 i = 1#1) (k0_h3 : ¬ k0_cond3 i = 1#1) (k0_h4 : k0_cond4 i (used T1) = 1#1) :
      ∀ (f : Buf (Elt Bits) (arg6.view.loc (c : Thread nD τ))) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM0_0.view.loc (c : Thread nD τ) ↦{fullShare.right} T0)
          ∗ (tbM0_1.view.loc (c : Thread nD τ) ↦{fullShare.right} T1)
          ∗ (arg6.view.loc (c : Thread nD τ) ↦[arg6.view.set]{fullShare} f)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM0_0.view.loc (c : Thread nD τ) ↦{fullShare.right} T0)
              ∗ (tbM0_1.view.loc (c : Thread nD τ) ↦{fullShare.right} T1)
              ∗ (∃ g, ⌜∀ y, arg6.view.read (Elt Bits) g y = k0_pay18 (F := Bits) y⌝ ∗ arg6.view.loc (c : Thread nD τ) ↦[arg6.view.set]{fullShare} g)) -∗ K ⟨⟩))
          ⊢ wp frame (wpE (defs₀ (F := Bits)) Variants.none c none) Set.univ (cc0_swiglu_down_tok i tbM0_0 (Memref.isWhole_whole _) tbM0_1 (Memref.isWhole_whole _) arg4 harg4 arg5 harg5 arg6 harg6) K := by
    intro f K
    rw [cc0_swiglu_down_tok_eq_skeleton]; unfold cc0_swiglu_down_tok_skel
    iintro ⟨H0, H1, HT0, HT1, HO, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond2 _ = _; exact k0_h2) | (guard_target = ¬(k0_cond3 _ = _); exact k0_h3) | (guard_target = k0_cond4 _ _ = _; exact k0_h4))
    sl_step
    iapply Hk
    isplitl [H0]; · iexact H0
    isplitl [H1]; · iexact H1
    isplitl [HT0]; · iexact HT0
    isplitl [HT1]; · iexact HT1
    iexists _; isplitr; swap; · iexact HO
    ipureintro; intro y
    unfold run_C.sl.HO_1
    rw [View.read_writes_full]

set_option maxHeartbeats 8000000 in
/-- At the second half of an unused tile the body stores nothing. -/
theorem run_D (c : Dev nD) (i : grid0.Coords) (arg4 : Memref sig .tc .vmem S512x5632 .bf16) (harg4 : arg4.IsWhole)
    (arg5 : Memref sig .tc .vmem S1x1x5632x1024 .bf16) (harg5 : arg5.IsWhole) (arg6 : Memref sig .tc .vmem S8192x128 .f32) (harg6 : arg6.IsWhole)
    (T0 : S72.Idx → Elt Bits .i32) (T1 : S1.Idx → Elt Bits .i32) (x0 : S512x5632.Idx → Elt Bits .bf16) (x1 : S1x1x5632x1024.Idx → Elt Bits .bf16)
    (k0_h1 : ¬ k0_cond1 i (used T1) = 1#1) (k0_h2 : ¬ k0_cond2 i = 1#1) (k0_h3 : k0_cond3 i = 1#1) (k0_h4 : ¬ k0_cond4 i (used T1) = 1#1) :
      ∀ (f : Buf (Elt Bits) (arg6.view.loc (c : Thread nD τ))) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM0_0.view.loc (c : Thread nD τ) ↦{fullShare.right} T0)
          ∗ (tbM0_1.view.loc (c : Thread nD τ) ↦{fullShare.right} T1)
          ∗ (arg6.view.loc (c : Thread nD τ) ↦[arg6.view.set]{fullShare} f)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM0_0.view.loc (c : Thread nD τ) ↦{fullShare.right} T0)
              ∗ (tbM0_1.view.loc (c : Thread nD τ) ↦{fullShare.right} T1)
              ∗ (arg6.view.loc (c : Thread nD τ) ↦[arg6.view.set]{fullShare} f)) -∗ K ⟨⟩))
          ⊢ wp frame (wpE (defs₀ (F := Bits)) Variants.none c none) Set.univ (cc0_swiglu_down_tok i tbM0_0 (Memref.isWhole_whole _) tbM0_1 (Memref.isWhole_whole _) arg4 harg4 arg5 harg5 arg6 harg6) K := fun f K => by
    rw [cc0_swiglu_down_tok_eq_skeleton]; unfold cc0_swiglu_down_tok_skel
    iintro ⟨H0, H1, HT0, HT1, HO, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = ¬(k0_cond2 _ = _); exact k0_h2) | (guard_target = k0_cond3 _ = _; exact k0_h3) | (guard_target = ¬(k0_cond4 _ _ = _); exact k0_h4))
    sl_step
    iapply Hk
    isplitl [H0]; · iexact H0
    isplitl [H1]; · iexact H1
    isplitl [HT0]; · iexact HT0
    isplitl [HT1]; · iexact HT1
    iexact HO

end Cert.Kernel3.Down

end
-- ==== Proof.DownWordFrame.lean ====
/-
  The frame of the down product on words, at arbitrary tables: every execution ends, nothing faults, the arguments are
  unchanged. Of the result nothing is said here.
-/
module

public import proofs.«01_k».proof.Proof.DownWordTables
public import Idealize.ShloMosaic.Lib.Pipeline.ArrRel

@[expose] public section

set_option maxRecDepth 16384
set_option Elab.async false

noncomputable section

namespace Cert.Kernel3.Down

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Bits) ℕ (UR sig nD τ) ℕ

/-- The proof's resource algebra: the staging cells' alone. -/
abbrev EP : Emb (UR sig nD τ) 𝕄 := emb₁

variable (T : Tabs)
variable (m : (ℓ : Loc nD τ sig) → Buf (Elt Bits) ℓ) (ρ : Dev nD → PrngReg)

/-! ## The pipeline's proof data -/

/-- The exact part of the data: the inputs keep their blocks. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 3) t
    | ⟨1, _⟩ => iblk T m ρ c (1 : Fin 3) t
    | ⟨2, _⟩ => k0_pay18 (F := Bits)
  Φ _ := iprop((tbM0_0.view.loc (c : Thread nD τ) ↦{fullShare.right} T.te) ∗ (tbM0_1.view.loc (c : Thread nD τ) ↦{fullShare.right} T.nu))
  q _ := fullShare
  owed _ := 0

/-- The output alone is left open. -/
def marked : Fin (cfgA T).W → Bool := fun w => match w with
  | ⟨0, _⟩ => false
  | ⟨1, _⟩ => false
  | ⟨2, _⟩ => true

/-- Nothing is asked of what it holds. -/
def Rl (c : Dev nD) : (w : Fin (cfgA T).W) → Fin (cfgA T).N → (((cfgA T).win w).block.Idx → Elt Bits ((cfgA T).win w).elt) → Prop := fun w => match w with
  | ⟨0, _⟩ => fun _ _ => True
  | ⟨1, _⟩ => fun _ _ => True
  | ⟨2, _⟩ => fun _ _ => True

/-- The data of the one pipeline on core `c`. -/
def rdats (p : Fin 1) (c : Dev nD) : RDat τ (Elt Bits) Unit ℕ (UR sig nD τ) ℕ (pcs T p) c := match p with
  | ⟨0, _⟩ => (dats T m ρ 0 c).toRRel (marked T) (Rl T c)

theorem after0_0 (c : Dev nD) (t : Fin (cfgA T).N) : (dats T m ρ 0 c).after (0 : Fin 3) t = iblk T m ρ c (0 : Fin 3) t := rfl
theorem after0_1 (c : Dev nD) (t : Fin (cfgA T).N) : (dats T m ρ 0 c).after (1 : Fin 3) t = iblk T m ρ c (1 : Fin 3) t := rfl

/-- Input window 0 holds its block, fetched there or not. -/
theorem before0_0 (c : Dev nD) (t : Fin (cfgA T).N) (d) : (dats T m ρ 0 c).before (0 : Fin 3) t d = iblk T m ρ c (0 : Fin 3) t :=
  ((dats T m ρ 0 c).before_in_eq_fetched (0 : Fin 3) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA T).N) (d) : (dats T m ρ 0 c).before (1 : Fin 3) t d = iblk T m ρ c (1 : Fin 3) t :=
  ((dats T m ρ 0 c).before_in_eq_fetched (1 : Fin 3) rfl (fun _ => rfl) (fun _ _ _ => rfl) (fun t => by rw [after0_1]; unfold Dat.blockOf iblk; rfl) t d).trans
    (by unfold Dat.fetched Dat.blockOf iblk; rfl)

/-! ## The body, at a point -/

/-- A block owned at some contents is its buffer held at contents that read so, -/
theorem held_of_owns (c : Dev nD) (M : Memref sig .tc .vmem S8192x128 .f32) (Y : S8192x128.Idx → Elt Bits .f32) :
    (owns (c : Thread nD τ) M fullShare Y : sProp 𝕄)
      ⊢ iprop(∃ f, ⌜M.view.read (Elt Bits) f = Y⌝ ∗ (M.view.loc (c : Thread nD τ) ↦[M.view.set]{fullShare} f)) := by
  unfold owns
  exact .rfl

/-- and a buffer held is a block owned at what it reads. -/
theorem owns_of_held (c : Dev nD) (M : Memref sig .tc .vmem S8192x128 .f32) (f : Buf (Elt Bits) (M.view.loc (c : Thread nD τ))) :
    (M.view.loc (c : Thread nD τ) ↦[M.view.set]{fullShare} f : sProp 𝕄)
      ⊢ owns (c : Thread nD τ) M fullShare (M.view.read (Elt Bits) f) := by
  unfold owns
  iintro H
  iexists f
  isplitr
  · ipureintro; rfl
  · iexact H

/-- The body at point `t` on its staging memrefs, as the pipeline calls it. -/
abbrev bodyAt0 (t : Fin (cfgA T).N) : Prog (TpuEff nD τ sig (Elt Bits) Λ₀ .tc) PUnit :=
  cc0_swiglu_down_tok (crd T t) (Memref.whole main_arg0) (Memref.isWhole_whole _) (Memref.whole main_arg1) (Memref.isWhole_whole _)
    (ms0_0 T t) (hs0_0 T t) (ms0_1 T t) (hs0_1 T t) (ms0_2 T t) (hs0_2 T t)

set_option maxHeartbeats 4000000 in
/-- At every point the body runs, keeps the tables and its inputs, and gives the output block back. -/
theorem sound_body (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 3) t d))
        ∗ (∃ d, owns (c : Thread nD τ) (ms0_1 T t) fullShare ((dats T m ρ 0 c).before (1 : Fin 3) t d))
        ∗ (∃ Y, ⌜((dats T m ρ 0 c).toRRel (marked T) (Rl T c)).Finds (2 : Fin 3) t Y⌝ ∗ owns (c : Thread nD τ) (ms0_2 T t) fullShare Y))
      ⊢ wp frame (wpE (defs₀ (F := Bits)) Variants.none c none) Set.univ (bodyAt0 T t) fun _ =>
          iprop((dats T m ρ 0 c).Φ t.succ ∗ (dats T m ρ 0 c).owesAt () t.succ
            ∗ owns (c : Thread nD τ) (ms0_0 T t) fullShare ((dats T m ρ 0 c).after (0 : Fin 3) t)
            ∗ owns (c : Thread nD τ) (ms0_1 T t) fullShare ((dats T m ρ 0 c).after (1 : Fin 3) t)
            ∗ (∃ X, ⌜True⌝ ∗ owns (c : Thread nD τ) (ms0_2 T t) fullShare X)) := by
  simp only [before0_0, before0_1, after0_0, after0_1]
  rewrite [show (dats T m ρ 0 c).Φ t.succ = iprop((tbM0_0.view.loc (c : Thread nD τ) ↦{fullShare.right} T.te) ∗ (tbM0_1.view.loc (c : Thread nD τ) ↦{fullShare.right} T.nu)) from rfl,
    show (dats T m ρ 0 c).Φ t.castSucc = iprop((tbM0_0.view.loc (c : Thread nD τ) ↦{fullShare.right} T.te) ∗ (tbM0_1.view.loc (c : Thread nD τ) ↦{fullShare.right} T.nu)) from rfl,
    show (dats T m ρ 0 c).owesAt () t.succ = (dats T m ρ 0 c).owesAt () t.castSucc from rfl]
  iintro ⟨⟨HT0, HT1⟩, Ho, ⟨%d0, H0⟩, ⟨%d1, H1⟩, ⟨%Y, %hY, H2⟩⟩
  ihave H2' := (held_of_owns c (ms0_2 T t) Y) $$ H2
  icases H2' with ⟨%f, %hf, H2⟩
  by_cases hu : (tile T t).val < nUsed T
  · by_cases hj : t.val % 2 = 1
    · iapply ((run_B c (crd T t) (ms0_0 T t) (hs0_0 T t) (ms0_1 T t) (hs0_1 T t) (ms0_2 T t) (hs0_2 T t) T.te T.nu (iblk T m ρ c (0 : Fin 3) t) (iblk T m ρ c (1 : Fin 3) t)
        ((cond1_iff T t).mpr hu) (fun h => by have := (cond2_iff T t).mp h; omega) ((cond3_iff T t).mpr hj) (fun h => ((cond4_iff T t).mp h).1 hu)).2 f _)
      isplitl [H0]; · iapply rep_of_owns; iexact H0
      isplitl [H1]; · iapply rep_of_owns; iexact H1
      isplitl [HT0]; · iexact HT0
      isplitl [HT1]; · iexact HT1
      isplitl [H2]; · iexact H2
      iintro ⟨H0, H1, HT0, HT1, H2⟩
      isplitl [HT0 HT1]
      · isplitl [HT0]; · iexact HT0
        iexact HT1
      isplitl [Ho]; · iexact Ho
      isplitl [H0]; · iapply owns_of_rep; iexact H0
      isplitl [H1]; · iapply owns_of_rep; iexact H1
      iexists _
      isplitr; swap
      · iapply owns_of_held; iexact H2
      · ipureintro; trivial
    · have hj0 : t.val % 2 = 0 := by omega
      iapply ((run_A c (crd T t) (ms0_0 T t) (hs0_0 T t) (ms0_1 T t) (hs0_1 T t) (ms0_2 T t) (hs0_2 T t) T.te T.nu (iblk T m ρ c (0 : Fin 3) t) (iblk T m ρ c (1 : Fin 3) t)
        ((cond1_iff T t).mpr hu) ((cond2_iff T t).mpr hj0) (fun h => hj ((cond3_iff T t).mp h)) (fun h => ((cond4_iff T t).mp h).1 hu)).2 f _)
      isplitl [H0]; · iapply rep_of_owns; iexact H0
      isplitl [H1]; · iapply rep_of_owns; iexact H1
      isplitl [HT0]; · iexact HT0
      isplitl [HT1]; · iexact HT1
      isplitl [H2]; · iexact H2
      iintro ⟨H0, H1, HT0, HT1, H2⟩
      isplitl [HT0 HT1]
      · isplitl [HT0]; · iexact HT0
        iexact HT1
      isplitl [Ho]; · iexact Ho
      isplitl [H0]; · iapply owns_of_rep; iexact H0
      isplitl [H1]; · iapply owns_of_rep; iexact H1
      iexists _
      isplitr; swap
      · iapply owns_of_held; iexact H2
      · ipureintro; trivial
  · by_cases hj : t.val % 2 = 1
    · iapply (run_D c (crd T t) (ms0_0 T t) (hs0_0 T t) (ms0_1 T t) (hs0_1 T t) (ms0_2 T t) (hs0_2 T t) T.te T.nu (iblk T m ρ c (0 : Fin 3) t) (iblk T m ρ c (1 : Fin 3) t)
        (fun h => hu ((cond1_iff T t).mp h)) (fun h => by have := (cond2_iff T t).mp h; omega) ((cond3_iff T t).mpr hj)
        (fun h => by have := ((cond4_iff T t).mp h).2; omega) f _)
      isplitl [H0]; · iapply rep_of_owns; iexact H0
      isplitl [H1]; · iapply rep_of_owns; iexact H1
      isplitl [HT0]; · iexact HT0
      isplitl [HT1]; · iexact HT1
      isplitl [H2]; · iexact H2
      iintro ⟨H0, H1, HT0, HT1, H2⟩
      isplitl [HT0 HT1]
      · isplitl [HT0]; · iexact HT0
        iexact HT1
      isplitl [Ho]; · iexact Ho
      isplitl [H0]; · iapply owns_of_rep; iexact H0
      isplitl [H1]; · iapply owns_of_rep; iexact H1
      iexists _
      isplitr; swap
      · iapply owns_of_held; iexact H2
      · ipureintro; trivial
    · have hj0 : t.val % 2 = 0 := by omega
      iapply (run_C c (crd T t) (ms0_0 T t) (hs0_0 T t) (ms0_1 T t) (hs0_1 T t) (ms0_2 T t) (hs0_2 T t) T.te T.nu (iblk T m ρ c (0 : Fin 3) t) (iblk T m ρ c (1 : Fin 3) t)
        (fun h => hu ((cond1_iff T t).mp h)) ((cond2_iff T t).mpr hj0) (fun h => hj ((cond3_iff T t).mp h)) ((cond4_iff T t).mpr ⟨hu, hj0⟩) f _)
      isplitl [H0]; · iapply rep_of_owns; iexact H0
      isplitl [H1]; · iapply rep_of_owns; iexact H1
      isplitl [HT0]; · iexact HT0
      isplitl [HT1]; · iexact HT1
      isplitl [H2]; · iexact H2
      iintro ⟨H0, H1, HT0, HT1, ⟨%g, %hg, H2⟩⟩
      isplitl [HT0 HT1]
      · isplitl [HT0]; · iexact HT0
        iexact HT1
      isplitl [Ho]; · iexact Ho
      isplitl [H0]; · iapply owns_of_rep; iexact H0
      isplitl [H1]; · iapply owns_of_rep; iexact H1
      iexists _
      isplitr; swap
      · iapply owns_of_held; iexact H2
      · ipureintro; trivial

/-- The body's obligation, at every point. -/
theorem body_rel (c : Dev nD) : BodyObligationRel (dats T m ρ 0 c) (defs₀ (F := Bits)) Variants.none () Set.univ (marked T) (Rl T c) := fun t => by
  rw [bigSep_W0, bigSep_W0]
  exact sound_body T m ρ c t

theorem body_obligation (c : Dev nD) : (rdats T m ρ 0 c).BodyObligation (defs₀ (F := Bits)) Variants.none () Set.univ :=
  (body_rel T m ρ c).toRRel

/-! ## The launch -/

/-- The launch element of the staging cells. -/
def u₀ : UR sig nD τ :=
  initOf (Pipeline.cells (pcs T) ((launch0 (F := Bits)).cellOf_inj fun _ => adm T))
    (Pipeline.launchToks (pcs T) ((launch0 (F := Bits)).cellOf_inj fun _ => adm T))

/-- The launch element, and nothing beside it. -/
theorem u₀_split : (ownU (u₀ T) : sProp 𝕄)
    ⊢ |={Set.univ}=> iprop(BI.own (EP (initOf (Pipeline.cells (pcs T) ((launch0 (F := Bits)).cellOf_inj fun _ => adm T))
        (Pipeline.launchToks (pcs T) ((launch0 (F := Bits)).cellOf_inj fun _ => adm T)))) ∗ bigSep Finset.univ fun _ : Dev nD => iprop(emp)) := by
  have h : (ownU (u₀ T) : sProp 𝕄) ⊢ BI.own (EP (initOf (Pipeline.cells (pcs T) ((launch0 (F := Bits)).cellOf_inj fun _ => adm T))
      (Pipeline.launchToks (pcs T) ((launch0 (F := Bits)).cellOf_inj fun _ => adm T)))) := .rfl
  have e : (BI.emp : sProp 𝕄) ⊢ bigSep Finset.univ (fun _ : Dev nD => (BI.emp : sProp 𝕄)) := by rw [BI.bigSep_emp_const]
  iintro Hu
  ihave H := h $$ Hu
  imodintro
  isplitl [H]
  · iexact H
  · iapply e
    iempintro

theorem share_eq (c : Dev nD) (w : Fin (cfgA T).W) : (rdats T m ρ 0 c).share w = fullShare := by
  show (dats T m ρ 0 c).share w = fullShare
  unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables; -/
theorem phi0_intro (c : Dev nD) :
    iprop(BI.emp ∗ Pipeline.prefHeld pre0 c (fun _ => fullShare.right) (adm T).1 ∗ Pipeline.scopedRest spec0 c) ⊢ (rdats T m ρ 0 c).Φ 0 := by
  rw [prefHeld_eq, scopedRest0_eq, show (rdats T m ρ 0 c).Φ 0
    = iprop((tbM0_0.view.loc (c : Thread nD τ) ↦{fullShare.right} T.te) ∗ (tbM0_1.view.loc (c : Thread nD τ) ↦{fullShare.right} T.nu)) from rfl]
  iintro ⟨-, ⟨HT0, HT1⟩, -⟩
  isplitl [HT0]
  · iexact HT0
  iexact HT1

/-- at the last point the tables are let go. -/
theorem phiN_exit (c : Dev nD) : (rdats T m ρ 0 c).Φ (Fin.last (cfgA T).N)
    ⊢ iprop(BI.emp ∗ Pipeline.ownSems0 (Ix := Unit) (Name := ℕ) (U := UR sig nD τ) (Lvl := ℕ) (Val := Elt Bits) (τ := τ) (fun k : PEmpty => k.elim) c
      ∗ Pipeline.scopedRest spec0 c) := by
  rw [scopedRest0_eq, Pipeline.ownSems0_none]
  iintro -
  isplitr; · iempintro
  isplitr; · iempintro
  iempintro

/-- What the launch ends in: every array at contents the data allow, every table as it was. -/
def QC : PUnit × MemSt nD τ sig (Elt Bits) → Prop := fun r =>
  ∀ c : Dev nD, (∀ w : Fin (cfgA T).W, (rdats T m ρ 0 c).ArrAt w (cfgA T).N (r.2.mem (((cfgA T).win w).arr.view.loc (c : Thread nD τ))))
    ∧ ∀ j, r.2.mem ((c : Thread nD τ).loc (pre0.ref j)) = (adm T).1 j

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From a launch memory that holds the tables, every fair execution ends, with the arrays at contents the data allow and
    every semaphore counter at zero. -/
theorem run_main_quiescent (hp : Holds T m) : θ_run (defs (F := Bits)) (onTc (τ := τ) (main (F := Bits))) (s₀ m ρ) (fun r => QC T m ρ r ∧ r.2.sem = fun _ => 0) :=
  Pipeline.RDat.θ_run_region_pf_quiescent pcfgs (fun _ => adm T) (rdats T m ρ) () ((launch0 (F := Bits)).cellOf_inj fun _ => adm T) (0 : Fin 1)
    (launch0 (F := Bits)).win.to₀ (Pipeline.OwnSemFacts.none _) (launch0 (F := Bits)).pre EP defs₀ Variants.none m ρ main
    (hbody := fun c => body_obligation T m ρ c) (hne := (launch0 (F := Bits)).block_pos)
    (harr := (launch0 (F := Bits)).arr_whole) (hstage := (launch0 (F := Bits)).stage_whole) (howed := fun _ _ => rfl)
    (G := fun _ => iprop(emp)) (u₀ := u₀ T) (hu₀ := u₀_split T)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.RDat.arrays_split pcfgs (fun _ => adm T) (rdats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; imodintro; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Holds T m) : θ_run (defs (F := Bits)) (onTc (τ := τ) (main (F := Bits))) (s₀ m ρ) (QC T m ρ) :=
  (θ_run defs _ _).mono (fun _ h => h.1) (run_main_quiescent T m ρ hp)

/-- An input array ends as it began. -/
theorem input_kept (c : Dev nD) (w : Fin (cfgA T).W) (hw : ((cfgA T).win w).isOut = false) (n : ℕ)
    (G : (w : Fin (cfgA T).W) → Buf (Elt Bits) (((cfgA T).win w).arr.view.loc (c : Thread nD τ)))
    (hG : ∀ w, (rdats T m ρ 0 c).ArrAt w n (G w)) : G w = (s₀ m ρ).mem (((cfgA T).win w).arr.view.loc (c : Thread nD τ)) := by
  obtain ⟨after, -, h⟩ := RDat.ArrAt.exists_exact_all hG
  exact (h w).trans (Dat.arrAt_in _ w hw _)

/-- The argument arrays end unchanged. -/
theorem unchanged (hp : Holds T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).2 0).trans (hp.1 c).symm, ((h c).2 1).trans (hp.2 c).symm,
    input_kept T m ρ c (0 : Fin 3) rfl (cfgA T).N (fun w => r.2.mem (((cfgA T).win w).arr.view.loc (c : Thread nD τ))) (h c).1,
    input_kept T m ρ c (1 : Fin 3) rfl (cfgA T).N (fun w => r.2.mem (((cfgA T).win w).arr.view.loc (c : Thread nD τ))) (h c).1⟩) (run_main T m ρ hp)

/-- From a launch memory that holds the tables, every execution ends, nothing faults, every argument array is unchanged,
    and every semaphore counter reads zero. -/
theorem frame (hp : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged T m ρ hp) ((θ_run defs _ _).mono (fun _ h => h.2) (run_main_quiescent T m ρ hp))

end Cert.Kernel3.Down

end
-- ==== Proof.DownClaim.lean ====
/-
  The down call: from the same arguments, the tables in range, the kernel and the reference end with the same result; and
  the frames of the kernel, of its idealization and of the reference.
-/
module

public import proofs.«01_k».proof.Defs
public import proofs.«01_k».proof.Proof.DownValue
public import proofs.«01_k».proof.Proof.DownRef
public import proofs.«01_k».proof.Proof.DownPre
public import proofs.«01_k».proof.Proof.DownWordFrame
public import Idealize.ShloMosaic.Lib.Quiescent

@[expose] public section

set_option maxRecDepth 16384

noncomputable section

open Idealize.ShloMosaic Idealize.ShloMosaic.TcCoe Idealize.SL.Sem

namespace Cert.DownClaim

/-- The precondition gives tables in range that the memory holds. -/
theorem tables_ideal (m : (ℓ : Loc Cert.Kernel3Ideal.nD Cert.Kernel3Ideal.τ Cert.Kernel3Ideal.sig) → Buf (Elt Ideal) ℓ)
    (h : Cert.Pre_Kernel3Ideal (hPre_tables3 := Cert.Pre_tables3.Gen.facts) m) :
    ∃ T : Cert.Kernel3Ideal.Down.Tabs, Cert.Kernel3Ideal.Down.Holds T m := by
  obtain ⟨h1, h2, h3⟩ := Cert.Pre_tables3.range_of_fn _ _ _ _ ix0 (congrFun (h 0) _)
  exact ⟨⟨_, _, h1, h2, h3⟩, fun c => by rw [Subsingleton.elim c 0], fun c => by rw [Subsingleton.elim c 0]⟩

/-- The same of the kernel over bits. -/
theorem tables_bits (m : (ℓ : Loc Cert.Kernel3.nD Cert.Kernel3.τ Cert.Kernel3.sig) → Buf (Elt Bits) ℓ)
    (h : Cert.Pre_Kernel3 (hPre_tables3 := Cert.Pre_tables3.Gen.facts) m) :
    ∃ T : Cert.Kernel3.Down.Tabs, Cert.Kernel3.Down.Holds T m := by
  obtain ⟨h1, h2, h3⟩ := Cert.Pre_tables3.range_of_fn _ _ _ _ ix0 (congrFun (h 0) _)
  exact ⟨⟨_, _, h1, h2, h3⟩, fun c => by rw [Subsingleton.elim c 0], fun c => by rw [Subsingleton.elim c 0]⟩

/-- The kernel over bits runs, leaves its arguments and its semaphores as they were. -/
theorem frame_bits : Cert.quiescent_Kernel3 (hKernel3 := Cert.Kernel3.Gen.facts) (hPre_tables3 := Cert.Pre_tables3.Gen.facts) :=
  fun m g h => (tables_bits m h).elim fun T hT => Cert.Kernel3.Down.frame T m g hT

/-- So does its idealization. -/
theorem frame_ideal : Cert.quiescent_Kernel3Ideal (hKernel3Ideal := Cert.Kernel3Ideal.Gen.facts) (hPre_tables3 := Cert.Pre_tables3.Gen.facts) :=
  fun m g h => (tables_ideal m h).elim fun T hT => Cert.Kernel3Ideal.Down.frame T m g hT

/-- So does the reference, which declares no semaphore. -/
theorem frame_ref : Cert.quiescent_Reference3Ideal (hReference3Ideal := Cert.Reference3Ideal.Gen.facts) :=
  fun m g _ => (θ_run _ _ _).mono (fun r h => ⟨fun c => (h c).2, sem_eq_zero_of_no_sems (by decide) r.2⟩)
    (Cert.Reference3Ideal.Value.run m g)

/-- The reference's result is the product of each row with its tile's expert, in rows of 128. -/
theorem ref_eq (T : Cert.Kernel3Ideal.Down.Tabs) (x : FVec Ideal Cert.Kernel3Ideal.S36864x5632 .bf16)
    (w : FVec Ideal Cert.Kernel3Ideal.S2x8x5632x2048 .bf16) :
    Cert.Reference3Ideal.DownRef.result T.te T.nu x w = Cert.Kernel3Ideal.Down.downOut T x w := by
  funext j
  obtain ⟨r, l, rfl⟩ : ∃ (r : Fin 589824) (l : Fin 128), j = ix2 r l := ⟨j 0, j 1, eq_ix2 (n0 := 589824) (n1 := 128) j⟩
  unfold Cert.Reference3Ideal.DownRef.result
  rw [Cert.Reference3Ideal.DownRef.rows_apply]
  exact Cert.Reference3Ideal.DownRef.sums_apply T.te T.nu x w T.te_lt (T.nu_le _) _ _

/-- Kernel and reference agree on the down product. -/
theorem algebraic : Cert.algebraic_Kernel3Ideal_Reference3Ideal (hKernel3Ideal := Cert.Kernel3Ideal.Gen.facts)
    (hReference3Ideal := Cert.Reference3Ideal.Gen.facts) (hPre_tables3 := Cert.Pre_tables3.Gen.facts) := by
  intro m g m' g' hpre hargs
  obtain ⟨T, hT⟩ := tables_ideal m hpre
  refine ⟨fun c => Cert.Kernel3Ideal.Down.downOut T (m ((c.tc : Thread _ _).loc Cert.Kernel3Ideal.main_arg2)) (m ((c.tc : Thread _ _).loc Cert.Kernel3Ideal.main_arg3)),
    (θ_run _ _ _).mono (fun r h c => ⟨Cert.Kernel3Ideal.Down.final T m g c (fun w => r.2.mem _) (h.1 c).1, h.2 c⟩)
      (θ_run_and (Cert.Kernel3Ideal.Down.run_main T m g hT) (Cert.Kernel3Ideal.Down.unchanged T m g hT)),
    (θ_run _ _ _).mono (fun r h c => ?_) (Cert.Reference3Ideal.Value.run m' g')⟩
  obtain ⟨h0, h1, h2, h3⟩ := hargs c
  have e : Cert.Reference3Ideal.DownRef.result
      (m' ((c.tc : Thread _ _).loc Cert.Reference3Ideal.main_arg0)) (m' ((c.tc : Thread _ _).loc Cert.Reference3Ideal.main_arg1))
      (m' ((c.tc : Thread _ _).loc Cert.Reference3Ideal.main_arg2)) (m' ((c.tc : Thread _ _).loc Cert.Reference3Ideal.main_arg3))
      = Cert.Kernel3Ideal.Down.downOut T (m ((c.tc : Thread _ _).loc Cert.Kernel3Ideal.main_arg2)) (m ((c.tc : Thread _ _).loc Cert.Kernel3Ideal.main_arg3)) := by
    rw [h0, h1, h2, h3, hT.1 c, hT.2 c]
    exact ref_eq T _ _
  exact ⟨(h c).1.trans e, (h c).2⟩

end Cert.DownClaim

end
-- ==== Proof.GateBlock.lean ====
/-
  What a grid point of the branch gates' projection leaves: the weights narrowed in the scratch, and in the output block
  the logistic function of the rows' products with the narrowed weights, stored in eight pieces of 256 rows.
-/
module

public import proofs.«01_k».proof.Proof.Gen.Kernel4Ideal.Frame
public import Idealize.ShloMosaic.Lib.Pipeline.ValueKit
public import Idealize.ShloMosaic.Lib.VecWindow

@[expose] public section

set_option maxRecDepth 16384

noncomputable section

namespace Cert.Kernel4Ideal.Gate

open Cert.Kernel4Ideal Cert.Kernel4Ideal.Gen
open Idealize.ShloMosaic
open Idealize.ShloMosaic.TcCoe Idealize.ShloMosaic.Tactic

/-- The logistic function. -/
def logistic (a : EReal) : EReal := Ideal.div 1 (1 + Ideal.exp (-a))

/-- A block of gates: the logistic function of the rows' products with the weights. -/
def gates (x : S2048x2048.Idx → EReal) (w : S2048x512.Idx → EReal) (r : Fin 2048) (l : Fin 512) : EReal :=
  logistic (∑ k : Fin 2048, x (ix2 r k) * w (ix2 k l))

/-! ## The payloads at an entry -/

section Payloads

variable (w : S2048x512.Idx → EReal) (x : S256x2048.Idx → EReal) (i : Fin 256) (l : Fin 512)

theorem narrow_apply (w : S1x2048x512.Idx → EReal) (k : Fin 2048) (l : Fin 512) :
    k0_pay4 (F := Ideal) w (ix2 k l) = w (ix3 0 k l) := by
  pointwise [k0_pay4]

theorem pay5_apply : k0_pay5 (F := Ideal) w x (ix2 i l) = logistic (∑ k : Fin 2048, x (ix2 i k) * w (ix2 k l)) := by
  pointwise [k0_pay5]; rw [zero_sub]; rfl

theorem pay6_apply : k0_pay6 (F := Ideal) w x (ix2 i l) = logistic (∑ k : Fin 2048, x (ix2 i k) * w (ix2 k l)) := by
  pointwise [k0_pay6]; rw [zero_sub]; rfl

theorem pay8_apply : k0_pay8 (F := Ideal) (k0_pay7 (F := Ideal) w x) (ix2 i l) = logistic (∑ k : Fin 2048, x (ix2 i k) * w (ix2 k l)) := by
  pointwise [k0_pay8, k0_pay7]; rw [zero_sub]; rfl

theorem pay9_apply : k0_pay9 (F := Ideal) w x (ix2 i l) = logistic (∑ k : Fin 2048, x (ix2 i k) * w (ix2 k l)) := by
  pointwise [k0_pay9]; rw [zero_sub]; rfl

theorem pay10_apply : k0_pay10 (F := Ideal) w x (ix2 i l) = logistic (∑ k : Fin 2048, x (ix2 i k) * w (ix2 k l)) := by
  pointwise [k0_pay10]; rw [zero_sub]; rfl

theorem pay1_apply : k0_pay1 (F := Ideal) (k0_pay11 (F := Ideal) w x) (ix2 i l) = logistic (∑ k : Fin 2048, x (ix2 i k) * w (ix2 k l)) := by
  pointwise [k0_pay1, k0_pay11]; rw [zero_sub]; rfl

theorem pay2_apply : k0_pay2 (F := Ideal) w x (ix2 i l) = logistic (∑ k : Fin 2048, x (ix2 i k) * w (ix2 k l)) := by
  pointwise [k0_pay2]; rw [zero_sub]; rfl

theorem pay3_apply : k0_pay3 (F := Ideal) w x (ix2 i l) = logistic (∑ k : Fin 2048, x (ix2 i k) * w (ix2 k l)) := by
  pointwise [k0_pay3]; rw [zero_sub]; rfl

end Payloads

/-! ## The block -/

/-- A load of 256 rows of the point's rows. -/
theorem rows_read (a2 : Memref sig .tc .vmem S2048x2048 .bf16) (h2 : a2.IsWhole) (x0 : S2048x2048.Idx → Elt Ideal .bf16) (o : ℕ) (ho : o + 256 ≤ 2048)
    (inb) (i : Fin 256) (k : Fin 2048) :
    View.readAt (Elt Ideal) a2.view (Rect.unit (s := S2048x2048) ![o, 0] ![256, 2048] inb).toLoadRect (h2.unread x0) (ix2 i k)
      = x0 (ix2 ⟨o + i.val, by omega⟩ k) := by
  rw [View.readAt_unit a2.view _ inb rfl inb, h2.read_unread]
  exact View.ld_unit_apply_of _ _ _ _ _ _ fun a => by
    match a with
    | ⟨0, _⟩ => rfl
    | ⟨1, _⟩ => show k.val = 0 + k.val; omega

/-- The entry of one piece is the block's at the place the piece sits at. -/
theorem piece (a2 : Memref sig .tc .vmem S2048x2048 .bf16) (h2 : a2.IsWhole) (x0 : S2048x2048.Idx → Elt Ideal .bf16) (w : S2048x512.Idx → EReal)
    (o : ℕ) (ho : o + 256 ≤ 2048) (inb) (P : S256x512.Idx → EReal)
    (hP : ∀ (i : Fin 256) (l : Fin 512), P (ix2 i l) = logistic (∑ k : Fin 2048,
      View.readAt (Elt Ideal) a2.view (Rect.unit (s := S2048x2048) ![o, 0] ![256, 2048] inb).toLoadRect (h2.unread x0) (ix2 i k) * w (ix2 k l)))
    (x : S256x512.Idx) (r : Fin 2048) (l : Fin 512) (h0 : r.val = o + (x 0).val) (h1 : l.val = (x 1).val) :
    P x = gates x0 w r l := by
  obtain ⟨i, j, rfl⟩ : ∃ (i : Fin 256) (j : Fin 512), x = ix2 i j := ⟨x 0, x 1, eq_ix2 (n0 := 256) (n1 := 512) x⟩
  have hr : r = ⟨o + i.val, by omega⟩ := Fin.ext h0
  have hl : l = j := Fin.ext h1
  rw [hP, hl, hr]
  simp only [rows_read a2 h2 x0 o ho inb]
  rfl

section Cases

variable (c : Dev nD) (i : grid0.Coords) (a2 : Memref sig .tc .vmem S2048x2048 .bf16) (h2 : a2.IsWhole) (a3 : Memref sig .tc .vmem S1x2048x512 .f32) (h3 : a3.IsWhole)
  (a4 : Memref sig .tc .vmem S2048x512 .bf16) (h4 : a4.IsWhole) (a5 : Memref sig .tc .vmem S2048x512 .bf16) (h5 : a5.IsWhole)
  (x0 : S2048x2048.Idx → Elt Ideal .bf16) (x1 : S1x2048x512.Idx → Elt Ideal .f32) (xs : S2048x512.Idx → Elt Ideal .bf16)

/-- The scratch after a point that narrows the weights. -/
theorem scratch_new (hc) : sout0_A_0 (F := Ideal) c i a2 h2 a3 h3 a4 h4 a5 h5 hc x0 x1 = k0_pay4 (F := Ideal) x1 := by
  unfold sout0_A_0 kernelRun0_A
  dsimp only
  unfold kernelRun0_A.sl.HS0_1
  rw [View.read_writes_full]
  exact congrArg (k0_pay4 (F := Ideal)) ((View.readAt_full a3.view _ _).trans (h3.read_unread x1))

/-- The weights such a point reads back. -/
theorem weights_new : kernelRun0_A.sl.v3 (F := Ideal) c a3 h3 a5 x1 = k0_pay4 (F := Ideal) x1 := by
  unfold kernelRun0_A.sl.v3 kernelRun0_A.sl.HS0_1
  rw [View.readCov_full]
  exact congrArg (k0_pay4 (F := Ideal)) ((View.readAt_full a3.view _ _).trans (h3.read_unread x1))

/-- The weights a point that keeps the scratch reads. -/
theorem weights_kept (inb) : View.readAt (Elt Ideal) a5.view (Rect.unit (s := S2048x512) ![0, 0] ![2048, 512] inb).toLoadRect (h5.unread xs) = xs :=
  (View.readAt_full a5.view _ _).trans (h5.read_unread xs)

/-- The block of a point that narrows the weights. -/
theorem block_new (hc) (r : Fin 2048) (l : Fin 512) :
    out0_A_2 (F := Ideal) c i a2 h2 a3 h3 a4 h4 a5 h5 hc x0 x1 (ix2 r l) = gates x0 (k0_pay4 (F := Ideal) x1) r l := by
  unfold out0_A_2 kernelRun0_A
  dsimp only
  unfold kernelRun0_A.sl.r kernelRun0_A.sl.r_1
  rw [weights_new, View.read_writes_junk_eq_canon]
  canon_tiles x h
  · exact piece a2 h2 x0 _ 1792 (by decide) _ _ (pay3_apply _ _) _ r l h0 h1
  · exact piece a2 h2 x0 _ 1536 (by decide) _ _ (pay2_apply _ _) _ r l h0 h1
  · exact piece a2 h2 x0 _ 1280 (by decide) _ _ (pay1_apply _ _) _ r l h0 h1
  · exact piece a2 h2 x0 _ 1024 (by decide) _ _ (pay10_apply _ _) _ r l h0 h1
  · exact piece a2 h2 x0 _ 768 (by decide) _ _ (pay9_apply _ _) _ r l h0 h1
  · exact piece a2 h2 x0 _ 512 (by decide) _ _ (pay8_apply _ _) _ r l h0 h1
  · exact piece a2 h2 x0 _ 256 (by decide) _ _ (pay6_apply _ _) _ r l h0 h1
  · exact piece a2 h2 x0 _ 0 (by decide) _ _ (pay5_apply _ _) _ r l ((show r.val = (x 0).val from h0).trans (Nat.zero_add _).symm) h1

/-- The block of a point that keeps the scratch. -/
theorem block_kept (hc) (r : Fin 2048) (l : Fin 512) :
    out0_B_2 (F := Ideal) c i a2 h2 a3 h3 a4 h4 a5 h5 hc x0 x1 xs (ix2 r l) = gates x0 xs r l := by
  unfold out0_B_2 kernelRun0_B
  dsimp only
  unfold kernelRun0_B.sl.r_2 kernelRun0_B.sl.r_1 kernelRun0_B.sl.r
  simp only [weights_kept]
  rw [ View.read_writes_junk_eq_canon]
  canon_tiles x h
  · exact piece a2 h2 x0 _ 1792 (by decide) _ _ (pay3_apply _ _) _ r l h0 h1
  · exact piece a2 h2 x0 _ 1536 (by decide) _ _ (pay2_apply _ _) _ r l h0 h1
  · exact piece a2 h2 x0 _ 1280 (by decide) _ _ (pay1_apply _ _) _ r l h0 h1
  · exact piece a2 h2 x0 _ 1024 (by decide) _ _ (pay10_apply _ _) _ r l h0 h1
  · exact piece a2 h2 x0 _ 768 (by decide) _ _ (pay9_apply _ _) _ r l h0 h1
  · exact piece a2 h2 x0 _ 512 (by decide) _ _ (pay8_apply _ _) _ r l h0 h1
  · exact piece a2 h2 x0 _ 256 (by decide) _ _ (pay6_apply _ _) _ r l h0 h1
  · exact piece a2 h2 x0 _ 0 (by decide) _ _ (pay5_apply _ _) _ r l ((show r.val = (x 0).val from h0).trans (Nat.zero_add _).symm) h1

end Cases

end Cert.Kernel4Ideal.Gate

end
-- ==== Proof.GateValue.lean ====
/-
  The whole array of gates after the run: row `r`, column `l` is the logistic function of row `r` of the tokens times
  column `5120 + l` of the first layer's input weights.
-/
module

public import proofs.«01_k».proof.Proof.Gen.Kernel4Ideal.Value
public import proofs.«01_k».proof.Proof.GateBlock

@[expose] public section

set_option maxRecDepth 16384

noncomputable section

open Idealize.ShloMosaic Idealize.ShloMosaic.TcCoe Idealize.SL.Sem

namespace Cert.Kernel4Ideal.Gate

open Cert.Kernel4Ideal Cert.Kernel4Ideal.Gen

variable (m : (ℓ : Loc nD τ sig) → Buf (Elt Ideal) ℓ)

/-- The gates at row `r` and column `l`. -/
def gateAt (h : FVec Ideal S16384x2048 .bf16) (w : FVec Ideal S4x2048x9216 .f32) (r : Fin 16384) (l : Fin 4096) : EReal :=
  logistic (∑ k : Fin 2048, h (ix2 r k) * w (ix3 0 k ⟨5120 + l.val, by omega⟩))

/-- The array of gates as one function of the two arguments. -/
def gate (h : FVec Ideal S16384x2048 .bf16) (w : FVec Ideal S4x2048x9216 .f32) : FVec Ideal S16384x4096 .bf16 :=
  fun j => gateAt h w (j 0) (j 1)

/-- The windows' block indices at grid point `t`: column block `t / 8`, row block `t % 8`. -/
theorem idx : ∀ t : Fin cfg0.N,
    win0_0.index t = ![t.val % 8, 0] ∧ win0_1.index t = ![0, 0, 10 + t.val / 8]
    ∧ win0_2.index t = ![t.val % 8, t.val / 8] ∧ t.val < 64 :=
  (by decide +kernel : ∀ t : Fin grid0.N, _)

/-- A row of the tokens in the block of rows. -/
theorem rows_at (c : Dev nD) (t : Fin cfg0.N) (i : Fin 2048) (k : Fin 2048) (r : Fin 16384) (hr : r.val = t.val % 8 * 2048 + i.val) :
    iblk m c 0 t (ix2 i k) = m ((c : Thread nD τ).loc main_arg0) (ix2 r k) := by
  blk_ext [iblk, V, idx t]

/-- A weight in the block of weights. -/
theorem weight_at (c : Dev nD) (t : Fin cfg0.N) (k : Fin 2048) (l : Fin 512) (s : Fin 9216) (hs : s.val = (10 + t.val / 8) * 512 + l.val) :
    iblk m c 1 t (ix3 0 k l) = m ((c : Thread nD τ).loc main_arg1) (ix3 0 k s) := by
  blk_ext [iblk, V, idx t]

/-- After every point the scratch holds the weights of that point's column block. -/
theorem scratch_at (c : Dev nD) : ∀ (n : ℕ) (hn : n < cfg0.N) (k : Fin 2048) (l : Fin 512) (s : Fin 9216)
    (hs : s.val = (10 + n / 8) * 512 + l.val),
    (outsAt0 m c n hn).2 (ix2 k l) = m ((c : Thread nD τ).loc main_arg1) (ix3 0 k s) := by
  intro n
  induction n with
  | zero =>
    intro hn k l s hs
    rw [outsAt0_A m c ⟨0, hn⟩ (Nat.zero_mod 8)]
    dsimp only
    rw [scratch_new, narrow_apply]
    exact weight_at m c ⟨0, hn⟩ k l s hs
  | succ n ih =>
    intro hn k l s hs
    by_cases h0 : (n + 1) % 8 = 0
    · rw [outsAt0_A m c ⟨n + 1, hn⟩ h0]
      dsimp only
      rw [scratch_new, narrow_apply]
      exact weight_at m c ⟨n + 1, hn⟩ k l s hs
    · rw [outsAt0_B m c ⟨n + 1, hn⟩ h0]
      exact ih (Nat.lt_of_succ_lt hn) k l s (by omega)

/-- What grid point `t` leaves in its block is the gate at the array entry the block's entry sits at. -/
theorem point (c : Dev nD) (t : Fin cfg0.N) (i : Fin 2048) (l : Fin 512) (r : Fin 16384) (s : Fin 4096)
    (hr : r.val = t.val % 8 * 2048 + i.val) (hs : s.val = t.val / 8 * 512 + l.val) :
    (outsAt0 m c t.val t.isLt).1 (ix2 i l)
      = gateAt (m ((c : Thread nD τ).loc main_arg0)) (m ((c : Thread nD τ).loc main_arg1)) r s := by
  have key : ∀ w : S2048x512.Idx → EReal,
      (∀ k : Fin 2048, w (ix2 k l) = m ((c : Thread nD τ).loc main_arg1) (ix3 0 k ⟨5120 + s.val, by omega⟩)) →
      gates (iblk m c 0 t) w i l = gateAt (m ((c : Thread nD τ).loc main_arg0)) (m ((c : Thread nD τ).loc main_arg1)) r s := fun w hw => by
    unfold gates gateAt
    exact congrArg logistic (Finset.sum_congr rfl fun k _ => by rw [rows_at m c t i k r hr, hw k])
  by_cases h0 : t.val % 8 = 0
  · rw [outsAt0_A m c t h0]
    dsimp only
    rw [block_new]
    refine key _ fun k => ?_
    rw [narrow_apply]
    exact weight_at m c t k l _ (by show 5120 + s.val = _; omega)
  · rw [outsAt0_B m c t h0]
    dsimp only
    rw [block_kept]
    refine key _ fun k => ?_
    exact scratch_at m c (t.val - 1) _ k l _ (by show 5120 + s.val = _; omega)

/-- The array of gates after the run. -/
theorem final (c : Dev nD) : (dats m 0 c).arrAt 2 cfg0.N
    = gate (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, l, rfl⟩ : ∃ (i : Fin 2048) (l : Fin 512), y = ix2 i l := ⟨y 0, y 1, eq_ix2 (n0 := 2048) (n1 := 512) y⟩
  refine point m c t i l _ _ ?_ ?_
  · blk_simp [idx t]
  · blk_simp [idx t]

end Cert.Kernel4Ideal.Gate

end
-- ==== Proof.GateClaim.lean ====
/-
  The branch gates' projection: from the same tokens and weights, the kernel and the reference end with the same gates.
-/
module

public import proofs.«01_k».proof.Defs
public import proofs.«01_k».proof.Proof.GateValue
public import proofs.«01_k».proof.Proof.Gen.Reference4Ideal.Run
public import Idealize.ShloMosaic.Lib.Quiescent

@[expose] public section

set_option maxRecDepth 16384

noncomputable section

open Idealize.ShloMosaic Idealize.ShloMosaic.TcCoe Idealize.SL.Sem

namespace Cert.GateClaim

section Ref

open Cert.Reference4Ideal Cert.Reference4Ideal.Gen

/-- The reference's gates at an entry. -/
theorem ref_apply (h : FVec Ideal S16384x2048 .bf16) (w : FVec Ideal S4x2048x9216 .f32) (r : Fin 16384) (l : Fin 4096) :
    (truncf .bf16 (Host.divf (broadcastInDim S16384x4096 ![] bcast_S_S16384x4096 (constant (F := Ideal) S_ .f32 0x3F800000#32))
      (addf (broadcastInDim S16384x4096 ![] bcast_S_S16384x4096 (constant (F := Ideal) S_ .f32 0x3F800000#32))
        (Host.exp (Host.negf (Host.dotGeneral dot_S16384x2048_S2048x4096_S16384x4096_1_0_0_1_n_n none (extf .f32 h bitsLt_bf16_f32)
          (shapeCast S2048x4096 (extractStridedSlice S1x2048x4096 ![0, 0, 5120] w slices_S4x2048x9216_S1x2048x4096_0_0_5120)
            shapeCasts_S1x2048x4096_S2048x4096)))))) bitsLt_bf16_f32 : FVec Ideal S16384x4096 .bf16) (ix2 r l)
      = Cert.Kernel4Ideal.Gate.gateAt h w r l := by
  pointwise
  rfl

end Ref

/-- Kernel and reference agree on the gates. -/
theorem algebraic : Cert.algebraic_Kernel4Ideal_Reference4Ideal (hKernel4Ideal := Cert.Kernel4Ideal.Gen.facts)
    (hReference4Ideal := Cert.Reference4Ideal.Gen.facts) := by
  intro m g m' g' hpre hargs
  refine ⟨_, Cert.Kernel4Ideal.Value.run_blocks m g,
    (θ_run _ _ _).mono (fun r h c => ?_) (Cert.Reference4Ideal.Value.run m' g')⟩
  obtain ⟨h0, h1⟩ := hargs c
  have e := Cert.Kernel4Ideal.Gate.final m c
  rw [← h0, ← h1] at e
  refine ⟨(h c).1.trans (Eq.trans ?_ e.symm), (h c).2⟩
  refine funext fun j => ?_
  obtain ⟨r, l, rfl⟩ : ∃ (r : Fin 16384) (l : Fin 4096), j = ix2 r l := ⟨j 0, j 1, eq_ix2 (n0 := 16384) (n1 := 4096) j⟩
  exact ref_apply _ _ r l

/-- The reference runs, leaves its arguments as they were, and leaves every semaphore at zero: it declares none. -/
theorem frame_ref (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal)))
      ⟨m, fun _ => 0, ρ⟩ (fun r => (∀ c : Dev Cert.Reference4Ideal.nD,
      r.2.mem (c.tc.loc Cert.Reference4Ideal.main_arg0) = m (c.tc.loc Cert.Reference4Ideal.main_arg0)
      ∧ r.2.mem (c.tc.loc Cert.Reference4Ideal.main_arg1) = m (c.tc.loc Cert.Reference4Ideal.main_arg1))
      ∧ r.2.sem = fun _ => 0) :=
  (θ_run _ _ _).mono (fun r h => ⟨fun c => (h c).2, sem_eq_zero_of_no_sems (by decide) r.2⟩)
    (Cert.Reference4Ideal.Value.run m ρ)

end Cert.GateClaim

end
-- ==== Proof.BranchBlock.lean ====
/-
  What a grid point of the pooled branch's projection leaves: the weights narrowed in the scratch, and in the output
  block the rows' products with the narrowed weights, stored in eight pieces of 256 rows.
-/
module

public import proofs.«01_k».proof.Proof.Gen.Kernel5Ideal.Frame
public import Idealize.ShloMosaic.Lib.Pipeline.ValueKit
public import Idealize.ShloMosaic.Lib.VecWindow

@[expose] public section

set_option maxRecDepth 16384

noncomputable section

namespace Cert.Kernel5Ideal.Branch

open Cert.Kernel5Ideal Cert.Kernel5Ideal.Gen
open Idealize.ShloMosaic
open Idealize.ShloMosaic.TcCoe Idealize.ShloMosaic.Tactic

/-- A block of products of the rows with the weights. -/
def products (x : S2048x2048.Idx → EReal) (w : S2048x512.Idx → EReal) (r : Fin 2048) (l : Fin 512) : EReal :=
  (∑ k : Fin 2048, x (ix2 r k) * w (ix2 k l))

/-! ## The payloads at an entry -/

section Payloads

variable (w : S2048x512.Idx → EReal) (x : S256x2048.Idx → EReal) (i : Fin 256) (l : Fin 512)

theorem narrow_apply (w : S1x2048x512.Idx → EReal) (k : Fin 2048) (l : Fin 512) :
    k0_pay4 (F := Ideal) w (ix2 k l) = w (ix3 0 k l) := by
  pointwise [k0_pay4]

theorem pay5_apply : k0_pay5 (F := Ideal) w x (ix2 i l) = ∑ k : Fin 2048, x (ix2 i k) * w (ix2 k l) := by
  pointwise [k0_pay5]

theorem pay6_apply : k0_pay6 (F := Ideal) w x (ix2 i l) = ∑ k : Fin 2048, x (ix2 i k) * w (ix2 k l) := by
  pointwise [k0_pay6]

theorem pay7_apply : k0_pay7 (F := Ideal) w x (ix2 i l) = ∑ k : Fin 2048, x (ix2 i k) * w (ix2 k l) := by
  pointwise [k0_pay7]

theorem pay8_apply : k0_pay8 (F := Ideal) w x (ix2 i l) = ∑ k : Fin 2048, x (ix2 i k) * w (ix2 k l) := by
  pointwise [k0_pay8]

theorem pay9_apply : k0_pay9 (F := Ideal) w x (ix2 i l) = ∑ k : Fin 2048, x (ix2 i k) * w (ix2 k l) := by
  pointwise [k0_pay9]

theorem pay1_apply : k0_pay1 (F := Ideal) w x (ix2 i l) = ∑ k : Fin 2048, x (ix2 i k) * w (ix2 k l) := by
  pointwise [k0_pay1]

theorem pay2_apply : k0_pay2 (F := Ideal) w x (ix2 i l) = ∑ k : Fin 2048, x (ix2 i k) * w (ix2 k l) := by
  pointwise [k0_pay2]

theorem pay3_apply : k0_pay3 (F := Ideal) w x (ix2 i l) = ∑ k : Fin 2048, x (ix2 i k) * w (ix2 k l) := by
  pointwise [k0_pay3]

end Payloads

/-! ## The block -/

/-- A load of 256 rows of the point's rows. -/
theorem rows_read (a2 : Memref sig .tc .vmem S2048x2048 .bf16) (h2 : a2.IsWhole) (x0 : S2048x2048.Idx → Elt Ideal .bf16) (o : ℕ) (ho : o + 256 ≤ 2048)
    (inb) (i : Fin 256) (k : Fin 2048) :
    View.readAt (Elt Ideal) a2.view (Rect.unit (s := S2048x2048) ![o, 0] ![256, 2048] inb).toLoadRect (h2.unread x0) (ix2 i k)
      = x0 (ix2 ⟨o + i.val, by omega⟩ k) := by
  rw [View.readAt_unit a2.view _ inb rfl inb, h2.read_unread]
  exact View.ld_unit_apply_of _ _ _ _ _ _ fun a => by
    match a with
    | ⟨0, _⟩ => rfl
    | ⟨1, _⟩ => show k.val = 0 + k.val; omega

/-- The entry of one piece is the block's at the place the piece sits at. -/
theorem piece (a2 : Memref sig .tc .vmem S2048x2048 .bf16) (h2 : a2.IsWhole) (x0 : S2048x2048.Idx → Elt Ideal .bf16) (w : S2048x512.Idx → EReal)
    (o : ℕ) (ho : o + 256 ≤ 2048) (inb) (P : S256x512.Idx → EReal)
    (hP : ∀ (i : Fin 256) (l : Fin 512), P (ix2 i l) = (∑ k : Fin 2048,
      View.readAt (Elt Ideal) a2.view (Rect.unit (s := S2048x2048) ![o, 0] ![256, 2048] inb).toLoadRect (h2.unread x0) (ix2 i k) * w (ix2 k l)))
    (x : S256x512.Idx) (r : Fin 2048) (l : Fin 512) (h0 : r.val = o + (x 0).val) (h1 : l.val = (x 1).val) :
    P x = products x0 w r l := by
  obtain ⟨i, j, rfl⟩ : ∃ (i : Fin 256) (j : Fin 512), x = ix2 i j := ⟨x 0, x 1, eq_ix2 (n0 := 256) (n1 := 512) x⟩
  have hr : r = ⟨o + i.val, by omega⟩ := Fin.ext h0
  have hl : l = j := Fin.ext h1
  rw [hP, hl, hr]
  simp only [rows_read a2 h2 x0 o ho inb]
  rfl

section Cases

variable (c : Dev nD) (i : grid0.Coords) (a2 : Memref sig .tc .vmem S2048x2048 .bf16) (h2 : a2.IsWhole) (a3 : Memref sig .tc .vmem S1x2048x512 .f32) (h3 : a3.IsWhole)
  (a4 : Memref sig .tc .vmem S2048x512 .bf16) (h4 : a4.IsWhole) (a5 : Memref sig .tc .vmem S2048x512 .bf16) (h5 : a5.IsWhole)
  (x0 : S2048x2048.Idx → Elt Ideal .bf16) (x1 : S1x2048x512.Idx → Elt Ideal .f32) (xs : S2048x512.Idx → Elt Ideal .bf16)

/-- The scratch after a point that narrows the weights. -/
theorem scratch_new (hc) : sout0_A_0 (F := Ideal) c i a2 h2 a3 h3 a4 h4 a5 h5 hc x0 x1 = k0_pay4 (F := Ideal) x1 := by
  unfold sout0_A_0 kernelRun0_A
  dsimp only
  unfold kernelRun0_A.sl.HS0_1
  rw [View.read_writes_full]
  exact congrArg (k0_pay4 (F := Ideal)) ((View.readAt_full a3.view _ _).trans (h3.read_unread x1))

/-- The weights such a point reads back. -/
theorem weights_new : kernelRun0_A.sl.v3 (F := Ideal) c a3 h3 a5 x1 = k0_pay4 (F := Ideal) x1 := by
  unfold kernelRun0_A.sl.v3 kernelRun0_A.sl.HS0_1
  rw [View.readCov_full]
  exact congrArg (k0_pay4 (F := Ideal)) ((View.readAt_full a3.view _ _).trans (h3.read_unread x1))

/-- The weights a point that keeps the scratch reads. -/
theorem weights_kept (inb) : View.readAt (Elt Ideal) a5.view (Rect.unit (s := S2048x512) ![0, 0] ![2048, 512] inb).toLoadRect (h5.unread xs) = xs :=
  (View.readAt_full a5.view _ _).trans (h5.read_unread xs)

/-- The block of a point that narrows the weights. -/
theorem block_new (hc) (r : Fin 2048) (l : Fin 512) :
    out0_A_2 (F := Ideal) c i a2 h2 a3 h3 a4 h4 a5 h5 hc x0 x1 (ix2 r l) = products x0 (k0_pay4 (F := Ideal) x1) r l := by
  unfold out0_A_2 kernelRun0_A
  dsimp only
  unfold kernelRun0_A.sl.r
  rw [weights_new, View.read_writes_junk_eq_canon]
  canon_tiles x h
  · exact piece a2 h2 x0 _ 1792 (by decide) _ _ (pay3_apply _ _) _ r l h0 h1
  · exact piece a2 h2 x0 _ 1536 (by decide) _ _ (pay2_apply _ _) _ r l h0 h1
  · exact piece a2 h2 x0 _ 1280 (by decide) _ _ (pay1_apply _ _) _ r l h0 h1
  · exact piece a2 h2 x0 _ 1024 (by decide) _ _ (pay9_apply _ _) _ r l h0 h1
  · exact piece a2 h2 x0 _ 768 (by decide) _ _ (pay8_apply _ _) _ r l h0 h1
  · exact piece a2 h2 x0 _ 512 (by decide) _ _ (pay7_apply _ _) _ r l h0 h1
  · exact piece a2 h2 x0 _ 256 (by decide) _ _ (pay6_apply _ _) _ r l h0 h1
  · exact piece a2 h2 x0 _ 0 (by decide) _ _ (pay5_apply _ _) _ r l ((show r.val = (x 0).val from h0).trans (Nat.zero_add _).symm) h1

/-- The block of a point that keeps the scratch. -/
theorem block_kept (hc) (r : Fin 2048) (l : Fin 512) :
    out0_B_2 (F := Ideal) c i a2 h2 a3 h3 a4 h4 a5 h5 hc x0 x1 xs (ix2 r l) = products x0 xs r l := by
  unfold out0_B_2 kernelRun0_B
  dsimp only
  unfold kernelRun0_B.sl.r_1 kernelRun0_B.sl.r
  simp only [weights_kept]
  rw [ View.read_writes_junk_eq_canon]
  canon_tiles x h
  · exact piece a2 h2 x0 _ 1792 (by decide) _ _ (pay3_apply _ _) _ r l h0 h1
  · exact piece a2 h2 x0 _ 1536 (by decide) _ _ (pay2_apply _ _) _ r l h0 h1
  · exact piece a2 h2 x0 _ 1280 (by decide) _ _ (pay1_apply _ _) _ r l h0 h1
  · exact piece a2 h2 x0 _ 1024 (by decide) _ _ (pay9_apply _ _) _ r l h0 h1
  · exact piece a2 h2 x0 _ 768 (by decide) _ _ (pay8_apply _ _) _ r l h0 h1
  · exact piece a2 h2 x0 _ 512 (by decide) _ _ (pay7_apply _ _) _ r l h0 h1
  · exact piece a2 h2 x0 _ 256 (by decide) _ _ (pay6_apply _ _) _ r l h0 h1
  · exact piece a2 h2 x0 _ 0 (by decide) _ _ (pay5_apply _ _) _ r l ((show r.val = (x 0).val from h0).trans (Nat.zero_add _).symm) h1

end Cases

end Cert.Kernel5Ideal.Branch

end
-- ==== Proof.BranchValue.lean ====
/-
  The pooled branch's projected tokens after the run: row `r`, column `l` is row `r` of the tokens times column `3072 + l`
  of the first layer's input weights.
-/
module

public import proofs.«01_k».proof.Proof.Gen.Kernel5Ideal.Value
public import proofs.«01_k».proof.Proof.BranchBlock

@[expose] public section

set_option maxRecDepth 16384

noncomputable section

open Idealize.ShloMosaic Idealize.ShloMosaic.TcCoe Idealize.SL.Sem

namespace Cert.Kernel5Ideal.Branch

open Cert.Kernel5Ideal Cert.Kernel5Ideal.Gen

variable (m : (ℓ : Loc nD τ sig) → Buf (Elt Ideal) ℓ)

/-- The projection at row `r` and column `l`. -/
def projAt (h : FVec Ideal S16384x2048 .bf16) (w : FVec Ideal S4x2048x9216 .f32) (r : Fin 16384) (l : Fin 2048) : EReal :=
  (∑ k : Fin 2048, h (ix2 r k) * w (ix3 0 k ⟨3072 + l.val, by omega⟩))

/-- The projection as one function of the two arguments. -/
def proj (h : FVec Ideal S16384x2048 .bf16) (w : FVec Ideal S4x2048x9216 .f32) : FVec Ideal S16384x2048 .bf16 :=
  fun j => projAt h w (j 0) (j 1)

/-- The windows' block indices at grid point `t`: column block `t / 8`, row block `t % 8`. -/
theorem idx : ∀ t : Fin cfg0.N,
    win0_0.index t = ![t.val % 8, 0] ∧ win0_1.index t = ![0, 0, 6 + t.val / 8]
    ∧ win0_2.index t = ![t.val % 8, t.val / 8] ∧ t.val < 32 :=
  (by decide +kernel : ∀ t : Fin grid0.N, _)

/-- A row of the tokens in the block of rows. -/
theorem rows_at (c : Dev nD) (t : Fin cfg0.N) (i : Fin 2048) (k : Fin 2048) (r : Fin 16384) (hr : r.val = t.val % 8 * 2048 + i.val) :
    iblk m c 0 t (ix2 i k) = m ((c : Thread nD τ).loc main_arg0) (ix2 r k) := by
  blk_ext [iblk, V, idx t]

/-- A weight in the block of weights. -/
theorem weight_at (c : Dev nD) (t : Fin cfg0.N) (k : Fin 2048) (l : Fin 512) (s : Fin 9216) (hs : s.val = (6 + t.val / 8) * 512 + l.val) :
    iblk m c 1 t (ix3 0 k l) = m ((c : Thread nD τ).loc main_arg1) (ix3 0 k s) := by
  blk_ext [iblk, V, idx t]

/-- After every point the scratch holds the weights of that point's column block. -/
theorem scratch_at (c : Dev nD) : ∀ (n : ℕ) (hn : n < cfg0.N) (k : Fin 2048) (l : Fin 512) (s : Fin 9216)
    (hs : s.val = (6 + n / 8) * 512 + l.val),
    (outsAt0 m c n hn).2 (ix2 k l) = m ((c : Thread nD τ).loc main_arg1) (ix3 0 k s) := by
  intro n
  induction n with
  | zero =>
    intro hn k l s hs
    rw [outsAt0_A m c ⟨0, hn⟩ (Nat.zero_mod 8)]
    dsimp only
    rw [scratch_new, narrow_apply]
    exact weight_at m c ⟨0, hn⟩ k l s hs
  | succ n ih =>
    intro hn k l s hs
    by_cases h0 : (n + 1) % 8 = 0
    · rw [outsAt0_A m c ⟨n + 1, hn⟩ h0]
      dsimp only
      rw [scratch_new, narrow_apply]
      exact weight_at m c ⟨n + 1, hn⟩ k l s hs
    · rw [outsAt0_B m c ⟨n + 1, hn⟩ h0]
      exact ih (Nat.lt_of_succ_lt hn) k l s (by omega)

/-- What grid point `t` leaves in its block is the projection at the array entry the block's entry sits at. -/
theorem point (c : Dev nD) (t : Fin cfg0.N) (i : Fin 2048) (l : Fin 512) (r : Fin 16384) (s : Fin 2048)
    (hr : r.val = t.val % 8 * 2048 + i.val) (hs : s.val = t.val / 8 * 512 + l.val) :
    (outsAt0 m c t.val t.isLt).1 (ix2 i l)
      = projAt (m ((c : Thread nD τ).loc main_arg0)) (m ((c : Thread nD τ).loc main_arg1)) r s := by
  have key : ∀ w : S2048x512.Idx → EReal,
      (∀ k : Fin 2048, w (ix2 k l) = m ((c : Thread nD τ).loc main_arg1) (ix3 0 k ⟨3072 + s.val, by omega⟩)) →
      products (iblk m c 0 t) w i l = projAt (m ((c : Thread nD τ).loc main_arg0)) (m ((c : Thread nD τ).loc main_arg1)) r s := fun w hw => by
    unfold products projAt
    exact Finset.sum_congr rfl fun k _ => by rw [rows_at m c t i k r hr, hw k]
  by_cases h0 : t.val % 8 = 0
  · rw [outsAt0_A m c t h0]
    dsimp only
    rw [block_new]
    refine key _ fun k => ?_
    rw [narrow_apply]
    exact weight_at m c t k l _ (by show 3072 + s.val = _; omega)
  · rw [outsAt0_B m c t h0]
    dsimp only
    rw [block_kept]
    refine key _ fun k => ?_
    exact scratch_at m c (t.val - 1) _ k l _ (by show 3072 + s.val = _; omega)

/-- The projection after the run. -/
theorem final (c : Dev nD) : (dats m 0 c).arrAt 2 cfg0.N
    = proj (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, l, rfl⟩ : ∃ (i : Fin 2048) (l : Fin 512), y = ix2 i l := ⟨y 0, y 1, eq_ix2 (n0 := 2048) (n1 := 512) y⟩
  refine point m c t i l _ _ ?_ ?_
  · blk_simp [idx t]
  · blk_simp [idx t]

end Cert.Kernel5Ideal.Branch

end
-- ==== Proof.BranchClaim.lean ====
/-
  The pooled branch's projection: from the same tokens and weights, the kernel and the reference end with the same projection.
-/
module

public import proofs.«01_k».proof.Defs
public import proofs.«01_k».proof.Proof.BranchValue
public import proofs.«01_k».proof.Proof.Gen.Reference5Ideal.Run
public import Idealize.ShloMosaic.Lib.Quiescent

@[expose] public section

set_option maxRecDepth 16384

noncomputable section

open Idealize.ShloMosaic Idealize.ShloMosaic.TcCoe Idealize.SL.Sem

namespace Cert.BranchClaim

section Ref

open Cert.Reference5Ideal Cert.Reference5Ideal.Gen

/-- The reference's projection at an entry. -/
theorem ref_apply (h : FVec Ideal S16384x2048 .bf16) (w : FVec Ideal S4x2048x9216 .f32) (r : Fin 16384) (l : Fin 2048) :
    (truncf .bf16 (Host.dotGeneral dot_S16384x2048_S2048x2048_S16384x2048_1_0_0_1_n_n none (extf .f32 h bitsLt_bf16_f32)
        (shapeCast S2048x2048 (extractStridedSlice S1x2048x2048 ![0, 0, 3072] w slices_S4x2048x9216_S1x2048x2048_0_0_3072)
          shapeCasts_S1x2048x2048_S2048x2048)) bitsLt_bf16_f32 : FVec Ideal S16384x2048 .bf16) (ix2 r l)
      = Cert.Kernel5Ideal.Branch.projAt h w r l := by
  pointwise
  rfl

end Ref

/-- Kernel and reference agree on the projection. -/
theorem algebraic : Cert.algebraic_Kernel5Ideal_Reference5Ideal (hKernel5Ideal := Cert.Kernel5Ideal.Gen.facts)
    (hReference5Ideal := Cert.Reference5Ideal.Gen.facts) := by
  intro m g m' g' hpre hargs
  refine ⟨_, Cert.Kernel5Ideal.Value.run_blocks m g,
    (θ_run _ _ _).mono (fun r h c => ?_) (Cert.Reference5Ideal.Value.run m' g')⟩
  obtain ⟨h0, h1⟩ := hargs c
  have e := Cert.Kernel5Ideal.Branch.final m c
  rw [← h0, ← h1] at e
  refine ⟨(h c).1.trans (Eq.trans ?_ e.symm), (h c).2⟩
  refine funext fun j => ?_
  obtain ⟨r, l, rfl⟩ : ∃ (r : Fin 16384) (l : Fin 2048), j = ix2 r l := ⟨j 0, j 1, eq_ix2 (n0 := 16384) (n1 := 2048) j⟩
  exact ref_apply _ _ r l

/-- The reference runs, leaves its arguments as they were, and leaves every semaphore at zero: it declares none. -/
theorem frame_ref (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal)))
      ⟨m, fun _ => 0, ρ⟩ (fun r => (∀ c : Dev Cert.Reference5Ideal.nD,
      r.2.mem (c.tc.loc Cert.Reference5Ideal.main_arg0) = m (c.tc.loc Cert.Reference5Ideal.main_arg0)
      ∧ r.2.mem (c.tc.loc Cert.Reference5Ideal.main_arg1) = m (c.tc.loc Cert.Reference5Ideal.main_arg1))
      ∧ r.2.sem = fun _ => 0) :=
  (θ_run _ _ _).mono (fun r h => ⟨fun c => (h c).2, sem_eq_zero_of_no_sems (by decide) r.2⟩)
    (Cert.Reference5Ideal.Value.run m ρ)

end Cert.BranchClaim

end
-- ==== Proof.DenseTables.lean ====
/-
  The pipeline of the dense gated up-projection at arbitrary tables: which expert each tile of rows belongs to, and how many
  tiles are in use. The tables are those with every expert zero and between 1 and 16 tiles in use.
-/
module

public import proofs.«01_k».proof.Proof.Gen.Kernel6Ideal.Flash.Runs
public import Idealize.ShloMosaic.Lib.Pipeline.Quiescent
public import Idealize.ShloMosaic.Lib.Claim

@[expose] public section

set_option maxRecDepth 16384
set_option Elab.async false

noncomputable section

namespace Cert.Kernel6Ideal.Dense

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- Tables the launch may hold: every tile's expert is the only one, at least one and at most 16 tiles are in use. -/
structure Tabs where
  te : S16.Idx → BitVec 32
  nu : S1.Idx → BitVec 32
  te_lt : ∀ x, (te x).toNat < 1
  nu_pos : ∀ x, 1 ≤ (nu x).toNat
  nu_le : ∀ x, (nu x).toNat ≤ 16

variable (T : Tabs)

set_option backward.proofsInPublic true in
/-- The two tables as the launch's contents. -/
def tabs : pre0.Contents (Elt Ideal) := fun | ⟨0, _⟩ => T.te | ⟨1, _⟩ => T.nu | ⟨_ + 2, h⟩ => absurd h (by simp)

/-- The launch memory holds these tables. -/
def Holds (m : (ℓ : Loc nD τ sig) → Buf (Elt Ideal) ℓ) : Prop :=
  (∀ c : Dev nD, m ((c : Thread nD τ).loc main_arg0) = T.te)
  ∧ (∀ c : Dev nD, m ((c : Thread nD τ).loc main_arg1) = T.nu)

/-- Clamping a tile's number to the used ones keeps it below 16. -/
theorem clamp_lt : ∀ (i : Fin 16) (n : Fin 17), 1 ≤ n.val →
    (Scalar.minsi (BitVec.ofNat 32 i.val) (Scalar.subi (BitVec.ofNat 32 n.val) 1#32)).toNat < 16 := by decide +kernel

/-- A word below 17 is the word of its number. -/
theorem word_eq (w : BitVec 32) : w = BitVec.ofNat 32 w.toNat := by simp

/-- The block of rows fetched is inside the array of rows. -/
theorem inb_0 (i : grid0.Coords) (a : Fin 2) :
    (cc0_transform_0 inb_S1_S1_0 numel1_S1 (tabs T) i a + 1) * S1024x2048.size a ≤ S16384x2048.size a := by
  obtain ⟨n, hn⟩ : ∃ n : S1.Idx, (tabs T).at 1 (Rect.unit (s := S1) ![0] S1.size inb_S1_S1_0) numel1_S1 = T.nu n := ⟨_, rfl⟩
  have h := clamp_lt (i 1) ⟨(T.nu n).toNat, Nat.lt_succ_of_le (T.nu_le n)⟩ (T.nu_pos n)
  rw [← word_eq] at h
  unfold cc0_transform_0
  rw [hn]
  fin_cases a
  · show ((Scalar.minsi (BitVec.ofNat 32 (i 1).val) (Scalar.subi (T.nu n) 1#32)).toNat + 1) * 1024 ≤ 16384
    omega
  · show (0 + 1) * 2048 ≤ 2048
    omega

/-- The block of gate weights fetched is inside the array. -/
theorem inb_1 (i : grid0.Coords) (a : Fin 4) :
    (cc0_transform_1 k0_off1_inb numel1_S1 (tabs T) i a + 1) * S1x1x2048x512.size a ≤ S2x1x2048x5632.size a := by
  obtain ⟨n, hn⟩ : ∃ n : S16.Idx, (tabs T).at 0 (Rect.unit (s := S16) (k0_off1 i) S1.size (k0_off1_inb i)) numel1_S1 = T.te n := ⟨_, rfl⟩
  have h := T.te_lt n
  have h0 : (i 0).val < 11 := (i 0).isLt
  have h1 : (BitVec.ofNat 32 (i 0).val).toNat = (i 0).val := by
    rw [BitVec.toNat_ofNat]; exact Nat.mod_eq_of_lt (by omega)
  have e : cc0_transform_1 k0_off1_inb numel1_S1 (tabs T) i = ![0, (T.te n).toNat, 0, (i 0).val] := by
    rw [← hn, ← h1]; rfl
  rw [e]
  fin_cases a
  · show (0 + 1) * 1 ≤ 2
    omega
  · show ((T.te n).toNat + 1) * 1 ≤ 1
    omega
  · show (0 + 1) * 2048 ≤ 2048
    omega
  · show ((i 0).val + 1) * 512 ≤ 5632
    omega

/-- The two weight windows have one index map. -/
theorem map_2 (i : grid0.Coords) : cc0_transform_2 k0_off1_inb numel1_S1 (tabs T) i = cc0_transform_1 k0_off1_inb numel1_S1 (tabs T) i := rfl

/-- The launch's side condition holds of all such tables. -/
theorem ok : ok0 (F := Ideal) (tabs T) :=
  ⟨fun i => ⟨inb_0 T i, .inr (Affine.block_words_dvd (s := S16384x2048) (p := EltTy.packing .bf16) (by decide) (by decide))⟩,
    fun i => ⟨inb_1 T i, .inl rfl⟩, fun i => ⟨fun a => by rw [map_2]; exact inb_1 T i a, .inl rfl⟩⟩

/-- The admissible contents and the pipeline at them. -/
def adm : (pcfg0 (F := Ideal)).Adm := ⟨tabs T, ok T⟩
abbrev cfgA : Pipeline.Cfg sig Λ₀ := cfg0 (F := Ideal) (adm T)
abbrev pcs : Fin 1 → Pipeline.Cfg sig Λ₀ := Pipeline.pin (pcfgs (F := Ideal)) fun _ => adm T

variable (m : (ℓ : Loc nD τ sig) → Buf (Elt Ideal) ℓ) (ρ : Dev nD → PrngReg)

/-! ## A point's coordinates, words and staging memrefs -/

/-- Point `t`'s coordinates. -/
abbrev crd (t : Fin (cfgA T).N) : (cfgA T).grid.Coords := (cfgA T).grid.coords t

/-- Each window's current staging memref at point `t`, spelled as the pipeline passes it, and its wholeness. -/
abbrev ms0_0 (t : Fin (cfgA T).N) : Memref sig .tc .vmem S1024x2048 .bf16 := spec0_0.stage ((cfgA T).slots t (0 : Fin 4))
abbrev hs0_0 (t : Fin (cfgA T).N) : (ms0_0 T t).IsWhole := hstage0_0 (((cfgA T).slots t (0 : Fin 4)).cast nbuf0_0)
abbrev ms0_1 (t : Fin (cfgA T).N) : Memref sig .tc .vmem S1x1x2048x512 .f32 := spec0_1.stage ((cfgA T).slots t (1 : Fin 4))
abbrev hs0_1 (t : Fin (cfgA T).N) : (ms0_1 T t).IsWhole := hstage0_1 (((cfgA T).slots t (1 : Fin 4)).cast nbuf0_1)
abbrev ms0_2 (t : Fin (cfgA T).N) : Memref sig .tc .vmem S1x1x2048x512 .f32 := spec0_2.stage ((cfgA T).slots t (2 : Fin 4))
abbrev hs0_2 (t : Fin (cfgA T).N) : (ms0_2 T t).IsWhole := hstage0_2 (((cfgA T).slots t (2 : Fin 4)).cast nbuf0_2)
abbrev ms0_3 (t : Fin (cfgA T).N) : Memref sig .tc .vmem S1024x512 .bf16 := spec0_3.stage ((cfgA T).slots t (3 : Fin 4))
abbrev hs0_3 (t : Fin (cfgA T).N) : (ms0_3 T t).IsWhole := hstage0_3 (((cfgA T).slots t (3 : Fin 4)).cast nbuf0_3)

/-! ## The windows' blocks -/

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-! ## The control's decisions at a point, at the words of the tables (what tells the paths apart) -/

abbrev P0_0 (t : Fin (cfgA T).N) : Prop := (Scalar.cmpi .ne (Scalar.extui (Scalar.ori (Scalar.cmpi .eq (BitVec.ofNat 32 ((crd T t) 1).val) 0#32) (Scalar.cmpi .ne (View.readAt (Elt Ideal) (tbM0_0).view (Rect.unit (s := S16) (k0_off1 (crd T t)) S1.size (k0_off1_inb (crd T t))).toLoadRect T.te (Shape.Idx.first (numel1_S1.symm ▸ Nat.one_pos))) (View.readAt (Elt Ideal) (tbM0_0).view (Rect.unit (s := S16) (k0_off2 (crd T t)) S1.size (k0_off2_inb (crd T t))).toLoadRect T.te (Shape.Idx.first (numel1_S1.symm ▸ Nat.one_pos)))))) 0#32) = 1#1
abbrev P0_1 (t : Fin (cfgA T).N) : Prop := k0_cond2 (crd T t) (View.readAt (Elt Ideal) (tbM0_1).view (Rect.unit (s := S1) ![0] S1.size inb_S1_S1_0).toLoadRect T.nu (Shape.Idx.first (numel1_S1.symm ▸ Nat.one_pos))) = 1#1

/-! ## What a point decides -/

/-- Two conditions on the tile's number: exactly one of them holds. -/
theorem used_or : ∀ (i : Fin 16) (n : Fin 17),
    ((Scalar.cmpi .ne (Scalar.extui (Scalar.cmpi .sge (BitVec.ofNat 32 i.val) (BitVec.ofNat 32 n.val))) 0#32 : BitVec 1) = 1#1
      ↔ ¬ (Scalar.cmpi .ne (Scalar.extui (Scalar.cmpi .slt (BitVec.ofNat 32 i.val) (BitVec.ofNat 32 n.val))) 0#32 : BitVec 1) = 1#1) := by
  decide +kernel

/-- The kernel stores zeros exactly where it doesn't store a product. -/
theorem cond3_iff (i : grid0.Coords) (x : S1.Idx) : k0_cond3 i (T.nu x) = 1#1 ↔ ¬ k0_cond2 i (T.nu x) = 1#1 := by
  have h := used_or (i 1) ⟨(T.nu x).toNat, Nat.lt_succ_of_le (T.nu_le x)⟩
  rw [← word_eq] at h
  exact h

/-- At the first tile the weights are read anew. -/
theorem first_changed : ∀ b : BitVec 1, (Scalar.cmpi .ne (Scalar.extui (Scalar.ori (Scalar.cmpi .eq (BitVec.ofNat 32 0) 0#32) b)) 0#32 : BitVec 1) = 1#1 := by
  decide +kernel

/-- A point's coordinates: the column block, then the tile. -/
theorem coords_val : ∀ t : Fin grid0.N, (grid0.coords t 0).val = t.val / 16 ∧ (grid0.coords t 1).val = t.val % 16 := by
  decide +kernel

/-- At point 0 the weights are read anew. -/
theorem changed_zero (t : Fin (cfgA T).N) (h : t.val = 0) : P0_0 T t := by
  have e : ((crd T t) 1).val = 0 := (coords_val t).2.trans (by rw [h])
  unfold P0_0
  rw [e]
  exact first_changed _

/-- At the tables' only expert the weights are read anew at the first tile alone. -/
theorem anew_first : ∀ i : Fin 16,
    (Scalar.cmpi .ne (Scalar.extui (Scalar.ori (Scalar.cmpi .eq (BitVec.ofNat 32 i.val) 0#32) (Scalar.cmpi .ne (0#32 : BitVec 32) 0#32))) 0#32 : BitVec 1) = 1#1
      → i.val = 0 := by
  decide +kernel

/-- The first tile is used. -/
theorem zero_used : ∀ n : Fin 17, 1 ≤ n.val →
    (Scalar.cmpi .ne (Scalar.extui (Scalar.cmpi .slt (BitVec.ofNat 32 0) (BitVec.ofNat 32 n.val))) 0#32 : BitVec 1) = 1#1 := by
  decide +kernel

/-- The only expert's word is zero. -/
theorem te_zero (x : S16.Idx) : T.te x = 0#32 := BitVec.eq_of_toNat_eq (Nat.lt_one_iff.mp (T.te_lt x))

/-- Where the weights are read anew the tile is used. -/
theorem anew_used (t : Fin (cfgA T).N) (q0 : P0_0 T t) : P0_1 T t := by
  have h0 : ((crd T t) 1).val = 0 := by
    refine anew_first ((crd T t) 1) ?_
    have h := q0
    unfold P0_0 at h
    rw [show View.readAt (Elt Ideal) (tbM0_0).view (Rect.unit (s := S16) (k0_off1 (crd T t)) S1.size (k0_off1_inb (crd T t))).toLoadRect T.te (Shape.Idx.first (numel1_S1.symm ▸ Nat.one_pos)) = 0#32 from te_zero T _,
      show View.readAt (Elt Ideal) (tbM0_0).view (Rect.unit (s := S16) (k0_off2 (crd T t)) S1.size (k0_off2_inb (crd T t))).toLoadRect T.te (Shape.Idx.first (numel1_S1.symm ▸ Nat.one_pos)) = 0#32 from te_zero T _] at h
    exact h
  obtain ⟨n, hn⟩ : ∃ n : S1.Idx, View.readAt (Elt Ideal) (tbM0_1).view (Rect.unit (s := S1) ![0] S1.size inb_S1_S1_0).toLoadRect T.nu (Shape.Idx.first (numel1_S1.symm ▸ Nat.one_pos)) = T.nu n := ⟨_, rfl⟩
  have h := zero_used ⟨(T.nu n).toNat, Nat.lt_succ_of_le (T.nu_le n)⟩ (T.nu_pos n)
  rw [← word_eq] at h
  unfold P0_1
  rw [hn]
  unfold k0_cond2
  rw [h0]
  exact h

/-- The output's index map differs from each point to the next. -/
theorem out_flush : ∀ t : Fin grid0.N, Pipeline.Window.flushOf grid0 true cc0_transform_3 t = true := by decide +kernel

/-- The output block is written back at every point. -/
theorem flush_3 (t : Fin (cfgA T).N) : ((cfgA T).win (3 : Fin 4)).flush t = true := out_flush t

/-- One of the two conditions on the tile's number holds. -/
theorem stored (i : grid0.Coords) (x : S1.Idx) : (!(k0_cond2 i (T.nu x) == 1#1) && !(k0_cond3 i (T.nu x) == 1#1)) = false := by
  have h := cond3_iff T i x
  by_cases h2 : k0_cond2 i (T.nu x) = 1#1
  · rw [h2]; rfl
  · rw [h.mpr h2]; simp

/-- The output is stored at every point. -/
theorem idle_3 (t : Fin (cfgA T).N) : (cfgA T).idle (3 : Fin 4) ((cfgA T).grid.coords t) = false := stored T (crd T t) _

/-- Before each point the output's buffer holds nothing stored. -/
theorem fresh_3 (t : Fin (cfgA T).N) : (cfgA T).fresh (3 : Fin 4) t.val = true :=
  Pipeline.Cfg.fresh_tab (cfgA T) (3 : Fin 4) (fun _ => true) rfl (fun t => by rw [flush_3]; rfl) t.val (Nat.le_of_lt t.isLt)

/-- The weights' scratch holds nothing determined before the first point. -/
def sfresh0_0 (T : Tabs) (n : ℕ) : Bool := decide (n = 0)
def sfresh0_1 (T : Tabs) (n : ℕ) : Bool := decide (n = 0)

/-- Path A: its conditions hold of the words read. -/
theorem hyps0_A (t : Fin (cfgA T).N) (q0 : P0_0 T t) (q1 : P0_1 T t) :
    ((Scalar.cmpi .ne (Scalar.extui (Scalar.ori (Scalar.cmpi .eq (BitVec.ofNat 32 ((crd T t) 1).val) 0#32) (Scalar.cmpi .ne (View.readAt (Elt Ideal) (tbM0_0).view (Rect.unit (s := S16) (k0_off1 (crd T t)) S1.size (k0_off1_inb (crd T t))).toLoadRect T.te (Shape.Idx.first (numel1_S1.symm ▸ Nat.one_pos))) (View.readAt (Elt Ideal) (tbM0_0).view (Rect.unit (s := S16) (k0_off2 (crd T t)) S1.size (k0_off2_inb (crd T t))).toLoadRect T.te (Shape.Idx.first (numel1_S1.symm ▸ Nat.one_pos)))))) 0#32) = 1#1) ∧ ((k0_cond2 (crd T t) (View.readAt (Elt Ideal) (tbM0_1).view (Rect.unit (s := S1) ![0] S1.size inb_S1_S1_0).toLoadRect T.nu (Shape.Idx.first (numel1_S1.symm ▸ Nat.one_pos))) = 1#1) ∧ ((¬(k0_cond3 (crd T t) (View.readAt (Elt Ideal) (tbM0_1).view (Rect.unit (s := S1) ![0] S1.size inb_S1_S1_0).toLoadRect T.nu (Shape.Idx.first (numel1_S1.symm ▸ Nat.one_pos))) = 1#1)) ∧ (True))) :=
  ⟨q0, q1, fun h => ((cond3_iff T _ _).mp h) q1, trivial⟩

/-- Path B: its conditions hold of the words read. -/
theorem hyps0_B (t : Fin (cfgA T).N) (q0 : ¬P0_0 T t) (q1 : P0_1 T t) :
    (¬((Scalar.cmpi .ne (Scalar.extui (Scalar.ori (Scalar.cmpi .eq (BitVec.ofNat 32 ((crd T t) 1).val) 0#32) (Scalar.cmpi .ne (View.readAt (Elt Ideal) (tbM0_0).view (Rect.unit (s := S16) (k0_off1 (crd T t)) S1.size (k0_off1_inb (crd T t))).toLoadRect T.te (Shape.Idx.first (numel1_S1.symm ▸ Nat.one_pos))) (View.readAt (Elt Ideal) (tbM0_0).view (Rect.unit (s := S16) (k0_off2 (crd T t)) S1.size (k0_off2_inb (crd T t))).toLoadRect T.te (Shape.Idx.first (numel1_S1.symm ▸ Nat.one_pos)))))) 0#32) = 1#1)) ∧ ((k0_cond2 (crd T t) (View.readAt (Elt Ideal) (tbM0_1).view (Rect.unit (s := S1) ![0] S1.size inb_S1_S1_0).toLoadRect T.nu (Shape.Idx.first (numel1_S1.symm ▸ Nat.one_pos))) = 1#1) ∧ ((¬(k0_cond3 (crd T t) (View.readAt (Elt Ideal) (tbM0_1).view (Rect.unit (s := S1) ![0] S1.size inb_S1_S1_0).toLoadRect T.nu (Shape.Idx.first (numel1_S1.symm ▸ Nat.one_pos))) = 1#1)) ∧ (True))) :=
  ⟨q0, q1, fun h => ((cond3_iff T _ _).mp h) q1, trivial⟩

/-- Path C: its conditions hold of the words read. -/
theorem hyps0_C (t : Fin (cfgA T).N) (q0 : ¬P0_0 T t) (q1 : ¬P0_1 T t) :
    (¬((Scalar.cmpi .ne (Scalar.extui (Scalar.ori (Scalar.cmpi .eq (BitVec.ofNat 32 ((crd T t) 1).val) 0#32) (Scalar.cmpi .ne (View.readAt (Elt Ideal) (tbM0_0).view (Rect.unit (s := S16) (k0_off1 (crd T t)) S1.size (k0_off1_inb (crd T t))).toLoadRect T.te (Shape.Idx.first (numel1_S1.symm ▸ Nat.one_pos))) (View.readAt (Elt Ideal) (tbM0_0).view (Rect.unit (s := S16) (k0_off2 (crd T t)) S1.size (k0_off2_inb (crd T t))).toLoadRect T.te (Shape.Idx.first (numel1_S1.symm ▸ Nat.one_pos)))))) 0#32) = 1#1)) ∧ ((¬(k0_cond2 (crd T t) (View.readAt (Elt Ideal) (tbM0_1).view (Rect.unit (s := S1) ![0] S1.size inb_S1_S1_0).toLoadRect T.nu (Shape.Idx.first (numel1_S1.symm ▸ Nat.one_pos))) = 1#1)) ∧ ((k0_cond3 (crd T t) (View.readAt (Elt Ideal) (tbM0_1).view (Rect.unit (s := S1) ![0] S1.size inb_S1_S1_0).toLoadRect T.nu (Shape.Idx.first (numel1_S1.symm ▸ Nat.one_pos))) = 1#1) ∧ (True))) :=
  ⟨q0, q1, (cond3_iff T _ _).mpr q1, trivial⟩

/-- Path A: the schedule at such a point. -/
theorem sched0_A (t : Fin (cfgA T).N) (q0 : P0_0 T t) (q1 : P0_1 T t) :
    (cfgA T).idle (3 : Fin 4) ((cfgA T).grid.coords t) = false ∧ ((cfgA T).win (3 : Fin 4)).flush t = true ∧ (cfgA T).fresh (3 : Fin 4) t.val = true ∧ sfresh0_0 T (t.val + 1) = false ∧ sfresh0_1 T (t.val + 1) = false :=
  ⟨idle_3 T t, flush_3 T t, fresh_3 T t, decide_eq_false (Nat.succ_ne_zero _), decide_eq_false (Nat.succ_ne_zero _)⟩

/-- Path B: the schedule at such a point. -/
theorem sched0_B (t : Fin (cfgA T).N) (q0 : ¬P0_0 T t) (q1 : P0_1 T t) :
    (cfgA T).idle (3 : Fin 4) ((cfgA T).grid.coords t) = false ∧ ((cfgA T).win (3 : Fin 4)).flush t = true ∧ (cfgA T).fresh (3 : Fin 4) t.val = true ∧ sfresh0_0 T t.val = false ∧ sfresh0_0 T (t.val + 1) = false ∧ sfresh0_1 T t.val = false ∧ sfresh0_1 T (t.val + 1) = false :=
  ⟨idle_3 T t, flush_3 T t, fresh_3 T t, decide_eq_false fun h => q0 (changed_zero T t h), decide_eq_false (Nat.succ_ne_zero _), decide_eq_false fun h => q0 (changed_zero T t h), decide_eq_false (Nat.succ_ne_zero _)⟩

/-- Path C: the schedule at such a point. -/
theorem sched0_C (t : Fin (cfgA T).N) (q0 : ¬P0_0 T t) (q1 : ¬P0_1 T t) :
    (cfgA T).idle (3 : Fin 4) ((cfgA T).grid.coords t) = false ∧ ((cfgA T).win (3 : Fin 4)).flush t = true ∧ (cfgA T).fresh (3 : Fin 4) t.val = true ∧ sfresh0_0 T t.val = false ∧ sfresh0_0 T (t.val + 1) = false ∧ sfresh0_1 T t.val = false ∧ sfresh0_1 T (t.val + 1) = false :=
  ⟨idle_3 T t, flush_3 T t, fresh_3 T t, decide_eq_false fun h => q0 (changed_zero T t h), decide_eq_false (Nat.succ_ne_zero _), decide_eq_false fun h => q0 (changed_zero T t h), decide_eq_false (Nat.succ_ne_zero _)⟩

end Cert.Kernel6Ideal.Dense

end
-- ==== Proof.DenseFrame.lean ====
/-
  The frame of the dense gated up-projection at arbitrary tables: every execution ends, nothing faults, the arguments are
  unchanged, and each array ends at contents named here.
-/
module

public import proofs.«01_k».proof.Proof.DenseTables

@[expose] public section

set_option maxRecDepth 16384
set_option Elab.async false

noncomputable section

namespace Cert.Kernel6Ideal.Dense

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (T : Tabs)
variable (m : (ℓ : Loc nD τ sig) → Buf (Elt Ideal) ℓ) (ρ : Dev nD → PrngReg)

/-! ## What the outputs and scratches hold after each point -/

/-- ONE STEP of the trajectory: what the outputs' current buffers and the scratches hold after the body at point `t`
    (output 3, scratch 0, scratch 1), from what they held before (`prev`): the path the decisions select at `t`, its
    run's contents; an output the path leaves idle keeps what it held (junk — `default`, named by nothing — where fresh). -/
def step0 (c : Dev nD) (t : Fin (cfgA T).N) (prev : (S1024x512.Idx → Elt Ideal .bf16) × Buf (Elt Ideal) ((c : Thread nD τ).loc cc0_scratch0) × Buf (Elt Ideal) ((c : Thread nD τ).loc cc0_scratch1)) : (S1024x512.Idx → Elt Ideal .bf16) × Buf (Elt Ideal) ((c : Thread nD τ).loc cc0_scratch0) × Buf (Elt Ideal) ((c : Thread nD τ).loc cc0_scratch1) :=
  if q0 : P0_0 T t then
    if q1 : P0_1 T t then
      (out0_A_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.2.1)
    else
      prev
  else
    if q1 : P0_1 T t then
      (out0_B_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.2.1)
    else
      (out0_C_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.2.1)

/-- THE TRAJECTORY: after position `n`. -/
def traj0 (c : Dev nD) : (n : ℕ) → n < (cfgA T).N → (S1024x512.Idx → Elt Ideal .bf16) × Buf (Elt Ideal) ((c : Thread nD τ).loc cc0_scratch0) × Buf (Elt Ideal) ((c : Thread nD τ).loc cc0_scratch1)
  | 0, h => step0 T m ρ c ⟨0, h⟩ (default, default, default)
  | n + 1, h => step0 T m ρ c ⟨n + 1, h⟩ (traj0 c n (Nat.lt_of_succ_lt h))

/-- What they held BEFORE point `t` (junk before the first). -/
def prev0 (c : Dev nD) (t : Fin (cfgA T).N) : (S1024x512.Idx → Elt Ideal .bf16) × Buf (Elt Ideal) ((c : Thread nD τ).loc cc0_scratch0) × Buf (Elt Ideal) ((c : Thread nD τ).loc cc0_scratch1) :=
  if h : t.val = 0 then (default, default, default) else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA T).N) (prev : (S1024x512.Idx → Elt Ideal .bf16) × Buf (Elt Ideal) ((c : Thread nD τ).loc cc0_scratch0) × Buf (Elt Ideal) ((c : Thread nD τ).loc cc0_scratch1)) (q0 : P0_0 T t) (q1 : P0_1 T t) :
    step0 T m ρ c t prev = (out0_A_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.2.1) := by
  unfold step0; simp only [dif_pos q0, dif_pos q1]

/-- `step0` at a point of path B. -/
theorem step0_B (c : Dev nD) (t : Fin (cfgA T).N) (prev : (S1024x512.Idx → Elt Ideal .bf16) × Buf (Elt Ideal) ((c : Thread nD τ).loc cc0_scratch0) × Buf (Elt Ideal) ((c : Thread nD τ).loc cc0_scratch1)) (q0 : ¬P0_0 T t) (q1 : P0_1 T t) :
    step0 T m ρ c t prev = (out0_B_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.2.1) := by
  unfold step0; simp only [dif_neg q0, dif_pos q1]

/-- `step0` at a point of path C. -/
theorem step0_C (c : Dev nD) (t : Fin (cfgA T).N) (prev : (S1024x512.Idx → Elt Ideal .bf16) × Buf (Elt Ideal) ((c : Thread nD τ).loc cc0_scratch0) × Buf (Elt Ideal) ((c : Thread nD τ).loc cc0_scratch1)) (q0 : ¬P0_0 T t) (q1 : ¬P0_1 T t) :
    step0 T m ρ c t prev = (out0_C_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.2.1) := by
  unfold step0; simp only [dif_neg q0, dif_neg q1]

/-! ## The pipeline's proof data -/

/-- What the tracked buffers held before position `t` of `Fin (N+1)` (the invariant's index). -/
def prev0T (c : Dev nD) (t : Fin ((cfgA T).N + 1)) : (S1024x512.Idx → Elt Ideal .bf16) × Buf (Elt Ideal) ((c : Thread nD τ).loc cc0_scratch0) × Buf (Elt Ideal) ((c : Thread nD τ).loc cc0_scratch1) :=
  if h : t.val = 0 then (default, default, default) else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA T).N + 1)) : sProp 𝕄 :=
  iprop((∃ a, ⌜sfresh0_0 T t.val = false → a = (prev0T T m ρ c t).2.1⌝ ∗ (scM0_0.view.loc (c : Thread nD τ) ↦{fullShare} a)) ∗ (∃ a, ⌜sfresh0_1 T t.val = false → a = (prev0T T m ρ c t).2.2⌝ ∗ (scM0_1.view.loc (c : Thread nD τ) ↦{fullShare} a)) ∗ (tbM0_0.view.loc (c : Thread nD τ) ↦{fullShare.right} T.te) ∗ (tbM0_1.view.loc (c : Thread nD τ) ↦{fullShare.right} T.nu))

/-- The proof data of the one pipeline on core `c`. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 4) t
    | ⟨1, _⟩ => iblk T m ρ c (1 : Fin 4) t
    | ⟨2, _⟩ => iblk T m ρ c (2 : Fin 4) t
    | ⟨3, _⟩ => (traj0 T m ρ c t.val t.isLt).1
  Φ t := Phi T m ρ c t
  q _ := fullShare
  owed _ := 0

theorem after0_0 (c : Dev nD) (t : Fin (cfgA T).N) : (dats T m ρ 0 c).after (0 : Fin 4) t = iblk T m ρ c (0 : Fin 4) t := rfl
theorem after0_1 (c : Dev nD) (t : Fin (cfgA T).N) : (dats T m ρ 0 c).after (1 : Fin 4) t = iblk T m ρ c (1 : Fin 4) t := rfl
theorem after0_2 (c : Dev nD) (t : Fin (cfgA T).N) : (dats T m ρ 0 c).after (2 : Fin 4) t = iblk T m ρ c (2 : Fin 4) t := rfl
theorem after0_3 (c : Dev nD) (t : Fin (cfgA T).N) : (dats T m ρ 0 c).after (3 : Fin 4) t = (traj0 T m ρ c t.val t.isLt).1 := rfl

/-! ## What each window's staging buffer holds when the body runs -/

/-- Input window 0 holds its block, fetched there or not. -/
theorem before0_0 (c : Dev nD) (t : Fin (cfgA T).N) (d) : (dats T m ρ 0 c).before (0 : Fin 4) t d = iblk T m ρ c (0 : Fin 4) t :=
  ((dats T m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA T).N) (d) : (dats T m ρ 0 c).before (1 : Fin 4) t d = iblk T m ρ c (1 : Fin 4) t :=
  ((dats T m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA T).N) (d) : (dats T m ρ 0 c).before (2 : Fin 4) t d = iblk T m ρ c (2 : Fin 4) t :=
  ((dats T m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin (cfgA T).N) (ht : t.val ≠ 0), (cfgA T).idle (3 : Fin 4) ((cfgA T).grid.coords t) = true → (cfgA T).fresh (3 : Fin 4) t.val = false →
    (dats T m ρ 0 c).after (3 : Fin 4) t = (dats T m ρ 0 c).after (3 : Fin 4) ⟨t.val - 1, by omega⟩ := by
  intro t ht hi hf
  rw [after0_3, after0_3, traj0_eq]
  by_cases q0 : P0_0 T t
  · by_cases q1 : P0_1 T t
    · obtain ⟨i3, -, -, -, -⟩ := sched0_A T t q0 q1
      rw [i3] at hi; exact absurd hi (by decide)
    · exact absurd (anew_used T t q0) q1
  · by_cases q1 : P0_1 T t
    · obtain ⟨i3, -, -, -, -, -, -⟩ := sched0_B T t q0 q1
      rw [i3] at hi; exact absurd hi (by decide)
    · obtain ⟨i3, -, -, -, -, -, -⟩ := sched0_C T t q0 q1
      rw [i3] at hi; exact absurd hi (by decide)

/-- Output window 3 holds, when the body runs at `t`: junk if nothing was stored since its last write-back (`Cfg.fresh`),
    else what the point before left (TableIdle.lean `Dat.before_out_traj`). -/
theorem before0_3 (c : Dev nD) (t : Fin (cfgA T).N) (d) :
    (dats T m ρ 0 c).before (3 : Fin 4) t d = if (cfgA T).fresh (3 : Fin 4) t.val then d else (prev0 T m ρ c t).1 := by
  rw [(dats T m ρ 0 c).before_out_traj (3 : Fin 4) rfl (fun _ _ => rfl) (hcarry0_3 T m ρ c) t.val t rfl d]
  by_cases hf : (cfgA T).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by path -/

/-- The body at point `t` on its staging memrefs, as the pipeline calls it. -/
abbrev bodyAt0 (t : Fin (cfgA T).N) : Prog (TpuEff nD τ sig (Elt Ideal) Λ₀ .tc) PUnit :=
  cc0_swiglu_up (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (Memref.whole cc0_scratch0) (Memref.isWhole_whole _) (Memref.whole cc0_scratch1) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Holds T m) (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 4) t d))
        ∗ (∃ d, owns (c : Thread nD τ) (ms0_1 T t) fullShare ((dats T m ρ 0 c).before (1 : Fin 4) t d))
        ∗ (∃ d, owns (c : Thread nD τ) (ms0_2 T t) fullShare ((dats T m ρ 0 c).before (2 : Fin 4) t d))
        ∗ (∃ d, owns (c : Thread nD τ) (ms0_3 T t) fullShare ((dats T m ρ 0 c).before (3 : Fin 4) t d)))
      ⊢ wp frame (wpE (defs₀ (F := Ideal)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : P0_0 T t
  · by_cases q1 : P0_1 T t
    · obtain ⟨i3, f3, fr3, sfn0, sfn1⟩ := sched0_A T t q0 q1
      have F0 := hyps0_A T t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_A T m ρ c t _ q0 q1]
      unfold Phi; simp only [prev0T_castSucc, prev0T_succ, traj0_eq, step0_A T m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _)
    · exact absurd (anew_used T t q0) q1
  · by_cases q1 : P0_1 T t
    · obtain ⟨i3, f3, fr3, sf0, sfn0, sf1, sfn1⟩ := sched0_B T t q0 q1
      have F0 := hyps0_B T t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_B T m ρ c t _ q0 q1]
      unfold Phi; simp only [prev0T_castSucc, prev0T_succ, traj0_eq, step0_B T m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) _ _ hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_B_3 c _ _ _ _ _ _ _ _ _ _ _ _ _ _ _ _ _ _ _)
    · obtain ⟨i3, f3, fr3, sf0, sfn0, sf1, sfn1⟩ := sched0_C T t q0 q1
      have F0 := hyps0_C T t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_C T m ρ c t _ q0 q1]
      unfold Phi; simp only [prev0T_castSucc, prev0T_succ, traj0_eq, step0_C T m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) _ _ hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _)

/-- The library's body obligation, at every point. -/
theorem body_obligation (hp : Holds T m) (c : Dev nD) : BodyObligation (dats T m ρ 0 c) (defs₀ (F := Ideal)) Variants.none () Set.univ := fun t => by
  rw [bigSep_W0]
  exact sound_body T m ρ hp c t

/-! ## The launch -/

/-- The rounds library's launch element. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 T 0 = true from rfl)) Bool.false_ne_true
  isplitl [HS1]
  · iexists a1; isplitr; swap
    · iexact HS1
    · ipureintro; intro h; exact absurd (h.symm.trans (show sfresh0_1 T 0 = true from rfl)) Bool.false_ne_true
  isplitl [HT0]
  · iexact HT0
  iexact HT1

/-- at the last point it gives the scratch buffers back (`hout`), the tables let go. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- At the compiled mesh, from any memory with zero counters whose tables and steering words are the given: every weakly
    fair execution of @main on the TensorCores terminates, and every final state has each array at the computed contents,
    and every semaphore counter of the machine at zero. -/
theorem run_main_quiescent (hp : Holds T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ hp c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Holds T m) : θ_run (defs (F := Ideal)) (onTc (τ := τ) (main (F := Ideal))) (s₀ m ρ) (QC T m ρ) :=
  (θ_run defs _ _).mono (fun _ h => h.1) (run_main_quiescent T m ρ hp)

/-- `frame` without the counters: the argument arrays end unchanged. -/
theorem unchanged (hp : Holds T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 0).trans (hp.1 c).symm, ((h c).2 1).trans (hp.2 c).symm, ((h c).1 (0 : Fin 4)).trans ((dats T m ρ 0 c).arrAt_in (0 : Fin 4) rfl _), ((h c).1 (1 : Fin 4)).trans ((dats T m ρ 0 c).arrAt_in (1 : Fin 4) rfl _), ((h c).1 (2 : Fin 4)).trans ((dats T m ρ 0 c).arrAt_in (2 : Fin 4) rfl _)⟩) (run_main T m ρ hp)

/-- From a launch memory that holds the tables, every execution ends, nothing faults, every argument array is unchanged,
    and every semaphore counter reads zero. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged T m ρ hp) ((θ_run defs _ _).mono (fun _ h => h.2) (run_main_quiescent T m ρ hp))

end Cert.Kernel6Ideal.Dense

end
-- ==== Proof.DenseBlock.lean ====
/-
  What a grid point of the dense gated up-projection leaves behind, as plain functions of its blocks: the two weights narrowed
  in the scratches, and in the output block the gated product of the rows with them, or zeros for an unused tile.
-/
module

public import proofs.«01_k».proof.Proof.DenseFrame
public import Idealize.ShloMosaic.Lib.VecWindow

@[expose] public section

set_option maxRecDepth 16384

noncomputable section

namespace Cert.Kernel6Ideal.Dense

open Cert.Kernel6Ideal Cert.Kernel6Ideal.Gen
open Idealize.ShloMosaic
open Idealize.ShloMosaic.TcCoe Idealize.ShloMosaic.Tactic

/-! ## The runs' contents -/

/-- A store of a whole buffer leaves the payload. -/
theorem writes_whole_full (b : Ref sig .tc) (f : b.ty.Contents (Elt Ideal)) {off : Fin b.ty.shape.rank → ℕ}
    (inb : ∀ a, off a + b.ty.shape.size a ≤ b.ty.shape.size a)
    (w : (Rect.unit off b.ty.shape.size inb).shape.Idx → Elt Ideal b.ty.elt) (L : List (View.Piece (Elt Ideal) b.ty.shape b.ty.elt)) :
    (View.whole b).writes (Elt Ideal) f (⟨Rect.unit off b.ty.shape.size inb, w⟩ :: L) = w :=
  (View.read_whole b _).symm.trans (View.read_writes_full (View.whole b) f inb w L)

/-- The gate scratch after a point that narrows the weights anew. -/
theorem gate_new (a5) (x1 : S1x1x2048x512.Idx → Elt Ideal .f32) :
    (View.whole cc0_scratch0).writes (Elt Ideal) (View.whole cc0_scratch0).junk (kernelRun0_A.sl.HS0_1 a5 x1)
      = k0_pay1 (F := Ideal) x1 := by
  unfold kernelRun0_A.sl.HS0_1
  refine (writes_whole_full cc0_scratch0 _ _ _ _).trans ?_
  rw [View.readAt_rep_full]

/-- The up scratch after such a point. -/
theorem up_new (a6) (x2 : S1x1x2048x512.Idx → Elt Ideal .f32) :
    (View.whole cc0_scratch1).writes (Elt Ideal) (View.whole cc0_scratch1).junk (kernelRun0_A.sl.HS1_1 a6 x2)
      = k0_pay2 (F := Ideal) x2 := by
  unfold kernelRun0_A.sl.HS1_1
  refine (writes_whole_full cc0_scratch1 _ _ _ _).trans ?_
  rw [View.readAt_rep_full]

/-- The output block of such a point on a used tile. -/
theorem out_new (a4 a5 a6) (x0 : S1024x2048.Idx → Elt Ideal .bf16) (x1 x2 : S1x1x2048x512.Idx → Elt Ideal .f32) :
    VO0_3.read (Elt Ideal) (VO0_3.writes (Elt Ideal) VO0_3.junk (kernelRun0_A.sl.HO3_1 a4 a5 a6 x0 x1 x2))
      = k0_pay3 (F := Ideal) x0 (k0_pay1 (F := Ideal) x1) (k0_pay2 (F := Ideal) x2) := by
  unfold kernelRun0_A.sl.HO3_1
  rw [View.read_writes_full, View.readAt_rep_full]
  unfold kernelRun0_A.sl.v20 kernelRun0_A.sl.v22 kernelRun0_A.sl.HS0_1 kernelRun0_A.sl.HS1_1
  rw [View.readCov_full, View.readCov_full, View.readAt_rep_full, View.readAt_rep_full]

/-- The output block of a point that keeps the scratches, on a used tile. -/
theorem out_kept (c a4) (x0 : S1024x2048.Idx → Elt Ideal .bf16) (p q) :
    VO0_3.read (Elt Ideal) (VO0_3.writes (Elt Ideal) VO0_3.junk (kernelRun0_B.sl.HO3_1 c a4 x0 p q))
      = k0_pay3 (F := Ideal) x0 p q := by
  unfold kernelRun0_B.sl.HO3_1
  rw [View.read_writes_full, View.readAt_rep_full]
  exact congrArg₂ (k0_pay3 (F := Ideal) x0) (View.readAt_full (View.whole cc0_scratch0) p _) (View.readAt_full (View.whole cc0_scratch1) q _)

/-- The output block of a point on an unused tile, the scratches kept. -/
theorem out_unused_kept : VO0_3.read (Elt Ideal) (VO0_3.writes (Elt Ideal) VO0_3.junk kernelRun0_C.sl.HO3_1)
    = k0_pay4 (F := Ideal) := by
  unfold kernelRun0_C.sl.HO3_1
  rw [View.read_writes_full]

/-! ## A step -/

variable (T : Tabs)
variable (m : (ℓ : Loc nD τ sig) → Buf (Elt Ideal) ℓ) (ρ : Dev nD → PrngReg)

variable (c : Dev nD) (t : Fin (cfgA T).N)
  (prev : (S1024x512.Idx → Elt Ideal .bf16) × Buf (Elt Ideal) ((c : Thread nD τ).loc cc0_scratch0)
    × Buf (Elt Ideal) ((c : Thread nD τ).loc cc0_scratch1))

/-- A used tile whose weights are narrowed anew. -/
theorem step_A (q0 : P0_0 T t) (q1 : P0_1 T t) : step0 T m ρ c t prev
    = (k0_pay3 (F := Ideal) (iblk T m ρ c (0 : Fin 4) t) (k0_pay1 (F := Ideal) (iblk T m ρ c (1 : Fin 4) t)) (k0_pay2 (F := Ideal) (iblk T m ρ c (2 : Fin 4) t)),
        k0_pay1 (F := Ideal) (iblk T m ρ c (1 : Fin 4) t), k0_pay2 (F := Ideal) (iblk T m ρ c (2 : Fin 4) t)) := by
  rw [step0_A T m ρ c t prev q0 q1]
  unfold out0_A_3 kernelRun0_A
  dsimp only
  rw [out_new, gate_new, up_new]

/-- A used tile with the scratches kept. -/
theorem step_B (q0 : ¬P0_0 T t) (q1 : P0_1 T t) : step0 T m ρ c t prev
    = (k0_pay3 (F := Ideal) (iblk T m ρ c (0 : Fin 4) t) prev.2.1 prev.2.2, prev.2) := by
  rw [step0_B T m ρ c t prev q0 q1]
  unfold out0_B_3 kernelRun0_B
  dsimp only
  rw [out_kept]

/-- An unused tile with the scratches kept. -/
theorem step_C (q0 : ¬P0_0 T t) (q1 : ¬P0_1 T t) : step0 T m ρ c t prev = (k0_pay4 (F := Ideal), prev.2) := by
  rw [step0_C T m ρ c t prev q0 q1]
  unfold out0_C_3 kernelRun0_C
  dsimp only
  rw [out_unused_kept]

end Cert.Kernel6Ideal.Dense

end
-- ==== Proof.DenseTile.lean ====
/-
  The dense gated up-projection's control in plain numbers: grid point `t` works on tile `t % 16` and column block `t / 16`; it
  keeps the scratches only where the tile before has the same expert; the tile is used when its number is below the
  number of used tiles; and the windows' block indices.
-/
module

public import proofs.«01_k».proof.Proof.DenseTables
public import Idealize.ShloMosaic.Lib.Pipeline.ValueKit

@[expose] public section

set_option maxRecDepth 16384

noncomputable section

namespace Cert.Kernel6Ideal.Dense

open Cert.Kernel6Ideal Cert.Kernel6Ideal.Gen
open Idealize.ShloMosaic
open Idealize.ShloMosaic.TcCoe Idealize.ShloMosaic.Tactic

variable (T : Tabs)

/-- A tile's expert. -/
def expert (i : Fin 16) : Fin 1 := ⟨(T.te (ix1 i)).toNat, T.te_lt _⟩

/-- The number of used tiles. -/
def used : ℕ := (T.nu (ix1 0)).toNat

/-- The grid has 176 points. -/
theorem lt_N (t : Fin (cfgA T).N) : t.val < 176 := t.isLt

/-- The tile and the column block of a grid point. -/
def tile (t : Fin (cfgA T).N) : Fin 16 := ⟨t.val % 16, Nat.mod_lt _ (by decide)⟩
def col (t : Fin (cfgA T).N) : Fin 11 := ⟨t.val / 16, by have := lt_N T t; omega⟩

/-! ## The words read -/

theorem off1_val : ∀ i : Fin 16, (Scalar.indexCast (BitVec.ofNat 32 i.val) : BitVec 32).toNat = i.val := by decide +kernel

theorem off2_val : ∀ i : Fin 16, (Scalar.indexCast (Scalar.maxsi (Scalar.subi (BitVec.ofNat 32 i.val) 1#32) 0#32) : BitVec 32).toNat = i.val - 1 := by
  decide +kernel

/-- The only position of a one-entry table. -/
theorem idx1_eq (x : S1.Idx) : x = ix1 0 := funext fun a => by fin_cases a; exact Subsingleton.elim (α := Fin 1) (x 0) 0

/-- The word a point reads of its own tile. -/
theorem word_own (i : grid0.Coords) : (tabs T).at 0 (Rect.unit (s := S16) (k0_off1 i) S1.size (k0_off1_inb i)) numel1_S1
    = T.te (ix1 (i 1)) :=
  congrArg T.te (funext fun a => Fin.ext (by
    fin_cases a
    show (Scalar.indexCast (BitVec.ofNat 32 (i 1).val) : BitVec 32).toNat + 1 * 0 = (i 1).val
    exact off1_val (i 1)))

/-- The word a point reads of the tile before. -/
theorem word_before (i : grid0.Coords) (h : (i 1).val - 1 < 16) :
    View.readAt (Elt Ideal) (tbM0_0).view (Rect.unit (s := S16) (k0_off2 i) S1.size (k0_off2_inb i)).toLoadRect T.te (Shape.Idx.first (numel1_S1.symm ▸ Nat.one_pos))
    = T.te (ix1 ⟨(i 1).val - 1, h⟩) :=
  congrArg T.te (funext fun a => Fin.ext (by
    fin_cases a
    show (Scalar.indexCast (Scalar.maxsi (Scalar.subi (BitVec.ofNat 32 (i 1).val) 1#32) 0#32) : BitVec 32).toNat + 1 * 0 = (i 1).val - 1
    exact off2_val (i 1)))

/-- Both words differ or the tile is the first, unless the scratches are kept. -/
theorem kept_words : ∀ a b : BitVec 1, ¬ (Scalar.cmpi .ne (Scalar.extui (Scalar.ori a b)) 0#32 : BitVec 1) = 1#1 → a = 0#1 ∧ b = 0#1 := by
  decide +kernel

theorem not_first : ∀ i : Fin 16, (Scalar.cmpi .eq (BitVec.ofNat 32 i.val) 0#32 : BitVec 1) = 0#1 → i.val ≠ 0 := by decide +kernel

theorem same_word (a b : BitVec 32) (h : (Scalar.cmpi .ne a b : BitVec 1) = 0#1) : a = b := by
  by_contra hne
  revert h
  simp [Scalar.cmpi, IntOp.cmpi, hne]

/-- Where the scratches are kept, the tile isn't the first and the tile before has its expert. -/
theorem kept (t : Fin (cfgA T).N) (q : ¬ P0_0 T t) :
    ∃ h : t.val ≠ 0, (tile T ⟨t.val - 1, by omega⟩).val + 1 = (tile T t).val ∧ col T ⟨t.val - 1, by omega⟩ = col T t
      ∧ expert T (tile T ⟨t.val - 1, by omega⟩) = expert T (tile T t) := by
  obtain ⟨ha, hb⟩ := kept_words _ _ q
  have h1 : ((crd T t) 1).val = t.val % 16 := (coords_val t).2
  have hne : ((crd T t) 1).val ≠ 0 := not_first ((crd T t) 1) ha
  have hN := lt_N T t
  have hw := same_word _ _ hb
  rw [word_before T (crd T t) (by omega)] at hw
  have hw' : T.te (ix1 ((crd T t) 1)) = T.te (ix1 ⟨((crd T t) 1).val - 1, by omega⟩) := (word_own T (crd T t)).symm.trans hw
  have e1 : ((crd T t) 1 : Fin 16) = tile T t := Fin.ext h1
  have e2 : (⟨((crd T t) 1).val - 1, by omega⟩ : Fin 16) = tile T ⟨t.val - 1, by omega⟩ := Fin.ext (by
    show ((crd T t) 1).val - 1 = (t.val - 1) % 16
    omega)
  refine ⟨by omega, ?_, Fin.ext ?_, ?_⟩
  · show (t.val - 1) % 16 + 1 = t.val % 16
    omega
  · show (t.val - 1) / 16 = t.val / 16
    omega
  · rw [e2] at hw'
    rw [e1] at hw'
    refine Fin.ext ?_
    show (T.te (ix1 (tile T ⟨t.val - 1, by omega⟩))).toNat = (T.te (ix1 (tile T t))).toNat
    rw [hw']

/-- The comparison with the number of used tiles. -/
theorem used_word : ∀ (i : Fin 16) (n : Fin 17),
    ((Scalar.cmpi .ne (Scalar.extui (Scalar.cmpi .slt (BitVec.ofNat 32 i.val) (BitVec.ofNat 32 n.val))) 0#32 : BitVec 1) = 1#1
      ↔ i.val < n.val) := by
  decide +kernel

/-- A point stores a product exactly where its tile is used. -/
theorem used_iff (t : Fin (cfgA T).N) : P0_1 T t ↔ (tile T t).val < used T := by
  have h := used_word ((crd T t) 1) ⟨(T.nu (ix1 0)).toNat, Nat.lt_succ_of_le (T.nu_le _)⟩
  rw [← word_eq] at h
  have h1 : ((crd T t) 1).val = t.val % 16 := (coords_val t).2
  rw [h1] at h
  have e : View.readAt (Elt Ideal) (tbM0_1).view (Rect.unit (s := S1) ![0] S1.size inb_S1_S1_0).toLoadRect T.nu (Shape.Idx.first (numel1_S1.symm ▸ Nat.one_pos))
      = T.nu (ix1 0) := congrArg T.nu (idx1_eq _)
  unfold P0_1
  rw [e]
  unfold k0_cond2
  rw [h1]
  exact h

/-! ## The windows' block indices -/

theorem clamp_used : ∀ (i : Fin 16) (n : Fin 17), i.val < n.val →
    (Scalar.minsi (BitVec.ofNat 32 i.val) (Scalar.subi (BitVec.ofNat 32 n.val) 1#32)).toNat = i.val := by decide +kernel

/-- The rows' block of a used tile. -/
theorem index_0 (t : Fin (cfgA T).N) (h : (tile T t).val < used T) :
    cc0_transform_0 inb_S1_S1_0 numel1_S1 (tabs T) (crd T t) = ![(tile T t).val, 0] := by
  have hc := clamp_used ((crd T t) 1) ⟨(T.nu (ix1 0)).toNat, Nat.lt_succ_of_le (T.nu_le _)⟩
    (by rw [show ((crd T t) 1).val = t.val % 16 from (coords_val t).2]; exact h)
  rw [← word_eq] at hc
  have e : (tabs T).at 1 (Rect.unit (s := S1) ![0] S1.size inb_S1_S1_0) numel1_S1 = T.nu (ix1 0) := congrArg T.nu (idx1_eq _)
  unfold cc0_transform_0
  rw [e]
  show ![(Scalar.minsi (BitVec.ofNat 32 ((crd T t) 1).val) (Scalar.subi (T.nu (ix1 0)) 1#32)).toNat, 0] = _
  rw [hc]
  exact congrArg (fun x => ![x, 0]) (coords_val t).2

/-- The weights' block. -/
theorem index_1 (t : Fin (cfgA T).N) :
    cc0_transform_1 k0_off1_inb numel1_S1 (tabs T) (crd T t) = ![0, (expert T (tile T t)).val, 0, (col T t).val] := by
  have h0 : ((crd T t) 0).val = t.val / 16 := (coords_val t).1
  have h1 : (BitVec.ofNat 32 ((crd T t) 0).val).toNat = t.val / 16 := by
    rw [h0, BitVec.toNat_ofNat]; exact Nat.mod_eq_of_lt (by have := lt_N T t; omega)
  have e : cc0_transform_1 k0_off1_inb numel1_S1 (tabs T) (crd T t)
      = ![0, ((tabs T).at 0 (Rect.unit (s := S16) (k0_off1 (crd T t)) S1.size (k0_off1_inb (crd T t))) numel1_S1).toNat, 0,
          (BitVec.ofNat 32 ((crd T t) 0).val).toNat] := rfl
  rw [e, h1, word_own, show ((crd T t) 1 : Fin 16) = tile T t from Fin.ext (coords_val t).2]
  rfl

theorem index_2 (t : Fin (cfgA T).N) :
    cc0_transform_2 k0_off1_inb numel1_S1 (tabs T) (crd T t) = ![0, (expert T (tile T t)).val, 0, (col T t).val] :=
  index_1 T t

/-- The result's block. -/
theorem index_3 : ∀ t : Fin grid0.N, cc0_transform_3 (grid0.coords t) = ![t.val % 16, t.val / 16] := by decide +kernel

end Cert.Kernel6Ideal.Dense

end
-- ==== Proof.DenseValue.lean ====
/-
  The dense gated up-projection's result array after the run: at row `r`, column `f`, the gated product of row `r` with the
  dense weights, or zero where tile `r / 1024` isn't used.
-/
module

public import proofs.«01_k».proof.Proof.DenseBlock
public import proofs.«01_k».proof.Proof.DenseTile

@[expose] public section

set_option maxRecDepth 16384

noncomputable section

namespace Cert.Kernel6Ideal.Dense

open Cert.Kernel6Ideal Cert.Kernel6Ideal.Gen
open Idealize.ShloMosaic
open Idealize.ShloMosaic.TcCoe Idealize.ShloMosaic.Tactic
open Idealize.ShloMosaic.Pipeline (Dat)

/-! ## The function of the arrays -/

/-- A row gated: its product with the gate weights `g`, through the logistic gate, times its product with the weights `u`. -/
def gated (x g u : Fin 2048 → EReal) : EReal :=
  (∑ k, x k * g k) * Ideal.div 1 (1 + Ideal.exp (-(∑ k, x k * g k))) * (∑ k, x k * u k)

variable (T : Tabs)

/-- The result array of the rows and the two weights. -/
def upOut (x : FVec Ideal S16384x2048 .bf16) (wg wu : FVec Ideal S2x1x2048x5632 .f32) : FVec Ideal S16384x5632 .bf16 :=
  fun j => if (j 0).val / 1024 < used T then
    gated (fun k => x (ix2 (n0 := 16384) (n1 := 2048) (j 0) k))
      (fun k => wg (ix4 (n0 := 2) (n3 := 5632) 0 (expert T ⟨(j 0).val / 1024, by have := (j 0).isLt; exact (Nat.div_lt_iff_lt_mul (by decide)).mpr this⟩) k (j 1)))
      (fun k => wu (ix4 (n0 := 2) (n3 := 5632) 0 (expert T ⟨(j 0).val / 1024, by have := (j 0).isLt; exact (Nat.div_lt_iff_lt_mul (by decide)).mpr this⟩) k (j 1)))
    else 0

/-! ## The payloads at an entry -/

theorem pay1_apply (w : S1x1x2048x512.Idx → EReal) (k : Fin 2048) (l : Fin 512) :
    k0_pay1 (F := Ideal) w (ix2 k l) = w (ix4 0 0 k l) := by
  pointwise [k0_pay1]

theorem pay2_apply (w : S1x1x2048x512.Idx → EReal) (k : Fin 2048) (l : Fin 512) :
    k0_pay2 (F := Ideal) w (ix2 k l) = w (ix4 0 0 k l) := by
  pointwise [k0_pay2]

theorem pay3_apply (x : S1024x2048.Idx → EReal) (g u : S2048x512.Idx → EReal) (r : Fin 1024) (l : Fin 512) :
    k0_pay3 (F := Ideal) x g u (ix2 r l)
      = gated (fun k => x (ix2 r k)) (fun k => g (ix2 k l)) (fun k => u (ix2 k l)) := by
  pointwise [k0_pay3]
  rw [zero_sub]
  rfl

theorem pay4_apply (r : Fin 1024) (l : Fin 512) : k0_pay4 (F := Ideal) (ix2 r l) = 0 := by
  pointwise [k0_pay4]

variable (m : (ℓ : Loc nD τ sig) → Buf (Elt Ideal) ℓ) (ρ : Dev nD → PrngReg) (c : Dev nD)

/-! ## The blocks at an entry -/

theorem rows_blk (t : Fin (cfgA T).N) (h : (tile T t).val < used T) (r : Fin 1024) (k : Fin 2048) :
    iblk T m ρ c (0 : Fin 4) t (ix2 r k)
      = m ((c : Thread nD τ).loc main_arg2) (ix2 (n0 := 16384) ⟨(tile T t).val * 1024 + r.val, by omega⟩ k) := by
  refine congrArg (m ((c : Thread nD τ).loc main_arg2)) (funext fun a => Fin.ext ?_)
  show cc0_transform_0 inb_S1_S1_0 numel1_S1 (tabs T) (crd T t) a * S1024x2048.size a + 1 * (ix2 r k a).val = _
  rw [index_0 T t h]
  fin_cases a
  · show (tile T t).val * 1024 + 1 * r.val = (tile T t).val * 1024 + r.val
    omega
  · show 0 * 2048 + 1 * k.val = k.val
    omega

/-- A block of an expert's weights: 512 columns. -/
def wblk (w : FVec Ideal S2x1x2048x5632 .f32) (e : Fin 1) (j : Fin 11) : S1x1x2048x512.Idx → EReal :=
  fun y => w (ix4 (n0 := 2) 0 e (y 2) (⟨j.val * 512 + (y 3).val, by
    have h : (y 3).val < 512 := (y 3).isLt
    omega⟩ : Fin 5632))

theorem gate_blk (t : Fin (cfgA T).N) :
    iblk T m ρ c (1 : Fin 4) t = wblk (m ((c : Thread nD τ).loc main_arg3)) (expert T (tile T t)) (col T t) := by
  funext y
  refine congrArg (m ((c : Thread nD τ).loc main_arg3)) (funext fun a => Fin.ext ?_)
  show cc0_transform_1 k0_off1_inb numel1_S1 (tabs T) (crd T t) a * S1x1x2048x512.size a + 1 * (y a).val = _
  rw [index_1 T t]
  have h0 : (y 0).val < 1 := (y 0).isLt
  have h1 : (y 1).val < 1 := (y 1).isLt
  fin_cases a
  · show 0 * 1 + 1 * (y 0).val = 0
    omega
  · show (expert T (tile T t)).val * 1 + 1 * (y 1).val = (expert T (tile T t)).val
    omega
  · show 0 * 2048 + 1 * (y 2).val = (y 2).val
    omega
  · show (col T t).val * 512 + 1 * (y 3).val = (col T t).val * 512 + (y 3).val
    omega

theorem up_blk (t : Fin (cfgA T).N) :
    iblk T m ρ c (2 : Fin 4) t = wblk (m ((c : Thread nD τ).loc main_arg4)) (expert T (tile T t)) (col T t) := by
  funext y
  refine congrArg (m ((c : Thread nD τ).loc main_arg4)) (funext fun a => Fin.ext ?_)
  show cc0_transform_2 k0_off1_inb numel1_S1 (tabs T) (crd T t) a * S1x1x2048x512.size a + 1 * (y a).val = _
  rw [index_2 T t]
  have h0 : (y 0).val < 1 := (y 0).isLt
  have h1 : (y 1).val < 1 := (y 1).isLt
  fin_cases a
  · show 0 * 1 + 1 * (y 0).val = 0
    omega
  · show (expert T (tile T t)).val * 1 + 1 * (y 1).val = (expert T (tile T t)).val
    omega
  · show 0 * 2048 + 1 * (y 2).val = (y 2).val
    omega
  · show (col T t).val * 512 + 1 * (y 3).val = (col T t).val * 512 + (y 3).val
    omega

/-! ## What a point leaves -/

/-- The scratches after a point hold the narrowed weights of its tile's expert, anew or from the points before. -/
theorem scratches : ∀ (n : ℕ) (h : n < (cfgA T).N), (traj0 T m ρ c n h).2
    = (k0_pay1 (F := Ideal) (wblk (m ((c : Thread nD τ).loc main_arg3)) (expert T (tile T ⟨n, h⟩)) (col T ⟨n, h⟩)),
      k0_pay2 (F := Ideal) (wblk (m ((c : Thread nD τ).loc main_arg4)) (expert T (tile T ⟨n, h⟩)) (col T ⟨n, h⟩))) := by
  intro n
  induction n with
  | zero =>
    intro h
    have q0 := changed_zero T ⟨0, h⟩ rfl
    rw [traj0_eq T m ρ c ⟨0, h⟩]
    by_cases q1 : P0_1 T ⟨0, h⟩
    · rw [step_A T m ρ c _ _ q0 q1, gate_blk, up_blk]
    · exact absurd (anew_used T _ q0) q1
  | succ n ih =>
    intro h
    have hp : prev0 T m ρ c ⟨n + 1, h⟩ = traj0 T m ρ c n (Nat.lt_of_succ_lt h) := rfl
    rw [traj0_eq T m ρ c ⟨n + 1, h⟩]
    by_cases q0 : P0_0 T ⟨n + 1, h⟩
    · by_cases q1 : P0_1 T ⟨n + 1, h⟩
      · rw [step_A T m ρ c _ _ q0 q1, gate_blk, up_blk]
      · exact absurd (anew_used T _ q0) q1
    · obtain ⟨-, -, hc, he⟩ := kept T ⟨n + 1, h⟩ q0
      have hc' : col T ⟨n, Nat.lt_of_succ_lt h⟩ = col T ⟨n + 1, h⟩ := hc
      have he' : expert T (tile T ⟨n, Nat.lt_of_succ_lt h⟩) = expert T (tile T ⟨n + 1, h⟩) := he
      have hi := ih (Nat.lt_of_succ_lt h)
      rw [hc', he'] at hi
      by_cases q1 : P0_1 T ⟨n + 1, h⟩
      · rw [step_B T m ρ c _ _ q0 q1, hp]; exact hi
      · rw [step_C T m ρ c _ _ q0 q1, hp]; exact hi

/-- The output block a point leaves. -/
theorem block (t : Fin (cfgA T).N) : (traj0 T m ρ c t.val t.isLt).1
    = if (tile T t).val < used T then
        k0_pay3 (F := Ideal) (iblk T m ρ c (0 : Fin 4) t)
          (k0_pay1 (F := Ideal) (wblk (m ((c : Thread nD τ).loc main_arg3)) (expert T (tile T t)) (col T t)))
          (k0_pay2 (F := Ideal) (wblk (m ((c : Thread nD τ).loc main_arg4)) (expert T (tile T t)) (col T t)))
      else k0_pay4 (F := Ideal) := by
  have hs := scratches T m ρ c t.val t.isLt
  rw [traj0_eq] at hs ⊢
  by_cases q1 : P0_1 T t
  · rw [if_pos ((used_iff T t).mp q1)]
    by_cases q0 : P0_0 T t
    · rw [step_A T m ρ c _ _ q0 q1, gate_blk, up_blk]
    · rw [step_B T m ρ c _ _ q0 q1] at hs ⊢
      dsimp only at hs ⊢
      rw [hs]
  · rw [if_neg fun h => q1 ((used_iff T t).mpr h)]
    by_cases q0 : P0_0 T t
    · exact absurd (anew_used T _ q0) q1
    · rw [step_C T m ρ c _ _ q0 q1]

/-- The block's entry is the result's at the place the block sits at. -/
theorem block_apply (t : Fin (cfgA T).N) (i : Fin 1024) (l : Fin 512) (r : Fin 16384) (f : Fin 5632)
    (hr : r.val = (tile T t).val * 1024 + i.val) (hf : f.val = (col T t).val * 512 + l.val) :
    (traj0 T m ρ c t.val t.isLt).1 (ix2 i l)
      = upOut T (m ((c : Thread nD τ).loc main_arg2)) (m ((c : Thread nD τ).loc main_arg3)) (m ((c : Thread nD τ).loc main_arg4)) (ix2 r f) := by
  have hd : r.val / 1024 = (tile T t).val := by omega
  have ht : (⟨r.val / 1024, by omega⟩ : Fin 16) = tile T t := Fin.ext hd
  have hr' : r = ⟨(tile T t).val * 1024 + i.val, by omega⟩ := Fin.ext hr
  have hf' : f = ⟨(col T t).val * 512 + l.val, by omega⟩ := Fin.ext hf
  rw [block]
  show _ = (if r.val / 1024 < used T then
    gated (fun k => m ((c : Thread nD τ).loc main_arg2) (ix2 (n0 := 16384) (n1 := 2048) r k))
      (fun k => m ((c : Thread nD τ).loc main_arg3) (ix4 (n0 := 2) (n3 := 5632) 0 (expert T ⟨r.val / 1024, by omega⟩) k f))
      (fun k => m ((c : Thread nD τ).loc main_arg4) (ix4 (n0 := 2) (n3 := 5632) 0 (expert T ⟨r.val / 1024, by omega⟩) k f))
    else 0)
  rw [ht, hd]
  by_cases h : (tile T t).val < used T
  · rw [if_pos h, if_pos h]
    refine (pay3_apply _ _ _ i l).trans ?_
    have e0 : (fun k : Fin 2048 => iblk T m ρ c (0 : Fin 4) t (ix2 i k))
        = fun k => m ((c : Thread nD τ).loc main_arg2) (ix2 (n0 := 16384) (n1 := 2048) r k) := by
      funext k
      rw [hr']
      exact rows_blk T m ρ c t h i k
    have e1 : ∀ w : FVec Ideal S2x1x2048x5632 .f32, ∀ k : Fin 2048, wblk w (expert T (tile T t)) (col T t) (ix4 0 0 k l)
        = w (ix4 (n0 := 2) (n3 := 5632) 0 (expert T (tile T t)) k f) := by
      intro w k
      rw [hf']
      rfl
    simp only [pay1_apply, pay2_apply, e1]
    exact congrArg (fun x => gated x _ _) e0
  · rw [if_neg h, if_neg h]
    exact pay4_apply i l

/-- Where an entry of the block sits in the result. -/
theorem emb_3 (t : Fin (cfgA T).N) (y : S1024x512.Idx) (a : Fin 2) :
    ((((cfgA T).win (3 : Fin 4)).blk t).view.emb y a).val
      = (![(tile T t).val * 1024, (col T t).val * 512] : Fin 2 → ℕ) a + (y a).val := by
  show cc0_transform_3 (crd T t) a * S1024x512.size a + 1 * (y a).val = _
  rw [index_3 t]
  fin_cases a
  · show (t.val % 16) * 1024 + 1 * (y 0).val = (t.val % 16) * 1024 + (y 0).val
    omega
  · show (t.val / 16) * 512 + 1 * (y 1).val = (t.val / 16) * 512 + (y 1).val
    omega

/-- Every block of the result is written back by one of the points. -/
theorem covers : ((cfgA T).win (3 : Fin 4)).Covers := by
  refine ⟨fun a => by fin_cases a; exact (by decide : 0 < 1024); exact (by decide : 0 < 512), fun β => ?_⟩
  have h0 : (β (0 : Fin 2)).val < 16 := lt_of_lt_of_eq (β (0 : Fin 2)).isLt (by show (16384 + 1024 - 1) / 1024 = 16; decide)
  have h1 : (β (1 : Fin 2)).val < 11 := lt_of_lt_of_eq (β (1 : Fin 2)).isLt (by show (5632 + 512 - 1) / 512 = 11; decide)
  refine ⟨⟨(β (1 : Fin 2)).val * 16 + (β (0 : Fin 2)).val, (by omega : _ < 176)⟩, flush_3 T _, fun a => ⟨?_, Or.inl ?_⟩⟩
  · show cc0_transform_3 (grid0.coords _) a = _
    rw [index_3]
    fin_cases a
    · show ((β (1 : Fin 2)).val * 16 + (β (0 : Fin 2)).val) % 16 = (β (0 : Fin 2)).val
      omega
    · show ((β (1 : Fin 2)).val * 16 + (β (0 : Fin 2)).val) / 16 = (β (1 : Fin 2)).val
      omega
  · fin_cases a <;> rfl

/-- The result array after the run. -/
theorem final : (dats T m ρ 0 c).arrAt (3 : Fin 4) (cfgA T).N
    = upOut T (m ((c : Thread nD τ).loc main_arg2)) (m ((c : Thread nD τ).loc main_arg3)) (m ((c : Thread nD τ).loc main_arg4)) := by
  refine (dats T m ρ 0 c).arrAt_eq_of_covers (3 : Fin 4) _ (covers T) fun t _ y => ?_
  blk_simp
  rw [after0_3]
  obtain ⟨i, l, rfl⟩ : ∃ (i : Fin 1024) (l : Fin 512), y = ix2 i l := ⟨y 0, y 1, eq_ix2 (n0 := 1024) (n1 := 512) y⟩
  exact (block_apply T m ρ c t i l _ _ (emb_3 T t (ix2 i l) 0) (emb_3 T t (ix2 i l) 1)).trans
    (congrArg (upOut T _ _ _) (eq_ix2 (n0 := 16384) (n1 := 5632) _).symm)

end Cert.Kernel6Ideal.Dense

end
-- ==== Proof.DenseRef.lean ====
/-
  The dense reference's result at an entry: the gated product of the row with the two weights where the row's tile is
  used, zero elsewhere.
-/
module

public import proofs.«01_k».proof.Proof.Gen.Reference6Ideal.Run
public import proofs.«01_k».proof.Proof.UpRef

@[expose] public section

set_option maxRecDepth 16384

noncomputable section

open Idealize.ShloMosaic Idealize.ShloMosaic.TcCoe Idealize.SL.Sem

namespace Cert.Reference6Ideal.DenseRef

open Cert.Reference6Ideal Cert.Reference6Ideal.Gen

/-- The rows' products with a weight of the layer. -/
def product (x : FVec Ideal S16384x2048 .bf16) (w : FVec Ideal S2x1x2048x5632 .f32) : FVec Ideal S16384x5632 .f32 :=
  Host.dotGeneral dot_S16384x2048_S2048x5632_S16384x5632_1_0_0_1_n_n none (extf .f32 x bitsLt_bf16_f32)
    (shapeCast S2048x5632 (extractStridedSlice S1x1x2048x5632 ![0, 0, 0, 0] w slices_S2x1x2048x5632_S1x1x2048x5632_0_0_0_0)
      shapeCasts_S1x1x2048x5632_S2048x5632)

/-- The rows of the used tiles. -/
def inUse (nu : Vec Ideal S1 .i32) : Vec Ideal S16384 .i1 :=
  cmpi .slt (iotaInDim S16384 32 0) (broadcastInDim S16384 ![] bcast_S_S16384
    (muli (shapeCast S_ nu shapeCasts_S1_S_) (constantI S_ 32 1024#32)))

/-- The gated products of the rows in use. -/
def gatedRows (own : Vec Ideal S16384 .i1) (a b : FVec Ideal S16384x5632 .f32) : FVec Ideal S16384x5632 .bf16 :=
  truncf .bf16 (select (broadcastInDim S16384x5632 ![0, 1] bcast_S16384x1_S16384x5632_0_1
      (broadcastInDim S16384x1 ![0] bcast_S16384_S16384x1_0 own))
    (mulf (mulf a (Host.divf (broadcastInDim S16384x5632 ![] bcast_S_S16384x5632 (constant S_ .f32 0x3F800000#32))
      (addf (broadcastInDim S16384x5632 ![] bcast_S_S16384x5632 (constant S_ .f32 0x3F800000#32)) (Host.exp (Host.negf a))))) b)
    (broadcastInDim S16384x5632 ![] bcast_S_S16384x5632 (id (constant S_ .f32 0x00000000#32)))) bitsLt_bf16_f32

theorem product_apply (x : FVec Ideal S16384x2048 .bf16) (w : FVec Ideal S2x1x2048x5632 .f32) (r : Fin 16384) (f : Fin 5632) :
    product x w (ix2 r f) = ∑ k : Fin 2048, x (ix2 r k) * w (ix4 0 0 k f) := by
  pointwise [product]

/-- A row is in use where its tile is. -/
theorem inUse_apply (nu : Vec Ideal S1 .i32) (hnu : (nu (ix1 0)).toNat ≤ 16) (r : Fin 16384) :
    inUse nu (ix1 r) = 1#1 ↔ r.val / 1024 < (nu (ix1 0)).toNat := by
  pointwise [inUse]
  have hr : (BitVec.ofNat 32 r.val).toNat = r.val := by
    rw [BitVec.toNat_ofNat]; exact Nat.mod_eq_of_lt (by omega)
  have hm : (IntOp.muli (nu (ix1 0)) 1024#32).toNat = (nu (ix1 0)).toNat * 1024 := by
    show ((nu (ix1 0)) * 1024#32 : BitVec 32).toNat = _
    rw [BitVec.toNat_mul]
    show (nu (ix1 0)).toNat * 1024 % 2 ^ 32 = _
    exact Nat.mod_eq_of_lt (by omega)
  rw [Cert.Reference2Ideal.UpRef.slt_bit _ _ (by omega) (by omega), hr, hm]
  omega

theorem gatedRows_apply (own : Vec Ideal S16384 .i1) (a b : FVec Ideal S16384x5632 .f32) (r : Fin 16384) (f : Fin 5632) :
    gatedRows own a b (ix2 r f) = if own (ix1 r) = 1#1 then
      a (ix2 r f) * Ideal.div 1 (1 + Ideal.exp (-a (ix2 r f))) * b (ix2 r f) else 0 := by
  pointwise [gatedRows]
  have hz : (id (constant S_ FTy.f32 0#32) : FVec Ideal S_ .f32) ix0 = (0 : EReal) := by
    show (constant S_ FTy.f32 0#32 : FVec Ideal S_ .f32) ix0 = (0 : EReal)
    pointwise
  rw [hz]
  rfl

/-- The result at an entry: the row's gated product where its tile is used. -/
theorem res_apply (nu : Vec Ideal S1 .i32) (x : FVec Ideal S16384x2048 .bf16) (wg wu : FVec Ideal S2x1x2048x5632 .f32)
    (hnu : (nu (ix1 0)).toNat ≤ 16) (r : Fin 16384) (f : Fin 5632) :
    gatedRows (inUse nu) (product x wg) (product x wu) (ix2 r f)
      = if r.val / 1024 < (nu (ix1 0)).toNat then
          (∑ k : Fin 2048, x (ix2 r k) * wg (ix4 0 0 k f))
            * Ideal.div 1 (1 + Ideal.exp (-(∑ k : Fin 2048, x (ix2 r k) * wg (ix4 0 0 k f))))
            * (∑ k : Fin 2048, x (ix2 r k) * wu (ix4 0 0 k f))
        else 0 := by
  rw [gatedRows_apply]
  simp only [inUse_apply nu hnu, product_apply]

end Cert.Reference6Ideal.DenseRef

end
-- ==== Proof.DensePre.lean ====
/-
  What the dense call's precondition says: every tile's expert is zero, and between 1 and 16 tiles are in use.
-/
module

public import proofs.«01_k».proof.Proof.Gen.Pre_tables6
public import proofs.«01_k».proof.Proof.UpPre

@[expose] public section

noncomputable section

open Idealize.ShloMosaic

namespace Cert.Pre_tables6

/-- A word equal to zero is zero as a number. -/
theorem zero_of_word {w : BitVec 32} (h : IntOp.cmpi .eq w 0#32 = 1#1) : w.toNat < 1 := by
  have e : w = 0#32 := by
    by_contra hne
    have hb : (w == 0#32) = false := by simpa using hne
    simp only [IntOp.cmpi, hb] at h
    exact absurd h (by decide)
  rw [e]
  decide

/-- The precondition, read: the ranges of the two tables. -/
theorem range_of_fn {F : FTy → Type} [FloatOps F] (te : IVec S16 32) (nu : IVec S1 32) (x : FVec F S16384x2048 .bf16)
    (g u : FVec F S2x1x2048x5632 .f32) (j : S_.Idx) (h : Cert.Pre_tables6.fn (F := F) te nu x g u j = 1#1) :
    (∀ i, (te i).toNat < 1) ∧ (∀ i, 1 ≤ (nu i).toNat) ∧ (∀ i, (nu i).toNat ≤ 16) := by
  dsimp only [Cert.Pre_tables6.fn] at h
  have : Subsingleton S_.Idx := ⟨fun a b => funext fun x => x.elim0⟩
  have : Subsingleton S1.Idx := ⟨fun a b => funext fun x => Fin.ext (by
    have h1 : x = 0 := Subsingleton.elim (α := Fin 1) _ _
    subst h1
    have ha : (a 0).val < 1 := (a 0).isLt
    have hb : (b 0).val < 1 := (b 0).isLt
    omega)⟩
  obtain ⟨h1, h3⟩ := IntOp.andi_eq_one.mp h
  obtain ⟨h1, h2⟩ := IntOp.andi_eq_one.mp h1
  have g1 := Host.reduce_andi_all _ _ _ _ j h1
  have hn : ∀ i, 1 ≤ (nu i).toNat ∧ (nu i).toNat ≤ 16 := fun i => by
    obtain ⟨y, hy⟩ : ∃ y : S1.Idx, shapeCast S_ nu Gen.shapeCasts_S1_S_ j = nu y := ⟨_, rfl⟩
    rw [Subsingleton.elim i y]
    refine Cert.Pre_tables.range_of_words (by decide) (by decide) ?_ ?_
    · rw [← hy]; exact h2
    · rw [← hy]; exact h3
  exact ⟨fun i => zero_of_word (g1 i), fun i => (hn i).1, fun i => (hn i).2⟩

end Cert.Pre_tables6

end
-- ==== Proof.DenseWordTables.lean ====
/-
  The pipeline of the dense gated up-projection, on words, at arbitrary tables: which expert each tile of rows belongs to, and how many
  tiles are in use. The tables are those with every expert zero and between 1 and 16 tiles in use.
-/
module

public import proofs.«01_k».proof.Proof.Gen.Kernel6.Flash.Runs
public import Idealize.ShloMosaic.Lib.Pipeline.Quiescent
public import Idealize.ShloMosaic.Lib.Claim

@[expose] public section

set_option maxRecDepth 16384
set_option Elab.async false

noncomputable section

namespace Cert.Kernel6.Dense

open Cert.Kernel6 Cert.Kernel6.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- Tables the launch may hold: every tile's expert is the only one, at least one and at most 16 tiles are in use. -/
structure Tabs where
  te : S16.Idx → BitVec 32
  nu : S1.Idx → BitVec 32
  te_lt : ∀ x, (te x).toNat < 1
  nu_pos : ∀ x, 1 ≤ (nu x).toNat
  nu_le : ∀ x, (nu x).toNat ≤ 16

variable (T : Tabs)

set_option backward.proofsInPublic true in
/-- The two tables as the launch's contents. -/
def tabs : pre0.Contents (Elt Bits) := fun | ⟨0, _⟩ => T.te | ⟨1, _⟩ => T.nu | ⟨_ + 2, h⟩ => absurd h (by simp)

/-- The launch memory holds these tables. -/
def Holds (m : (ℓ : Loc nD τ sig) → Buf (Elt Bits) ℓ) : Prop :=
  (∀ c : Dev nD, m ((c : Thread nD τ).loc main_arg0) = T.te)
  ∧ (∀ c : Dev nD, m ((c : Thread nD τ).loc main_arg1) = T.nu)

/-- Clamping a tile's number to the used ones keeps it below 16. -/
theorem clamp_lt : ∀ (i : Fin 16) (n : Fin 17), 1 ≤ n.val →
    (Scalar.minsi (BitVec.ofNat 32 i.val) (Scalar.subi (BitVec.ofNat 32 n.val) 1#32)).toNat < 16 := by decide +kernel

/-- A word below 17 is the word of its number. -/
theorem word_eq (w : BitVec 32) : w = BitVec.ofNat 32 w.toNat := by simp

/-- The block of rows fetched is inside the array of rows. -/
theorem inb_0 (i : grid0.Coords) (a : Fin 2) :
    (cc0_transform_0 inb_S1_S1_0 numel1_S1 (tabs T) i a + 1) * S1024x2048.size a ≤ S16384x2048.size a := by
  obtain ⟨n, hn⟩ : ∃ n : S1.Idx, (tabs T).at 1 (Rect.unit (s := S1) ![0] S1.size inb_S1_S1_0) numel1_S1 = T.nu n := ⟨_, rfl⟩
  have h := clamp_lt (i 1) ⟨(T.nu n).toNat, Nat.lt_succ_of_le (T.nu_le n)⟩ (T.nu_pos n)
  rw [← word_eq] at h
  unfold cc0_transform_0
  rw [hn]
  fin_cases a
  · show ((Scalar.minsi (BitVec.ofNat 32 (i 1).val) (Scalar.subi (T.nu n) 1#32)).toNat + 1) * 1024 ≤ 16384
    omega
  · show (0 + 1) * 2048 ≤ 2048
    omega

/-- The block of gate weights fetched is inside the array. -/
theorem inb_1 (i : grid0.Coords) (a : Fin 4) :
    (cc0_transform_1 k0_off1_inb numel1_S1 (tabs T) i a + 1) * S1x1x2048x512.size a ≤ S2x1x2048x5632.size a := by
  obtain ⟨n, hn⟩ : ∃ n : S16.Idx, (tabs T).at 0 (Rect.unit (s := S16) (k0_off1 i) S1.size (k0_off1_inb i)) numel1_S1 = T.te n := ⟨_, rfl⟩
  have h := T.te_lt n
  have h0 : (i 0).val < 11 := (i 0).isLt
  have h1 : (BitVec.ofNat 32 (i 0).val).toNat = (i 0).val := by
    rw [BitVec.toNat_ofNat]; exact Nat.mod_eq_of_lt (by omega)
  have e : cc0_transform_1 k0_off1_inb numel1_S1 (tabs T) i = ![0, (T.te n).toNat, 0, (i 0).val] := by
    rw [← hn, ← h1]; rfl
  rw [e]
  fin_cases a
  · show (0 + 1) * 1 ≤ 2
    omega
  · show ((T.te n).toNat + 1) * 1 ≤ 1
    omega
  · show (0 + 1) * 2048 ≤ 2048
    omega
  · show ((i 0).val + 1) * 512 ≤ 5632
    omega

/-- The two weight windows have one index map. -/
theorem map_2 (i : grid0.Coords) : cc0_transform_2 k0_off1_inb numel1_S1 (tabs T) i = cc0_transform_1 k0_off1_inb numel1_S1 (tabs T) i := rfl

/-- The launch's side condition holds of all such tables. -/
theorem ok : ok0 (F := Bits) (tabs T) :=
  ⟨fun i => ⟨inb_0 T i, .inr (Affine.block_words_dvd (s := S16384x2048) (p := EltTy.packing .bf16) (by decide) (by decide))⟩,
    fun i => ⟨inb_1 T i, .inl rfl⟩, fun i => ⟨fun a => by rw [map_2]; exact inb_1 T i a, .inl rfl⟩⟩

/-- The admissible contents and the pipeline at them. -/
def adm : (pcfg0 (F := Bits)).Adm := ⟨tabs T, ok T⟩
abbrev cfgA : Pipeline.Cfg sig Λ₀ := cfg0 (F := Bits) (adm T)
abbrev pcs : Fin 1 → Pipeline.Cfg sig Λ₀ := Pipeline.pin (pcfgs (F := Bits)) fun _ => adm T

variable (m : (ℓ : Loc nD τ sig) → Buf (Elt Bits) ℓ) (ρ : Dev nD → PrngReg)

/-! ## A point's coordinates, words and staging memrefs -/

/-- Point `t`'s coordinates. -/
abbrev crd (t : Fin (cfgA T).N) : (cfgA T).grid.Coords := (cfgA T).grid.coords t

/-- Each window's current staging memref at point `t`, spelled as the pipeline passes it, and its wholeness. -/
abbrev ms0_0 (t : Fin (cfgA T).N) : Memref sig .tc .vmem S1024x2048 .bf16 := spec0_0.stage ((cfgA T).slots t (0 : Fin 4))
abbrev hs0_0 (t : Fin (cfgA T).N) : (ms0_0 T t).IsWhole := hstage0_0 (((cfgA T).slots t (0 : Fin 4)).cast nbuf0_0)
abbrev ms0_1 (t : Fin (cfgA T).N) : Memref sig .tc .vmem S1x1x2048x512 .f32 := spec0_1.stage ((cfgA T).slots t (1 : Fin 4))
abbrev hs0_1 (t : Fin (cfgA T).N) : (ms0_1 T t).IsWhole := hstage0_1 (((cfgA T).slots t (1 : Fin 4)).cast nbuf0_1)
abbrev ms0_2 (t : Fin (cfgA T).N) : Memref sig .tc .vmem S1x1x2048x512 .f32 := spec0_2.stage ((cfgA T).slots t (2 : Fin 4))
abbrev hs0_2 (t : Fin (cfgA T).N) : (ms0_2 T t).IsWhole := hstage0_2 (((cfgA T).slots t (2 : Fin 4)).cast nbuf0_2)
abbrev ms0_3 (t : Fin (cfgA T).N) : Memref sig .tc .vmem S1024x512 .bf16 := spec0_3.stage ((cfgA T).slots t (3 : Fin 4))
abbrev hs0_3 (t : Fin (cfgA T).N) : (ms0_3 T t).IsWhole := hstage0_3 (((cfgA T).slots t (3 : Fin 4)).cast nbuf0_3)

/-! ## The windows' blocks -/

/-- Window `w`'s block at point `t`, read off its array at launch. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-! ## The control's decisions at a point, at the words of the tables (what tells the paths apart) -/

abbrev P0_0 (t : Fin (cfgA T).N) : Prop := (Scalar.cmpi .ne (Scalar.extui (Scalar.ori (Scalar.cmpi .eq (BitVec.ofNat 32 ((crd T t) 1).val) 0#32) (Scalar.cmpi .ne (View.readAt (Elt Bits) (tbM0_0).view (Rect.unit (s := S16) (k0_off1 (crd T t)) S1.size (k0_off1_inb (crd T t))).toLoadRect T.te (Shape.Idx.first (numel1_S1.symm ▸ Nat.one_pos))) (View.readAt (Elt Bits) (tbM0_0).view (Rect.unit (s := S16) (k0_off2 (crd T t)) S1.size (k0_off2_inb (crd T t))).toLoadRect T.te (Shape.Idx.first (numel1_S1.symm ▸ Nat.one_pos)))))) 0#32) = 1#1
abbrev P0_1 (t : Fin (cfgA T).N) : Prop := k0_cond2 (crd T t) (View.readAt (Elt Bits) (tbM0_1).view (Rect.unit (s := S1) ![0] S1.size inb_S1_S1_0).toLoadRect T.nu (Shape.Idx.first (numel1_S1.symm ▸ Nat.one_pos))) = 1#1

/-! ## What a point decides -/

/-- Two conditions on the tile's number: exactly one of them holds. -/
theorem used_or : ∀ (i : Fin 16) (n : Fin 17),
    ((Scalar.cmpi .ne (Scalar.extui (Scalar.cmpi .sge (BitVec.ofNat 32 i.val) (BitVec.ofNat 32 n.val))) 0#32 : BitVec 1) = 1#1
      ↔ ¬ (Scalar.cmpi .ne (Scalar.extui (Scalar.cmpi .slt (BitVec.ofNat 32 i.val) (BitVec.ofNat 32 n.val))) 0#32 : BitVec 1) = 1#1) := by
  decide +kernel

/-- The kernel stores zeros exactly where it doesn't store a product. -/
theorem cond3_iff (i : grid0.Coords) (x : S1.Idx) : k0_cond3 i (T.nu x) = 1#1 ↔ ¬ k0_cond2 i (T.nu x) = 1#1 := by
  have h := used_or (i 1) ⟨(T.nu x).toNat, Nat.lt_succ_of_le (T.nu_le x)⟩
  rw [← word_eq] at h
  exact h

/-- At the first tile the weights are read anew. -/
theorem first_changed : ∀ b : BitVec 1, (Scalar.cmpi .ne (Scalar.extui (Scalar.ori (Scalar.cmpi .eq (BitVec.ofNat 32 0) 0#32) b)) 0#32 : BitVec 1) = 1#1 := by
  decide +kernel

/-- A point's coordinates: the column block, then the tile. -/
theorem coords_val : ∀ t : Fin grid0.N, (grid0.coords t 0).val = t.val / 16 ∧ (grid0.coords t 1).val = t.val % 16 := by
  decide +kernel

/-- At point 0 the weights are read anew. -/
theorem changed_zero (t : Fin (cfgA T).N) (h : t.val = 0) : P0_0 T t := by
  have e : ((crd T t) 1).val = 0 := (coords_val t).2.trans (by rw [h])
  unfold P0_0
  rw [e]
  exact first_changed _

/-- At the tables' only expert the weights are read anew at the first tile alone. -/
theorem anew_first : ∀ i : Fin 16,
    (Scalar.cmpi .ne (Scalar.extui (Scalar.ori (Scalar.cmpi .eq (BitVec.ofNat 32 i.val) 0#32) (Scalar.cmpi .ne (0#32 : BitVec 32) 0#32))) 0#32 : BitVec 1) = 1#1
      → i.val = 0 := by
  decide +kernel

/-- The first tile is used. -/
theorem zero_used : ∀ n : Fin 17, 1 ≤ n.val →
    (Scalar.cmpi .ne (Scalar.extui (Scalar.cmpi .slt (BitVec.ofNat 32 0) (BitVec.ofNat 32 n.val))) 0#32 : BitVec 1) = 1#1 := by
  decide +kernel

/-- The only expert's word is zero. -/
theorem te_zero (x : S16.Idx) : T.te x = 0#32 := BitVec.eq_of_toNat_eq (Nat.lt_one_iff.mp (T.te_lt x))

/-- Where the weights are read anew the tile is used. -/
theorem anew_used (t : Fin (cfgA T).N) (q0 : P0_0 T t) : P0_1 T t := by
  have h0 : ((crd T t) 1).val = 0 := by
    refine anew_first ((crd T t) 1) ?_
    have h := q0
    unfold P0_0 at h
    rw [show View.readAt (Elt Bits) (tbM0_0).view (Rect.unit (s := S16) (k0_off1 (crd T t)) S1.size (k0_off1_inb (crd T t))).toLoadRect T.te (Shape.Idx.first (numel1_S1.symm ▸ Nat.one_pos)) = 0#32 from te_zero T _,
      show View.readAt (Elt Bits) (tbM0_0).view (Rect.unit (s := S16) (k0_off2 (crd T t)) S1.size (k0_off2_inb (crd T t))).toLoadRect T.te (Shape.Idx.first (numel1_S1.symm ▸ Nat.one_pos)) = 0#32 from te_zero T _] at h
    exact h
  obtain ⟨n, hn⟩ : ∃ n : S1.Idx, View.readAt (Elt Bits) (tbM0_1).view (Rect.unit (s := S1) ![0] S1.size inb_S1_S1_0).toLoadRect T.nu (Shape.Idx.first (numel1_S1.symm ▸ Nat.one_pos)) = T.nu n := ⟨_, rfl⟩
  have h := zero_used ⟨(T.nu n).toNat, Nat.lt_succ_of_le (T.nu_le n)⟩ (T.nu_pos n)
  rw [← word_eq] at h
  unfold P0_1
  rw [hn]
  unfold k0_cond2
  rw [h0]
  exact h

/-- The output's index map differs from each point to the next. -/
theorem out_flush : ∀ t : Fin grid0.N, Pipeline.Window.flushOf grid0 true cc0_transform_3 t = true := by decide +kernel

/-- The output block is written back at every point. -/
theorem flush_3 (t : Fin (cfgA T).N) : ((cfgA T).win (3 : Fin 4)).flush t = true := out_flush t

/-- One of the two conditions on the tile's number holds. -/
theorem stored (i : grid0.Coords) (x : S1.Idx) : (!(k0_cond2 i (T.nu x) == 1#1) && !(k0_cond3 i (T.nu x) == 1#1)) = false := by
  have h := cond3_iff T i x
  by_cases h2 : k0_cond2 i (T.nu x) = 1#1
  · rw [h2]; rfl
  · rw [h.mpr h2]; simp

/-- The output is stored at every point. -/
theorem idle_3 (t : Fin (cfgA T).N) : (cfgA T).idle (3 : Fin 4) ((cfgA T).grid.coords t) = false := stored T (crd T t) _

/-- Before each point the output's buffer holds nothing stored. -/
theorem fresh_3 (t : Fin (cfgA T).N) : (cfgA T).fresh (3 : Fin 4) t.val = true :=
  Pipeline.Cfg.fresh_tab (cfgA T) (3 : Fin 4) (fun _ => true) rfl (fun t => by rw [flush_3]; rfl) t.val (Nat.le_of_lt t.isLt)

/-- The weights' scratch holds nothing determined before the first point. -/
def sfresh0_0 (T : Tabs) (n : ℕ) : Bool := decide (n = 0)
def sfresh0_1 (T : Tabs) (n : ℕ) : Bool := decide (n = 0)

/-- Path A: its conditions hold of the words read. -/
theorem hyps0_A (t : Fin (cfgA T).N) (q0 : P0_0 T t) (q1 : P0_1 T t) :
    ((Scalar.cmpi .ne (Scalar.extui (Scalar.ori (Scalar.cmpi .eq (BitVec.ofNat 32 ((crd T t) 1).val) 0#32) (Scalar.cmpi .ne (View.readAt (Elt Bits) (tbM0_0).view (Rect.unit (s := S16) (k0_off1 (crd T t)) S1.size (k0_off1_inb (crd T t))).toLoadRect T.te (Shape.Idx.first (numel1_S1.symm ▸ Nat.one_pos))) (View.readAt (Elt Bits) (tbM0_0).view (Rect.unit (s := S16) (k0_off2 (crd T t)) S1.size (k0_off2_inb (crd T t))).toLoadRect T.te (Shape.Idx.first (numel1_S1.symm ▸ Nat.one_pos)))))) 0#32) = 1#1) ∧ ((k0_cond2 (crd T t) (View.readAt (Elt Bits) (tbM0_1).view (Rect.unit (s := S1) ![0] S1.size inb_S1_S1_0).toLoadRect T.nu (Shape.Idx.first (numel1_S1.symm ▸ Nat.one_pos))) = 1#1) ∧ ((¬(k0_cond3 (crd T t) (View.readAt (Elt Bits) (tbM0_1).view (Rect.unit (s := S1) ![0] S1.size inb_S1_S1_0).toLoadRect T.nu (Shape.Idx.first (numel1_S1.symm ▸ Nat.one_pos))) = 1#1)) ∧ (True))) :=
  ⟨q0, q1, fun h => ((cond3_iff T _ _).mp h) q1, trivial⟩

/-- Path B: its conditions hold of the words read. -/
theorem hyps0_B (t : Fin (cfgA T).N) (q0 : ¬P0_0 T t) (q1 : P0_1 T t) :
    (¬((Scalar.cmpi .ne (Scalar.extui (Scalar.ori (Scalar.cmpi .eq (BitVec.ofNat 32 ((crd T t) 1).val) 0#32) (Scalar.cmpi .ne (View.readAt (Elt Bits) (tbM0_0).view (Rect.unit (s := S16) (k0_off1 (crd T t)) S1.size (k0_off1_inb (crd T t))).toLoadRect T.te (Shape.Idx.first (numel1_S1.symm ▸ Nat.one_pos))) (View.readAt (Elt Bits) (tbM0_0).view (Rect.unit (s := S16) (k0_off2 (crd T t)) S1.size (k0_off2_inb (crd T t))).toLoadRect T.te (Shape.Idx.first (numel1_S1.symm ▸ Nat.one_pos)))))) 0#32) = 1#1)) ∧ ((k0_cond2 (crd T t) (View.readAt (Elt Bits) (tbM0_1).view (Rect.unit (s := S1) ![0] S1.size inb_S1_S1_0).toLoadRect T.nu (Shape.Idx.first (numel1_S1.symm ▸ Nat.one_pos))) = 1#1) ∧ ((¬(k0_cond3 (crd T t) (View.readAt (Elt Bits) (tbM0_1).view (Rect.unit (s := S1) ![0] S1.size inb_S1_S1_0).toLoadRect T.nu (Shape.Idx.first (numel1_S1.symm ▸ Nat.one_pos))) = 1#1)) ∧ (True))) :=
  ⟨q0, q1, fun h => ((cond3_iff T _ _).mp h) q1, trivial⟩

/-- Path C: its conditions hold of the words read. -/
theorem hyps0_C (t : Fin (cfgA T).N) (q0 : ¬P0_0 T t) (q1 : ¬P0_1 T t) :
    (¬((Scalar.cmpi .ne (Scalar.extui (Scalar.ori (Scalar.cmpi .eq (BitVec.ofNat 32 ((crd T t) 1).val) 0#32) (Scalar.cmpi .ne (View.readAt (Elt Bits) (tbM0_0).view (Rect.unit (s := S16) (k0_off1 (crd T t)) S1.size (k0_off1_inb (crd T t))).toLoadRect T.te (Shape.Idx.first (numel1_S1.symm ▸ Nat.one_pos))) (View.readAt (Elt Bits) (tbM0_0).view (Rect.unit (s := S16) (k0_off2 (crd T t)) S1.size (k0_off2_inb (crd T t))).toLoadRect T.te (Shape.Idx.first (numel1_S1.symm ▸ Nat.one_pos)))))) 0#32) = 1#1)) ∧ ((¬(k0_cond2 (crd T t) (View.readAt (Elt Bits) (tbM0_1).view (Rect.unit (s := S1) ![0] S1.size inb_S1_S1_0).toLoadRect T.nu (Shape.Idx.first (numel1_S1.symm ▸ Nat.one_pos))) = 1#1)) ∧ ((k0_cond3 (crd T t) (View.readAt (Elt Bits) (tbM0_1).view (Rect.unit (s := S1) ![0] S1.size inb_S1_S1_0).toLoadRect T.nu (Shape.Idx.first (numel1_S1.symm ▸ Nat.one_pos))) = 1#1) ∧ (True))) :=
  ⟨q0, q1, (cond3_iff T _ _).mpr q1, trivial⟩

/-- Path A: the schedule at such a point. -/
theorem sched0_A (t : Fin (cfgA T).N) (q0 : P0_0 T t) (q1 : P0_1 T t) :
    (cfgA T).idle (3 : Fin 4) ((cfgA T).grid.coords t) = false ∧ ((cfgA T).win (3 : Fin 4)).flush t = true ∧ (cfgA T).fresh (3 : Fin 4) t.val = true ∧ sfresh0_0 T (t.val + 1) = false ∧ sfresh0_1 T (t.val + 1) = false :=
  ⟨idle_3 T t, flush_3 T t, fresh_3 T t, decide_eq_false (Nat.succ_ne_zero _), decide_eq_false (Nat.succ_ne_zero _)⟩

/-- Path B: the schedule at such a point. -/
theorem sched0_B (t : Fin (cfgA T).N) (q0 : ¬P0_0 T t) (q1 : P0_1 T t) :
    (cfgA T).idle (3 : Fin 4) ((cfgA T).grid.coords t) = false ∧ ((cfgA T).win (3 : Fin 4)).flush t = true ∧ (cfgA T).fresh (3 : Fin 4) t.val = true ∧ sfresh0_0 T t.val = false ∧ sfresh0_0 T (t.val + 1) = false ∧ sfresh0_1 T t.val = false ∧ sfresh0_1 T (t.val + 1) = false :=
  ⟨idle_3 T t, flush_3 T t, fresh_3 T t, decide_eq_false fun h => q0 (changed_zero T t h), decide_eq_false (Nat.succ_ne_zero _), decide_eq_false fun h => q0 (changed_zero T t h), decide_eq_false (Nat.succ_ne_zero _)⟩

/-- Path C: the schedule at such a point. -/
theorem sched0_C (t : Fin (cfgA T).N) (q0 : ¬P0_0 T t) (q1 : ¬P0_1 T t) :
    (cfgA T).idle (3 : Fin 4) ((cfgA T).grid.coords t) = false ∧ ((cfgA T).win (3 : Fin 4)).flush t = true ∧ (cfgA T).fresh (3 : Fin 4) t.val = true ∧ sfresh0_0 T t.val = false ∧ sfresh0_0 T (t.val + 1) = false ∧ sfresh0_1 T t.val = false ∧ sfresh0_1 T (t.val + 1) = false :=
  ⟨idle_3 T t, flush_3 T t, fresh_3 T t, decide_eq_false fun h => q0 (changed_zero T t h), decide_eq_false (Nat.succ_ne_zero _), decide_eq_false fun h => q0 (changed_zero T t h), decide_eq_false (Nat.succ_ne_zero _)⟩

end Cert.Kernel6.Dense

end
-- ==== Proof.DenseWordFrame.lean ====
/-
  The frame of the dense gated up-projection, on words, at arbitrary tables: every execution ends, nothing faults, the arguments are
  unchanged, and each array ends at contents named here.
-/
module

public import proofs.«01_k».proof.Proof.DenseWordTables

@[expose] public section

set_option maxRecDepth 16384
set_option Elab.async false

noncomputable section

namespace Cert.Kernel6.Dense

open Cert.Kernel6 Cert.Kernel6.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra: the rounds library's, for the pipeline's staging cells, embedded whole. -/
abbrev EP : Emb (UR sig nD τ) 𝕄 := emb₁

variable (T : Tabs)
variable (m : (ℓ : Loc nD τ sig) → Buf (Elt Bits) ℓ) (ρ : Dev nD → PrngReg)

/-! ## What the outputs and scratches hold after each point -/

/-- ONE STEP of the trajectory: what the outputs' current buffers and the scratches hold after the body at point `t`
    (output 3, scratch 0, scratch 1), from what they held before (`prev`): the path the decisions select at `t`, its
    run's contents; an output the path leaves idle keeps what it held (junk — `default`, named by nothing — where fresh). -/
def step0 (c : Dev nD) (t : Fin (cfgA T).N) (prev : (S1024x512.Idx → Elt Bits .bf16) × Buf (Elt Bits) ((c : Thread nD τ).loc cc0_scratch0) × Buf (Elt Bits) ((c : Thread nD τ).loc cc0_scratch1)) : (S1024x512.Idx → Elt Bits .bf16) × Buf (Elt Bits) ((c : Thread nD τ).loc cc0_scratch0) × Buf (Elt Bits) ((c : Thread nD τ).loc cc0_scratch1) :=
  if q0 : P0_0 T t then
    if q1 : P0_1 T t then
      (out0_A_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.2.1)
    else
      prev
  else
    if q1 : P0_1 T t then
      (out0_B_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.2.1)
    else
      (out0_C_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.2.1)

/-- THE TRAJECTORY: after position `n`. -/
def traj0 (c : Dev nD) : (n : ℕ) → n < (cfgA T).N → (S1024x512.Idx → Elt Bits .bf16) × Buf (Elt Bits) ((c : Thread nD τ).loc cc0_scratch0) × Buf (Elt Bits) ((c : Thread nD τ).loc cc0_scratch1)
  | 0, h => step0 T m ρ c ⟨0, h⟩ (default, default, default)
  | n + 1, h => step0 T m ρ c ⟨n + 1, h⟩ (traj0 c n (Nat.lt_of_succ_lt h))

/-- What they held BEFORE point `t` (junk before the first). -/
def prev0 (c : Dev nD) (t : Fin (cfgA T).N) : (S1024x512.Idx → Elt Bits .bf16) × Buf (Elt Bits) ((c : Thread nD τ).loc cc0_scratch0) × Buf (Elt Bits) ((c : Thread nD τ).loc cc0_scratch1) :=
  if h : t.val = 0 then (default, default, default) else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA T).N) (prev : (S1024x512.Idx → Elt Bits .bf16) × Buf (Elt Bits) ((c : Thread nD τ).loc cc0_scratch0) × Buf (Elt Bits) ((c : Thread nD τ).loc cc0_scratch1)) (q0 : P0_0 T t) (q1 : P0_1 T t) :
    step0 T m ρ c t prev = (out0_A_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.1, (kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) (hyps0_A T t q0 q1).1 (hyps0_A T t q0 q1).2.1 (hyps0_A T t q0 q1).2.2.1).2.2.1) := by
  unfold step0; simp only [dif_pos q0, dif_pos q1]

/-- `step0` at a point of path B. -/
theorem step0_B (c : Dev nD) (t : Fin (cfgA T).N) (prev : (S1024x512.Idx → Elt Bits .bf16) × Buf (Elt Bits) ((c : Thread nD τ).loc cc0_scratch0) × Buf (Elt Bits) ((c : Thread nD τ).loc cc0_scratch1)) (q0 : ¬P0_0 T t) (q1 : P0_1 T t) :
    step0 T m ρ c t prev = (out0_B_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.1, (kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_B T t q0 q1).1 (hyps0_B T t q0 q1).2.1 (hyps0_B T t q0 q1).2.2.1).2.2.1) := by
  unfold step0; simp only [dif_neg q0, dif_pos q1]

/-- `step0` at a point of path C. -/
theorem step0_C (c : Dev nD) (t : Fin (cfgA T).N) (prev : (S1024x512.Idx → Elt Bits .bf16) × Buf (Elt Bits) ((c : Thread nD τ).loc cc0_scratch0) × Buf (Elt Bits) ((c : Thread nD τ).loc cc0_scratch1)) (q0 : ¬P0_0 T t) (q1 : ¬P0_1 T t) :
    step0 T m ρ c t prev = (out0_C_3 c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.1, (kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) prev.2.1 prev.2.2 (hyps0_C T t q0 q1).1 (hyps0_C T t q0 q1).2.1 (hyps0_C T t q0 q1).2.2.1).2.2.1) := by
  unfold step0; simp only [dif_neg q0, dif_neg q1]

/-! ## The pipeline's proof data -/

/-- What the tracked buffers held before position `t` of `Fin (N+1)` (the invariant's index). -/
def prev0T (c : Dev nD) (t : Fin ((cfgA T).N + 1)) : (S1024x512.Idx → Elt Bits .bf16) × Buf (Elt Bits) ((c : Thread nD τ).loc cc0_scratch0) × Buf (Elt Bits) ((c : Thread nD τ).loc cc0_scratch1) :=
  if h : t.val = 0 then (default, default, default) else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA T).N + 1)) : sProp 𝕄 :=
  iprop((∃ a, ⌜sfresh0_0 T t.val = false → a = (prev0T T m ρ c t).2.1⌝ ∗ (scM0_0.view.loc (c : Thread nD τ) ↦{fullShare} a)) ∗ (∃ a, ⌜sfresh0_1 T t.val = false → a = (prev0T T m ρ c t).2.2⌝ ∗ (scM0_1.view.loc (c : Thread nD τ) ↦{fullShare} a)) ∗ (tbM0_0.view.loc (c : Thread nD τ) ↦{fullShare.right} T.te) ∗ (tbM0_1.view.loc (c : Thread nD τ) ↦{fullShare.right} T.nu))

/-- The proof data of the one pipeline on core `c`. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 4) t
    | ⟨1, _⟩ => iblk T m ρ c (1 : Fin 4) t
    | ⟨2, _⟩ => iblk T m ρ c (2 : Fin 4) t
    | ⟨3, _⟩ => (traj0 T m ρ c t.val t.isLt).1
  Φ t := Phi T m ρ c t
  q _ := fullShare
  owed _ := 0

theorem after0_0 (c : Dev nD) (t : Fin (cfgA T).N) : (dats T m ρ 0 c).after (0 : Fin 4) t = iblk T m ρ c (0 : Fin 4) t := rfl
theorem after0_1 (c : Dev nD) (t : Fin (cfgA T).N) : (dats T m ρ 0 c).after (1 : Fin 4) t = iblk T m ρ c (1 : Fin 4) t := rfl
theorem after0_2 (c : Dev nD) (t : Fin (cfgA T).N) : (dats T m ρ 0 c).after (2 : Fin 4) t = iblk T m ρ c (2 : Fin 4) t := rfl
theorem after0_3 (c : Dev nD) (t : Fin (cfgA T).N) : (dats T m ρ 0 c).after (3 : Fin 4) t = (traj0 T m ρ c t.val t.isLt).1 := rfl

/-! ## What each window's staging buffer holds when the body runs -/

/-- Input window 0 holds its block, fetched there or not. -/
theorem before0_0 (c : Dev nD) (t : Fin (cfgA T).N) (d) : (dats T m ρ 0 c).before (0 : Fin 4) t d = iblk T m ρ c (0 : Fin 4) t :=
  ((dats T m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA T).N) (d) : (dats T m ρ 0 c).before (1 : Fin 4) t d = iblk T m ρ c (1 : Fin 4) t :=
  ((dats T m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA T).N) (d) : (dats T m ρ 0 c).before (2 : Fin 4) t d = iblk T m ρ c (2 : Fin 4) t :=
  ((dats T m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin (cfgA T).N) (ht : t.val ≠ 0), (cfgA T).idle (3 : Fin 4) ((cfgA T).grid.coords t) = true → (cfgA T).fresh (3 : Fin 4) t.val = false →
    (dats T m ρ 0 c).after (3 : Fin 4) t = (dats T m ρ 0 c).after (3 : Fin 4) ⟨t.val - 1, by omega⟩ := by
  intro t ht hi hf
  rw [after0_3, after0_3, traj0_eq]
  by_cases q0 : P0_0 T t
  · by_cases q1 : P0_1 T t
    · obtain ⟨i3, -, -, -, -⟩ := sched0_A T t q0 q1
      rw [i3] at hi; exact absurd hi (by decide)
    · exact absurd (anew_used T t q0) q1
  · by_cases q1 : P0_1 T t
    · obtain ⟨i3, -, -, -, -, -, -⟩ := sched0_B T t q0 q1
      rw [i3] at hi; exact absurd hi (by decide)
    · obtain ⟨i3, -, -, -, -, -, -⟩ := sched0_C T t q0 q1
      rw [i3] at hi; exact absurd hi (by decide)

/-- Output window 3 holds, when the body runs at `t`: junk if nothing was stored since its last write-back (`Cfg.fresh`),
    else what the point before left (TableIdle.lean `Dat.before_out_traj`). -/
theorem before0_3 (c : Dev nD) (t : Fin (cfgA T).N) (d) :
    (dats T m ρ 0 c).before (3 : Fin 4) t d = if (cfgA T).fresh (3 : Fin 4) t.val then d else (prev0 T m ρ c t).1 := by
  rw [(dats T m ρ 0 c).before_out_traj (3 : Fin 4) rfl (fun _ _ => rfl) (hcarry0_3 T m ρ c) t.val t rfl d]
  by_cases hf : (cfgA T).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by path -/

/-- The body at point `t` on its staging memrefs, as the pipeline calls it. -/
abbrev bodyAt0 (t : Fin (cfgA T).N) : Prog (TpuEff nD τ sig (Elt Bits) Λ₀ .tc) PUnit :=
  cc0_swiglu_up (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (Memref.whole cc0_scratch0) (Memref.isWhole_whole _) (Memref.whole cc0_scratch1) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Holds T m) (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 4) t d))
        ∗ (∃ d, owns (c : Thread nD τ) (ms0_1 T t) fullShare ((dats T m ρ 0 c).before (1 : Fin 4) t d))
        ∗ (∃ d, owns (c : Thread nD τ) (ms0_2 T t) fullShare ((dats T m ρ 0 c).before (2 : Fin 4) t d))
        ∗ (∃ d, owns (c : Thread nD τ) (ms0_3 T t) fullShare ((dats T m ρ 0 c).before (3 : Fin 4) t d)))
      ⊢ wp frame (wpE (defs₀ (F := Bits)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : P0_0 T t
  · by_cases q1 : P0_1 T t
    · obtain ⟨i3, f3, fr3, sfn0, sfn1⟩ := sched0_A T t q0 q1
      have F0 := hyps0_A T t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_A T m ρ c t _ q0 q1]
      unfold Phi; simp only [prev0T_castSucc, prev0T_succ, traj0_eq, step0_A T m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_A c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _)
    · exact absurd (anew_used T t q0) q1
  · by_cases q1 : P0_1 T t
    · obtain ⟨i3, f3, fr3, sf0, sfn0, sf1, sfn1⟩ := sched0_B T t q0 q1
      have F0 := hyps0_B T t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_B T m ρ c t _ q0 q1]
      unfold Phi; simp only [prev0T_castSucc, prev0T_succ, traj0_eq, step0_B T m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_B c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) _ _ hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_B_3 c _ _ _ _ _ _ _ _ _ _ _ _ _ _ _ _ _ _ _)
    · obtain ⟨i3, f3, fr3, sf0, sfn0, sf1, sfn1⟩ := sched0_C T t q0 q1
      have F0 := hyps0_C T t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_C T m ρ c t _ q0 q1]
      unfold Phi; simp only [prev0T_castSucc, prev0T_succ, traj0_eq, step0_C T m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_C c (crd T t) (ms0_0 T t) (hs0_0 T t) (ms0_1 T t) (hs0_1 T t) (ms0_2 T t) (hs0_2 T t) (ms0_3 T t) (hs0_3 T t) T.te T.nu (iblk T m ρ c (0 : Fin 4) t) (iblk T m ρ c (1 : Fin 4) t) (iblk T m ρ c (2 : Fin 4) t) _ _ hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _)

/-- The library's body obligation, at every point. -/
theorem body_obligation (hp : Holds T m) (c : Dev nD) : BodyObligation (dats T m ρ 0 c) (defs₀ (F := Bits)) Variants.none () Set.univ := fun t => by
  rw [bigSep_W0]
  exact sound_body T m ρ hp c t

/-! ## The launch -/

/-- The rounds library's launch element. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 T 0 = true from rfl)) Bool.false_ne_true
  isplitl [HS1]
  · iexists a1; isplitr; swap
    · iexact HS1
    · ipureintro; intro h; exact absurd (h.symm.trans (show sfresh0_1 T 0 = true from rfl)) Bool.false_ne_true
  isplitl [HT0]
  · iexact HT0
  iexact HT1

/-- at the last point it gives the scratch buffers back (`hout`), the tables let go. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- At the compiled mesh, from any memory with zero counters whose tables and steering words are the given: every weakly
    fair execution of @main on the TensorCores terminates, and every final state has each array at the computed contents,
    and every semaphore counter of the machine at zero. -/
theorem run_main_quiescent (hp : Holds T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ hp c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Holds T m) : θ_run (defs (F := Bits)) (onTc (τ := τ) (main (F := Bits))) (s₀ m ρ) (QC T m ρ) :=
  (θ_run defs _ _).mono (fun _ h => h.1) (run_main_quiescent T m ρ hp)

/-- `frame` without the counters: the argument arrays end unchanged. -/
theorem unchanged (hp : Holds T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 0).trans (hp.1 c).symm, ((h c).2 1).trans (hp.2 c).symm, ((h c).1 (0 : Fin 4)).trans ((dats T m ρ 0 c).arrAt_in (0 : Fin 4) rfl _), ((h c).1 (1 : Fin 4)).trans ((dats T m ρ 0 c).arrAt_in (1 : Fin 4) rfl _), ((h c).1 (2 : Fin 4)).trans ((dats T m ρ 0 c).arrAt_in (2 : Fin 4) rfl _)⟩) (run_main T m ρ hp)

/-- From a launch memory that holds the tables, every execution ends, nothing faults, every argument array is unchanged,
    and every semaphore counter reads zero. -/
theorem frame (hp : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged T m ρ hp) ((θ_run defs _ _).mono (fun _ h => h.2) (run_main_quiescent T m ρ hp))

end Cert.Kernel6.Dense

end
-- ==== Proof.DenseClaim.lean ====
/-
  The dense gated up-projection call: from the same arguments, the tables in range, the kernel and the reference end with the
  same result; and the frames of the kernel, of its idealization and of the reference.
-/
module

public import proofs.«01_k».proof.Defs
public import proofs.«01_k».proof.Proof.DenseValue
public import proofs.«01_k».proof.Proof.DenseRef
public import proofs.«01_k».proof.Proof.DensePre
public import proofs.«01_k».proof.Proof.DenseWordFrame
public import Idealize.ShloMosaic.Lib.Quiescent

@[expose] public section

set_option maxRecDepth 16384

noncomputable section

open Idealize.ShloMosaic Idealize.ShloMosaic.TcCoe Idealize.SL.Sem

namespace Cert.DenseClaim

/-- The precondition gives tables in range that the memory holds. -/
theorem tables_ideal (m : (ℓ : Loc Cert.Kernel6Ideal.nD Cert.Kernel6Ideal.τ Cert.Kernel6Ideal.sig) → Buf (Elt Ideal) ℓ)
    (h : Cert.Pre_Kernel6Ideal (hPre_tables6 := Cert.Pre_tables6.Gen.facts) m) :
    ∃ T : Cert.Kernel6Ideal.Dense.Tabs, Cert.Kernel6Ideal.Dense.Holds T m := by
  obtain ⟨h1, h2, h3⟩ := Cert.Pre_tables6.range_of_fn _ _ _ _ _ ix0 (congrFun (h 0) _)
  exact ⟨⟨_, _, h1, h2, h3⟩, fun c => by rw [Subsingleton.elim c 0], fun c => by rw [Subsingleton.elim c 0]⟩

/-- The same of the kernel over bits. -/
theorem tables_bits (m : (ℓ : Loc Cert.Kernel6.nD Cert.Kernel6.τ Cert.Kernel6.sig) → Buf (Elt Bits) ℓ)
    (h : Cert.Pre_Kernel6 (hPre_tables6 := Cert.Pre_tables6.Gen.facts) m) :
    ∃ T : Cert.Kernel6.Dense.Tabs, Cert.Kernel6.Dense.Holds T m := by
  obtain ⟨h1, h2, h3⟩ := Cert.Pre_tables6.range_of_fn _ _ _ _ _ ix0 (congrFun (h 0) _)
  exact ⟨⟨_, _, h1, h2, h3⟩, fun c => by rw [Subsingleton.elim c 0], fun c => by rw [Subsingleton.elim c 0]⟩

/-- The kernel over bits runs, leaves its arguments and its semaphores as they were. -/
theorem frame_bits : Cert.quiescent_Kernel6 (hKernel6 := Cert.Kernel6.Gen.facts) (hPre_tables6 := Cert.Pre_tables6.Gen.facts) :=
  fun m g h => (tables_bits m h).elim fun T hT => Cert.Kernel6.Dense.frame T m g hT

/-- So does its idealization. -/
theorem frame_ideal : Cert.quiescent_Kernel6Ideal (hKernel6Ideal := Cert.Kernel6Ideal.Gen.facts) (hPre_tables6 := Cert.Pre_tables6.Gen.facts) :=
  fun m g h => (tables_ideal m h).elim fun T hT => Cert.Kernel6Ideal.Dense.frame T m g hT

/-- So does the reference, which declares no semaphore. -/
theorem frame_ref : Cert.quiescent_Reference6Ideal (hReference6Ideal := Cert.Reference6Ideal.Gen.facts) :=
  fun m g _ => (θ_run _ _ _).mono (fun r h => ⟨fun c => (h c).2, sem_eq_zero_of_no_sems (by decide) r.2⟩)
    (Cert.Reference6Ideal.Value.run m g)

/-- The reference's result is the gated products of the arguments. -/
theorem ref_eq (T : Cert.Kernel6Ideal.Dense.Tabs) (x : FVec Ideal Cert.Kernel6Ideal.S16384x2048 .bf16)
    (wg wu : FVec Ideal Cert.Kernel6Ideal.S2x1x2048x5632 .f32) :
    Cert.Reference6Ideal.DenseRef.gatedRows (Cert.Reference6Ideal.DenseRef.inUse T.nu) (Cert.Reference6Ideal.DenseRef.product x wg)
      (Cert.Reference6Ideal.DenseRef.product x wu) = Cert.Kernel6Ideal.Dense.upOut T x wg wu := by
  funext j
  obtain ⟨r, f, rfl⟩ : ∃ (r : Fin 16384) (f : Fin 5632), j = ix2 r f := ⟨j 0, j 1, eq_ix2 (n0 := 16384) (n1 := 5632) j⟩
  refine (Cert.Reference6Ideal.DenseRef.res_apply T.nu x wg wu (T.nu_le _) r f).trans ?_
  have e : Cert.Kernel6Ideal.Dense.expert T ⟨r.val / 1024, by omega⟩ = 0 := Subsingleton.elim _ _
  show _ = if r.val / 1024 < Cert.Kernel6Ideal.Dense.used T then
    Cert.Kernel6Ideal.Dense.gated (fun k => x (ix2 (n0 := 16384) (n1 := 2048) r k))
      (fun k => wg (ix4 (n0 := 2) (n3 := 5632) 0 (Cert.Kernel6Ideal.Dense.expert T ⟨r.val / 1024, by omega⟩) k f))
      (fun k => wu (ix4 (n0 := 2) (n3 := 5632) 0 (Cert.Kernel6Ideal.Dense.expert T ⟨r.val / 1024, by omega⟩) k f))
    else 0
  rw [e]
  rfl

/-- Kernel and reference agree on the dense gated up-projection. -/
theorem algebraic : Cert.algebraic_Kernel6Ideal_Reference6Ideal (hKernel6Ideal := Cert.Kernel6Ideal.Gen.facts)
    (hReference6Ideal := Cert.Reference6Ideal.Gen.facts) (hPre_tables6 := Cert.Pre_tables6.Gen.facts) := by
  intro m g m' g' hpre hargs
  obtain ⟨T, hT⟩ := tables_ideal m hpre
  refine ⟨fun c => (Cert.Kernel6Ideal.Dense.dats T m g 0 c).arrAt (3 : Fin 4) (Cert.Kernel6Ideal.Dense.cfgA T).N,
    (θ_run _ _ _).mono (fun r h c => ⟨(h.1 c).1 (3 : Fin 4), h.2 c⟩)
      (θ_run_and (Cert.Kernel6Ideal.Dense.run_main T m g hT) (Cert.Kernel6Ideal.Dense.unchanged T m g hT)),
    (θ_run _ _ _).mono (fun r h c => ?_) (Cert.Reference6Ideal.Value.run m' g')⟩
  obtain ⟨h0, h1, h2, h3, h4⟩ := hargs c
  have e : Cert.Reference6Ideal.DenseRef.gatedRows
      (Cert.Reference6Ideal.DenseRef.inUse (m' ((c.tc : Thread _ _).loc Cert.Reference6Ideal.main_arg1)))
      (Cert.Reference6Ideal.DenseRef.product (m' ((c.tc : Thread _ _).loc Cert.Reference6Ideal.main_arg2)) (m' ((c.tc : Thread _ _).loc Cert.Reference6Ideal.main_arg3)))
      (Cert.Reference6Ideal.DenseRef.product (m' ((c.tc : Thread _ _).loc Cert.Reference6Ideal.main_arg2)) (m' ((c.tc : Thread _ _).loc Cert.Reference6Ideal.main_arg4)))
      = (Cert.Kernel6Ideal.Dense.dats T m g 0 c).arrAt (3 : Fin 4) (Cert.Kernel6Ideal.Dense.cfgA T).N := by
    rw [h1, h2, h3, h4, hT.2 c]
    exact (ref_eq T _ _ _).trans (Cert.Kernel6Ideal.Dense.final T m g c).symm
  exact ⟨(h c).1.trans e, (h c).2⟩

end Cert.DenseClaim

end
-- ==== Proof.DenseDownTables.lean ====
/-
  The dense down product's pipeline at tables with every expert zero; the number of used tiles may be anything.
-/
module

public import proofs.«01_k».proof.Proof.Gen.Kernel7Ideal.Flash.Runs
public import Idealize.ShloMosaic.Lib.Pipeline.Quiescent
public import Idealize.ShloMosaic.Lib.Claim

@[expose] public section

set_option maxRecDepth 16384
set_option Elab.async false

noncomputable section

namespace Cert.Kernel7Ideal.DenseDown

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The first table: every tile's expert is zero. -/
def te : S16.Idx → BitVec 32 := fun _ => 0#32

/-- The second table, which the body doesn't read. -/
abbrev Tabs := S1.Idx → BitVec 32

variable (T : Tabs)

set_option backward.proofsInPublic true in
/-- The two tables as the launch's contents. -/
def tabs : pre0.Contents (Elt Ideal) := fun | ⟨0, _⟩ => te | ⟨1, _⟩ => T | ⟨_ + 2, h⟩ => absurd h (by simp)

/-- The launch memory holds these tables. -/
def Holds (m : (ℓ : Loc nD τ sig) → Buf (Elt Ideal) ℓ) : Prop :=
  (∀ c : Dev nD, m ((c : Thread nD τ).loc main_arg0) = te)
  ∧ (∀ c : Dev nD, m ((c : Thread nD τ).loc main_arg1) = T)

/-- The weights' block is the only expert's, at the point's column block. -/
theorem index_1 (i : grid0.Coords) : cc0_transform_1 k0_off1_inb numel1_S1 (tabs T) i = ![0, 0, 0, (i 0).val] := by
  have h0 : (i 0).val < 4 := (i 0).isLt
  have h1 : (BitVec.ofNat 32 (i 0).val).toNat = (i 0).val := by
    rw [BitVec.toNat_ofNat]; exact Nat.mod_eq_of_lt (by omega)
  have e : cc0_transform_1 k0_off1_inb numel1_S1 (tabs T) i = ![0, 0, 0, (BitVec.ofNat 32 (i 0).val).toNat] := rfl
  rw [e, h1]

/-- The block of weights fetched is inside the array. -/
theorem inb_1 (i : grid0.Coords) (a : Fin 4) :
    (cc0_transform_1 k0_off1_inb numel1_S1 (tabs T) i a + 1) * S1x1x5632x512.size a ≤ S2x1x5632x2048.size a := by
  have h0 : (i 0).val < 4 := (i 0).isLt
  rw [index_1]
  fin_cases a
  · show (0 + 1) * 1 ≤ 2
    omega
  · show (0 + 1) * 1 ≤ 1
    omega
  · show (0 + 1) * 5632 ≤ 5632
    omega
  · show ((i 0).val + 1) * 512 ≤ 2048
    omega

/-- The launch's side condition holds of all such tables. -/
theorem ok : ok0 (F := Ideal) (tabs T) := fun i => ⟨inb_1 T i, .inl rfl⟩

/-- The admissible contents and the pipeline at them. -/
def adm : (pcfg0 (F := Ideal)).Adm := ⟨tabs T, ok T⟩
abbrev cfgA : Pipeline.Cfg sig Λ₀ := cfg0 (F := Ideal) (adm T)
abbrev pcs : Fin 1 → Pipeline.Cfg sig Λ₀ := Pipeline.pin (pcfgs (F := Ideal)) fun _ => adm T

variable (m : (ℓ : Loc nD τ sig) → Buf (Elt Ideal) ℓ) (ρ : Dev nD → PrngReg)

/-- Point `t`'s coordinates. -/
abbrev crd (t : Fin (cfgA T).N) : (cfgA T).grid.Coords := (cfgA T).grid.coords t

/-- Each window's staging buffer at point `t`, and that it is a whole buffer. -/
abbrev ms0_0 (t : Fin (cfgA T).N) : Memref sig .tc .vmem S1024x5632 .bf16 := spec0_0.stage ((cfgA T).slots t (0 : Fin 3))
abbrev hs0_0 (t : Fin (cfgA T).N) : (ms0_0 T t).IsWhole := hstage0_0 (((cfgA T).slots t (0 : Fin 3)).cast nbuf0_0)
abbrev ms0_1 (t : Fin (cfgA T).N) : Memref sig .tc .vmem S1x1x5632x512 .f32 := spec0_1.stage ((cfgA T).slots t (1 : Fin 3))
abbrev hs0_1 (t : Fin (cfgA T).N) : (ms0_1 T t).IsWhole := hstage0_1 (((cfgA T).slots t (1 : Fin 3)).cast nbuf0_1)
abbrev ms0_2 (t : Fin (cfgA T).N) : Memref sig .tc .vmem S1024x512 .f32 := spec0_2.stage ((cfgA T).slots t (2 : Fin 3))
abbrev hs0_2 (t : Fin (cfgA T).N) : (ms0_2 T t).IsWhole := hstage0_2 (((cfgA T).slots t (2 : Fin 3)).cast nbuf0_2)

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-- The body's decision at a point: the weights are narrowed anew. -/
abbrev Anew (t : Fin (cfgA T).N) : Prop := (Scalar.cmpi .ne (Scalar.extui (Scalar.ori (Scalar.cmpi .eq (BitVec.ofNat 32 ((crd T t) 1).val) 0#32) (Scalar.cmpi .ne (View.readAt (Elt Ideal) (tbM0_0).view (Rect.unit (s := S16) (k0_off1 (crd T t)) S1.size (k0_off1_inb (crd T t))).toLoadRect te (Shape.Idx.first (numel1_S1.symm ▸ Nat.one_pos))) (View.readAt (Elt Ideal) (tbM0_0).view (Rect.unit (s := S16) (k0_off2 (crd T t)) S1.size (k0_off2_inb (crd T t))).toLoadRect te (Shape.Idx.first (numel1_S1.symm ▸ Nat.one_pos)))))) 0#32) = 1#1

/-- At a tile's number, with equal words read, the decision is that the tile is the first. -/
theorem anew_word : ∀ i : Fin 16,
    ((Scalar.cmpi .ne (Scalar.extui (Scalar.ori (Scalar.cmpi .eq (BitVec.ofNat 32 i.val) 0#32) (Scalar.cmpi .ne (0#32 : BitVec 32) 0#32))) 0#32 : BitVec 1) = 1#1
      ↔ i.val = 0) := by
  decide +kernel

/-- A point's coordinates: the column block, then the tile. -/
theorem coords_val : ∀ t : Fin grid0.N, (grid0.coords t 0).val = t.val / 16 ∧ (grid0.coords t 1).val = t.val % 16 := by
  decide +kernel

/-- The weights are narrowed anew exactly at the first tile of a column block. -/
theorem anew_iff (t : Fin (cfgA T).N) : Anew T t ↔ t.val % 16 = 0 := by
  have h := anew_word ((crd T t) 1)
  rw [show (((crd T t) 1 : Fin 16)).val = t.val % 16 from (coords_val t).2] at h
  unfold Anew
  rw [show View.readAt (Elt Ideal) (tbM0_0).view (Rect.unit (s := S16) (k0_off1 (crd T t)) S1.size (k0_off1_inb (crd T t))).toLoadRect te (Shape.Idx.first (numel1_S1.symm ▸ Nat.one_pos)) = 0#32 from rfl,
    show View.readAt (Elt Ideal) (tbM0_0).view (Rect.unit (s := S16) (k0_off2 (crd T t)) S1.size (k0_off2_inb (crd T t))).toLoadRect te (Shape.Idx.first (numel1_S1.symm ▸ Nat.one_pos)) = 0#32 from rfl,
    show ((crd T t) 1).val = t.val % 16 from (coords_val t).2]
  exact h

/-- At point 0 the weights are narrowed anew. -/
theorem anew_zero (t : Fin (cfgA T).N) (h : t.val = 0) : Anew T t := (anew_iff T t).mpr (by rw [h])

/-- The output's index map differs from each point to the next. -/
theorem out_flush : ∀ t : Fin grid0.N, Pipeline.Window.flushOf grid0 true cc0_transform_2 t = true := by decide +kernel

/-- The output block is written back at every point. -/
theorem flush_2 (t : Fin (cfgA T).N) : ((cfgA T).win (2 : Fin 3)).flush t = true := out_flush t

/-- The output is stored at every point. -/
theorem idle_2 (t : Fin (cfgA T).N) : (cfgA T).idle (2 : Fin 3) ((cfgA T).grid.coords t) = false := rfl

/-- Before each point the output's buffer holds nothing stored. -/
theorem fresh_2 (t : Fin (cfgA T).N) : (cfgA T).fresh (2 : Fin 3) t.val = true :=
  Pipeline.Cfg.fresh_tab (cfgA T) (2 : Fin 3) (fun _ => true) rfl (fun t => by rw [flush_2]; rfl) t.val (Nat.le_of_lt t.isLt)

/-- The scratch holds nothing determined before the first point. -/
def sfresh (n : ℕ) : Bool := decide (n = 0)

end Cert.Kernel7Ideal.DenseDown

end
-- ==== Proof.DenseDownFrame.lean ====
/-
  The frame of the dense down product: every execution ends, nothing faults, the arguments are unchanged, and each
  array ends at contents named here.
-/
module

public import proofs.«01_k».proof.Proof.DenseDownTables

@[expose] public section

set_option maxRecDepth 16384
set_option Elab.async false

noncomputable section

namespace Cert.Kernel7Ideal.DenseDown

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resource algebra of the pipeline's staging cells, embedded whole. -/
abbrev EP : Emb (UR sig nD τ) 𝕄 := emb₁

variable (T : Tabs)
variable (m : (ℓ : Loc nD τ sig) → Buf (Elt Ideal) ℓ) (ρ : Dev nD → PrngReg)

/-! ## What the output's buffer and the scratch hold after each point -/

/-- What one point makes of them. -/
def step0 (c : Dev nD) (t : Fin (cfgA T).N) (prev : (S1024x512.Idx → Elt Ideal .f32) × Buf (Elt Ideal) ((c : Thread nD τ).loc cc0_scratch0)) : (S1024x512.Idx → Elt Ideal .f32) × Buf (Elt Ideal) ((c : Thread nD τ).loc cc0_scratch0) :=
  if q : Anew T t then
    (out0_A_2 c (crd T t) (ms0_0 T t) (hs0_0 T t) (ms0_1 T t) (hs0_1 T t) (ms0_2 T t) (hs0_2 T t) te T (iblk T m ρ c (0 : Fin 3) t) (iblk T m ρ c (1 : Fin 3) t) q, (kernelRun0_A c (crd T t) (ms0_0 T t) (hs0_0 T t) (ms0_1 T t) (hs0_1 T t) (ms0_2 T t) (hs0_2 T t) te T (iblk T m ρ c (0 : Fin 3) t) (iblk T m ρ c (1 : Fin 3) t) q).2.1)
  else
    (out0_B_2 c (crd T t) (ms0_0 T t) (hs0_0 T t) (ms0_1 T t) (hs0_1 T t) (ms0_2 T t) (hs0_2 T t) te T (iblk T m ρ c (0 : Fin 3) t) (iblk T m ρ c (1 : Fin 3) t) prev.2 q, (kernelRun0_B c (crd T t) (ms0_0 T t) (hs0_0 T t) (ms0_1 T t) (hs0_1 T t) (ms0_2 T t) (hs0_2 T t) te T (iblk T m ρ c (0 : Fin 3) t) (iblk T m ρ c (1 : Fin 3) t) prev.2 q).2.1)

/-- What they hold after position `n`. -/
def traj0 (c : Dev nD) : (n : ℕ) → n < (cfgA T).N → (S1024x512.Idx → Elt Ideal .f32) × Buf (Elt Ideal) ((c : Thread nD τ).loc cc0_scratch0)
  | 0, h => step0 T m ρ c ⟨0, h⟩ (default, default)
  | n + 1, h => step0 T m ρ c ⟨n + 1, h⟩ (traj0 c n (Nat.lt_of_succ_lt h))

/-- What they hold before point `t`. -/
def prev0 (c : Dev nD) (t : Fin (cfgA T).N) : (S1024x512.Idx → Elt Ideal .f32) × Buf (Elt Ideal) ((c : Thread nD τ).loc cc0_scratch0) :=
  if h : t.val = 0 then (default, default) else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

/-- `step0` where the weights are narrowed anew, and where they are kept. -/
theorem step0_A (c : Dev nD) (t : Fin (cfgA T).N) (prev : (S1024x512.Idx → Elt Ideal .f32) × Buf (Elt Ideal) ((c : Thread nD τ).loc cc0_scratch0)) (q : Anew T t) :
    step0 T m ρ c t prev = (out0_A_2 c (crd T t) (ms0_0 T t) (hs0_0 T t) (ms0_1 T t) (hs0_1 T t) (ms0_2 T t) (hs0_2 T t) te T (iblk T m ρ c (0 : Fin 3) t) (iblk T m ρ c (1 : Fin 3) t) q, (kernelRun0_A c (crd T t) (ms0_0 T t) (hs0_0 T t) (ms0_1 T t) (hs0_1 T t) (ms0_2 T t) (hs0_2 T t) te T (iblk T m ρ c (0 : Fin 3) t) (iblk T m ρ c (1 : Fin 3) t) q).2.1) := by
  unfold step0; simp only [dif_pos q]
theorem step0_B (c : Dev nD) (t : Fin (cfgA T).N) (prev : (S1024x512.Idx → Elt Ideal .f32) × Buf (Elt Ideal) ((c : Thread nD τ).loc cc0_scratch0)) (q : ¬Anew T t) :
    step0 T m ρ c t prev = (out0_B_2 c (crd T t) (ms0_0 T t) (hs0_0 T t) (ms0_1 T t) (hs0_1 T t) (ms0_2 T t) (hs0_2 T t) te T (iblk T m ρ c (0 : Fin 3) t) (iblk T m ρ c (1 : Fin 3) t) prev.2 q, (kernelRun0_B c (crd T t) (ms0_0 T t) (hs0_0 T t) (ms0_1 T t) (hs0_1 T t) (ms0_2 T t) (hs0_2 T t) te T (iblk T m ρ c (0 : Fin 3) t) (iblk T m ρ c (1 : Fin 3) t) prev.2 q).2.1) := by
  unfold step0; simp only [dif_neg q]

/-! ## The pipeline's proof data -/

/-- What they held before position `t`, the end included. -/
def prev0T (c : Dev nD) (t : Fin ((cfgA T).N + 1)) : (S1024x512.Idx → Elt Ideal .f32) × Buf (Elt Ideal) ((c : Thread nD τ).loc cc0_scratch0) :=
  if h : t.val = 0 then (default, default) else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- The invariant before point `t`: the scratch at what the points before left, the body's halves of the tables. -/
def Phi (m : (ℓ : Loc nD τ sig) → Buf (Elt Ideal) ℓ) (ρ : Dev nD → PrngReg) (c : Dev nD) (t : Fin ((cfgA T).N + 1)) : sProp 𝕄 :=
  iprop((∃ a, ⌜sfresh t.val = false → a = (prev0T T m ρ c t).2⌝ ∗ (scM0_0.view.loc (c : Thread nD τ) ↦{fullShare} a)) ∗ (tbM0_0.view.loc (c : Thread nD τ) ↦{fullShare.right} te) ∗ (tbM0_1.view.loc (c : Thread nD τ) ↦{fullShare.right} T))

/-- The proof data of the one pipeline on core `c`. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 3) t
    | ⟨1, _⟩ => iblk T m ρ c (1 : Fin 3) t
    | ⟨2, _⟩ => (traj0 T m ρ c t.val t.isLt).1
  Φ t := Phi T m ρ c t
  q _ := fullShare
  owed _ := 0

theorem after0_0 (c : Dev nD) (t : Fin (cfgA T).N) : (dats T m ρ 0 c).after (0 : Fin 3) t = iblk T m ρ c (0 : Fin 3) t := rfl
theorem after0_1 (c : Dev nD) (t : Fin (cfgA T).N) : (dats T m ρ 0 c).after (1 : Fin 3) t = iblk T m ρ c (1 : Fin 3) t := rfl
theorem after0_2 (c : Dev nD) (t : Fin (cfgA T).N) : (dats T m ρ 0 c).after (2 : Fin 3) t = (traj0 T m ρ c t.val t.isLt).1 := rfl

/-- The two inputs' buffers hold their blocks when the body runs. -/
theorem before0_0 (c : Dev nD) (t : Fin (cfgA T).N) (d) : (dats T m ρ 0 c).before (0 : Fin 3) t d = iblk T m ρ c (0 : Fin 3) t :=
  ((dats T m ρ 0 c).before_in_eq_fetched (0 : Fin 3) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T).N) (d) : (dats T m ρ 0 c).before (1 : Fin 3) t d = iblk T m ρ c (1 : Fin 3) t :=
  ((dats T m ρ 0 c).before_in_eq_fetched (1 : Fin 3) rfl (fun _ => rfl) (fun _ _ _ => rfl) (fun t => by rw [after0_1]; unfold Dat.blockOf iblk; rfl) t d).trans
    (by unfold Dat.fetched Dat.blockOf iblk; rfl)

/-! ## The body at a point -/

/-- The body at point `t` on its staging buffers. -/
abbrev bodyAt0 (t : Fin (cfgA T).N) : Prog (TpuEff nD τ sig (Elt Ideal) Λ₀ .tc) PUnit :=
  cc0_swiglu_down (crd T t) (Memref.whole main_arg0) (Memref.isWhole_whole _) (Memref.whole main_arg1) (Memref.isWhole_whole _) (ms0_0 T t) (hs0_0 T t) (ms0_1 T t) (hs0_1 T t) (ms0_2 T t) (hs0_2 T t) (Memref.whole cc0_scratch0) (Memref.isWhole_whole _)

set_option maxHeartbeats 4000000 in
/-- From the invariant and the inputs' blocks, the body runs to the next invariant and leaves the output's block. -/
theorem sound_body (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 3) t d))
        ∗ (∃ d, owns (c : Thread nD τ) (ms0_1 T t) fullShare ((dats T m ρ 0 c).before (1 : Fin 3) t d))
        ∗ (∃ d, owns (c : Thread nD τ) (ms0_2 T t) fullShare ((dats T m ρ 0 c).before (2 : Fin 3) t d)))
      ⊢ wp frame (wpE (defs₀ (F := Ideal)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  rewrite [idle_2]
  simp only [before0_0, before0_1, after0_0, after0_1, after0_2]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  by_cases q : Anew T t
  · try rewrite [traj0_eq, step0_A T m ρ c t _ q]
    unfold Phi; simp only [prev0T_castSucc, prev0T_succ, traj0_eq, step0_A T m ρ c t _ q, Fin.val_castSucc, Fin.val_succ]
    iintro ⟨⟨⟨%a0, %ha0, HS0⟩, HT0, HT1⟩, Ho, ⟨%d0, H0⟩, ⟨%d1, H1⟩, ⟨%d2, H2⟩⟩
    iapply ((kernelRun0_A c (crd T t) (ms0_0 T t) (hs0_0 T t) (ms0_1 T t) (hs0_1 T t) (ms0_2 T t) (hs0_2 T t) te T (iblk T m ρ c (0 : Fin 3) t) (iblk T m ρ c (1 : Fin 3) t) q).2.2 a0 _)
    isplitl [H0]; · iapply rep_of_owns; iexact H0
    isplitl [H1]; · iapply rep_of_owns; iexact H1
    isplitl [HT0]; · iexact HT0
    isplitl [HT1]; · iexact HT1
    isplitl [H2]; · iexists _; iexact H2
    isplitl [HS0]; · iexact HS0
    iintro ⟨H0, H1, HT0, HT1, ⟨%e2, H2⟩, HS0⟩
    isplitl [HS0 HT0 HT1]
    · isplitl [HS0]
      · iexists _; isplitr; swap
        · iexact HS0
        · ipureintro; intro hn; rfl
      isplitl [HT0]
      · iexact HT0
      iexact HT1
    isplitl [Ho]; · iexact Ho
    isplitl [H0]
    · iapply owns_of_rep; iexact H0
    isplitl [H1]
    · iapply owns_of_rep; iexact H1
    unfold owns; iexists _; isplitr; swap
    · iexact H2
    · ipureintro; exact View.read_writes_of_cover _ _ _ _ _ (cover0_A_2 c _ _ _ _ _ _ _ _ _ _ _ _)
  · try rewrite [traj0_eq, step0_B T m ρ c t _ q]
    unfold Phi; simp only [prev0T_castSucc, prev0T_succ, traj0_eq, step0_B T m ρ c t _ q, Fin.val_castSucc, Fin.val_succ]
    have sf : sfresh t.val = false := decide_eq_false fun h => q (anew_zero T t h)
    simp only [exists_held sf]
    iintro ⟨⟨HS0, HT0, HT1⟩, Ho, ⟨%d0, H0⟩, ⟨%d1, H1⟩, ⟨%d2, H2⟩⟩
    iapply ((kernelRun0_B c (crd T t) (ms0_0 T t) (hs0_0 T t) (ms0_1 T t) (hs0_1 T t) (ms0_2 T t) (hs0_2 T t) te T (iblk T m ρ c (0 : Fin 3) t) (iblk T m ρ c (1 : Fin 3) t) _ q).2.2 _)
    isplitl [H0]; · iapply rep_of_owns; iexact H0
    isplitl [H1]; · iapply rep_of_owns; iexact H1
    isplitl [HT0]; · iexact HT0
    isplitl [HT1]; · iexact HT1
    isplitl [H2]; · iexists _; iexact H2
    isplitl [HS0]; · iexact HS0
    iintro ⟨H0, H1, HT0, HT1, ⟨%e2, H2⟩, HS0⟩
    isplitl [HS0 HT0 HT1]
    · isplitl [HS0]
      · iexists _; isplitr; swap
        · iexact HS0
        · ipureintro; intro hn; rfl
      isplitl [HT0]
      · iexact HT0
      iexact HT1
    isplitl [Ho]; · iexact Ho
    isplitl [H0]
    · iapply owns_of_rep; iexact H0
    isplitl [H1]
    · iapply owns_of_rep; iexact H1
    unfold owns; iexists _; isplitr; swap
    · iexact H2
    · ipureintro; exact View.read_writes_of_cover _ _ _ _ _ (cover0_B_2 c _ _ _ _ _ _ _ _ _ _ _ _ _)

/-- The body obligation, at every point. -/
theorem body_obligation (c : Dev nD) : BodyObligation (dats T m ρ 0 c) (defs₀ (F := Ideal)) Variants.none () Set.univ := fun t => by
  rw [bigSep_W0]
  exact sound_body T m ρ c t

/-! ## The launch -/

/-- The launch's element of the resource algebra. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch, -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh 0 = true from rfl)) Bool.false_ne_true
  isplitl [HT0]
  · iexact HT0
  iexact HT1

/-- and the scratch from the invariant at the end. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, -, -⟩
  isplitr; · iempintro
  iexists a0; iexact HS0

/-- Every array ends at what the proof data say, every table at what it was. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From a launch memory that holds the tables: every execution ends with the arrays so, and every semaphore at zero. -/
theorem run_main_quiescent (hp : Holds T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arrays alone. -/
theorem run_main (hp : Holds T m) : θ_run (defs (F := Ideal)) (onTc (τ := τ) (main (F := Ideal))) (s₀ m ρ) (QC T m ρ) :=
  (θ_run defs _ _).mono (fun _ h => h.1) (run_main_quiescent T m ρ hp)

/-- Every argument ends unchanged. -/
theorem unchanged (hp : Holds T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 0).trans (hp.1 c).symm, ((h c).2 1).trans (hp.2 c).symm, ((h c).1 (0 : Fin 3)).trans ((dats T m ρ 0 c).arrAt_in (0 : Fin 3) rfl _), ((h c).1 (1 : Fin 3)).trans ((dats T m ρ 0 c).arrAt_in (1 : Fin 3) rfl _)⟩) (run_main T m ρ hp)

/-- From a launch memory that holds the tables, every execution ends, nothing faults, every argument array is unchanged,
    and every semaphore counter reads zero. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged T m ρ hp) ((θ_run defs _ _).mono (fun _ h => h.2) (run_main_quiescent T m ρ hp))

end Cert.Kernel7Ideal.DenseDown

end
-- ==== Proof.DenseDownBlock.lean ====
/-
  What a grid point of the dense down product leaves behind, as plain functions of its blocks: the weights narrowed in the
  scratch, and in the output block the product of the rows with them.
-/
module

public import proofs.«01_k».proof.Proof.DenseDownFrame
public import Idealize.ShloMosaic.Lib.VecWindow

@[expose] public section

set_option maxRecDepth 16384

noncomputable section

namespace Cert.Kernel7Ideal.DenseDown

open Cert.Kernel7Ideal Cert.Kernel7Ideal.Gen
open Idealize.ShloMosaic
open Idealize.ShloMosaic.TcCoe Idealize.ShloMosaic.Tactic

/-- The scratch after a point that narrows the weights anew. -/
theorem scratch_new (a5) (x1 : S1x1x5632x512.Idx → Elt Ideal .f32) :
    (View.whole cc0_scratch0).writes (Elt Ideal) (View.whole cc0_scratch0).junk (kernelRun0_A.sl.HS0_1 a5 x1)
      = k0_pay1 (F := Ideal) x1 := by
  unfold kernelRun0_A.sl.HS0_1
  refine (View.read_whole cc0_scratch0 _).symm.trans ((View.read_writes_full (View.whole cc0_scratch0) _ _ _ _).trans ?_)
  rw [View.readAt_rep_full]

/-- The output block of such a point. -/
theorem out_new (a4 a5) (x0 : S1024x5632.Idx → Elt Ideal .bf16) (x1 : S1x1x5632x512.Idx → Elt Ideal .f32) :
    VO0_2.read (Elt Ideal) (VO0_2.writes (Elt Ideal) VO0_2.junk (kernelRun0_A.sl.HO2_1 a4 a5 x0 x1))
      = k0_pay2 (F := Ideal) x0 (k0_pay1 (F := Ideal) x1) := by
  unfold kernelRun0_A.sl.HO2_1
  rw [View.read_writes_full, View.readAt_rep_full]
  unfold kernelRun0_A.sl.v12 kernelRun0_A.sl.HS0_1
  rw [View.readCov_full, View.readAt_rep_full]

/-- The output block of a point that keeps the scratch. -/
theorem out_kept (c a4) (x0 : S1024x5632.Idx → Elt Ideal .bf16) (p) :
    VO0_2.read (Elt Ideal) (VO0_2.writes (Elt Ideal) VO0_2.junk (kernelRun0_B.sl.HO2_1 c a4 x0 p))
      = k0_pay2 (F := Ideal) x0 p := by
  unfold kernelRun0_B.sl.HO2_1
  rw [View.read_writes_full, View.readAt_rep_full]
  exact congrArg (k0_pay2 (F := Ideal) x0) (View.readAt_full (View.whole cc0_scratch0) p _)

variable (T : Tabs)
variable (m : (ℓ : Loc nD τ sig) → Buf (Elt Ideal) ℓ) (ρ : Dev nD → PrngReg)
variable (c : Dev nD) (t : Fin (cfgA T).N)
  (prev : (S1024x512.Idx → Elt Ideal .f32) × Buf (Elt Ideal) ((c : Thread nD τ).loc cc0_scratch0))

/-- A point that narrows the weights anew. -/
theorem step_A (q : Anew T t) : step0 T m ρ c t prev
    = (k0_pay2 (F := Ideal) (iblk T m ρ c (0 : Fin 3) t) (k0_pay1 (F := Ideal) (iblk T m ρ c (1 : Fin 3) t)),
        k0_pay1 (F := Ideal) (iblk T m ρ c (1 : Fin 3) t)) := by
  rw [step0_A T m ρ c t prev q]
  unfold out0_A_2 kernelRun0_A
  dsimp only
  rw [out_new, scratch_new]

/-- A point that keeps the scratch. -/
theorem step_B (q : ¬Anew T t) : step0 T m ρ c t prev = (k0_pay2 (F := Ideal) (iblk T m ρ c (0 : Fin 3) t) prev.2, prev.2) := by
  rw [step0_B T m ρ c t prev q]
  unfold out0_B_2 kernelRun0_B
  dsimp only
  rw [out_kept]

end Cert.Kernel7Ideal.DenseDown

end
-- ==== Proof.DenseDownValue.lean ====
/-
  The dense down product's result array after the run: at row `r`, column `f`, the product of row `r` with column `f` of
  the layer's weights.
-/
module

public import proofs.«01_k».proof.Proof.DenseDownBlock
public import Idealize.ShloMosaic.Lib.Pipeline.ValueKit

@[expose] public section

set_option maxRecDepth 16384

noncomputable section

namespace Cert.Kernel7Ideal.DenseDown

open Cert.Kernel7Ideal Cert.Kernel7Ideal.Gen
open Idealize.ShloMosaic
open Idealize.ShloMosaic.TcCoe Idealize.ShloMosaic.Tactic
open Idealize.ShloMosaic.Pipeline (Dat)

/-- The result array of the rows and the weights. -/
def downOut (x : FVec Ideal S16384x5632 .bf16) (w : FVec Ideal S2x1x5632x2048 .f32) : FVec Ideal S16384x2048 .f32 :=
  fun j => ∑ k : Fin 5632, x (ix2 (n0 := 16384) (j 0) k) * w (ix4 (n0 := 2) (n1 := 1) (n3 := 2048) 0 0 k (j 1))

/-! ## The payloads at an entry -/

theorem pay1_apply (w : S1x1x5632x512.Idx → EReal) (k : Fin 5632) (l : Fin 512) :
    k0_pay1 (F := Ideal) w (ix2 k l) = w (ix4 0 0 k l) := by
  pointwise [k0_pay1]

theorem pay2_apply (x : S1024x5632.Idx → EReal) (w : S5632x512.Idx → EReal) (r : Fin 1024) (l : Fin 512) :
    k0_pay2 (F := Ideal) x w (ix2 r l) = ∑ k : Fin 5632, x (ix2 r k) * w (ix2 k l) := by
  pointwise [k0_pay2]

variable (T : Tabs)
variable (m : (ℓ : Loc nD τ sig) → Buf (Elt Ideal) ℓ) (ρ : Dev nD → PrngReg) (c : Dev nD)

/-! ## The blocks at an entry -/

/-- The grid has 64 points. -/
theorem lt_N (t : Fin (cfgA T).N) : t.val < 64 := t.isLt

theorem index_0 : ∀ t : Fin grid0.N, cc0_transform_0 (grid0.coords t) = ![t.val % 16, 0] := by decide +kernel
theorem index_2 : ∀ t : Fin grid0.N, cc0_transform_2 (grid0.coords t) = ![t.val % 16, t.val / 16] := by decide +kernel

/-- The rows of a point's tile. -/
theorem rows_blk (t : Fin (cfgA T).N) (r : Fin 1024) (k : Fin 5632) :
    iblk T m ρ c (0 : Fin 3) t (ix2 r k)
      = m ((c : Thread nD τ).loc main_arg2) (ix2 (n0 := 16384) ⟨t.val % 16 * 1024 + r.val, by omega⟩ k) := by
  refine congrArg (m ((c : Thread nD τ).loc main_arg2)) (funext fun a => Fin.ext ?_)
  show cc0_transform_0 (crd T t) a * S1024x5632.size a + 1 * (ix2 r k a).val = _
  rw [index_0 t]
  fin_cases a
  · show t.val % 16 * 1024 + 1 * r.val = t.val % 16 * 1024 + r.val
    omega
  · show 0 * 5632 + 1 * k.val = k.val
    omega

/-- A block of the weights: 512 columns. -/
def wblk (w : FVec Ideal S2x1x5632x2048 .f32) (j : Fin 4) : S1x1x5632x512.Idx → EReal :=
  fun y => w (ix4 (n0 := 2) (n1 := 1) 0 0 (y 2) (⟨j.val * 512 + (y 3).val, by
    have h : (y 3).val < 512 := (y 3).isLt
    omega⟩ : Fin 2048))

/-- The column block of a point. -/
def col (t : Fin (cfgA T).N) : Fin 4 := ⟨t.val / 16, by have := lt_N T t; omega⟩

theorem weight_blk (t : Fin (cfgA T).N) :
    iblk T m ρ c (1 : Fin 3) t = wblk (m ((c : Thread nD τ).loc main_arg3)) (col T t) := by
  funext y
  refine congrArg (m ((c : Thread nD τ).loc main_arg3)) (funext fun a => Fin.ext ?_)
  show cc0_transform_1 k0_off1_inb numel1_S1 (tabs T) (crd T t) a * S1x1x5632x512.size a + 1 * (y a).val = _
  rw [index_1 T, show ((crd T t) 0).val = t.val / 16 from (coords_val t).1]
  have h0 : (y 0).val < 1 := (y 0).isLt
  have h1 : (y 1).val < 1 := (y 1).isLt
  fin_cases a
  · show 0 * 1 + 1 * (y 0).val = 0
    omega
  · show 0 * 1 + 1 * (y 1).val = 0
    omega
  · show 0 * 5632 + 1 * (y 2).val = (y 2).val
    omega
  · show t.val / 16 * 512 + 1 * (y 3).val = t.val / 16 * 512 + (y 3).val
    omega

/-! ## What a point leaves -/

/-- The scratch after a point holds its column block's weights, narrowed there or at a point before. -/
theorem scratch : ∀ (n : ℕ) (h : n < (cfgA T).N), (traj0 T m ρ c n h).2
    = k0_pay1 (F := Ideal) (wblk (m ((c : Thread nD τ).loc main_arg3)) (col T ⟨n, h⟩)) := by
  intro n
  induction n with
  | zero =>
    intro h
    rw [traj0_eq T m ρ c ⟨0, h⟩, step_A T m ρ c _ _ (anew_zero T ⟨0, h⟩ rfl), weight_blk]
  | succ n ih =>
    intro h
    have hp : prev0 T m ρ c ⟨n + 1, h⟩ = traj0 T m ρ c n (Nat.lt_of_succ_lt h) := rfl
    rw [traj0_eq T m ρ c ⟨n + 1, h⟩]
    by_cases q : Anew T ⟨n + 1, h⟩
    · rw [step_A T m ρ c _ _ q, weight_blk]
    · have hq : ¬ (n + 1) % 16 = 0 := fun e => q ((anew_iff T ⟨n + 1, h⟩).mpr e)
      have hc : col T ⟨n, Nat.lt_of_succ_lt h⟩ = col T ⟨n + 1, h⟩ := Fin.ext (by
        show n / 16 = (n + 1) / 16
        omega)
      rw [step_B T m ρ c _ _ q, hp, ← hc]
      exact ih (Nat.lt_of_succ_lt h)

/-- The output block a point leaves. -/
theorem block (t : Fin (cfgA T).N) : (traj0 T m ρ c t.val t.isLt).1
    = k0_pay2 (F := Ideal) (iblk T m ρ c (0 : Fin 3) t)
        (k0_pay1 (F := Ideal) (wblk (m ((c : Thread nD τ).loc main_arg3)) (col T t))) := by
  have hs := scratch T m ρ c t.val t.isLt
  rw [traj0_eq] at hs ⊢
  by_cases q : Anew T t
  · rw [step_A T m ρ c _ _ q, weight_blk]
  · rw [step_B T m ρ c _ _ q] at hs ⊢
    dsimp only at hs ⊢
    rw [hs]

/-- The block's entry is the result's at the place the block sits at. -/
theorem block_apply (t : Fin (cfgA T).N) (i : Fin 1024) (l : Fin 512) (r : Fin 16384) (f : Fin 2048)
    (hr : r.val = t.val % 16 * 1024 + i.val) (hf : f.val = t.val / 16 * 512 + l.val) :
    (traj0 T m ρ c t.val t.isLt).1 (ix2 i l)
      = downOut (m ((c : Thread nD τ).loc main_arg2)) (m ((c : Thread nD τ).loc main_arg3)) (ix2 r f) := by
  have hN := lt_N T t
  have hr' : r = ⟨t.val % 16 * 1024 + i.val, by omega⟩ := Fin.ext hr
  have hf' : f = ⟨t.val / 16 * 512 + l.val, by omega⟩ := Fin.ext hf
  rw [block]
  refine (pay2_apply _ _ i l).trans (Finset.sum_congr rfl fun k _ => ?_)
  rw [pay1_apply, rows_blk, hr', hf']
  rfl

/-- Where an entry of the block sits in the result. -/
theorem emb_2 (t : Fin (cfgA T).N) (y : S1024x512.Idx) (a : Fin 2) :
    ((((cfgA T).win (2 : Fin 3)).blk t).view.emb y a).val
      = (![t.val % 16 * 1024, t.val / 16 * 512] : Fin 2 → ℕ) a + (y a).val := by
  show cc0_transform_2 (crd T t) a * S1024x512.size a + 1 * (y a).val = _
  rw [index_2 t]
  fin_cases a
  · show (t.val % 16) * 1024 + 1 * (y 0).val = (t.val % 16) * 1024 + (y 0).val
    omega
  · show (t.val / 16) * 512 + 1 * (y 1).val = (t.val / 16) * 512 + (y 1).val
    omega

/-- Every block of the result is written back by one of the points. -/
theorem covers : ((cfgA T).win (2 : Fin 3)).Covers := by
  refine ⟨fun a => by fin_cases a; exact (by decide : 0 < 1024); exact (by decide : 0 < 512), fun β => ?_⟩
  have h0 : (β (0 : Fin 2)).val < 16 := lt_of_lt_of_eq (β (0 : Fin 2)).isLt (by show (16384 + 1024 - 1) / 1024 = 16; decide)
  have h1 : (β (1 : Fin 2)).val < 4 := lt_of_lt_of_eq (β (1 : Fin 2)).isLt (by show (2048 + 512 - 1) / 512 = 4; decide)
  refine ⟨⟨(β (1 : Fin 2)).val * 16 + (β (0 : Fin 2)).val, (by omega : _ < 64)⟩, flush_2 T _, fun a => ⟨?_, Or.inl ?_⟩⟩
  · show cc0_transform_2 (grid0.coords _) a = _
    rw [index_2]
    fin_cases a
    · show ((β (1 : Fin 2)).val * 16 + (β (0 : Fin 2)).val) % 16 = (β (0 : Fin 2)).val
      omega
    · show ((β (1 : Fin 2)).val * 16 + (β (0 : Fin 2)).val) / 16 = (β (1 : Fin 2)).val
      omega
  · fin_cases a <;> rfl

/-- The result array after the run. -/
theorem final : (dats T m ρ 0 c).arrAt (2 : Fin 3) (cfgA T).N
    = downOut (m ((c : Thread nD τ).loc main_arg2)) (m ((c : Thread nD τ).loc main_arg3)) := by
  refine (dats T m ρ 0 c).arrAt_eq_of_covers (2 : Fin 3) _ (covers T) fun t _ y => ?_
  blk_simp
  rw [after0_2]
  obtain ⟨i, l, rfl⟩ : ∃ (i : Fin 1024) (l : Fin 512), y = ix2 i l := ⟨y 0, y 1, eq_ix2 (n0 := 1024) (n1 := 512) y⟩
  exact (block_apply T m ρ c t i l _ _ (emb_2 T t (ix2 i l) 0) (emb_2 T t (ix2 i l) 1)).trans
    (congrArg (downOut _ _) (eq_ix2 (n0 := 16384) (n1 := 2048) _).symm)

end Cert.Kernel7Ideal.DenseDown

end
-- ==== Proof.DenseDownWordTables.lean ====
/-
  The dense down product's pipeline on words at tables with every expert zero; the number of used tiles may be anything.
-/
module

public import proofs.«01_k».proof.Proof.Gen.Kernel7.Flash.Runs
public import Idealize.ShloMosaic.Lib.Pipeline.Quiescent
public import Idealize.ShloMosaic.Lib.Claim

@[expose] public section

set_option maxRecDepth 16384
set_option Elab.async false

noncomputable section

namespace Cert.Kernel7.DenseDown

open Cert.Kernel7 Cert.Kernel7.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The first table: every tile's expert is zero. -/
def te : S16.Idx → BitVec 32 := fun _ => 0#32

/-- The second table, which the body doesn't read. -/
abbrev Tabs := S1.Idx → BitVec 32

variable (T : Tabs)

set_option backward.proofsInPublic true in
/-- The two tables as the launch's contents. -/
def tabs : pre0.Contents (Elt Bits) := fun | ⟨0, _⟩ => te | ⟨1, _⟩ => T | ⟨_ + 2, h⟩ => absurd h (by simp)

/-- The launch memory holds these tables. -/
def Holds (m : (ℓ : Loc nD τ sig) → Buf (Elt Bits) ℓ) : Prop :=
  (∀ c : Dev nD, m ((c : Thread nD τ).loc main_arg0) = te)
  ∧ (∀ c : Dev nD, m ((c : Thread nD τ).loc main_arg1) = T)

/-- The weights' block is the only expert's, at the point's column block. -/
theorem index_1 (i : grid0.Coords) : cc0_transform_1 k0_off1_inb numel1_S1 (tabs T) i = ![0, 0, 0, (i 0).val] := by
  have h0 : (i 0).val < 4 := (i 0).isLt
  have h1 : (BitVec.ofNat 32 (i 0).val).toNat = (i 0).val := by
    rw [BitVec.toNat_ofNat]; exact Nat.mod_eq_of_lt (by omega)
  have e : cc0_transform_1 k0_off1_inb numel1_S1 (tabs T) i = ![0, 0, 0, (BitVec.ofNat 32 (i 0).val).toNat] := rfl
  rw [e, h1]

/-- The block of weights fetched is inside the array. -/
theorem inb_1 (i : grid0.Coords) (a : Fin 4) :
    (cc0_transform_1 k0_off1_inb numel1_S1 (tabs T) i a + 1) * S1x1x5632x512.size a ≤ S2x1x5632x2048.size a := by
  have h0 : (i 0).val < 4 := (i 0).isLt
  rw [index_1]
  fin_cases a
  · show (0 + 1) * 1 ≤ 2
    omega
  · show (0 + 1) * 1 ≤ 1
    omega
  · show (0 + 1) * 5632 ≤ 5632
    omega
  · show ((i 0).val + 1) * 512 ≤ 2048
    omega

/-- The launch's side condition holds of all such tables. -/
theorem ok : ok0 (F := Bits) (tabs T) := fun i => ⟨inb_1 T i, .inl rfl⟩

/-- The admissible contents and the pipeline at them. -/
def adm : (pcfg0 (F := Bits)).Adm := ⟨tabs T, ok T⟩
abbrev cfgA : Pipeline.Cfg sig Λ₀ := cfg0 (F := Bits) (adm T)
abbrev pcs : Fin 1 → Pipeline.Cfg sig Λ₀ := Pipeline.pin (pcfgs (F := Bits)) fun _ => adm T

variable (m : (ℓ : Loc nD τ sig) → Buf (Elt Bits) ℓ) (ρ : Dev nD → PrngReg)

/-- Point `t`'s coordinates. -/
abbrev crd (t : Fin (cfgA T).N) : (cfgA T).grid.Coords := (cfgA T).grid.coords t

/-- Each window's staging buffer at point `t`, and that it is a whole buffer. -/
abbrev ms0_0 (t : Fin (cfgA T).N) : Memref sig .tc .vmem S1024x5632 .bf16 := spec0_0.stage ((cfgA T).slots t (0 : Fin 3))
abbrev hs0_0 (t : Fin (cfgA T).N) : (ms0_0 T t).IsWhole := hstage0_0 (((cfgA T).slots t (0 : Fin 3)).cast nbuf0_0)
abbrev ms0_1 (t : Fin (cfgA T).N) : Memref sig .tc .vmem S1x1x5632x512 .f32 := spec0_1.stage ((cfgA T).slots t (1 : Fin 3))
abbrev hs0_1 (t : Fin (cfgA T).N) : (ms0_1 T t).IsWhole := hstage0_1 (((cfgA T).slots t (1 : Fin 3)).cast nbuf0_1)
abbrev ms0_2 (t : Fin (cfgA T).N) : Memref sig .tc .vmem S1024x512 .f32 := spec0_2.stage ((cfgA T).slots t (2 : Fin 3))
abbrev hs0_2 (t : Fin (cfgA T).N) : (ms0_2 T t).IsWhole := hstage0_2 (((cfgA T).slots t (2 : Fin 3)).cast nbuf0_2)

/-- Window `w`'s block at point `t`, read off its array at launch. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-- The body's decision at a point: the weights are narrowed anew. -/
abbrev Anew (t : Fin (cfgA T).N) : Prop := (Scalar.cmpi .ne (Scalar.extui (Scalar.ori (Scalar.cmpi .eq (BitVec.ofNat 32 ((crd T t) 1).val) 0#32) (Scalar.cmpi .ne (View.readAt (Elt Bits) (tbM0_0).view (Rect.unit (s := S16) (k0_off1 (crd T t)) S1.size (k0_off1_inb (crd T t))).toLoadRect te (Shape.Idx.first (numel1_S1.symm ▸ Nat.one_pos))) (View.readAt (Elt Bits) (tbM0_0).view (Rect.unit (s := S16) (k0_off2 (crd T t)) S1.size (k0_off2_inb (crd T t))).toLoadRect te (Shape.Idx.first (numel1_S1.symm ▸ Nat.one_pos)))))) 0#32) = 1#1

/-- At a tile's number, with equal words read, the decision is that the tile is the first. -/
theorem anew_word : ∀ i : Fin 16,
    ((Scalar.cmpi .ne (Scalar.extui (Scalar.ori (Scalar.cmpi .eq (BitVec.ofNat 32 i.val) 0#32) (Scalar.cmpi .ne (0#32 : BitVec 32) 0#32))) 0#32 : BitVec 1) = 1#1
      ↔ i.val = 0) := by
  decide +kernel

/-- A point's coordinates: the column block, then the tile. -/
theorem coords_val : ∀ t : Fin grid0.N, (grid0.coords t 0).val = t.val / 16 ∧ (grid0.coords t 1).val = t.val % 16 := by
  decide +kernel

/-- The weights are narrowed anew exactly at the first tile of a column block. -/
theorem anew_iff (t : Fin (cfgA T).N) : Anew T t ↔ t.val % 16 = 0 := by
  have h := anew_word ((crd T t) 1)
  rw [show (((crd T t) 1 : Fin 16)).val = t.val % 16 from (coords_val t).2] at h
  unfold Anew
  rw [show View.readAt (Elt Bits) (tbM0_0).view (Rect.unit (s := S16) (k0_off1 (crd T t)) S1.size (k0_off1_inb (crd T t))).toLoadRect te (Shape.Idx.first (numel1_S1.symm ▸ Nat.one_pos)) = 0#32 from rfl,
    show View.readAt (Elt Bits) (tbM0_0).view (Rect.unit (s := S16) (k0_off2 (crd T t)) S1.size (k0_off2_inb (crd T t))).toLoadRect te (Shape.Idx.first (numel1_S1.symm ▸ Nat.one_pos)) = 0#32 from rfl,
    show ((crd T t) 1).val = t.val % 16 from (coords_val t).2]
  exact h

/-- At point 0 the weights are narrowed anew. -/
theorem anew_zero (t : Fin (cfgA T).N) (h : t.val = 0) : Anew T t := (anew_iff T t).mpr (by rw [h])

/-- The output's index map differs from each point to the next. -/
theorem out_flush : ∀ t : Fin grid0.N, Pipeline.Window.flushOf grid0 true cc0_transform_2 t = true := by decide +kernel

/-- The output block is written back at every point. -/
theorem flush_2 (t : Fin (cfgA T).N) : ((cfgA T).win (2 : Fin 3)).flush t = true := out_flush t

/-- The output is stored at every point. -/
theorem idle_2 (t : Fin (cfgA T).N) : (cfgA T).idle (2 : Fin 3) ((cfgA T).grid.coords t) = false := rfl

/-- Before each point the output's buffer holds nothing stored. -/
theorem fresh_2 (t : Fin (cfgA T).N) : (cfgA T).fresh (2 : Fin 3) t.val = true :=
  Pipeline.Cfg.fresh_tab (cfgA T) (2 : Fin 3) (fun _ => true) rfl (fun t => by rw [flush_2]; rfl) t.val (Nat.le_of_lt t.isLt)

/-- The scratch holds nothing determined before the first point. -/
def sfresh (n : ℕ) : Bool := decide (n = 0)

end Cert.Kernel7.DenseDown

end
-- ==== Proof.DenseDownWordFrame.lean ====
/-
  The frame of the dense down product on words: every execution ends, nothing faults, the arguments are unchanged, and each
  array ends at contents named here.
-/
module

public import proofs.«01_k».proof.Proof.DenseDownWordTables

@[expose] public section

set_option maxRecDepth 16384
set_option Elab.async false

noncomputable section

namespace Cert.Kernel7.DenseDown

open Cert.Kernel7 Cert.Kernel7.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The resource algebra of the pipeline's staging cells, embedded whole. -/
abbrev EP : Emb (UR sig nD τ) 𝕄 := emb₁

variable (T : Tabs)
variable (m : (ℓ : Loc nD τ sig) → Buf (Elt Bits) ℓ) (ρ : Dev nD → PrngReg)

/-! ## What the output's buffer and the scratch hold after each point -/

/-- What one point makes of them. -/
def step0 (c : Dev nD) (t : Fin (cfgA T).N) (prev : (S1024x512.Idx → Elt Bits .f32) × Buf (Elt Bits) ((c : Thread nD τ).loc cc0_scratch0)) : (S1024x512.Idx → Elt Bits .f32) × Buf (Elt Bits) ((c : Thread nD τ).loc cc0_scratch0) :=
  if q : Anew T t then
    (out0_A_2 c (crd T t) (ms0_0 T t) (hs0_0 T t) (ms0_1 T t) (hs0_1 T t) (ms0_2 T t) (hs0_2 T t) te T (iblk T m ρ c (0 : Fin 3) t) (iblk T m ρ c (1 : Fin 3) t) q, (kernelRun0_A c (crd T t) (ms0_0 T t) (hs0_0 T t) (ms0_1 T t) (hs0_1 T t) (ms0_2 T t) (hs0_2 T t) te T (iblk T m ρ c (0 : Fin 3) t) (iblk T m ρ c (1 : Fin 3) t) q).2.1)
  else
    (out0_B_2 c (crd T t) (ms0_0 T t) (hs0_0 T t) (ms0_1 T t) (hs0_1 T t) (ms0_2 T t) (hs0_2 T t) te T (iblk T m ρ c (0 : Fin 3) t) (iblk T m ρ c (1 : Fin 3) t) prev.2 q, (kernelRun0_B c (crd T t) (ms0_0 T t) (hs0_0 T t) (ms0_1 T t) (hs0_1 T t) (ms0_2 T t) (hs0_2 T t) te T (iblk T m ρ c (0 : Fin 3) t) (iblk T m ρ c (1 : Fin 3) t) prev.2 q).2.1)

/-- What they hold after position `n`. -/
def traj0 (c : Dev nD) : (n : ℕ) → n < (cfgA T).N → (S1024x512.Idx → Elt Bits .f32) × Buf (Elt Bits) ((c : Thread nD τ).loc cc0_scratch0)
  | 0, h => step0 T m ρ c ⟨0, h⟩ (default, default)
  | n + 1, h => step0 T m ρ c ⟨n + 1, h⟩ (traj0 c n (Nat.lt_of_succ_lt h))

/-- What they hold before point `t`. -/
def prev0 (c : Dev nD) (t : Fin (cfgA T).N) : (S1024x512.Idx → Elt Bits .f32) × Buf (Elt Bits) ((c : Thread nD τ).loc cc0_scratch0) :=
  if h : t.val = 0 then (default, default) else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

/-- `step0` where the weights are narrowed anew, and where they are kept. -/
theorem step0_A (c : Dev nD) (t : Fin (cfgA T).N) (prev : (S1024x512.Idx → Elt Bits .f32) × Buf (Elt Bits) ((c : Thread nD τ).loc cc0_scratch0)) (q : Anew T t) :
    step0 T m ρ c t prev = (out0_A_2 c (crd T t) (ms0_0 T t) (hs0_0 T t) (ms0_1 T t) (hs0_1 T t) (ms0_2 T t) (hs0_2 T t) te T (iblk T m ρ c (0 : Fin 3) t) (iblk T m ρ c (1 : Fin 3) t) q, (kernelRun0_A c (crd T t) (ms0_0 T t) (hs0_0 T t) (ms0_1 T t) (hs0_1 T t) (ms0_2 T t) (hs0_2 T t) te T (iblk T m ρ c (0 : Fin 3) t) (iblk T m ρ c (1 : Fin 3) t) q).2.1) := by
  unfold step0; simp only [dif_pos q]
theorem step0_B (c : Dev nD) (t : Fin (cfgA T).N) (prev : (S1024x512.Idx → Elt Bits .f32) × Buf (Elt Bits) ((c : Thread nD τ).loc cc0_scratch0)) (q : ¬Anew T t) :
    step0 T m ρ c t prev = (out0_B_2 c (crd T t) (ms0_0 T t) (hs0_0 T t) (ms0_1 T t) (hs0_1 T t) (ms0_2 T t) (hs0_2 T t) te T (iblk T m ρ c (0 : Fin 3) t) (iblk T m ρ c (1 : Fin 3) t) prev.2 q, (kernelRun0_B c (crd T t) (ms0_0 T t) (hs0_0 T t) (ms0_1 T t) (hs0_1 T t) (ms0_2 T t) (hs0_2 T t) te T (iblk T m ρ c (0 : Fin 3) t) (iblk T m ρ c (1 : Fin 3) t) prev.2 q).2.1) := by
  unfold step0; simp only [dif_neg q]

/-! ## The pipeline's proof data -/

/-- What they held before position `t`, the end included. -/
def prev0T (c : Dev nD) (t : Fin ((cfgA T).N + 1)) : (S1024x512.Idx → Elt Bits .f32) × Buf (Elt Bits) ((c : Thread nD τ).loc cc0_scratch0) :=
  if h : t.val = 0 then (default, default) else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- The invariant before point `t`: the scratch at what the points before left, the body's halves of the tables. -/
def Phi (m : (ℓ : Loc nD τ sig) → Buf (Elt Bits) ℓ) (ρ : Dev nD → PrngReg) (c : Dev nD) (t : Fin ((cfgA T).N + 1)) : sProp 𝕄 :=
  iprop((∃ a, ⌜sfresh t.val = false → a = (prev0T T m ρ c t).2⌝ ∗ (scM0_0.view.loc (c : Thread nD τ) ↦{fullShare} a)) ∗ (tbM0_0.view.loc (c : Thread nD τ) ↦{fullShare.right} te) ∗ (tbM0_1.view.loc (c : Thread nD τ) ↦{fullShare.right} T))

/-- The proof data of the one pipeline on core `c`. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 3) t
    | ⟨1, _⟩ => iblk T m ρ c (1 : Fin 3) t
    | ⟨2, _⟩ => (traj0 T m ρ c t.val t.isLt).1
  Φ t := Phi T m ρ c t
  q _ := fullShare
  owed _ := 0

theorem after0_0 (c : Dev nD) (t : Fin (cfgA T).N) : (dats T m ρ 0 c).after (0 : Fin 3) t = iblk T m ρ c (0 : Fin 3) t := rfl
theorem after0_1 (c : Dev nD) (t : Fin (cfgA T).N) : (dats T m ρ 0 c).after (1 : Fin 3) t = iblk T m ρ c (1 : Fin 3) t := rfl
theorem after0_2 (c : Dev nD) (t : Fin (cfgA T).N) : (dats T m ρ 0 c).after (2 : Fin 3) t = (traj0 T m ρ c t.val t.isLt).1 := rfl

/-- The two inputs' buffers hold their blocks when the body runs. -/
theorem before0_0 (c : Dev nD) (t : Fin (cfgA T).N) (d) : (dats T m ρ 0 c).before (0 : Fin 3) t d = iblk T m ρ c (0 : Fin 3) t :=
  ((dats T m ρ 0 c).before_in_eq_fetched (0 : Fin 3) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T).N) (d) : (dats T m ρ 0 c).before (1 : Fin 3) t d = iblk T m ρ c (1 : Fin 3) t :=
  ((dats T m ρ 0 c).before_in_eq_fetched (1 : Fin 3) rfl (fun _ => rfl) (fun _ _ _ => rfl) (fun t => by rw [after0_1]; unfold Dat.blockOf iblk; rfl) t d).trans
    (by unfold Dat.fetched Dat.blockOf iblk; rfl)

/-! ## The body at a point -/

/-- The body at point `t` on its staging buffers. -/
abbrev bodyAt0 (t : Fin (cfgA T).N) : Prog (TpuEff nD τ sig (Elt Bits) Λ₀ .tc) PUnit :=
  cc0_swiglu_down (crd T t) (Memref.whole main_arg0) (Memref.isWhole_whole _) (Memref.whole main_arg1) (Memref.isWhole_whole _) (ms0_0 T t) (hs0_0 T t) (ms0_1 T t) (hs0_1 T t) (ms0_2 T t) (hs0_2 T t) (Memref.whole cc0_scratch0) (Memref.isWhole_whole _)

set_option maxHeartbeats 4000000 in
/-- From the invariant and the inputs' blocks, the body runs to the next invariant and leaves the output's block. -/
theorem sound_body (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 3) t d))
        ∗ (∃ d, owns (c : Thread nD τ) (ms0_1 T t) fullShare ((dats T m ρ 0 c).before (1 : Fin 3) t d))
        ∗ (∃ d, owns (c : Thread nD τ) (ms0_2 T t) fullShare ((dats T m ρ 0 c).before (2 : Fin 3) t d)))
      ⊢ wp frame (wpE (defs₀ (F := Bits)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  rewrite [idle_2]
  simp only [before0_0, before0_1, after0_0, after0_1, after0_2]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  by_cases q : Anew T t
  · try rewrite [traj0_eq, step0_A T m ρ c t _ q]
    unfold Phi; simp only [prev0T_castSucc, prev0T_succ, traj0_eq, step0_A T m ρ c t _ q, Fin.val_castSucc, Fin.val_succ]
    iintro ⟨⟨⟨%a0, %ha0, HS0⟩, HT0, HT1⟩, Ho, ⟨%d0, H0⟩, ⟨%d1, H1⟩, ⟨%d2, H2⟩⟩
    iapply ((kernelRun0_A c (crd T t) (ms0_0 T t) (hs0_0 T t) (ms0_1 T t) (hs0_1 T t) (ms0_2 T t) (hs0_2 T t) te T (iblk T m ρ c (0 : Fin 3) t) (iblk T m ρ c (1 : Fin 3) t) q).2.2 a0 _)
    isplitl [H0]; · iapply rep_of_owns; iexact H0
    isplitl [H1]; · iapply rep_of_owns; iexact H1
    isplitl [HT0]; · iexact HT0
    isplitl [HT1]; · iexact HT1
    isplitl [H2]; · iexists _; iexact H2
    isplitl [HS0]; · iexact HS0
    iintro ⟨H0, H1, HT0, HT1, ⟨%e2, H2⟩, HS0⟩
    isplitl [HS0 HT0 HT1]
    · isplitl [HS0]
      · iexists _; isplitr; swap
        · iexact HS0
        · ipureintro; intro hn; rfl
      isplitl [HT0]
      · iexact HT0
      iexact HT1
    isplitl [Ho]; · iexact Ho
    isplitl [H0]
    · iapply owns_of_rep; iexact H0
    isplitl [H1]
    · iapply owns_of_rep; iexact H1
    unfold owns; iexists _; isplitr; swap
    · iexact H2
    · ipureintro; exact View.read_writes_of_cover _ _ _ _ _ (cover0_A_2 c _ _ _ _ _ _ _ _ _ _ _ _)
  · try rewrite [traj0_eq, step0_B T m ρ c t _ q]
    unfold Phi; simp only [prev0T_castSucc, prev0T_succ, traj0_eq, step0_B T m ρ c t _ q, Fin.val_castSucc, Fin.val_succ]
    have sf : sfresh t.val = false := decide_eq_false fun h => q (anew_zero T t h)
    simp only [exists_held sf]
    iintro ⟨⟨HS0, HT0, HT1⟩, Ho, ⟨%d0, H0⟩, ⟨%d1, H1⟩, ⟨%d2, H2⟩⟩
    iapply ((kernelRun0_B c (crd T t) (ms0_0 T t) (hs0_0 T t) (ms0_1 T t) (hs0_1 T t) (ms0_2 T t) (hs0_2 T t) te T (iblk T m ρ c (0 : Fin 3) t) (iblk T m ρ c (1 : Fin 3) t) _ q).2.2 _)
    isplitl [H0]; · iapply rep_of_owns; iexact H0
    isplitl [H1]; · iapply rep_of_owns; iexact H1
    isplitl [HT0]; · iexact HT0
    isplitl [HT1]; · iexact HT1
    isplitl [H2]; · iexists _; iexact H2
    isplitl [HS0]; · iexact HS0
    iintro ⟨H0, H1, HT0, HT1, ⟨%e2, H2⟩, HS0⟩
    isplitl [HS0 HT0 HT1]
    · isplitl [HS0]
      · iexists _; isplitr; swap
        · iexact HS0
        · ipureintro; intro hn; rfl
      isplitl [HT0]
      · iexact HT0
      iexact HT1
    isplitl [Ho]; · iexact Ho
    isplitl [H0]
    · iapply owns_of_rep; iexact H0
    isplitl [H1]
    · iapply owns_of_rep; iexact H1
    unfold owns; iexists _; isplitr; swap
    · iexact H2
    · ipureintro; exact View.read_writes_of_cover _ _ _ _ _ (cover0_B_2 c _ _ _ _ _ _ _ _ _ _ _ _ _)

/-- The body obligation, at every point. -/
theorem body_obligation (c : Dev nD) : BodyObligation (dats T m ρ 0 c) (defs₀ (F := Bits)) Variants.none () Set.univ := fun t => by
  rw [bigSep_W0]
  exact sound_body T m ρ c t

/-! ## The launch -/

/-- The launch's element of the resource algebra. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch, -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh 0 = true from rfl)) Bool.false_ne_true
  isplitl [HT0]
  · iexact HT0
  iexact HT1

/-- and the scratch from the invariant at the end. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, -, -⟩
  isplitr; · iempintro
  iexists a0; iexact HS0

/-- Every array ends at what the proof data say, every table at what it was. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From a launch memory that holds the tables: every execution ends with the arrays so, and every semaphore at zero. -/
theorem run_main_quiescent (hp : Holds T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arrays alone. -/
theorem run_main (hp : Holds T m) : θ_run (defs (F := Bits)) (onTc (τ := τ) (main (F := Bits))) (s₀ m ρ) (QC T m ρ) :=
  (θ_run defs _ _).mono (fun _ h => h.1) (run_main_quiescent T m ρ hp)

/-- Every argument ends unchanged. -/
theorem unchanged (hp : Holds T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 0).trans (hp.1 c).symm, ((h c).2 1).trans (hp.2 c).symm, ((h c).1 (0 : Fin 3)).trans ((dats T m ρ 0 c).arrAt_in (0 : Fin 3) rfl _), ((h c).1 (1 : Fin 3)).trans ((dats T m ρ 0 c).arrAt_in (1 : Fin 3) rfl _)⟩) (run_main T m ρ hp)

/-- From a launch memory that holds the tables, every execution ends, nothing faults, every argument array is unchanged,
    and every semaphore counter reads zero. -/
theorem frame (hp : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged T m ρ hp) ((θ_run defs _ _).mono (fun _ h => h.2) (run_main_quiescent T m ρ hp))

end Cert.Kernel7.DenseDown

end
-- ==== Proof.DenseDownClaim.lean ====
/-
  The dense down product: from the same arguments, every tile's expert being zero, the kernel and the reference end with
  the same result; and the frames of the kernel, of its idealization and of the reference.
-/
module

public import proofs.«01_k».proof.Defs
public import proofs.«01_k».proof.Proof.DenseDownValue
public import proofs.«01_k».proof.Proof.DenseDownWordFrame
public import proofs.«01_k».proof.Proof.Gen.Reference7Ideal.Run
public import proofs.«01_k».proof.Proof.Gen.Pre_tables7
public import proofs.«01_k».proof.Proof.DensePre
public import Idealize.ShloMosaic.Lib.Quiescent

@[expose] public section

set_option maxRecDepth 16384

noncomputable section

open Idealize.ShloMosaic Idealize.ShloMosaic.TcCoe Idealize.SL.Sem

namespace Cert.DenseDownClaim

/-- The precondition, read: the first table is zero. -/
theorem zero_of_fn {F : FTy → Type} [FloatOps F] (te : IVec Cert.Pre_tables7.S16 32) (nu : IVec Cert.Pre_tables7.S1 32)
    (x : FVec F Cert.Pre_tables7.S16384x5632 .bf16) (w : FVec F Cert.Pre_tables7.S2x1x5632x2048 .f32) (j : Cert.Pre_tables7.S_.Idx)
    (h : Cert.Pre_tables7.fn (F := F) te nu x w j = 1#1) : te = fun _ => 0#32 := by
  dsimp only [Cert.Pre_tables7.fn] at h
  have : Subsingleton Cert.Pre_tables7.S_.Idx := ⟨fun a b => funext fun x => x.elim0⟩
  have g := Host.reduce_andi_all _ _ _ _ j h
  exact funext fun i => BitVec.eq_of_toNat_eq (Nat.lt_one_iff.mp (Cert.Pre_tables6.zero_of_word (g i)))

/-- The precondition gives tables that the memory holds. -/
theorem tables_ideal (m : (ℓ : Loc Cert.Kernel7Ideal.nD Cert.Kernel7Ideal.τ Cert.Kernel7Ideal.sig) → Buf (Elt Ideal) ℓ)
    (h : Cert.Pre_Kernel7Ideal (hPre_tables7 := Cert.Pre_tables7.Gen.facts) m) :
    ∃ T : Cert.Kernel7Ideal.DenseDown.Tabs, Cert.Kernel7Ideal.DenseDown.Holds T m :=
  ⟨_, fun c => by rw [Subsingleton.elim c 0]; exact zero_of_fn _ _ _ _ ix0 (congrFun (h 0) _), fun c => by rw [Subsingleton.elim c 0]⟩

/-- The same of the kernel over bits. -/
theorem tables_bits (m : (ℓ : Loc Cert.Kernel7.nD Cert.Kernel7.τ Cert.Kernel7.sig) → Buf (Elt Bits) ℓ)
    (h : Cert.Pre_Kernel7 (hPre_tables7 := Cert.Pre_tables7.Gen.facts) m) :
    ∃ T : Cert.Kernel7.DenseDown.Tabs, Cert.Kernel7.DenseDown.Holds T m :=
  ⟨_, fun c => by rw [Subsingleton.elim c 0]; exact zero_of_fn _ _ _ _ ix0 (congrFun (h 0) _), fun c => by rw [Subsingleton.elim c 0]⟩

/-- The kernel over bits runs, leaves its arguments and its semaphores as they were. -/
theorem frame_bits : Cert.quiescent_Kernel7 (hKernel7 := Cert.Kernel7.Gen.facts) (hPre_tables7 := Cert.Pre_tables7.Gen.facts) :=
  fun m g h => (tables_bits m h).elim fun T hT => Cert.Kernel7.DenseDown.frame T m g hT

/-- So does its idealization. -/
theorem frame_ideal : Cert.quiescent_Kernel7Ideal (hKernel7Ideal := Cert.Kernel7Ideal.Gen.facts) (hPre_tables7 := Cert.Pre_tables7.Gen.facts) :=
  fun m g h => (tables_ideal m h).elim fun T hT => Cert.Kernel7Ideal.DenseDown.frame T m g hT

/-- So does the reference, which declares no semaphore. -/
theorem frame_ref : Cert.quiescent_Reference7Ideal (hReference7Ideal := Cert.Reference7Ideal.Gen.facts) :=
  fun m g _ => (θ_run _ _ _).mono (fun r h => ⟨fun c => (h c).2, sem_eq_zero_of_no_sems (by decide) r.2⟩)
    (Cert.Reference7Ideal.Value.run m g)

section
open Cert.Reference7Ideal Cert.Reference7Ideal.Gen

/-- The reference's result: the rows times the layer's weights. -/
def product (x : FVec Ideal S16384x5632 .bf16) (w : FVec Ideal S2x1x5632x2048 .f32) : FVec Ideal S16384x2048 .f32 :=
  Host.dotGeneral dot_S16384x5632_S5632x2048_S16384x2048_1_0_0_1_n_n none (extf .f32 x bitsLt_bf16_f32)
    (shapeCast S5632x2048 (extractStridedSlice S1x1x5632x2048 ![0, 0, 0, 0] w slices_S2x1x5632x2048_S1x1x5632x2048_0_0_0_0)
      shapeCasts_S1x1x5632x2048_S5632x2048)

theorem product_apply (x : FVec Ideal S16384x5632 .bf16) (w : FVec Ideal S2x1x5632x2048 .f32) (r : Fin 16384) (f : Fin 2048) :
    product x w (ix2 r f) = ∑ k : Fin 5632, x (ix2 r k) * w (ix4 0 0 k f) := by
  pointwise [product]

end

/-- The reference's result is the kernel's. -/
theorem ref_eq (x : FVec Ideal Cert.Kernel7Ideal.S16384x5632 .bf16) (w : FVec Ideal Cert.Kernel7Ideal.S2x1x5632x2048 .f32) :
    product x w = Cert.Kernel7Ideal.DenseDown.downOut x w := by
  funext j
  obtain ⟨r, f, rfl⟩ : ∃ (r : Fin 16384) (f : Fin 2048), j = ix2 r f := ⟨j 0, j 1, eq_ix2 (n0 := 16384) (n1 := 2048) j⟩
  exact product_apply x w r f

/-- Kernel and reference agree on the dense down product. -/
theorem algebraic : Cert.algebraic_Kernel7Ideal_Reference7Ideal (hKernel7Ideal := Cert.Kernel7Ideal.Gen.facts)
    (hReference7Ideal := Cert.Reference7Ideal.Gen.facts) (hPre_tables7 := Cert.Pre_tables7.Gen.facts) := by
  intro m g m' g' hpre hargs
  obtain ⟨T, hT⟩ := tables_ideal m hpre
  refine ⟨fun c => (Cert.Kernel7Ideal.DenseDown.dats T m g 0 c).arrAt (2 : Fin 3) (Cert.Kernel7Ideal.DenseDown.cfgA T).N,
    (θ_run _ _ _).mono (fun r h c => ⟨(h.1 c).1 (2 : Fin 3), h.2 c⟩)
      (θ_run_and (Cert.Kernel7Ideal.DenseDown.run_main T m g hT) (Cert.Kernel7Ideal.DenseDown.unchanged T m g hT)),
    (θ_run _ _ _).mono (fun r h c => ?_) (Cert.Reference7Ideal.Value.run m' g')⟩
  obtain ⟨-, -, h2, h3⟩ := hargs c
  have e : product (m' ((c.tc : Thread _ _).loc Cert.Reference7Ideal.main_arg2)) (m' ((c.tc : Thread _ _).loc Cert.Reference7Ideal.main_arg3))
      = (Cert.Kernel7Ideal.DenseDown.dats T m g 0 c).arrAt (2 : Fin 3) (Cert.Kernel7Ideal.DenseDown.cfgA T).N := by
    rw [h2, h3]
    exact (ref_eq _ _).trans (Cert.Kernel7Ideal.DenseDown.final T m g c).symm
  exact ⟨(h c).1.trans e, (h c).2⟩

end Cert.DenseDownClaim

end
-- ==== Proof.lean ====
/-
  The certificate: the frames, the idealizations and the equalities with the references of six calls: the attention
  of the latent tokens, the gated up-projection of the routed tokens, their down product, the branch gates' projection,
  the pooled branch's projection and the dense gated up-projection.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite
public import proofs.«01_k».proof.Proof.AttnClaim
public import proofs.«01_k».proof.Proof.UpClaim
public import proofs.«01_k».proof.Proof.DownClaim
public import Idealize.ShloMosaic.Adequacy
public import Idealize.ShloMosaic.Init

public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash.Runs
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash.Runs
public import proofs.«01_k».proof.Proof.Gen.Reference2Ideal
public import proofs.«01_k».proof.Proof.Gen.Reference2Ideal.Run
public import proofs.«01_k».proof.Proof.Gen.Pre_tables
public import proofs.«01_k».proof.Proof.Gen.Kernel3Ideal.Skeleton
public import proofs.«01_k».proof.Proof.Gen.Kernel3Ideal.Launch
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3
public import proofs.«01_k».proof.Proof.Gen.Reference3Ideal
public import proofs.«01_k».proof.Proof.Gen.Reference3Ideal.Run
public import proofs.«01_k».proof.Proof.Gen.Pre_tables3

public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Flash.Runs
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Flash.Runs
public import proofs.«01_k».proof.Proof.Gen.Reference6Ideal
public import proofs.«01_k».proof.Proof.Gen.Reference6Ideal.Run
public import proofs.«01_k».proof.Proof.Gen.Pre_tables6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Flash.Runs
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Flash.Runs
public import proofs.«01_k».proof.Proof.Gen.Reference7Ideal
public import proofs.«01_k».proof.Proof.Gen.Reference7Ideal.Run
public import proofs.«01_k».proof.Proof.Gen.Pre_tables7
public import proofs.«01_k».proof.Proof.GateClaim
public import proofs.«01_k».proof.Proof.BranchClaim
public import proofs.«01_k».proof.Proof.DenseClaim
public import proofs.«01_k».proof.Proof.DenseDownClaim

@[expose] public section

noncomputable section

namespace Cert.Proof

open Idealize.ShloMosaic Idealize.SL.Sem Cert.Kernel

/-- All claims hold. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_tables.Gen.facts, Cert.Pre_tables3.Gen.facts, Cert.Pre_tables6.Gen.facts, Cert.Pre_tables7.Gen.facts,
  fun m ρ _ => Cert.Kernel.Gen.frame m ρ, fun m ρ _ => Cert.KernelIdeal.Gen.frame m ρ,
  fun m ρ _ => Cert.KernelIdeal.Gen.frame m ρ, fun m ρ _ => Cert.Attn.frame_ref m ρ,
  fun m ρ _ => Cert.Attn.frame_ref m ρ,
  Cert.UpClaim.frame_bits, Cert.UpClaim.frame_ideal, Cert.UpClaim.frame_ref, fun m ρ _ => Cert.UpClaim.frame_ref m ρ trivial,
  Cert.DownClaim.frame_bits, Cert.DownClaim.frame_ideal, Cert.DownClaim.frame_ref, fun m ρ _ => Cert.DownClaim.frame_ref m ρ trivial,
  fun m ρ _ => Cert.Kernel4.Gen.frame m ρ, fun m ρ _ => Cert.Kernel4Ideal.Gen.frame m ρ, fun m ρ _ => Cert.GateClaim.frame_ref m ρ,
  fun m ρ _ => Cert.Kernel5.Gen.frame m ρ, fun m ρ _ => Cert.Kernel5Ideal.Gen.frame m ρ, fun m ρ _ => Cert.BranchClaim.frame_ref m ρ,
  Cert.DenseClaim.frame_bits, Cert.DenseClaim.frame_ideal, Cert.DenseClaim.frame_ref, fun m ρ _ => Cert.DenseClaim.frame_ref m ρ trivial,
  Cert.DenseDownClaim.frame_bits, Cert.DenseDownClaim.frame_ideal, Cert.DenseDownClaim.frame_ref, fun m ρ _ => Cert.DenseDownClaim.frame_ref m ρ trivial,
  trivial, Cert.Attn.algebraic, trivial, Cert.UpClaim.algebraic, trivial, Cert.DownClaim.algebraic,
  trivial, Cert.GateClaim.algebraic, trivial, Cert.BranchClaim.algebraic, trivial, Cert.DenseClaim.algebraic,
  trivial, Cert.DenseDownClaim.algebraic⟩

end Cert.Proof

end
